-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e_sm" .f32 0x3E38AA3B#32 (((Real.log 2)⁻¹ * (1 / 8) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)) (v5 : (c : Dev Cert.KernelIdeal.nD) → Buf (Elt Ideal) ((c.tc : Thread Cert.KernelIdeal.nD Cert.KernelIdeal.τ).loc Cert.KernelIdeal.main_v8)) (v6 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x8192x1024 : Shape := ⟨3, ![8, 8192, 1024]⟩
abbrev S8x8192x64 : Shape := ⟨3, ![8, 8192, 64]⟩
abbrev S_ : Shape := ⟨0, ![]⟩

class Facts : Prop where
  bitsLt_bf16_f32 : FTy.bits .bf16 < FTy.bits .f32
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_

variable [Facts]

def fn {F : FTy → Type} [FloatOps F] (main_arg0 : FVec F S8x8192x1024 .bf16) (main_arg1 : FVec F S8x8192x64 .bf16) (main_arg2 : FVec F S8x8192x64 .bf16) : IVec S_ 1 :=
  let main_v0 : FVec F S8x8192x1024 .f32 := (extf .f32 · bitsLt_bf16_f32) main_arg0
  let main_v1 : FVec F S8x8192x1024 .f32 := Host.absf main_v0
  let main_cst : FVec F S_ .f32 := constant S_ .f32 0x7F7F0000#32
  let main_v2 : FVec F S8x8192x1024 .f32 := broadcastInDim S8x8192x1024 ![] bcast_S_S8x8192x1024 main_cst
  let main_v3 : IVec S8x8192x1024 1 := cmpf .ole main_v1 main_v2
  let main_c : IVec S_ 1 := constantI S_ 1 1#1
  let main_v4 : IVec S_ 1 := (fun x v => Host.reduce IntOp.andi x v reducesTo_S8x8192x1024_S_d0_1_2 h_S_) main_v3 main_c
  let main_v5 : FVec F S8x8192x64 .f32 := (extf .f32 · bitsLt_bf16_f32) main_arg1
  let main_v6 : FVec F S8x8192x64 .f32 := Host.absf main_v5
  let main_cst_0 : FVec F S_ .f32 := constant S_ .f32 0x7F7F0000#32
  let main_v7 : FVec F S8x8192x64 .f32 := broadcastInDim S8x8192x64 ![] bcast_S_S8x8192x64 main_cst_0
  let main_v8 : IVec S8x8192x64 1 := cmpf .ole main_v6 main_v7
  let main_c_1 : IVec S_ 1 := constantI S_ 1 1#1
  let main_v9 : IVec S_ 1 := (fun x v => Host.reduce IntOp.andi x v reducesTo_S8x8192x64_S_d0_1_2 h_S_) main_v8 main_c_1
  let main_v10 : IVec S_ 1 := andi main_v4 main_v9
  let main_v11 : FVec F S8x8192x64 .f32 := (extf .f32 · bitsLt_bf16_f32) main_arg2
  let main_v12 : FVec F S8x8192x64 .f32 := Host.absf main_v11
  let main_cst_2 : FVec F S_ .f32 := constant S_ .f32 0x7F7F0000#32
  let main_v13 : FVec F S8x8192x64 .f32 := broadcastInDim S8x8192x64 ![] bcast_S_S8x8192x64 main_cst_2
  let main_v14 : IVec S8x8192x64 1 := cmpf .ole main_v12 main_v13
  let main_c_3 : IVec S_ 1 := constantI S_ 1 1#1
  let main_v15 : IVec S_ 1 := (fun x v => Host.reduce IntOp.andi x v reducesTo_S8x8192x64_S_d0_1_2 h_S_) main_v14 main_c_3
  let main_v16 : IVec S_ 1 := andi main_v10 main_v15
  main_v16
-- ==== Kernel.lean ====
abbrev S8x8192x1024 : Shape := ⟨3, ![8, 8192, 1024]⟩
abbrev S8x8192x64 : Shape := ⟨3, ![8, 8192, 64]⟩
abbrev S8x64x8192 : Shape := ⟨3, ![8, 64, 8192]⟩
abbrev S8x1x8192 : Shape := ⟨3, ![8, 1, 8192]⟩
abbrev S8x1x64 : Shape := ⟨3, ![8, 1, 64]⟩
abbrev S8x8192x128 : Shape := ⟨3, ![8, 8192, 128]⟩
abbrev S1x64x8192 : Shape := ⟨3, ![1, 64, 8192]⟩
abbrev S1x1x8192 : Shape := ⟨3, ![1, 1, 8192]⟩
abbrev S1x1x64 : Shape := ⟨3, ![1, 1, 64]⟩
abbrev S1x8192x128 : Shape := ⟨3, ![1, 8192, 128]⟩
abbrev S1x64 : Shape := ⟨2, ![1, 64]⟩
abbrev S1x64x128 : Shape := ⟨3, ![1, 64, 128]⟩
abbrev S64x128 : Shape := ⟨2, ![64, 128]⟩
abbrev S128 : Shape := ⟨1, ![128]⟩
abbrev S1x128 : Shape := ⟨2, ![1, 128]⟩
abbrev S256x128 : Shape := ⟨2, ![256, 128]⟩
abbrev S1x1x128 : Shape := ⟨3, ![1, 1, 128]⟩
abbrev S128x128 : Shape := ⟨2, ![128, 128]⟩
abbrev S1x128x128 : Shape := ⟨3, ![1, 128, 128]⟩
abbrev S1 : Shape := ⟨1, ![1]⟩
abbrev S1x1 : Shape := ⟨2, ![1, 1]⟩
abbrev S256x1 : Shape := ⟨2, ![256, 1]⟩
abbrev S8x16x64x8192 : Shape := ⟨4, ![8, 16, 64, 8192]⟩
abbrev S8x16x8192 : Shape := ⟨3, ![8, 16, 8192]⟩
abbrev S1x256x1024 : Shape := ⟨3, ![1, 256, 1024]⟩
abbrev S1x16x64x256 : Shape := ⟨4, ![1, 16, 64, 256]⟩
abbrev S1x16x256 : Shape := ⟨3, ![1, 16, 256]⟩
abbrev S16x1x256 : Shape := ⟨3, ![16, 1, 256]⟩
abbrev S8192x256 : Shape := ⟨2, ![8192, 256]⟩
abbrev S1x256x128 : Shape := ⟨3, ![1, 256, 128]⟩
abbrev S128x256 : Shape := ⟨2, ![128, 256]⟩
abbrev S64x256 : Shape := ⟨2, ![64, 256]⟩
abbrev S256 : Shape := ⟨1, ![256]⟩
abbrev S1x256 : Shape := ⟨2, ![1, 256]⟩
abbrev S256x256 : Shape := ⟨2, ![256, 256]⟩
abbrev S1x1x64x256 : Shape := ⟨4, ![1, 1, 64, 256]⟩
abbrev S1x1x256 : Shape := ⟨3, ![1, 1, 256]⟩
abbrev S8x256 : Shape := ⟨2, ![8, 256]⟩
abbrev S1x256x64 : Shape := ⟨3, ![1, 256, 64]⟩
abbrev S256x64 : Shape := ⟨2, ![256, 64]⟩
abbrev S32x8x256 : Shape := ⟨3, ![32, 8, 256]⟩
abbrev S1x64x256 : Shape := ⟨3, ![1, 64, 256]⟩
abbrev S8x8192x16x64 : Shape := ⟨4, ![8, 8192, 16, 64]⟩
abbrev S8x8192x16 : Shape := ⟨3, ![8, 8192, 16]⟩
abbrev S8x8192 : Shape := ⟨2, ![8, 8192]⟩
abbrev S8x64 : Shape := ⟨2, ![8, 64]⟩

abbrev nBuf : Space → Nat
  | .hbm => 21
  | .vmem => 34
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x64, .bf16⟩
  | .hbm, ⟨2, _⟩ => ⟨S8x8192x64, .bf16⟩
  | .hbm, ⟨3, _⟩ => ⟨S8x64x8192, .bf16⟩
  | .hbm, ⟨4, _⟩ => ⟨S8x64x8192, .bf16⟩
  | .hbm, ⟨5, _⟩ => ⟨S8x64x8192, .fp8e4m3⟩
  | .hbm, ⟨6, _⟩ => ⟨S8x1x8192, .f32⟩
  | .hbm, ⟨7, _⟩ => ⟨S8x64x8192, .fp8e4m3⟩
  | .hbm, ⟨8, _⟩ => ⟨S8x1x64, .f32⟩
  | .hbm, ⟨9, _⟩ => ⟨S8x8192x128, .fp8e4m3⟩
  | .hbm, ⟨10, _⟩ => ⟨S8x8192x128, .f32⟩
  | .hbm, ⟨11, _⟩ => ⟨S8x64x8192, .bf16⟩
  | .hbm, ⟨12, _⟩ => ⟨S8x8192x1024, .bf16⟩
  | .hbm, ⟨13, _⟩ => ⟨S8x16x64x8192, .fp8e4m3⟩
  | .hbm, ⟨14, _⟩ => ⟨S8x16x8192, .f32⟩
  | .hbm, ⟨15, _⟩ => ⟨S8x8192x16x64, .fp8e4m3⟩
  | .hbm, ⟨16, _⟩ => ⟨S8x8192x16, .f32⟩
  | .hbm, ⟨17, _⟩ => ⟨S8x8192x64, .fp8e4m3⟩
  | .hbm, ⟨18, _⟩ => ⟨S8x8192, .f32⟩
  | .hbm, ⟨19, _⟩ => ⟨S8x8192x64, .fp8e4m3⟩
  | .hbm, ⟨20, _⟩ => ⟨S8x64, .f32⟩
  | .local _ .vmem, ⟨0, _⟩ => ⟨S1x64x8192, .bf16⟩
  | .local _ .vmem, ⟨1, _⟩ => ⟨S1x64x8192, .bf16⟩
  | .local _ .vmem, ⟨2, _⟩ => ⟨S1x64x8192, .bf16⟩
  | .local _ .vmem, ⟨3, _⟩ => ⟨S1x64x8192, .bf16⟩
  | .local _ .vmem, ⟨4, _⟩ => ⟨S1x64x8192, .fp8e4m3⟩
  | .local _ .vmem, ⟨5, _⟩ => ⟨S1x64x8192, .fp8e4m3⟩
  | .local _ .vmem, ⟨6, _⟩ => ⟨S1x1x8192, .f32⟩
  | .local _ .vmem, ⟨7, _⟩ => ⟨S1x1x8192, .f32⟩
  | .local _ .vmem, ⟨8, _⟩ => ⟨S1x64x8192, .fp8e4m3⟩
  | .local _ .vmem, ⟨9, _⟩ => ⟨S1x64x8192, .fp8e4m3⟩
  | .local _ .vmem, ⟨10, _⟩ => ⟨S1x1x64, .f32⟩
  | .local _ .vmem, ⟨11, _⟩ => ⟨S1x1x64, .f32⟩
  | .local _ .vmem, ⟨12, _⟩ => ⟨S1x8192x128, .fp8e4m3⟩
  | .local _ .vmem, ⟨13, _⟩ => ⟨S1x8192x128, .fp8e4m3⟩
  | .local _ .vmem, ⟨14, _⟩ => ⟨S1x8192x128, .f32⟩
  | .local _ .vmem, ⟨15, _⟩ => ⟨S1x8192x128, .f32⟩
  | .local _ .vmem, ⟨16, _⟩ => ⟨S1x64x8192, .bf16⟩
  | .local _ .vmem, ⟨17, _⟩ => ⟨S1x64x8192, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x8192x128, .fp8e4m3⟩
  | .local _ .vmem, ⟨21, _⟩ => ⟨S1x8192x128, .fp8e4m3⟩
  | .local _ .vmem, ⟨22, _⟩ => ⟨S1x8192x128, .f32⟩
  | .local _ .vmem, ⟨23, _⟩ => ⟨S1x8192x128, .f32⟩
  | .local _ .vmem, ⟨24, _⟩ => ⟨S1x64x8192, .bf16⟩
  | .local _ .vmem, ⟨25, _⟩ => ⟨S1x64x8192, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x16x64x256, .fp8e4m3⟩
  | .local _ .vmem, ⟨29, _⟩ => ⟨S1x16x64x256, .fp8e4m3⟩
  | .local _ .vmem, ⟨30, _⟩ => ⟨S1x16x256, .f32⟩
  | .local _ .vmem, ⟨31, _⟩ => ⟨S1x16x256, .f32⟩
  | .local _ .vmem, ⟨32, _⟩ => ⟨S16x1x256, .f32⟩
  | .local _ .vmem, ⟨33, _⟩ => ⟨S8192x256, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_scratch0 : Ref sig .tc := ⟨.vmem, 32, rfl⟩
abbrev cc1_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v7 : BitVec 32 := Scalar.muli arg10 c128_i32
  v7
def k0_off1 (k0_t1 : Fin k0_t1_loop.trips) : Fin 3 → Nat :=
  let c0_3 : Index := 0#32
  let c0_4 : Index := 0#32
  let c0_i32 : BitVec 32 := 0#32
  let c1_i32 : BitVec 32 := 1#32
  let arg10 : BitVec 32 := Scf.iv c0_i32 c1_i32 k0_t1
  let c128_i32 : BitVec 32 := 128#32
  let v7 : BitVec 32 := Scalar.muli arg10 c128_i32
  let v8 : BitVec 32 := v7
  let v9 : Index := Scalar.indexCast v8
  ![0, 0, v9.toNat]
def k0_off2 (k0_t1 : Fin k0_t1_loop.trips) : Fin 3 → Nat :=
  let c0_19 : Index := 0#32
  let c0_20 : Index := 0#32
  let c0_i32 : BitVec 32 := 0#32
  let c1_i32 : BitVec 32 := 1#32
  let arg10 : BitVec 32 := Scf.iv c0_i32 c1_i32 k0_t1
  let c128_i32 : BitVec 32 := 128#32
  let v7 : BitVec 32 := Scalar.muli arg10 c128_i32
  let v8 : BitVec 32 := v7
  let v58 : Index := Scalar.indexCast v8
  ![0, 0, v58.toNat]
def k0_off3 (k0_t1 : Fin k0_t1_loop.trips) : Fin 3 → Nat :=
  let c0_22 : Index := 0#32
  let c0_i32 : BitVec 32 := 0#32
  let c1_i32 : BitVec 32 := 1#32
  let arg10 : BitVec 32 := Scf.iv c0_i32 c1_i32 k0_t1
  let c128_i32 : BitVec 32 := 128#32
  let v7 : BitVec 32 := Scalar.muli arg10 c128_i32
  let v8 : BitVec 32 := v7
  let v66 : Index := Scalar.indexCast v8
  let c0_23 : Index := 0#32
  ![0, v66.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8192x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![8, 32], ![false, false]⟩

@[reducible] def k1_t1_loop : Scf.Loop 32 :=
  let c0_i32_443 : BitVec 32 := 0#32
  let c8_i32 : BitVec 32 := 8#32
  let v960 : BitVec 32 := Scalar.addi c0_i32_443 c8_i32
  let c1_i32_444 : BitVec 32 := 1#32
  ⟨c0_i32_443, v960, c1_i32_444⟩
def k1_off1 (k1_t1 : Fin k1_t1_loop.trips) : Fin 4 → Nat :=
  let c0_446 : Index := 0#32
  let c2_i32 : BitVec 32 := 2#32
  let c0_i32_443 : BitVec 32 := 0#32
  let c1_i32_444 : BitVec 32 := 1#32
  let arg11 : BitVec 32 := Scf.iv c0_i32_443 c1_i32_444 k1_t1
  let v961 : BitVec 32 := Scalar.muli c2_i32 arg11
  let v962 : Index := Scalar.indexCast v961
  let c0_447 : Index := 0#32
  let c0_448 : Index := 0#32
  ![0, v962.toNat, 0, 0]
def k1_off2 (k1_t1 : Fin k1_t1_loop.trips) : Fin 3 → Nat :=
  let c2_i32 : BitVec 32 := 2#32
  let c0_i32_443 : BitVec 32 := 0#32
  let c1_i32_444 : BitVec 32 := 1#32
  let arg11 : BitVec 32 := Scf.iv c0_i32_443 c1_i32_444 k1_t1
  let v961 : BitVec 32 := Scalar.muli c2_i32 arg11
  let v965 : Index := Scalar.indexCast v961
  let c0_449 : Index := 0#32
  let c0_450 : Index := 0#32
  ![v965.toNat, 0, 0]
def k1_mult1 (i : grid1.Coords) : BitVec 32 :=
  let arg1 : BitVec 32 := BitVec.ofNat 32 (i 1).val
  let c256_i32 : BitVec 32 := 256#32
  let v969 : BitVec 32 := Scalar.muli arg1 c256_i32
  v969
def k1_off3 (i : grid1.Coords) : Fin 3 → Nat :=
  let c0_452 : Index := 0#32
  let arg1 : BitVec 32 := BitVec.ofNat 32 (i 1).val
  let c256_i32 : BitVec 32 := 256#32
  let v969 : BitVec 32 := Scalar.muli arg1 c256_i32
  let v970 : BitVec 32 := v969
  let v971 : Index := Scalar.indexCast v970
  let c0_453 : Index := 0#32
  ![0, v971.toNat, 0]
def k1_off4 (i : grid1.Coords) : Fin 3 → Nat :=
  let c0_455 : Index := 0#32
  let arg1 : BitVec 32 := BitVec.ofNat 32 (i 1).val
  let c256_i32 : BitVec 32 := 256#32
  let v969 : BitVec 32 := Scalar.muli arg1 c256_i32
  let v970 : BitVec 32 := v969
  let v975 : Index := Scalar.indexCast v970
  let c0_456 : Index := 0#32
  ![0, v975.toNat, 0]
def k1_off5 (i : grid1.Coords) : Fin 2 → Nat :=
  let arg1 : BitVec 32 := BitVec.ofNat 32 (i 1).val
  let c256_i32 : BitVec 32 := 256#32
  let v969 : BitVec 32 := Scalar.muli arg1 c256_i32
  let v970 : BitVec 32 := v969
  let v987 : Index := Scalar.indexCast v970
  let c0_458 : Index := 0#32
  ![v987.toNat, 0]
@[reducible] def k1_t2_loop (i : grid1.Coords) : Scf.Loop 32 :=
  let c0_i32_460 : BitVec 32 := 0#32
  let arg1 : BitVec 32 := BitVec.ofNat 32 (i 1).val
  let v994 : BitVec 32 := Scalar.subi arg1 c0_i32_460
  let c1_i32_461 : BitVec 32 := 1#32
  let v996 : BitVec 32 := Scalar.divsi v994 c1_i32_461
  let v997 : BitVec 32 := Scalar.muli v996 c1_i32_461
  let v998 : BitVec 32 := Scalar.addi c0_i32_460 v997
  let c1_i32_462 : BitVec 32 := 1#32
  ⟨c0_i32_460, v998, c1_i32_462⟩
def k1_mult2 (i : grid1.Coords) (k1_t2 : Fin (k1_t2_loop i).trips) : BitVec 32 :=
  let c0_i32_460 : BitVec 32 := 0#32
  let c1_i32_462 : BitVec 32 := 1#32
  let arg12 : BitVec 32 := Scf.iv c0_i32_460 c1_i32_462 k1_t2
  let c256_i32_541 : BitVec 32 := 256#32
  let v1167 : BitVec 32 := Scalar.muli arg12 c256_i32_541
  v1167
def k1_off6 (i : grid1.Coords) (k1_t2 : Fin (k1_t2_loop i).trips) : Fin 3 → Nat :=
  let c0_542 : Index := 0#32
  let c0_i32_460 : BitVec 32 := 0#32
  let c1_i32_462 : BitVec 32 := 1#32
  let arg12 : BitVec 32 := Scf.iv c0_i32_460 c1_i32_462 k1_t2
  let c256_i32_541 : BitVec 32 := 256#32
  let v1167 : BitVec 32 := Scalar.muli arg12 c256_i32_541
  let v1168 : BitVec 32 := v1167
  let v1169 : Index := Scalar.indexCast v1168
  let c0_543 : Index := 0#32
  ![0, v1169.toNat, 0]
def k1_off7 (i : grid1.Coords) (k1_t2 : Fin (k1_t2_loop i).trips) : Fin 3 → Nat :=
  let c0_545 : Index := 0#32
  let c0_i32_460 : BitVec 32 := 0#32
  let c1_i32_462 : BitVec 32 := 1#32
  let arg12 : BitVec 32 := Scf.iv c0_i32_460 c1_i32_462 k1_t2
  let c256_i32_541 : BitVec 32 := 256#32
  let v1167 : BitVec 32 := Scalar.muli arg12 c256_i32_541
  let v1168 : BitVec 32 := v1167
  let v1173 : Index := Scalar.indexCast v1168
  let c0_546 : Index := 0#32
  ![0, v1173.toNat, 0]
def k1_off8 (i : grid1.Coords) (k1_t2 : Fin (k1_t2_loop i).trips) : Fin 2 → Nat :=
  let c0_i32_460 : BitVec 32 := 0#32
  let c1_i32_462 : BitVec 32 := 1#32
  let arg12 : BitVec 32 := Scf.iv c0_i32_460 c1_i32_462 k1_t2
  let c256_i32_541 : BitVec 32 := 256#32
  let v1167 : BitVec 32 := Scalar.muli arg12 c256_i32_541
  let v1168 : BitVec 32 := v1167
  let v1180 : Index := Scalar.indexCast v1168
  let c0_547 : Index := 0#32
  ![v1180.toNat, 0]
@[reducible] def k1_t3_loop (i : grid1.Coords) : Scf.Loop 32 :=
  let c0_i32_460 : BitVec 32 := 0#32
  let arg1 : BitVec 32 := BitVec.ofNat 32 (i 1).val
  let v994 : BitVec 32 := Scalar.subi arg1 c0_i32_460
  let c1_i32_461 : BitVec 32 := 1#32
  let v996 : BitVec 32 := Scalar.divsi v994 c1_i32_461
  let v997 : BitVec 32 := Scalar.muli v996 c1_i32_461
  let v998 : BitVec 32 := Scalar.addi c0_i32_460 v997
  let v995 : BitVec 32 := Scalar.addi c0_i32_460 v994
  let c1_i32_463 : BitVec 32 := 1#32
  ⟨v998, v995, c1_i32_463⟩
def k1_mult3 (i : grid1.Coords) (k1_t3 : Fin (k1_t3_loop i).trips) : BitVec 32 :=
  let c0_i32_460 : BitVec 32 := 0#32
  let arg1 : BitVec 32 := BitVec.ofNat 32 (i 1).val
  let v994 : BitVec 32 := Scalar.subi arg1 c0_i32_460
  let c1_i32_461 : BitVec 32 := 1#32
  let v996 : BitVec 32 := Scalar.divsi v994 c1_i32_461
  let v997 : BitVec 32 := Scalar.muli v996 c1_i32_461
  let v998 : BitVec 32 := Scalar.addi c0_i32_460 v997
  let c1_i32_463 : BitVec 32 := 1#32
  let arg12 : BitVec 32 := Scf.iv v998 c1_i32_463 k1_t3
  let c256_i32_541 : BitVec 32 := 256#32
  let v1167 : BitVec 32 := Scalar.muli arg12 c256_i32_541
  v1167
def k1_off9 (i : grid1.Coords) (k1_t3 : Fin (k1_t3_loop i).trips) : Fin 3 → Nat :=
  let c0_542 : Index := 0#32
  let c0_i32_460 : BitVec 32 := 0#32
  let arg1 : BitVec 32 := BitVec.ofNat 32 (i 1).val
  let v994 : BitVec 32 := Scalar.subi arg1 c0_i32_460
  let c1_i32_461 : BitVec 32 := 1#32
  let v996 : BitVec 32 := Scalar.divsi v994 c1_i32_461
  let v997 : BitVec 32 := Scalar.muli v996 c1_i32_461
  let v998 : BitVec 32 := Scalar.addi c0_i32_460 v997
  let c1_i32_463 : BitVec 32 := 1#32
  let arg12 : BitVec 32 := Scf.iv v998 c1_i32_463 k1_t3
  let c256_i32_541 : BitVec 32 := 256#32
  let v1167 : BitVec 32 := Scalar.muli arg12 c256_i32_541
  let v1168 : BitVec 32 := v1167
  let v1169 : Index := Scalar.indexCast v1168
  let c0_543 : Index := 0#32
  ![0, v1169.toNat, 0]
def k1_off10 (i : grid1.Coords) (k1_t3 : Fin (k1_t3_loop i).trips) : Fin 3 → Nat :=
  let c0_545 : Index := 0#32
  let c0_i32_460 : BitVec 32 := 0#32
  let arg1 : BitVec 32 := BitVec.ofNat 32 (i 1).val
  let v994 : BitVec 32 := Scalar.subi arg1 c0_i32_460
  let c1_i32_461 : BitVec 32 := 1#32
  let v996 : BitVec 32 := Scalar.divsi v994 c1_i32_461
  let v997 : BitVec 32 := Scalar.muli v996 c1_i32_461
  let v998 : BitVec 32 := Scalar.addi c0_i32_460 v997
  let c1_i32_463 : BitVec 32 := 1#32
  let arg12 : BitVec 32 := Scf.iv v998 c1_i32_463 k1_t3
  let c256_i32_541 : BitVec 32 := 256#32
  let v1167 : BitVec 32 := Scalar.muli arg12 c256_i32_541
  let v1168 : BitVec 32 := v1167
  let v1173 : Index := Scalar.indexCast v1168
  let c0_546 : Index := 0#32
  ![0, v1173.toNat, 0]
def k1_off11 (i : grid1.Coords) (k1_t3 : Fin (k1_t3_loop i).trips) : Fin 2 → Nat :=
  let c0_i32_460 : BitVec 32 := 0#32
  let arg1 : BitVec 32 := BitVec.ofNat 32 (i 1).val
  let v994 : BitVec 32 := Scalar.subi arg1 c0_i32_460
  let c1_i32_461 : BitVec 32 := 1#32
  let v996 : BitVec 32 := Scalar.divsi v994 c1_i32_461
  let v997 : BitVec 32 := Scalar.muli v996 c1_i32_461
  let v998 : BitVec 32 := Scalar.addi c0_i32_460 v997
  let c1_i32_463 : BitVec 32 := 1#32
  let arg12 : BitVec 32 := Scf.iv v998 c1_i32_463 k1_t3
  let c256_i32_541 : BitVec 32 := 256#32
  let v1167 : BitVec 32 := Scalar.muli arg12 c256_i32_541
  let v1168 : BitVec 32 := v1167
  let v1180 : Index := Scalar.indexCast v1168
  let c0_547 : Index := 0#32
  ![v1180.toNat, 0]
@[reducible] def k1_t4_loop (i : grid1.Coords) : Scf.Loop 32 :=
  let c0_i32_467 : BitVec 32 := 0#32
  let arg1 : BitVec 32 := BitVec.ofNat 32 (i 1).val
  let c1_i32_465 : BitVec 32 := 1#32
  let v1003 : BitVec 32 := Scalar.addi arg1 c1_i32_465
  let v1005 : BitVec 32 := Scalar.subi v1003 c0_i32_467
  let c1_i32_468 : BitVec 32 := 1#32
  let v1007 : BitVec 32 := Scalar.divsi v1005 c1_i32_468
  let v1008 : BitVec 32 := Scalar.muli v1007 c1_i32_468
  let v1009 : BitVec 32 := Scalar.addi c0_i32_467 v1008
  let c1_i32_469 : BitVec 32 := 1#32
  ⟨c0_i32_467, v1009, c1_i32_469⟩
def k1_mult4 (i : grid1.Coords) (k1_t4 : Fin (k1_t4_loop i).trips) : BitVec 32 :=
  let c0_i32_467 : BitVec 32 := 0#32
  let c1_i32_469 : BitVec 32 := 1#32
  let arg12 : BitVec 32 := Scf.iv c0_i32_467 c1_i32_469 k1_t4
  let c256_i32_541 : BitVec 32 := 256#32
  let v1167 : BitVec 32 := Scalar.muli arg12 c256_i32_541
  v1167
def k1_off12 (i : grid1.Coords) (k1_t4 : Fin (k1_t4_loop i).trips) : Fin 2 → Nat :=
  let c0_i32_467 : BitVec 32 := 0#32
  let c1_i32_469 : BitVec 32 := 1#32
  let arg12 : BitVec 32 := Scf.iv c0_i32_467 c1_i32_469 k1_t4
  let c256_i32_541 : BitVec 32 := 256#32
  let v1167 : BitVec 32 := Scalar.muli arg12 c256_i32_541
  let v1168 : BitVec 32 := v1167
  let v1169 : Index := Scalar.indexCast v1168
  let c0_542 : Index := 0#32
  ![v1169.toNat, 0]
@[reducible] def k1_t5_loop (i : grid1.Coords) : Scf.Loop 32 :=
  let c0_i32_467 : BitVec 32 := 0#32
  let arg1 : BitVec 32 := BitVec.ofNat 32 (i 1).val
  let c1_i32_465 : BitVec 32 := 1#32
  let v1003 : BitVec 32 := Scalar.addi arg1 c1_i32_465
  let v1005 : BitVec 32 := Scalar.subi v1003 c0_i32_467
  let c1_i32_468 : BitVec 32 := 1#32
  let v1007 : BitVec 32 := Scalar.divsi v1005 c1_i32_468
  let v1008 : BitVec 32 := Scalar.muli v1007 c1_i32_468
  let v1009 : BitVec 32 := Scalar.addi c0_i32_467 v1008
  let v1006 : BitVec 32 := Scalar.addi c0_i32_467 v1005
  let c1_i32_470 : BitVec 32 := 1#32
  ⟨v1009, v1006, c1_i32_470⟩
def k1_mult5 (i : grid1.Coords) (k1_t5 : Fin (k1_t5_loop i).trips) : BitVec 32 :=
  let c0_i32_467 : BitVec 32 := 0#32
  let arg1 : BitVec 32 := BitVec.ofNat 32 (i 1).val
  let c1_i32_465 : BitVec 32 := 1#32
  let v1003 : BitVec 32 := Scalar.addi arg1 c1_i32_465
  let v1005 : BitVec 32 := Scalar.subi v1003 c0_i32_467
  let c1_i32_468 : BitVec 32 := 1#32
  let v1007 : BitVec 32 := Scalar.divsi v1005 c1_i32_468
  let v1008 : BitVec 32 := Scalar.muli v1007 c1_i32_468
  let v1009 : BitVec 32 := Scalar.addi c0_i32_467 v1008
  let c1_i32_470 : BitVec 32 := 1#32
  let arg12 : BitVec 32 := Scf.iv v1009 c1_i32_470 k1_t5
  let c256_i32_541 : BitVec 32 := 256#32
  let v1167 : BitVec 32 := Scalar.muli arg12 c256_i32_541
  v1167
def k1_off13 (i : grid1.Coords) (k1_t5 : Fin (k1_t5_loop i).trips) : Fin 2 → Nat :=
  let c0_i32_467 : BitVec 32 := 0#32
  let arg1 : BitVec 32 := BitVec.ofNat 32 (i 1).val
  let c1_i32_465 : BitVec 32 := 1#32
  let v1003 : BitVec 32 := Scalar.addi arg1 c1_i32_465
  let v1005 : BitVec 32 := Scalar.subi v1003 c0_i32_467
  let c1_i32_468 : BitVec 32 := 1#32
  let v1007 : BitVec 32 := Scalar.divsi v1005 c1_i32_468
  let v1008 : BitVec 32 := Scalar.muli v1007 c1_i32_468
  let v1009 : BitVec 32 := Scalar.addi c0_i32_467 v1008
  let c1_i32_470 : BitVec 32 := 1#32
  let arg12 : BitVec 32 := Scf.iv v1009 c1_i32_470 k1_t5
  let c256_i32_541 : BitVec 32 := 256#32
  let v1167 : BitVec 32 := Scalar.muli arg12 c256_i32_541
  let v1168 : BitVec 32 := v1167
  let v1169 : Index := Scalar.indexCast v1168
  let c0_542 : Index := 0#32
  ![v1169.toNat, 0]
@[reducible] def k1_t6_loop (i : grid1.Coords) : Scf.Loop 32 :=
  let c0_i32_485 : BitVec 32 := 0#32
  let arg1 : BitVec 32 := BitVec.ofNat 32 (i 1).val
  let c1_i32_483 : BitVec 32 := 1#32
  let v1043 : BitVec 32 := Scalar.addi arg1 c1_i32_483
  let v1045 : BitVec 32 := Scalar.subi v1043 c0_i32_485
  let c1_i32_486 : BitVec 32 := 1#32
  let v1047 : BitVec 32 := Scalar.divsi v1045 c1_i32_486
  let v1048 : BitVec 32 := Scalar.muli v1047 c1_i32_486
  let v1049 : BitVec 32 := Scalar.addi c0_i32_485 v1048
  let c1_i32_487 : BitVec 32 := 1#32
  ⟨c0_i32_485, v1049, c1_i32_487⟩
def k1_mult6 (i : grid1.Coords) (k1_t6 : Fin (k1_t6_loop i).trips) : BitVec 32 :=
  let c0_i32_485 : BitVec 32 := 0#32
  let c1_i32_487 : BitVec 32 := 1#32
  let arg12 : BitVec 32 := Scf.iv c0_i32_485 c1_i32_487 k1_t6
  let c256_i32_541 : BitVec 32 := 256#32
  let v1167 : BitVec 32 := Scalar.muli arg12 c256_i32_541
  v1167
def k1_off14 (i : grid1.Coords) (k1_t6 : Fin (k1_t6_loop i).trips) : Fin 2 → Nat :=
  let c0_i32_485 : BitVec 32 := 0#32
  let c1_i32_487 : BitVec 32 := 1#32
  let arg12 : BitVec 32 := Scf.iv c0_i32_485 c1_i32_487 k1_t6
  let c256_i32_541 : BitVec 32 := 256#32
  let v1167 : BitVec 32 := Scalar.muli arg12 c256_i32_541
  let v1168 : BitVec 32 := v1167
  let v1169 : Index := Scalar.indexCast v1168
  let c0_542 : Index := 0#32
  ![v1169.toNat, 0]
def k1_off15 (i : grid1.Coords) (k1_t6 : Fin (k1_t6_loop i).trips) : Fin 3 → Nat :=
  let c0_544 : Index := 0#32
  let c0_545 : Index := 0#32
  let c0_i32_485 : BitVec 32 := 0#32
  let c1_i32_487 : BitVec 32 := 1#32
  let arg12 : BitVec 32 := Scf.iv c0_i32_485 c1_i32_487 k1_t6
  let c256_i32_541 : BitVec 32 := 256#32
  let v1167 : BitVec 32 := Scalar.muli arg12 c256_i32_541
  let v1168 : BitVec 32 := v1167
  let v1176 : Index := Scalar.indexCast v1168
  ![0, 0, v1176.toNat]
@[reducible] def k1_t7_loop (i : grid1.Coords) : Scf.Loop 32 :=
  let c0_i32_485 : BitVec 32 := 0#32
  let arg1 : BitVec 32 := BitVec.ofNat 32 (i 1).val
  let c1_i32_483 : BitVec 32 := 1#32
  let v1043 : BitVec 32 := Scalar.addi arg1 c1_i32_483
  let v1045 : BitVec 32 := Scalar.subi v1043 c0_i32_485
  let c1_i32_486 : BitVec 32 := 1#32
  let v1047 : BitVec 32 := Scalar.divsi v1045 c1_i32_486
  let v1048 : BitVec 32 := Scalar.muli v1047 c1_i32_486
  let v1049 : BitVec 32 := Scalar.addi c0_i32_485 v1048
  let v1046 : BitVec 32 := Scalar.addi c0_i32_485 v1045
  let c1_i32_488 : BitVec 32 := 1#32
  ⟨v1049, v1046, c1_i32_488⟩
def k1_mult7 (i : grid1.Coords) (k1_t7 : Fin (k1_t7_loop i).trips) : BitVec 32 :=
  let c0_i32_485 : BitVec 32 := 0#32
  let arg1 : BitVec 32 := BitVec.ofNat 32 (i 1).val
  let c1_i32_483 : BitVec 32 := 1#32
  let v1043 : BitVec 32 := Scalar.addi arg1 c1_i32_483
  let v1045 : BitVec 32 := Scalar.subi v1043 c0_i32_485
  let c1_i32_486 : BitVec 32 := 1#32
  let v1047 : BitVec 32 := Scalar.divsi v1045 c1_i32_486
  let v1048 : BitVec 32 := Scalar.muli v1047 c1_i32_486
  let v1049 : BitVec 32 := Scalar.addi c0_i32_485 v1048
  let c1_i32_488 : BitVec 32 := 1#32
  let arg12 : BitVec 32 := Scf.iv v1049 c1_i32_488 k1_t7
  let c256_i32_541 : BitVec 32 := 256#32
  let v1167 : BitVec 32 := Scalar.muli arg12 c256_i32_541
  v1167
def k1_off16 (i : grid1.Coords) (k1_t7 : Fin (k1_t7_loop i).trips) : Fin 2 → Nat :=
  let c0_i32_485 : BitVec 32 := 0#32
  let arg1 : BitVec 32 := BitVec.ofNat 32 (i 1).val
  let c1_i32_483 : BitVec 32 := 1#32
  let v1043 : BitVec 32 := Scalar.addi arg1 c1_i32_483
  let v1045 : BitVec 32 := Scalar.subi v1043 c0_i32_485
  let c1_i32_486 : BitVec 32 := 1#32
  let v1047 : BitVec 32 := Scalar.divsi v1045 c1_i32_486
  let v1048 : BitVec 32 := Scalar.muli v1047 c1_i32_486
  let v1049 : BitVec 32 := Scalar.addi c0_i32_485 v1048
  let c1_i32_488 : BitVec 32 := 1#32
  let arg12 : BitVec 32 := Scf.iv v1049 c1_i32_488 k1_t7
  let c256_i32_541 : BitVec 32 := 256#32
  let v1167 : BitVec 32 := Scalar.muli arg12 c256_i32_541
  let v1168 : BitVec 32 := v1167
  let v1169 : Index := Scalar.indexCast v1168
  let c0_542 : Index := 0#32
  ![v1169.toNat, 0]
def k1_off17 (i : grid1.Coords) (k1_t7 : Fin (k1_t7_loop i).trips) : Fin 3 → Nat :=
  let c0_544 : Index := 0#32
  let c0_545 : Index := 0#32
  let c0_i32_485 : BitVec 32 := 0#32
  let arg1 : BitVec 32 := BitVec.ofNat 32 (i 1).val
  let c1_i32_483 : BitVec 32 := 1#32
  let v1043 : BitVec 32 := Scalar.addi arg1 c1_i32_483
  let v1045 : BitVec 32 := Scalar.subi v1043 c0_i32_485
  let c1_i32_486 : BitVec 32 := 1#32
  let v1047 : BitVec 32 := Scalar.divsi v1045 c1_i32_486
  let v1048 : BitVec 32 := Scalar.muli v1047 c1_i32_486
  let v1049 : BitVec 32 := Scalar.addi c0_i32_485 v1048
  let c1_i32_488 : BitVec 32 := 1#32
  let arg12 : BitVec 32 := Scf.iv v1049 c1_i32_488 k1_t7
  let c256_i32_541 : BitVec 32 := 256#32
  let v1167 : BitVec 32 := Scalar.muli arg12 c256_i32_541
  let v1168 : BitVec 32 := v1167
  let v1176 : Index := Scalar.indexCast v1168
  ![0, 0, v1176.toNat]
def k1_off18 (k1_t1 : Fin k1_t1_loop.trips) : Fin 4 → Nat :=
  let c0_493 : Index := 0#32
  let c2_i32_491 : BitVec 32 := 2#32
  let c0_i32_443 : BitVec 32 := 0#32
  let c1_i32_444 : BitVec 32 := 1#32
  let arg11 : BitVec 32 := Scf.iv c0_i32_443 c1_i32_444 k1_t1
  let v1059 : BitVec 32 := Scalar.muli c2_i32_491 arg11
  let c1_i32_492 : BitVec 32 := 1#32
  let v1060 : BitVec 32 := Scalar.addi v1059 c1_i32_492
  let v1061 : Index := Scalar.indexCast v1060
  let c0_494 : Index := 0#32
  let c0_495 : Index := 0#32
  ![0, v1061.toNat, 0, 0]
def k1_off19 (k1_t1 : Fin k1_t1_loop.trips) : Fin 3 → Nat :=
  let c2_i32_491 : BitVec 32 := 2#32
  let c0_i32_443 : BitVec 32 := 0#32
  let c1_i32_444 : BitVec 32 := 1#32
  let arg11 : BitVec 32 := Scf.iv c0_i32_443 c1_i32_444 k1_t1
  let v1059 : BitVec 32 := Scalar.muli c2_i32_491 arg11
  let c1_i32_492 : BitVec 32 := 1#32
  let v1060 : BitVec 32 := Scalar.addi v1059 c1_i32_492
  let v1064 : Index := Scalar.indexCast v1060
  let c0_496 : Index := 0#32
  let c0_497 : Index := 0#32
  ![v1064.toNat, 0, 0]
def k1_mult8 (i : grid1.Coords) : BitVec 32 :=
  let arg1 : BitVec 32 := BitVec.ofNat 32 (i 1).val
  let c256_i32_499 : BitVec 32 := 256#32
  let v1068 : BitVec 32 := Scalar.muli arg1 c256_i32_499
  v1068
@[reducible] def k1_t8_loop (i : grid1.Coords) : Scf.Loop 32 :=
  let c0_i32_508 : BitVec 32 := 0#32
  let arg1 : BitVec 32 := BitVec.ofNat 32 (i 1).val
  let v1093 : BitVec 32 := Scalar.subi arg1 c0_i32_508
  let c1_i32_509 : BitVec 32 := 1#32
  let v1095 : BitVec 32 := Scalar.divsi v1093 c1_i32_509
  let v1096 : BitVec 32 := Scalar.muli v1095 c1_i32_509
  let v1097 : BitVec 32 := Scalar.addi c0_i32_508 v1096
  let c1_i32_510 : BitVec 32 := 1#32
  ⟨c0_i32_508, v1097, c1_i32_510⟩
def k1_mult9 (i : grid1.Coords) (k1_t8 : Fin (k1_t8_loop i).trips) : BitVec 32 :=
  let c0_i32_508 : BitVec 32 := 0#32
  let c1_i32_510 : BitVec 32 := 1#32
  let arg12 : BitVec 32 := Scf.iv c0_i32_508 c1_i32_510 k1_t8
  let c256_i32_541 : BitVec 32 := 256#32
  let v1167 : BitVec 32 := Scalar.muli arg12 c256_i32_541
  v1167
def k1_off20 (i : grid1.Coords) (k1_t8 : Fin (k1_t8_loop i).trips) : Fin 3 → Nat :=
  let c0_542 : Index := 0#32
  let c0_i32_508 : BitVec 32 := 0#32
  let c1_i32_510 : BitVec 32 := 1#32
  let arg12 : BitVec 32 := Scf.iv c0_i32_508 c1_i32_510 k1_t8
  let c256_i32_541 : BitVec 32 := 256#32
  let v1167 : BitVec 32 := Scalar.muli arg12 c256_i32_541
  let v1168 : BitVec 32 := v1167
  let v1169 : Index := Scalar.indexCast v1168
  let c0_543 : Index := 0#32
  ![0, v1169.toNat, 0]
def k1_off21 (i : grid1.Coords) (k1_t8 : Fin (k1_t8_loop i).trips) : Fin 3 → Nat :=
  let c0_545 : Index := 0#32
  let c0_i32_508 : BitVec 32 := 0#32
  let c1_i32_510 : BitVec 32 := 1#32
  let arg12 : BitVec 32 := Scf.iv c0_i32_508 c1_i32_510 k1_t8
  let c256_i32_541 : BitVec 32 := 256#32
  let v1167 : BitVec 32 := Scalar.muli arg12 c256_i32_541
  let v1168 : BitVec 32 := v1167
  let v1173 : Index := Scalar.indexCast v1168
  let c0_546 : Index := 0#32
  ![0, v1173.toNat, 0]
def k1_off22 (i : grid1.Coords) (k1_t8 : Fin (k1_t8_loop i).trips) : Fin 2 → Nat :=
  let c0_i32_508 : BitVec 32 := 0#32
  let c1_i32_510 : BitVec 32 := 1#32
  let arg12 : BitVec 32 := Scf.iv c0_i32_508 c1_i32_510 k1_t8
  let c256_i32_541 : BitVec 32 := 256#32
  let v1167 : BitVec 32 := Scalar.muli arg12 c256_i32_541
  let v1168 : BitVec 32 := v1167
  let v1180 : Index := Scalar.indexCast v1168
  let c0_547 : Index := 0#32
  ![v1180.toNat, 0]
@[reducible] def k1_t9_loop (i : grid1.Coords) : Scf.Loop 32 :=
  let c0_i32_508 : BitVec 32 := 0#32
  let arg1 : BitVec 32 := BitVec.ofNat 32 (i 1).val
  let v1093 : BitVec 32 := Scalar.subi arg1 c0_i32_508
  let c1_i32_509 : BitVec 32 := 1#32
  let v1095 : BitVec 32 := Scalar.divsi v1093 c1_i32_509
  let v1096 : BitVec 32 := Scalar.muli v1095 c1_i32_509
  let v1097 : BitVec 32 := Scalar.addi c0_i32_508 v1096
  let v1094 : BitVec 32 := Scalar.addi c0_i32_508 v1093
  let c1_i32_511 : BitVec 32 := 1#32
  ⟨v1097, v1094, c1_i32_511⟩
def k1_mult10 (i : grid1.Coords) (k1_t9 : Fin (k1_t9_loop i).trips) : BitVec 32 :=
  let c0_i32_508 : BitVec 32 := 0#32
  let arg1 : BitVec 32 := BitVec.ofNat 32 (i 1).val
  let v1093 : BitVec 32 := Scalar.subi arg1 c0_i32_508
  let c1_i32_509 : BitVec 32 := 1#32
  let v1095 : BitVec 32 := Scalar.divsi v1093 c1_i32_509
  let v1096 : BitVec 32 := Scalar.muli v1095 c1_i32_509
  let v1097 : BitVec 32 := Scalar.addi c0_i32_508 v1096
  let c1_i32_511 : BitVec 32 := 1#32
  let arg12 : BitVec 32 := Scf.iv v1097 c1_i32_511 k1_t9
  let c256_i32_541 : BitVec 32 := 256#32
  let v1167 : BitVec 32 := Scalar.muli arg12 c256_i32_541
  v1167
def k1_off23 (i : grid1.Coords) (k1_t9 : Fin (k1_t9_loop i).trips) : Fin 3 → Nat :=
  let c0_542 : Index := 0#32
  let c0_i32_508 : BitVec 32 := 0#32
  let arg1 : BitVec 32 := BitVec.ofNat 32 (i 1).val
  let v1093 : BitVec 32 := Scalar.subi arg1 c0_i32_508
  let c1_i32_509 : BitVec 32 := 1#32
  let v1095 : BitVec 32 := Scalar.divsi v1093 c1_i32_509
  let v1096 : BitVec 32 := Scalar.muli v1095 c1_i32_509
  let v1097 : BitVec 32 := Scalar.addi c0_i32_508 v1096
  let c1_i32_511 : BitVec 32 := 1#32
  let arg12 : BitVec 32 := Scf.iv v1097 c1_i32_511 k1_t9
  let c256_i32_541 : BitVec 32 := 256#32
  let v1167 : BitVec 32 := Scalar.muli arg12 c256_i32_541
  let v1168 : BitVec 32 := v1167
  let v1169 : Index := Scalar.indexCast v1168
  let c0_543 : Index := 0#32
  ![0, v1169.toNat, 0]
def k1_off24 (i : grid1.Coords) (k1_t9 : Fin (k1_t9_loop i).trips) : Fin 3 → Nat :=
  let c0_545 : Index := 0#32
  let c0_i32_508 : BitVec 32 := 0#32
  let arg1 : BitVec 32 := BitVec.ofNat 32 (i 1).val
  let v1093 : BitVec 32 := Scalar.subi arg1 c0_i32_508
  let c1_i32_509 : BitVec 32 := 1#32
  let v1095 : BitVec 32 := Scalar.divsi v1093 c1_i32_509
  let v1096 : BitVec 32 := Scalar.muli v1095 c1_i32_509
  let v1097 : BitVec 32 := Scalar.addi c0_i32_508 v1096
  let c1_i32_511 : BitVec 32 := 1#32
  let arg12 : BitVec 32 := Scf.iv v1097 c1_i32_511 k1_t9
  let c256_i32_541 : BitVec 32 := 256#32
  let v1167 : BitVec 32 := Scalar.muli arg12 c256_i32_541
  let v1168 : BitVec 32 := v1167
  let v1173 : Index := Scalar.indexCast v1168
  let c0_546 : Index := 0#32
  ![0, v1173.toNat, 0]
def k1_off25 (i : grid1.Coords) (k1_t9 : Fin (k1_t9_loop i).trips) : Fin 2 → Nat :=
  let c0_i32_508 : BitVec 32 := 0#32
  let arg1 : BitVec 32 := BitVec.ofNat 32 (i 1).val
  let v1093 : BitVec 32 := Scalar.subi arg1 c0_i32_508
  let c1_i32_509 : BitVec 32 := 1#32
  let v1095 : BitVec 32 := Scalar.divsi v1093 c1_i32_509
  let v1096 : BitVec 32 := Scalar.muli v1095 c1_i32_509
  let v1097 : BitVec 32 := Scalar.addi c0_i32_508 v1096
  let c1_i32_511 : BitVec 32 := 1#32
  let arg12 : BitVec 32 := Scf.iv v1097 c1_i32_511 k1_t9
  let c256_i32_541 : BitVec 32 := 256#32
  let v1167 : BitVec 32 := Scalar.muli arg12 c256_i32_541
  let v1168 : BitVec 32 := v1167
  let v1180 : Index := Scalar.indexCast v1168
  let c0_547 : Index := 0#32
  ![v1180.toNat, 0]
@[reducible] def k1_t10_loop (i : grid1.Coords) : Scf.Loop 32 :=
  let c0_i32_515 : BitVec 32 := 0#32
  let arg1 : BitVec 32 := BitVec.ofNat 32 (i 1).val
  let c1_i32_513 : BitVec 32 := 1#32
  let v1102 : BitVec 32 := Scalar.addi arg1 c1_i32_513
  let v1104 : BitVec 32 := Scalar.subi v1102 c0_i32_515
  let c1_i32_516 : BitVec 32 := 1#32
  let v1106 : BitVec 32 := Scalar.divsi v1104 c1_i32_516
  let v1107 : BitVec 32 := Scalar.muli v1106 c1_i32_516
  let v1108 : BitVec 32 := Scalar.addi c0_i32_515 v1107
  let c1_i32_517 : BitVec 32 := 1#32
  ⟨c0_i32_515, v1108, c1_i32_517⟩
def k1_mult11 (i : grid1.Coords) (k1_t10 : Fin (k1_t10_loop i).trips) : BitVec 32 :=
  let c0_i32_515 : BitVec 32 := 0#32
  let c1_i32_517 : BitVec 32 := 1#32
  let arg12 : BitVec 32 := Scf.iv c0_i32_515 c1_i32_517 k1_t10
  let c256_i32_541 : BitVec 32 := 256#32
  let v1167 : BitVec 32 := Scalar.muli arg12 c256_i32_541
  v1167
def k1_off26 (i : grid1.Coords) (k1_t10 : Fin (k1_t10_loop i).trips) : Fin 2 → Nat :=
  let c0_i32_515 : BitVec 32 := 0#32
  let c1_i32_517 : BitVec 32 := 1#32
  let arg12 : BitVec 32 := Scf.iv c0_i32_515 c1_i32_517 k1_t10
  let c256_i32_541 : BitVec 32 := 256#32
  let v1167 : BitVec 32 := Scalar.muli arg12 c256_i32_541
  let v1168 : BitVec 32 := v1167
  let v1169 : Index := Scalar.indexCast v1168
  let c0_542 : Index := 0#32
  ![v1169.toNat, 0]
@[reducible] def k1_t11_loop (i : grid1.Coords) : Scf.Loop 32 :=
  let c0_i32_515 : BitVec 32 := 0#32
  let arg1 : BitVec 32 := BitVec.ofNat 32 (i 1).val
  let c1_i32_513 : BitVec 32 := 1#32
  let v1102 : BitVec 32 := Scalar.addi arg1 c1_i32_513
  let v1104 : BitVec 32 := Scalar.subi v1102 c0_i32_515
  let c1_i32_516 : BitVec 32 := 1#32
  let v1106 : BitVec 32 := Scalar.divsi v1104 c1_i32_516
  let v1107 : BitVec 32 := Scalar.muli v1106 c1_i32_516
  let v1108 : BitVec 32 := Scalar.addi c0_i32_515 v1107
  let v1105 : BitVec 32 := Scalar.addi c0_i32_515 v1104
  let c1_i32_518 : BitVec 32 := 1#32
  ⟨v1108, v1105, c1_i32_518⟩
def k1_mult12 (i : grid1.Coords) (k1_t11 : Fin (k1_t11_loop i).trips) : BitVec 32 :=
  let c0_i32_515 : BitVec 32 := 0#32
  let arg1 : BitVec 32 := BitVec.ofNat 32 (i 1).val
  let c1_i32_513 : BitVec 32 := 1#32
  let v1102 : BitVec 32 := Scalar.addi arg1 c1_i32_513
  let v1104 : BitVec 32 := Scalar.subi v1102 c0_i32_515
  let c1_i32_516 : BitVec 32 := 1#32
  let v1106 : BitVec 32 := Scalar.divsi v1104 c1_i32_516
  let v1107 : BitVec 32 := Scalar.muli v1106 c1_i32_516
  let v1108 : BitVec 32 := Scalar.addi c0_i32_515 v1107
  let c1_i32_518 : BitVec 32 := 1#32
  let arg12 : BitVec 32 := Scf.iv v1108 c1_i32_518 k1_t11
  let c256_i32_541 : BitVec 32 := 256#32
  let v1167 : BitVec 32 := Scalar.muli arg12 c256_i32_541
  v1167
def k1_off27 (i : grid1.Coords) (k1_t11 : Fin (k1_t11_loop i).trips) : Fin 2 → Nat :=
  let c0_i32_515 : BitVec 32 := 0#32
  let arg1 : BitVec 32 := BitVec.ofNat 32 (i 1).val
  let c1_i32_513 : BitVec 32 := 1#32
  let v1102 : BitVec 32 := Scalar.addi arg1 c1_i32_513
  let v1104 : BitVec 32 := Scalar.subi v1102 c0_i32_515
  let c1_i32_516 : BitVec 32 := 1#32
  let v1106 : BitVec 32 := Scalar.divsi v1104 c1_i32_516
  let v1107 : BitVec 32 := Scalar.muli v1106 c1_i32_516
  let v1108 : BitVec 32 := Scalar.addi c0_i32_515 v1107
  let c1_i32_518 : BitVec 32 := 1#32
  let arg12 : BitVec 32 := Scf.iv v1108 c1_i32_518 k1_t11
  let c256_i32_541 : BitVec 32 := 256#32
  let v1167 : BitVec 32 := Scalar.muli arg12 c256_i32_541
  let v1168 : BitVec 32 := v1167
  let v1169 : Index := Scalar.indexCast v1168
  let c0_542 : Index := 0#32
  ![v1169.toNat, 0]
@[reducible] def k1_t12_loop (i : grid1.Coords) : Scf.Loop 32 :=
  let c0_i32_533 : BitVec 32 := 0#32
  let arg1 : BitVec 32 := BitVec.ofNat 32 (i 1).val
  let c1_i32_531 : BitVec 32 := 1#32
  let v1142 : BitVec 32 := Scalar.addi arg1 c1_i32_531
  let v1144 : BitVec 32 := Scalar.subi v1142 c0_i32_533
  let c1_i32_534 : BitVec 32 := 1#32
  let v1146 : BitVec 32 := Scalar.divsi v1144 c1_i32_534
  let v1147 : BitVec 32 := Scalar.muli v1146 c1_i32_534
  let v1148 : BitVec 32 := Scalar.addi c0_i32_533 v1147
  let c1_i32_535 : BitVec 32 := 1#32
  ⟨c0_i32_533, v1148, c1_i32_535⟩
def k1_mult13 (i : grid1.Coords) (k1_t12 : Fin (k1_t12_loop i).trips) : BitVec 32 :=
  let c0_i32_533 : BitVec 32 := 0#32
  let c1_i32_535 : BitVec 32 := 1#32
  let arg12 : BitVec 32 := Scf.iv c0_i32_533 c1_i32_535 k1_t12
  let c256_i32_541 : BitVec 32 := 256#32
  let v1167 : BitVec 32 := Scalar.muli arg12 c256_i32_541
  v1167
def k1_off28 (i : grid1.Coords) (k1_t12 : Fin (k1_t12_loop i).trips) : Fin 2 → Nat :=
  let c0_i32_533 : BitVec 32 := 0#32
  let c1_i32_535 : BitVec 32 := 1#32
  let arg12 : BitVec 32 := Scf.iv c0_i32_533 c1_i32_535 k1_t12
  let c256_i32_541 : BitVec 32 := 256#32
  let v1167 : BitVec 32 := Scalar.muli arg12 c256_i32_541
  let v1168 : BitVec 32 := v1167
  let v1169 : Index := Scalar.indexCast v1168
  let c0_542 : Index := 0#32
  ![v1169.toNat, 0]
def k1_off29 (i : grid1.Coords) (k1_t12 : Fin (k1_t12_loop i).trips) : Fin 3 → Nat :=
  let c0_544 : Index := 0#32
  let c0_545 : Index := 0#32
  let c0_i32_533 : BitVec 32 := 0#32
  let c1_i32_535 : BitVec 32 := 1#32
  let arg12 : BitVec 32 := Scf.iv c0_i32_533 c1_i32_535 k1_t12
  let c256_i32_541 : BitVec 32 := 256#32
  let v1167 : BitVec 32 := Scalar.muli arg12 c256_i32_541
  let v1168 : BitVec 32 := v1167
  let v1176 : Index := Scalar.indexCast v1168
  ![0, 0, v1176.toNat]
@[reducible] def k1_t13_loop (i : grid1.Coords) : Scf.Loop 32 :=
  let c0_i32_533 : BitVec 32 := 0#32
  let arg1 : BitVec 32 := BitVec.ofNat 32 (i 1).val
  let c1_i32_531 : BitVec 32 := 1#32
  let v1142 : BitVec 32 := Scalar.addi arg1 c1_i32_531
  let v1144 : BitVec 32 := Scalar.subi v1142 c0_i32_533
  let c1_i32_534 : BitVec 32 := 1#32
  let v1146 : BitVec 32 := Scalar.divsi v1144 c1_i32_534
  let v1147 : BitVec 32 := Scalar.muli v1146 c1_i32_534
  let v1148 : BitVec 32 := Scalar.addi c0_i32_533 v1147
  let v1145 : BitVec 32 := Scalar.addi c0_i32_533 v1144
  let c1_i32_536 : BitVec 32 := 1#32
  ⟨v1148, v1145, c1_i32_536⟩
def k1_mult14 (i : grid1.Coords) (k1_t13 : Fin (k1_t13_loop i).trips) : BitVec 32 :=
  let c0_i32_533 : BitVec 32 := 0#32
  let arg1 : BitVec 32 := BitVec.ofNat 32 (i 1).val
  let c1_i32_531 : BitVec 32 := 1#32
  let v1142 : BitVec 32 := Scalar.addi arg1 c1_i32_531
  let v1144 : BitVec 32 := Scalar.subi v1142 c0_i32_533
  let c1_i32_534 : BitVec 32 := 1#32
  let v1146 : BitVec 32 := Scalar.divsi v1144 c1_i32_534
  let v1147 : BitVec 32 := Scalar.muli v1146 c1_i32_534
  let v1148 : BitVec 32 := Scalar.addi c0_i32_533 v1147
  let c1_i32_536 : BitVec 32 := 1#32
  let arg12 : BitVec 32 := Scf.iv v1148 c1_i32_536 k1_t13
  let c256_i32_541 : BitVec 32 := 256#32
  let v1167 : BitVec 32 := Scalar.muli arg12 c256_i32_541
  v1167
def k1_off30 (i : grid1.Coords) (k1_t13 : Fin (k1_t13_loop i).trips) : Fin 2 → Nat :=
  let c0_i32_533 : BitVec 32 := 0#32
  let arg1 : BitVec 32 := BitVec.ofNat 32 (i 1).val
  let c1_i32_531 : BitVec 32 := 1#32
  let v1142 : BitVec 32 := Scalar.addi arg1 c1_i32_531
  let v1144 : BitVec 32 := Scalar.subi v1142 c0_i32_533
  let c1_i32_534 : BitVec 32 := 1#32
  let v1146 : BitVec 32 := Scalar.divsi v1144 c1_i32_534
  let v1147 : BitVec 32 := Scalar.muli v1146 c1_i32_534
  let v1148 : BitVec 32 := Scalar.addi c0_i32_533 v1147
  let c1_i32_536 : BitVec 32 := 1#32
  let arg12 : BitVec 32 := Scf.iv v1148 c1_i32_536 k1_t13
  let c256_i32_541 : BitVec 32 := 256#32
  let v1167 : BitVec 32 := Scalar.muli arg12 c256_i32_541
  let v1168 : BitVec 32 := v1167
  let v1169 : Index := Scalar.indexCast v1168
  let c0_542 : Index := 0#32
  ![v1169.toNat, 0]
def k1_off31 (i : grid1.Coords) (k1_t13 : Fin (k1_t13_loop i).trips) : Fin 3 → Nat :=
  let c0_544 : Index := 0#32
  let c0_545 : Index := 0#32
  let c0_i32_533 : BitVec 32 := 0#32
  let arg1 : BitVec 32 := BitVec.ofNat 32 (i 1).val
  let c1_i32_531 : BitVec 32 := 1#32
  let v1142 : BitVec 32 := Scalar.addi arg1 c1_i32_531
  let v1144 : BitVec 32 := Scalar.subi v1142 c0_i32_533
  let c1_i32_534 : BitVec 32 := 1#32
  let v1146 : BitVec 32 := Scalar.divsi v1144 c1_i32_534
  let v1147 : BitVec 32 := Scalar.muli v1146 c1_i32_534
  let v1148 : BitVec 32 := Scalar.addi c0_i32_533 v1147
  let c1_i32_536 : BitVec 32 := 1#32
  let arg12 : BitVec 32 := Scf.iv v1148 c1_i32_536 k1_t13
  let c256_i32_541 : BitVec 32 := 256#32
  let v1167 : BitVec 32 := Scalar.muli arg12 c256_i32_541
  let v1168 : BitVec 32 := v1167
  let v1176 : Index := Scalar.indexCast v1168
  ![0, 0, v1176.toNat]
def k1_mult15 (k1_t1 : Fin k1_t1_loop.trips) : BitVec 32 :=
  let c0_i32_443 : BitVec 32 := 0#32
  let c1_i32_444 : BitVec 32 := 1#32
  let arg11 : BitVec 32 := Scf.iv c0_i32_443 c1_i32_444 k1_t1
  let c128_i32 : BitVec 32 := 128#32
  let v1161 : BitVec 32 := Scalar.muli arg11 c128_i32
  v1161
def k1_off32 (k1_t1 : Fin k1_t1_loop.trips) : Fin 3 → Nat :=
  let c0_539 : Index := 0#32
  let c0_540 : Index := 0#32
  let c0_i32_443 : BitVec 32 := 0#32
  let c1_i32_444 : BitVec 32 := 1#32
  let arg11 : BitVec 32 := Scf.iv c0_i32_443 c1_i32_444 k1_t1
  let c128_i32 : BitVec 32 := 128#32
  let v1161 : BitVec 32 := Scalar.muli arg11 c128_i32
  let v1162 : BitVec 32 := v1161
  let v1163 : Index := Scalar.indexCast v1162
  ![0, 0, v1163.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x128 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x8192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x16x64x256 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x16x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "log2e_sm" => some (((Real.log 2)⁻¹ * (1 / 8) : ℝ) : EReal)
  | _ => none
-- ==== ReferenceIdeal.lean ====
abbrev S8x8192x1024 : Shape := ⟨3, ![8, 8192, 1024]⟩
abbrev S8x8192x64 : Shape := ⟨3, ![8, 8192, 64]⟩
abbrev S8x8192x16x64 : Shape := ⟨4, ![8, 8192, 16, 64]⟩
abbrev S8x8192x16 : Shape := ⟨3, ![8, 8192, 16]⟩
abbrev S8x8192 : Shape := ⟨2, ![8, 8192]⟩
abbrev S8x64 : Shape := ⟨2, ![8, 64]⟩
abbrev S8x8192x16x1 : Shape := ⟨4, ![8, 8192, 16, 1]⟩
abbrev S8x8192x1 : Shape := ⟨3, ![8, 8192, 1]⟩
abbrev S8x64x128x64 : Shape := ⟨4, ![8, 64, 128, 64]⟩
abbrev S8x64x1x1 : Shape := ⟨4, ![8, 64, 1, 1]⟩
abbrev S8x131072x64 : Shape := ⟨3, ![8, 131072, 64]⟩
abbrev S8x131072x8192 : Shape := ⟨3, ![8, 131072, 8192]⟩
abbrev S8x8192x16x8192 : Shape := ⟨4, ![8, 8192, 16, 8192]⟩
abbrev S8x1x1x8192 : Shape := ⟨4, ![8, 1, 1, 8192]⟩

abbrev nBuf : Space → Nat
  | .hbm => 10
  | .vmem => 10
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x64, .bf16⟩
  | .hbm, ⟨2, _⟩ => ⟨S8x8192x64, .bf16⟩
  | .hbm, ⟨3, _⟩ => ⟨S8x8192x1024, .bf16⟩
  | .hbm, ⟨4, _⟩ => ⟨S8x8192x16x64, .fp8e4m3⟩
  | .hbm, ⟨5, _⟩ => ⟨S8x8192x16, .f32⟩
  | .hbm, ⟨6, _⟩ => ⟨S8x8192x64, .fp8e4m3⟩
  | .hbm, ⟨7, _⟩ => ⟨S8x8192, .f32⟩
  | .hbm, ⟨8, _⟩ => ⟨S8x8192x64, .fp8e4m3⟩
  | .hbm, ⟨9, _⟩ => ⟨S8x64, .f32⟩
  | .local _ .vmem, ⟨0, _⟩ => ⟨S8x8192x1024, .bf16⟩
  | .local _ .vmem, ⟨1, _⟩ => ⟨S8x8192x64, .bf16⟩
  | .local _ .vmem, ⟨2, _⟩ => ⟨S8x8192x64, .bf16⟩
  | .local _ .vmem, ⟨3, _⟩ => ⟨S8x8192x1024, .bf16⟩
  | .local _ .vmem, ⟨4, _⟩ => ⟨S8x8192x16x64, .fp8e4m3⟩
  | .local _ .vmem, ⟨5, _⟩ => ⟨S8x8192x16, .f32⟩
  | .local _ .vmem, ⟨6, _⟩ => ⟨S8x8192x64, .fp8e4m3⟩
  | .local _ .vmem, ⟨7, _⟩ => ⟨S8x8192, .f32⟩
  | .local _ .vmem, ⟨8, _⟩ => ⟨S8x8192x64, .fp8e4m3⟩
  | .local _ .vmem, ⟨9, _⟩ => ⟨S8x64, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x16x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x8192x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KI.Offsets.lean ====
module

public import proofs.«01_k».proof.Proof.Gen.KernelIdeal.Skeleton

@[expose] public section

set_option maxRecDepth 16384

namespace Cert.Proof.KernelIdeal

open Cert.KernelIdeal Cert.KernelIdeal.Gen
open Idealize.ShloMosaic Idealize.ShloMosaic.TcCoe

/-! Closed forms of the attention kernel's loop bounds and rectangles, each decided once over the whole grid.

    `i 1` is the number of the query tile (256 queries); key tile `j` holds keys `256 j … 256 j + 255`. -/

theorem trips_t2 : ∀ i : grid1.Coords, (k1_t2_loop i).trips = (i 1).val := by decide +kernel
theorem trips_t8 : ∀ i : grid1.Coords, (k1_t8_loop i).trips = (i 1).val := by decide +kernel
theorem trips_t4 : ∀ i : grid1.Coords, (k1_t4_loop i).trips = (i 1).val + 1 := by decide +kernel
theorem trips_t6 : ∀ i : grid1.Coords, (k1_t6_loop i).trips = (i 1).val + 1 := by decide +kernel
theorem trips_t10 : ∀ i : grid1.Coords, (k1_t10_loop i).trips = (i 1).val + 1 := by decide +kernel
theorem trips_t12 : ∀ i : grid1.Coords, (k1_t12_loop i).trips = (i 1).val + 1 := by decide +kernel
theorem trips_t3 : ∀ i : grid1.Coords, (k1_t3_loop i).trips = 0 := by decide +kernel
theorem trips_t5 : ∀ i : grid1.Coords, (k1_t5_loop i).trips = 0 := by decide +kernel
theorem trips_t7 : ∀ i : grid1.Coords, (k1_t7_loop i).trips = 0 := by decide +kernel
theorem trips_t9 : ∀ i : grid1.Coords, (k1_t9_loop i).trips = 0 := by decide +kernel
theorem trips_t11 : ∀ i : grid1.Coords, (k1_t11_loop i).trips = 0 := by decide +kernel
theorem trips_t13 : ∀ i : grid1.Coords, (k1_t13_loop i).trips = 0 := by decide +kernel
theorem trips_t1 : k1_t1_loop.trips = 8 := by decide +kernel

theorem off3_eq : ∀ i : grid1.Coords, k1_off3 i = ![0, 256 * (i 1).val, 0] := by decide +kernel
theorem off4_eq : ∀ i : grid1.Coords, k1_off4 i = ![0, 256 * (i 1).val, 0] := by decide +kernel
theorem off5_eq : ∀ i : grid1.Coords, k1_off5 i = ![256 * (i 1).val, 0] := by decide +kernel
theorem off6_eq : ∀ (i : grid1.Coords) (k : Fin (k1_t2_loop i).trips), k1_off6 i k = ![0, 256 * k.val, 0] := by decide +kernel
theorem off7_eq : ∀ (i : grid1.Coords) (k : Fin (k1_t2_loop i).trips), k1_off7 i k = ![0, 256 * k.val, 0] := by decide +kernel
theorem off8_eq : ∀ (i : grid1.Coords) (k : Fin (k1_t2_loop i).trips), k1_off8 i k = ![256 * k.val, 0] := by decide +kernel
theorem off12_eq : ∀ (i : grid1.Coords) (k : Fin (k1_t4_loop i).trips), k1_off12 i k = ![256 * k.val, 0] := by decide +kernel
theorem off14_eq : ∀ (i : grid1.Coords) (k : Fin (k1_t6_loop i).trips), k1_off14 i k = ![256 * k.val, 0] := by decide +kernel
theorem off15_eq : ∀ (i : grid1.Coords) (k : Fin (k1_t6_loop i).trips), k1_off15 i k = ![0, 0, 256 * k.val] := by decide +kernel
theorem off20_eq : ∀ (i : grid1.Coords) (k : Fin (k1_t8_loop i).trips), k1_off20 i k = ![0, 256 * k.val, 0] := by decide +kernel
theorem off21_eq : ∀ (i : grid1.Coords) (k : Fin (k1_t8_loop i).trips), k1_off21 i k = ![0, 256 * k.val, 0] := by decide +kernel
theorem off22_eq : ∀ (i : grid1.Coords) (k : Fin (k1_t8_loop i).trips), k1_off22 i k = ![256 * k.val, 0] := by decide +kernel
theorem off26_eq : ∀ (i : grid1.Coords) (k : Fin (k1_t10_loop i).trips), k1_off26 i k = ![256 * k.val, 0] := by decide +kernel
theorem off28_eq : ∀ (i : grid1.Coords) (k : Fin (k1_t12_loop i).trips), k1_off28 i k = ![256 * k.val, 0] := by decide +kernel
theorem off29_eq : ∀ (i : grid1.Coords) (k : Fin (k1_t12_loop i).trips), k1_off29 i k = ![0, 0, 256 * k.val] := by decide +kernel
theorem off1_eq : ∀ t : Fin k1_t1_loop.trips, k1_off1 t = ![0, 2 * t.val, 0, 0] := by decide +kernel
theorem off2_eq : ∀ t : Fin k1_t1_loop.trips, k1_off2 t = ![2 * t.val, 0, 0] := by decide +kernel
theorem off18_eq : ∀ t : Fin k1_t1_loop.trips, k1_off18 t = ![0, 2 * t.val + 1, 0, 0] := by decide +kernel
theorem off19_eq : ∀ t : Fin k1_t1_loop.trips, k1_off19 t = ![2 * t.val + 1, 0, 0] := by decide +kernel
theorem off32_eq : ∀ t : Fin k1_t1_loop.trips, k1_off32 t = ![0, 0, 128 * t.val] := by decide +kernel

end Cert.Proof.KernelIdeal
-- ==== Proof.K.Offsets.lean ====
module

public import proofs.«01_k».proof.Proof.Gen.Kernel.Skeleton
public import proofs.«01_k».proof.Proof.KI.Offsets

@[expose] public section

set_option maxRecDepth 16384

namespace Cert.Proof.Kernel

open Cert.Kernel Cert.Kernel.Gen
open Idealize.ShloMosaic Idealize.ShloMosaic.TcCoe

/-! Closed forms of the attention kernel's loop bounds and rectangles, each decided once over the whole grid.

    `i 1` is the number of the query tile (256 queries); key tile `j` holds keys `256 j … 256 j + 255`. -/

theorem trips_t2 : ∀ i : grid1.Coords, (k1_t2_loop i).trips = (i 1).val := Cert.Proof.KernelIdeal.trips_t2
theorem trips_t8 : ∀ i : grid1.Coords, (k1_t8_loop i).trips = (i 1).val := Cert.Proof.KernelIdeal.trips_t8
theorem trips_t4 : ∀ i : grid1.Coords, (k1_t4_loop i).trips = (i 1).val + 1 := Cert.Proof.KernelIdeal.trips_t4
theorem trips_t6 : ∀ i : grid1.Coords, (k1_t6_loop i).trips = (i 1).val + 1 := Cert.Proof.KernelIdeal.trips_t6
theorem trips_t10 : ∀ i : grid1.Coords, (k1_t10_loop i).trips = (i 1).val + 1 := Cert.Proof.KernelIdeal.trips_t10
theorem trips_t12 : ∀ i : grid1.Coords, (k1_t12_loop i).trips = (i 1).val + 1 := Cert.Proof.KernelIdeal.trips_t12
theorem trips_t3 : ∀ i : grid1.Coords, (k1_t3_loop i).trips = 0 := Cert.Proof.KernelIdeal.trips_t3
theorem trips_t5 : ∀ i : grid1.Coords, (k1_t5_loop i).trips = 0 := Cert.Proof.KernelIdeal.trips_t5
theorem trips_t7 : ∀ i : grid1.Coords, (k1_t7_loop i).trips = 0 := Cert.Proof.KernelIdeal.trips_t7
theorem trips_t9 : ∀ i : grid1.Coords, (k1_t9_loop i).trips = 0 := Cert.Proof.KernelIdeal.trips_t9
theorem trips_t11 : ∀ i : grid1.Coords, (k1_t11_loop i).trips = 0 := Cert.Proof.KernelIdeal.trips_t11
theorem trips_t13 : ∀ i : grid1.Coords, (k1_t13_loop i).trips = 0 := Cert.Proof.KernelIdeal.trips_t13
theorem trips_t1 : k1_t1_loop.trips = 8 := Cert.Proof.KernelIdeal.trips_t1

theorem off3_eq : ∀ i : grid1.Coords, k1_off3 i = ![0, 256 * (i 1).val, 0] := Cert.Proof.KernelIdeal.off3_eq
theorem off4_eq : ∀ i : grid1.Coords, k1_off4 i = ![0, 256 * (i 1).val, 0] := Cert.Proof.KernelIdeal.off4_eq
theorem off5_eq : ∀ i : grid1.Coords, k1_off5 i = ![256 * (i 1).val, 0] := Cert.Proof.KernelIdeal.off5_eq
theorem off6_eq : ∀ (i : grid1.Coords) (k : Fin (k1_t2_loop i).trips), k1_off6 i k = ![0, 256 * k.val, 0] := Cert.Proof.KernelIdeal.off6_eq
theorem off7_eq : ∀ (i : grid1.Coords) (k : Fin (k1_t2_loop i).trips), k1_off7 i k = ![0, 256 * k.val, 0] := Cert.Proof.KernelIdeal.off7_eq
theorem off8_eq : ∀ (i : grid1.Coords) (k : Fin (k1_t2_loop i).trips), k1_off8 i k = ![256 * k.val, 0] := Cert.Proof.KernelIdeal.off8_eq
theorem off12_eq : ∀ (i : grid1.Coords) (k : Fin (k1_t4_loop i).trips), k1_off12 i k = ![256 * k.val, 0] := Cert.Proof.KernelIdeal.off12_eq
theorem off14_eq : ∀ (i : grid1.Coords) (k : Fin (k1_t6_loop i).trips), k1_off14 i k = ![256 * k.val, 0] := Cert.Proof.KernelIdeal.off14_eq
theorem off15_eq : ∀ (i : grid1.Coords) (k : Fin (k1_t6_loop i).trips), k1_off15 i k = ![0, 0, 256 * k.val] := Cert.Proof.KernelIdeal.off15_eq
theorem off20_eq : ∀ (i : grid1.Coords) (k : Fin (k1_t8_loop i).trips), k1_off20 i k = ![0, 256 * k.val, 0] := Cert.Proof.KernelIdeal.off20_eq
theorem off21_eq : ∀ (i : grid1.Coords) (k : Fin (k1_t8_loop i).trips), k1_off21 i k = ![0, 256 * k.val, 0] := Cert.Proof.KernelIdeal.off21_eq
theorem off22_eq : ∀ (i : grid1.Coords) (k : Fin (k1_t8_loop i).trips), k1_off22 i k = ![256 * k.val, 0] := Cert.Proof.KernelIdeal.off22_eq
theorem off26_eq : ∀ (i : grid1.Coords) (k : Fin (k1_t10_loop i).trips), k1_off26 i k = ![256 * k.val, 0] := Cert.Proof.KernelIdeal.off26_eq
theorem off28_eq : ∀ (i : grid1.Coords) (k : Fin (k1_t12_loop i).trips), k1_off28 i k = ![256 * k.val, 0] := Cert.Proof.KernelIdeal.off28_eq
theorem off29_eq : ∀ (i : grid1.Coords) (k : Fin (k1_t12_loop i).trips), k1_off29 i k = ![0, 0, 256 * k.val] := Cert.Proof.KernelIdeal.off29_eq
theorem off1_eq : ∀ t : Fin k1_t1_loop.trips, k1_off1 t = ![0, 2 * t.val, 0, 0] := Cert.Proof.KernelIdeal.off1_eq
theorem off2_eq : ∀ t : Fin k1_t1_loop.trips, k1_off2 t = ![2 * t.val, 0, 0] := Cert.Proof.KernelIdeal.off2_eq
theorem off18_eq : ∀ t : Fin k1_t1_loop.trips, k1_off18 t = ![0, 2 * t.val + 1, 0, 0] := Cert.Proof.KernelIdeal.off18_eq
theorem off19_eq : ∀ t : Fin k1_t1_loop.trips, k1_off19 t = ![2 * t.val + 1, 0, 0] := Cert.Proof.KernelIdeal.off19_eq
theorem off32_eq : ∀ t : Fin k1_t1_loop.trips, k1_off32 t = ![0, 0, 128 * t.val] := Cert.Proof.KernelIdeal.off32_eq

end Cert.Proof.Kernel
-- ==== Proof.K.Tiles.lean ====
module

public import proofs.«01_k».proof.Proof.Gen.Kernel.Skeleton
public import Idealize.ShloMosaic.Lib.VecWindow
public import Idealize.ShloMosaic.Lib.WritesUnit

@[expose] public section

set_option maxRecDepth 16384

noncomputable section

namespace Cert.Proof.Kernel

open Cert.Kernel Cert.Kernel.Gen
open Idealize.ShloMosaic Idealize.ShloMosaic.TcCoe

variable {F : FTy → Type} [FloatOps F]

/-! # What one query tile and one head computes

The attention kernel keeps, for the query tile and head at hand, one column of score tiles (256 keys by 256 queries
each) in a buffer of 8192 rows. This module names the tiles of the operands, says what it means for the buffer to hold a
tile, and states the head's result as a function of its operands over the program's own operations. -/

/-! ## Tiles of the operands -/

theorem inb_k64 (j : ℕ) : ∀ a, (![0, 256 * (j % 32), 0] : Fin 3 → ℕ) a + S1x256x64.size a ≤ S1x8192x128.size a := by
  have := Nat.mod_lt j (show 0 < 32 by decide)
  intro a
  match a with
  | ⟨0, _⟩ => exact (by decide : 0 + 1 ≤ 1)
  | ⟨1, _⟩ => show 256 * (j % 32) + 256 ≤ 8192; omega
  | ⟨2, _⟩ => exact (by decide : 0 + 64 ≤ 128)

theorem inb_k128 (j : ℕ) : ∀ a, (![0, 256 * (j % 32), 0] : Fin 3 → ℕ) a + S1x256x128.size a ≤ S1x8192x128.size a := by
  have := Nat.mod_lt j (show 0 < 32 by decide)
  intro a
  match a with
  | ⟨0, _⟩ => exact (by decide : 0 + 1 ≤ 1)
  | ⟨1, _⟩ => show 256 * (j % 32) + 256 ≤ 8192; omega
  | ⟨2, _⟩ => exact (by decide : 0 + 128 ≤ 128)

theorem inb_v (j : ℕ) : ∀ a, (![0, 0, 256 * (j % 32)] : Fin 3 → ℕ) a + S1x64x256.size a ≤ S1x64x8192.size a := by
  have := Nat.mod_lt j (show 0 < 32 by decide)
  intro a
  match a with
  | ⟨0, _⟩ => exact (by decide : 0 + 1 ≤ 1)
  | ⟨1, _⟩ => exact (by decide : 0 + 64 ≤ 64)
  | ⟨2, _⟩ => show 256 * (j % 32) + 256 ≤ 8192; omega

theorem inb_s (j : ℕ) : ∀ a, (![256 * (j % 32), 0] : Fin 2 → ℕ) a + S256x256.size a ≤ S8192x256.size a := by
  have := Nat.mod_lt j (show 0 < 32 by decide)
  intro a
  match a with
  | ⟨0, _⟩ => show 256 * (j % 32) + 256 ≤ 8192; omega
  | ⟨1, _⟩ => exact (by decide : 0 + 256 ≤ 256)

theorem inb_q (h : ℕ) : ∀ a, (![0, h % 16, 0, 0] : Fin 4 → ℕ) a + S1x1x64x256.size a ≤ S1x16x64x256.size a := by
  have := Nat.mod_lt h (show 0 < 16 by decide)
  intro a
  match a with
  | ⟨0, _⟩ => exact (by decide : 0 + 1 ≤ 1)
  | ⟨1, _⟩ => show h % 16 + 1 ≤ 16; omega
  | ⟨2, _⟩ => exact (by decide : 0 + 64 ≤ 64)
  | ⟨3, _⟩ => exact (by decide : 0 + 256 ≤ 256)

theorem inb_qs (h : ℕ) : ∀ a, (![h % 16, 0, 0] : Fin 3 → ℕ) a + S1x1x256.size a ≤ S16x1x256.size a := by
  have := Nat.mod_lt h (show 0 < 16 by decide)
  intro a
  match a with
  | ⟨0, _⟩ => show h % 16 + 1 ≤ 16; omega
  | ⟨1, _⟩ => exact (by decide : 0 + 1 ≤ 1)
  | ⟨2, _⟩ => exact (by decide : 0 + 256 ≤ 256)

/-- The codes of key tile `j`: 256 keys by 64 features. -/
def klTile (kl : Vec F S1x8192x128 .fp8e4m3) (j : ℕ) : Vec F S1x256x64 .fp8e4m3 :=
  VecWindow.window kl ![0, 256 * (j % 32), 0] S1x256x64.size (inb_k64 j)

/-- The scales of key tile `j`, one row of 128 equal lanes per key. -/
def kbTile (kb : Vec F S1x8192x128 .f32) (j : ℕ) : Vec F S1x256x128 .f32 :=
  VecWindow.window kb ![0, 256 * (j % 32), 0] S1x256x128.size (inb_k128 j)

/-- The dequantised values of key tile `j`: 64 features by 256 keys. -/
def vdTile (vd : Vec F S1x64x8192 .bf16) (j : ℕ) : Vec F S1x64x256 .bf16 :=
  VecWindow.window vd ![0, 0, 256 * (j % 32)] S1x64x256.size (inb_v j)

/-- The query codes of head `h`. -/
def qcHead (qc : Vec F S1x16x64x256 .fp8e4m3) (h : ℕ) : Vec F S1x1x64x256 .fp8e4m3 :=
  VecWindow.window qc ![0, h % 16, 0, 0] S1x1x64x256.size (inb_q h)

/-- The query scales of head `h`, times `log₂ e / 8`. -/
def qsHead (qs : Vec F S16x1x256 .f32) (h : ℕ) : Vec F S1x1x256 .f32 :=
  VecWindow.window qs ![h % 16, 0, 0] S1x1x256.size (inb_qs h)

/-! ## The score buffer, tile by tile -/

/-- The score buffer holds `w` in its tile `j`. -/
def TileAt (z : Vec F S8192x256 .f32) (j : ℕ) (w : Vec F S256x256 .f32) : Prop :=
  VecWindow.window z ![256 * (j % 32), 0] S256x256.size (inb_s j) = w

section Store

variable (arg10 : Memref sig .tc .vmem S8192x256 .f32) (f : BufTy.Contents (Elt F) arg10.view.ty)

/-- A load of the rectangle of tile `j` reads the tile. -/
theorem load_tile {off : Fin 2 → ℕ} {inb : ∀ a, off a + S256x256.size a ≤ S8192x256.size a} {j : ℕ} (hj : j < 32) (hoff : off = ![256 * j, 0])
    {w : Vec F S256x256 .f32} (h : TileAt (arg10.view.read (Elt F) f) j w) :
    arg10.view.readAt (Elt F) (Rect.unit (s := S8192x256) off S256x256.size inb).toLoadRect f = w :=
  (View.readAt_unit arg10.view f inb (off' := ![256 * (j % 32), 0]) (hoff.trans (by rw [Nat.mod_eq_of_lt hj])) (inb_s j)).trans h

/-- A store over the rectangle of tile `j` leaves the stored tile there. -/
theorem store_tile {off : Fin 2 → ℕ} {inb : ∀ a, off a + S256x256.size a ≤ S8192x256.size a} {j : ℕ} (hj : j < 32) (hoff : off = ![256 * j, 0])
    (w : Vec F S256x256 .f32) (L : List (View.Piece (Elt F) S8192x256 .f32)) :
    TileAt (arg10.view.read (Elt F) (arg10.view.writes (Elt F) f (⟨Rect.unit (s := S8192x256) off S256x256.size inb, w⟩ :: L))) j w := by
  unfold TileAt
  rw [View.read_writes_cons_put arg10.view f (off' := ![256 * (j % 32), 0]) inb w L (hoff.trans (by rw [Nat.mod_eq_of_lt hj]))]
  exact VecWindow.window_put_same _ _ _ _ _

/-- A store over the rectangle of tile `j` leaves every other tile as it was. -/
theorem store_other {off : Fin 2 → ℕ} {inb : ∀ a, off a + S256x256.size a ≤ S8192x256.size a} {j j' : ℕ} (hj : j < 32) (hj' : j' < 32) (hne : j' ≠ j)
    (hoff : off = ![256 * j, 0]) (w : Vec F S256x256 .f32) (L : List (View.Piece (Elt F) S8192x256 .f32)) {w' : Vec F S256x256 .f32}
    (h : TileAt (arg10.view.read (Elt F) (arg10.view.writes (Elt F) f L)) j' w') :
    TileAt (arg10.view.read (Elt F) (arg10.view.writes (Elt F) f (⟨Rect.unit (s := S8192x256) off S256x256.size inb, w⟩ :: L))) j' w' := by
  unfold TileAt
  rw [View.read_writes_cons_put arg10.view f (off' := ![256 * (j % 32), 0]) inb w L (hoff.trans (by rw [Nat.mod_eq_of_lt hj]))]
  refine (VecWindow.window_put_of_disjoint _ _ _ _ _ _ _ 0 ?_).trans h
  show 256 * (j' % 32) + 256 ≤ 256 * (j % 32) ∨ 256 * (j % 32) + 256 ≤ 256 * (j' % 32)
  omega

end Store

/-! ## One head -/

section Head

variable (q : Vec F S1x1x64x256 .fp8e4m3) (s : Vec F S1x1x256 .f32) (kl : Vec F S1x8192x128 .fp8e4m3) (kb : Vec F S1x8192x128 .f32)
  (vd : Vec F S1x64x8192 .bf16) (qi : ℕ)

/-- The scores against key tile `j` of the column of query tile `qi`: on the diagonal, masked. -/
def scoreTile (j : ℕ) : Vec F S256x256 .f32 :=
  if j = qi then k1_pay6 q s (klTile kl qi) (kbTile kb qi) else k1_pay9 q s (klTile kl j) (kbTile kb j)

/-- The running maximum (8 partial maxima per query): the diagonal tile first, then the first `k` tiles. -/
def maxAcc : ℕ → FVec F S8x256 .f32
  | 0 => k1_pay7 q s (klTile kl qi) (kbTile kb qi)
  | k + 1 => k1_pay10 q s (maxAcc k) (klTile kl k) (kbTile kb k)

/-- The running sum (8 partial sums per query) of the exponentials of the first `k` of the tiles `S`, at the partial maxima `m`. -/
def sumAcc (m : FVec F S8x256 .f32) (S : ℕ → Vec F S256x256 .f32) : ℕ → FVec F S8x256 .f32
  | 0 => k1_pay15
  | k + 1 => k1_pay18 m (sumAcc m S k) (S k)

/-- The running product of the values and the codes of the weights, over the first `k` of the tiles `E` of exponentials; `u` is
    the reciprocal of the sum and `w₁`, `w₂` give the weights' inverse scale. -/
def outAcc (u : FVec F S1x256 .f32) (w₁ w₂ : IVec S1x256 32) (E : ℕ → Vec F S256x256 .f32) : ℕ → FVec F S64x256 .f32
  | 0 => k1_pay27
  | k + 1 => k1_pay28 u w₁ w₂ (outAcc u w₁ w₂ E k) (E k) (vdTile vd k)

/-- The column's partial maxima. -/
def headMax : FVec F S8x256 .f32 := maxAcc q s kl kb qi qi
/-- The column's tiles of exponentials. -/
def headExp (j : ℕ) : Vec F S256x256 .f32 := k1_pay17 (headMax q s kl kb qi) (scoreTile q s kl kb qi j)
/-- The column's partial sums. -/
def headSum : FVec F S8x256 .f32 := sumAcc (headMax q s kl kb qi) (scoreTile q s kl kb qi) (qi + 1)
/-- The head's output before its scale: the values times the codes of the weights. -/
def headProd : FVec F S64x256 .f32 :=
  outAcc vd (k1_pay22 (headSum q s kl kb qi)) (k1_pay24 (headSum q s kl kb qi)) k1_pay25 (headExp q s kl kb qi) (qi + 1)
/-- The head's output, 64 features by 256 queries. -/
def headOut : FVec F S64x256 .f32 := k1_pay30 (k1_pay23 (headSum q s kl kb qi)) (headProd q s kl kb vd qi)

end Head

/-- The score buffer holds the tiles `S` up to the diagonal. -/
def Scored (z : Vec F S8192x256 .f32) (qi : ℕ) (S : ℕ → Vec F S256x256 .f32) : Prop := ∀ j, j ≤ qi → TileAt z j (S j)

section Loads

variable (arg3 : Memref sig .tc .vmem S1x8192x128 .fp8e4m3) (X3 : BufTy.Contents (Elt F) arg3.view.ty)
variable (arg4 : Memref sig .tc .vmem S1x8192x128 .f32) (X4 : BufTy.Contents (Elt F) arg4.view.ty)
variable (arg5 : Memref sig .tc .vmem S1x64x8192 .bf16) (X5 : BufTy.Contents (Elt F) arg5.view.ty)
variable (arg7 : Memref sig .tc .vmem S1x16x64x256 .fp8e4m3) (X7 : BufTy.Contents (Elt F) arg7.view.ty)
variable (arg9 : Memref sig .tc .vmem S16x1x256 .f32) (X9 : BufTy.Contents (Elt F) arg9.view.ty)

theorem load_kl {off : Fin 3 → ℕ} {inb : ∀ a, off a + S1x256x64.size a ≤ S1x8192x128.size a} {j : ℕ} (hj : j < 32) (hoff : off = ![0, 256 * j, 0]) :
    arg3.view.readAt (Elt F) (Rect.unit (s := S1x8192x128) off S1x256x64.size inb).toLoadRect X3 = klTile (arg3.view.read (Elt F) X3) j :=
  View.readAt_unit arg3.view X3 inb (off' := ![0, 256 * (j % 32), 0]) (hoff.trans (by rw [Nat.mod_eq_of_lt hj])) (inb_k64 j)

theorem load_kb {off : Fin 3 → ℕ} {inb : ∀ a, off a + S1x256x128.size a ≤ S1x8192x128.size a} {j : ℕ} (hj : j < 32) (hoff : off = ![0, 256 * j, 0]) :
    arg4.view.readAt (Elt F) (Rect.unit (s := S1x8192x128) off S1x256x128.size inb).toLoadRect X4 = kbTile (arg4.view.read (Elt F) X4) j :=
  View.readAt_unit arg4.view X4 inb (off' := ![0, 256 * (j % 32), 0]) (hoff.trans (by rw [Nat.mod_eq_of_lt hj])) (inb_k128 j)

theorem load_vd {off : Fin 3 → ℕ} {inb : ∀ a, off a + S1x64x256.size a ≤ S1x64x8192.size a} {j : ℕ} (hj : j < 32) (hoff : off = ![0, 0, 256 * j]) :
    arg5.view.readAt (Elt F) (Rect.unit (s := S1x64x8192) off S1x64x256.size inb).toLoadRect X5 = vdTile (arg5.view.read (Elt F) X5) j :=
  View.readAt_unit arg5.view X5 inb (off' := ![0, 0, 256 * (j % 32)]) (hoff.trans (by rw [Nat.mod_eq_of_lt hj])) (inb_v j)

theorem load_q {off : Fin 4 → ℕ} {inb : ∀ a, off a + S1x1x64x256.size a ≤ S1x16x64x256.size a} {h : ℕ} (hh : h < 16) (hoff : off = ![0, h, 0, 0]) :
    arg7.view.readAt (Elt F) (Rect.unit (s := S1x16x64x256) off S1x1x64x256.size inb).toLoadRect X7 = qcHead (arg7.view.read (Elt F) X7) h :=
  View.readAt_unit arg7.view X7 inb (off' := ![0, h % 16, 0, 0]) (hoff.trans (by rw [Nat.mod_eq_of_lt hh])) (inb_q h)

theorem load_qs {off : Fin 3 → ℕ} {inb : ∀ a, off a + S1x1x256.size a ≤ S16x1x256.size a} {h : ℕ} (hh : h < 16) (hoff : off = ![h, 0, 0]) :
    arg9.view.readAt (Elt F) (Rect.unit (s := S16x1x256) off S1x1x256.size inb).toLoadRect X9 = qsHead (arg9.view.read (Elt F) X9) h :=
  View.readAt_unit arg9.view X9 inb (off' := ![h % 16, 0, 0]) (hoff.trans (by rw [Nat.mod_eq_of_lt hh])) (inb_qs h)

end Loads

theorem qi_lt (i : grid1.Coords) : (i 1).val < 32 := (i 1).isLt

end Cert.Proof.Kernel
-- ==== Proof.K.HeadLoops.lean ====
module

public import proofs.«01_k».proof.Proof.Gen.Kernel.Loops
public import proofs.«01_k».proof.Proof.K.Offsets
public import proofs.«01_k».proof.Proof.K.Tiles

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! # The loops of one head, by their invariants -/

/-- Before trip `k` of the loop over the exponentials: the tiles before `k` hold exponentials, the others scores. -/
def ExpBefore (z : Vec F S8192x256 .f32) (qi : ℕ) (m : FVec F S8x256 .f32) (S : ℕ → Vec F S256x256 .f32) (k : ℕ) : Prop :=
  (∀ j, j < k → j ≤ qi → TileAt z j (k1_pay17 m (S j))) ∧ (∀ j, k ≤ j → j ≤ qi → TileAt z j (S j))

section
variable (c : Dev nD) (i : grid1.Coords) (arg2 : Memref sig .tc .vmem S1x256x1024 .bf16) (harg2 : arg2.IsWhole) (arg3 : Memref sig .tc .vmem S1x8192x128 .fp8e4m3) (harg3 : arg3.IsWhole) (arg4 : Memref sig .tc .vmem S1x8192x128 .f32) (harg4 : arg4.IsWhole) (arg5 : Memref sig .tc .vmem S1x64x8192 .bf16) (harg5 : arg5.IsWhole) (arg6 : Memref sig .tc .vmem S1x256x1024 .bf16) (harg6 : arg6.IsWhole) (arg7 : Memref sig .tc .vmem S1x16x64x256 .fp8e4m3) (harg7 : arg7.IsWhole) (arg8 : Memref sig .tc .vmem S1x16x256 .f32) (harg8 : arg8.IsWhole) (arg9 : Memref sig .tc .vmem S16x1x256 .f32) (harg9 : arg9.IsWhole) (arg10 : Memref sig .tc .vmem S8192x256 .f32) (harg10 : arg10.IsWhole)
  (X3 : BufTy.Contents (Elt F) arg3.view.ty) (X4 : BufTy.Contents (Elt F) arg4.view.ty) (X5 : BufTy.Contents (Elt F) arg5.view.ty)

set_option warn.classDefReducibility false in
/-- The scores against the tiles before the diagonal and their running maximum, first head: before trip `k` the tiles before `k` and the
    diagonal tile hold their scores, and the carried value is their partial maxima. -/
def inv_t2 (arg1 c0 c1 : BitVec 32) (t : Fin k1_t1_loop.trips) (q : Vec F S1x1x64x256 .fp8e4m3) (s : Vec F S1x1x256 .f32) :
    LoopInvTy_k1_t2 (F := F) Unit ℕ (UR sig nD τ) ℕ Variants.none c none Set.univ i arg2 harg2 arg3 harg3 arg4 harg4 arg5 harg5 arg6 harg6 arg7 harg7 arg8 harg8 arg9 harg9 arg10 harg10 arg1 c0 c1 t q s
      (k1_pay7 q s (klTile (arg3.view.read (Elt F) X3) (i 1).val) (kbTile (arg4.view.read (Elt F) X4) (i 1).val)) where
  inv k acc := iprop((arg3.view.loc (c : Thread nD τ) ↦[arg3.view.set]{fullShare} X3) ∗ (arg4.view.loc (c : Thread nD τ) ↦[arg4.view.set]{fullShare} X4) ∗
    (∃ f, (arg10.view.loc (c : Thread nD τ) ↦[arg10.view.set]{fullShare} f) ∗ ⌜∀ j, j < k ∨ j = (i 1).val → TileAt (arg10.view.read (Elt F) f) j (scoreTile q s (arg3.view.read (Elt F) X3) (arg4.view.read (Elt F) X4) (i 1).val j)⌝)
    ∗ ⌜acc = maxAcc q s (arg3.view.read (Elt F) X3) (arg4.view.read (Elt F) X4) (i 1).val k⌝)
  step k acc := by
    have hk : k.val < (i 1).val := k.isLt.trans_eq (trips_t2 i)
    have hq := qi_lt i
    unfold k1_t2_body
    iintro ⟨H3, H4, ⟨%f, H10, %hf⟩, %hacc⟩
    sl_exec
    sl_step
    rw [load_kl arg3 X3 (by omega) (off6_eq i k), load_kb arg4 X4 (by omega) (off7_eq i k)]
    isplitl [H3]; · iexact H3
    isplitl [H4]; · iexact H4
    isplitl [H10]
    · iexists _
      isplitl [H10]; · iexact H10
      ipureintro
      intro j hj
      by_cases e : j = k.val
      · subst e
        have hs : scoreTile q s (arg3.view.read (Elt F) X3) (arg4.view.read (Elt F) X4) (i 1).val k.val = k1_pay9 q s (klTile (arg3.view.read (Elt F) X3) k.val) (kbTile (arg4.view.read (Elt F) X4) k.val) := by
          unfold scoreTile; rw [if_neg (by omega)]
        rw [hs]
        exact store_tile arg10 f (by omega) (off8_eq i k) _ []
      · exact store_other arg10 f (by omega) (by omega) e (off8_eq i k) _ [] (hf j (by omega))
    · ipureintro
      rw [hacc]
      rfl

set_option warn.classDefReducibility false in
/-- The same loop for the second head. -/
def inv_t8 (arg1 v1069 : BitVec 32) (q : Vec F S1x1x64x256 .fp8e4m3) (s : Vec F S1x1x256 .f32) :
    LoopInvTy_k1_t8 (F := F) Unit ℕ (UR sig nD τ) ℕ Variants.none c none Set.univ i arg2 harg2 arg3 harg3 arg4 harg4 arg5 harg5 arg6 harg6 arg7 harg7 arg8 harg8 arg9 harg9 arg10 harg10 arg1 (k1_pay31 q) (k1_pay32 s) k1_pay33 v1069 (k1_pay34 q (klTile (arg3.view.read (Elt F) X3) (i 1).val)) (k1_pay35 (kbTile (arg4.view.read (Elt F) X4) (i 1).val))
      (k1_pay38 (k1_pay32 s) k1_pay33 (k1_pay34 q (klTile (arg3.view.read (Elt F) X3) (i 1).val)) (k1_pay35 (kbTile (arg4.view.read (Elt F) X4) (i 1).val))) where
  inv k acc := iprop((arg3.view.loc (c : Thread nD τ) ↦[arg3.view.set]{fullShare} X3) ∗ (arg4.view.loc (c : Thread nD τ) ↦[arg4.view.set]{fullShare} X4) ∗
    (∃ f, (arg10.view.loc (c : Thread nD τ) ↦[arg10.view.set]{fullShare} f) ∗ ⌜∀ j, j < k ∨ j = (i 1).val → TileAt (arg10.view.read (Elt F) f) j (scoreTile q s (arg3.view.read (Elt F) X3) (arg4.view.read (Elt F) X4) (i 1).val j)⌝)
    ∗ ⌜acc = maxAcc q s (arg3.view.read (Elt F) X3) (arg4.view.read (Elt F) X4) (i 1).val k⌝)
  step k acc := by
    have hk : k.val < (i 1).val := k.isLt.trans_eq (trips_t8 i)
    have hq := qi_lt i
    unfold k1_t8_body
    iintro ⟨H3, H4, ⟨%f, H10, %hf⟩, %hacc⟩
    sl_exec
    sl_step
    rw [load_kl arg3 X3 (by omega) (off20_eq i k), load_kb arg4 X4 (by omega) (off21_eq i k)]
    isplitl [H3]; · iexact H3
    isplitl [H4]; · iexact H4
    isplitl [H10]
    · iexists _
      isplitl [H10]; · iexact H10
      ipureintro
      intro j hj
      by_cases e : j = k.val
      · subst e
        have hs : scoreTile q s (arg3.view.read (Elt F) X3) (arg4.view.read (Elt F) X4) (i 1).val k.val = k1_pay9 q s (klTile (arg3.view.read (Elt F) X3) k.val) (kbTile (arg4.view.read (Elt F) X4) k.val) := by
          unfold scoreTile; rw [if_neg (by omega)]
        rw [hs]
        exact store_tile arg10 f (by omega) (off22_eq i k) _ []
      · exact store_other arg10 f (by omega) (by omega) e (off22_eq i k) _ [] (hf j (by omega))
    · ipureintro
      rw [hacc]
      rfl

set_option warn.classDefReducibility false in
/-- The exponentials and their running sum, first head: the tiles before `k` are replaced by their exponentials. -/
def inv_t4 (arg1 : BitVec 32) (v964 : FVec F S64x256 .fp8e4m3) (v967 : FVec F S1x256 .f32) (v998 : BitVec 32) (v999 m : FVec F S8x256 .f32) (S : ℕ → Vec F S256x256 .f32) :
    LoopInvTy_k1_t4 (F := F) Unit ℕ (UR sig nD τ) ℕ Variants.none c none Set.univ i arg2 harg2 arg3 harg3 arg4 harg4 arg5 harg5 arg6 harg6 arg7 harg7 arg8 harg8 arg9 harg9 arg10 harg10 arg1 v964 v967 v998 v999 m k1_pay15 where
  inv k acc := iprop((∃ f, (arg10.view.loc (c : Thread nD τ) ↦[arg10.view.set]{fullShare} f) ∗ ⌜ExpBefore (arg10.view.read (Elt F) f) (i 1).val m S k⌝) ∗ ⌜acc = sumAcc m S k⌝)
  step k acc := by
    have hk : k.val < (i 1).val + 1 := k.isLt.trans_eq (trips_t4 i)
    have hq := qi_lt i
    unfold k1_t4_body
    iintro ⟨⟨%f, H10, %hf⟩, %hacc⟩
    sl_exec
    sl_step
    have hld := load_tile arg10 f (inb := k1_off12_inb i k) (by omega) (off12_eq i k) (hf.2 k.val le_rfl (by omega))
    rw [hld]
    isplitl [H10]
    · iexists _
      isplitl [H10]; · iexact H10
      ipureintro
      refine ⟨fun j hj hjq => ?_, fun j hj hjq => ?_⟩
      · by_cases e : j = k.val
        · subst e
          exact store_tile arg10 f (by omega) (off12_eq i k) _ []
        · exact store_other arg10 f (by omega) (by omega) e (off12_eq i k) _ [] (hf.1 j (by omega) hjq)
      · exact store_other arg10 f (by omega) (by omega) (by omega) (off12_eq i k) _ [] (hf.2 j (by omega) hjq)
    · ipureintro
      rw [hacc]
      rfl

set_option warn.classDefReducibility false in
/-- The same loop for the second head. -/
def inv_t10 (arg1 : BitVec 32) (v1063 : FVec F S64x256 .fp8e4m3) (v1066 : FVec F S1x256 .f32) (v1067 : FVec F S8x256 .f32) (v1069 : BitVec 32) (v1073 v1077 : FVec F S256x256 .f32) (m : FVec F S8x256 .f32) (S : ℕ → Vec F S256x256 .f32) :
    LoopInvTy_k1_t10 (F := F) Unit ℕ (UR sig nD τ) ℕ Variants.none c none Set.univ i arg2 harg2 arg3 harg3 arg4 harg4 arg5 harg5 arg6 harg6 arg7 harg7 arg8 harg8 arg9 harg9 arg10 harg10 arg1 v1063 v1066 v1067 v1069 v1073 v1077 m k1_pay46 where
  inv k acc := iprop((∃ f, (arg10.view.loc (c : Thread nD τ) ↦[arg10.view.set]{fullShare} f) ∗ ⌜ExpBefore (arg10.view.read (Elt F) f) (i 1).val m S k⌝) ∗ ⌜acc = sumAcc m S k⌝)
  step k acc := by
    have hk : k.val < (i 1).val + 1 := k.isLt.trans_eq (trips_t10 i)
    have hq := qi_lt i
    unfold k1_t10_body
    iintro ⟨⟨%f, H10, %hf⟩, %hacc⟩
    sl_exec
    sl_step
    have hld := load_tile arg10 f (inb := k1_off26_inb i k) (by omega) (off26_eq i k) (hf.2 k.val le_rfl (by omega))
    rw [hld]
    isplitl [H10]
    · iexists _
      isplitl [H10]; · iexact H10
      ipureintro
      refine ⟨fun j hj hjq => ?_, fun j hj hjq => ?_⟩
      · by_cases e : j = k.val
        · subst e
          exact store_tile arg10 f (by omega) (off26_eq i k) _ []
        · exact store_other arg10 f (by omega) (by omega) e (off26_eq i k) _ [] (hf.1 j (by omega) hjq)
      · exact store_other arg10 f (by omega) (by omega) (by omega) (off26_eq i k) _ [] (hf.2 j (by omega) hjq)
    · ipureintro
      rw [hacc]
      rfl

set_option warn.classDefReducibility false in
/-- The values times the codes of the weights, first head: the score buffer, holding the exponentials `E`, is only read. -/
def inv_t6 (arg1 : BitVec 32) (t : Fin k1_t1_loop.trips) (arg11 : BitVec 32) (u : FVec F S1x256 .f32) (v1034 w₁ w₂ : IVec S1x256 32) (f : BufTy.Contents (Elt F) arg10.view.ty) (E : ℕ → Vec F S256x256 .f32) (hE : Scored (arg10.view.read (Elt F) f) (i 1).val E) :
    LoopInvTy_k1_t6 (F := F) Unit ℕ (UR sig nD τ) ℕ Variants.none c none Set.univ i arg2 harg2 arg3 harg3 arg4 harg4 arg5 harg5 arg6 harg6 arg7 harg7 arg8 harg8 arg9 harg9 arg10 harg10 arg1 t arg11 u v1034 w₁ w₂ k1_pay27 where
  inv k acc := iprop((arg5.view.loc (c : Thread nD τ) ↦[arg5.view.set]{fullShare} X5) ∗ (arg10.view.loc (c : Thread nD τ) ↦[arg10.view.set]{fullShare} f) ∗ ⌜acc = outAcc (arg5.view.read (Elt F) X5) u w₁ w₂ E k⌝)
  step k acc := by
    have hk : k.val < (i 1).val + 1 := k.isLt.trans_eq (trips_t6 i)
    have hq := qi_lt i
    unfold k1_t6_body
    iintro ⟨H5, H10, %hacc⟩
    sl_exec
    sl_step
    rw [load_tile arg10 f (by omega) (off14_eq i k) (hE k.val (by omega)), load_vd arg5 X5 (by omega) (off15_eq i k)]
    isplitl [H5]; · iexact H5
    isplitl [H10]; · iexact H10
    ipureintro
    rw [hacc]
    rfl

set_option warn.classDefReducibility false in
/-- The same loop for the second head, at the partial sums `l`. -/
def inv_t12 (arg1 arg11 : BitVec 32) (v1058 : FVec F S64x256 .f32) (l : FVec F S8x256 .f32) (f : BufTy.Contents (Elt F) arg10.view.ty) (E : ℕ → Vec F S256x256 .f32) (hE : Scored (arg10.view.read (Elt F) f) (i 1).val E) :
    LoopInvTy_k1_t12 (F := F) Unit ℕ (UR sig nD τ) ℕ Variants.none c none Set.univ i arg2 harg2 arg3 harg3 arg4 harg4 arg5 harg5 arg6 harg6 arg7 harg7 arg8 harg8 arg9 harg9 arg10 harg10 arg1 arg11 v1058 (k1_pay53 l) (k1_pay54 l) (iota .tc S256x256 32 [0] iota_S256x256_d0_w32) k1_pay55 k1_pay58 where
  inv k acc := iprop((arg5.view.loc (c : Thread nD τ) ↦[arg5.view.set]{fullShare} X5) ∗ (arg10.view.loc (c : Thread nD τ) ↦[arg10.view.set]{fullShare} f) ∗ ⌜acc = outAcc (arg5.view.read (Elt F) X5) (k1_pay22 l) (k1_pay24 l) k1_pay25 E k⌝)
  step k acc := by
    have hk : k.val < (i 1).val + 1 := k.isLt.trans_eq (trips_t12 i)
    have hq := qi_lt i
    unfold k1_t12_body
    iintro ⟨H5, H10, %hacc⟩
    sl_exec
    sl_step
    rw [load_tile arg10 f (by omega) (off28_eq i k) (hE k.val (by omega)), load_vd arg5 X5 (by omega) (off29_eq i k)]
    isplitl [H5]; · iexact H5
    isplitl [H10]; · iexact H10
    ipureintro
    rw [hacc]
    rfl

end

end Cert.Proof.Kernel
-- ==== Proof.K.Quant.lean ====
module

public import proofs.«01_k».proof.Proof.Gen.Kernel.Loops
public import proofs.«01_k».proof.Proof.K.Offsets
public import proofs.«01_k».proof.Proof.K.Tiles
public import proofs.«01_k».proof.Proof.K.HeadLoops
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! # The quantisation of a query tile -/

/-- Writes that cover the shape, each the restriction of `G`, leave `G`. -/
theorem canon_eq_of {s : Shape} {e : EltTy} (G : s.Idx → Elt F e) (L : List (View.Piece (Elt F) s e))
    (hval : ∀ p ∈ L, ∀ x, p.2 x = G (p.1.emb x)) : ∀ y, (∃ p ∈ L, y ∈ p.1.set) → View.canon L y = G y := by
  induction L with
  | nil => rintro y ⟨p, hp, _⟩; exact absurd hp (List.not_mem_nil)
  | cons q L ih =>
    rintro y ⟨p, hp, hy⟩
    by_cases hq : y ∈ q.1.set
    · have hq' := hq
      rw [← Rect.map_emb_univ] at hq'
      obtain ⟨x, -, rfl⟩ := Finset.mem_map.mp hq'
      rw [View.canon_cons_emb]
      exact hval q (List.mem_cons_self) x
    · rw [View.canon_cons_of_not_mem q L hq]
      refine ih (fun p hp => hval p (List.mem_cons_of_mem _ hp)) y ?_
      rcases List.mem_cons.mp hp with rfl | hp
      · exact absurd hy hq
      · exact ⟨p, hp, hy⟩

/-- A buffer that covering writes, each the restriction of `G`, were made to reads as `G`. -/
theorem read_writes_eq_of {κ : Kind} {sp : Space} {s : Shape} {e : EltTy} (v : View sig κ sp s e) (f : v.ty.Contents (Elt F))
    (G : s.Idx → Elt F e) (L : List (View.Piece (Elt F) s e)) (hcov : ∀ y, ∃ p ∈ L, y ∈ p.1.set)
    (hval : ∀ p ∈ L, ∀ x, p.2 x = G (p.1.emb x)) : v.read (Elt F) (v.writes (Elt F) f L) = G := by
  rw [View.read_writes_eq_canon v f L hcov]
  exact funext fun y => canon_eq_of G L hval y (hcov y)

theorem inb_x (p : ℕ) : ∀ a, ![0, 0, 128 * (p % 8)] a + S1x256x128.size a ≤ S1x256x1024.size a := by
  have h : p % 8 < 8 := Nat.mod_lt _ (by omega)
  intro a; fin_cases a
  · show 0 + 1 ≤ 1; omega
  · show 0 + 256 ≤ 256; omega
  · show 128 * (p % 8) + 128 ≤ 1024; omega

/-- The two heads of pair `p` of a query tile: 128 columns. -/
def xTile (x : Vec F S1x256x1024 .bf16) (p : ℕ) : Vec F S1x256x128 .bf16 := VecWindow.window x ![0, 0, 128 * (p % 8)] S1x256x128.size (inb_x p)

/-- The codes of one head of a pair (`par`: the second). -/
def headCodes (v : Vec F S1x256x128 .bf16) (par : ℕ) : Vec F S1x1x64x256 .fp8e4m3 :=
  if par = 0 then k1_pay66 (k1_pay65 v) else k1_pay72 (k1_pay69 (k1_pay62 v)) (k1_pay70 (k1_pay62 v))

/-- The scales of one head of a pair. -/
def headScale (v : Vec F S1x256x128 .bf16) (par : ℕ) : Vec F S1x1x256 .f32 :=
  if par = 0 then k1_pay67 (k1_pay64 v) else k1_pay73 (k1_pay70 (k1_pay62 v))

/-- The scales of one head of a pair, times the softmax's factor. -/
def headFactor (v : Vec F S1x256x128 .bf16) (par : ℕ) : Vec F S1x1x256 .f32 :=
  if par = 0 then k1_pay68 (k1_pay64 v) else k1_pay75 (k1_pay74 (k1_pay70 (k1_pay62 v)))

/-- The index of a head's block a coordinate falls on. -/
def codesAt (y : S1x16x64x256.Idx) : S1x1x64x256.Idx := fun a => ⟨if a.val = 1 then 0 else (y a).val, by
  fin_cases a
  · exact (y 0).isLt
  · show (0 : ℕ) < 1; omega
  · exact (y 2).isLt
  · exact (y 3).isLt⟩
def scaleAt (y : S1x16x256.Idx) : S1x1x256.Idx := fun a => ⟨if a.val = 1 then 0 else (y a).val, by
  fin_cases a
  · exact (y 0).isLt
  · show (0 : ℕ) < 1; omega
  · exact (y 2).isLt⟩
def factorAt (y : S16x1x256.Idx) : S1x1x256.Idx := fun a => ⟨if a.val = 0 then 0 else (y a).val, by
  fin_cases a
  · show (0 : ℕ) < 1; omega
  · exact (y 1).isLt
  · exact (y 2).isLt⟩

/-- The codes of a query tile. -/
def codesVal (x : Vec F S1x256x1024 .bf16) : Vec F S1x16x64x256 .fp8e4m3 :=
  fun y => headCodes (xTile x ((y 1).val / 2)) ((y 1).val % 2) (codesAt y)
/-- The scales of a query tile. -/
def scaleVal (x : Vec F S1x256x1024 .bf16) : Vec F S1x16x256 .f32 :=
  fun y => headScale (xTile x ((y 1).val / 2)) ((y 1).val % 2) (scaleAt y)
/-- The scales of a query tile, times the softmax's factor. -/
def factorVal (x : Vec F S1x256x1024 .bf16) : Vec F S16x1x256 .f32 :=
  fun y => headFactor (xTile x ((y 0).val / 2)) ((y 0).val % 2) (factorAt y)

theorem codesVal_emb (x : Vec F S1x256x1024 .bf16) (h : ℕ) (inb : ∀ a, ![0, h, 0, 0] a + S1x1x64x256.size a ≤ S1x16x64x256.size a) (z : S1x1x64x256.Idx) :
    codesVal x ((Rect.unit (s := S1x16x64x256) ![0, h, 0, 0] S1x1x64x256.size inb).emb z) = headCodes (xTile x (h / 2)) (h % 2) z := by
  have hz : (z 1).val = 0 := by have h1 : (z 1).val < 1 := (z 1).isLt; omega
  have e1 : (((Rect.unit (s := S1x16x64x256) ![0, h, 0, 0] S1x1x64x256.size inb).emb z) 1).val = h := by
    show h + 1 * (z 1).val = h; omega
  unfold codesVal
  rw [e1]
  congr 1
  funext a
  apply Fin.ext
  fin_cases a
  · show 0 + 1 * (z 0).val = (z 0).val; omega
  · show 0 = (z 1).val; omega
  · show 0 + 1 * (z 2).val = (z 2).val; omega
  · show 0 + 1 * (z 3).val = (z 3).val; omega

theorem scaleVal_emb (x : Vec F S1x256x1024 .bf16) (h : ℕ) (inb : ∀ a, ![0, h, 0] a + S1x1x256.size a ≤ S1x16x256.size a) (z : S1x1x256.Idx) :
    scaleVal x ((Rect.unit (s := S1x16x256) ![0, h, 0] S1x1x256.size inb).emb z) = headScale (xTile x (h / 2)) (h % 2) z := by
  have hz : (z 1).val = 0 := by have h1 : (z 1).val < 1 := (z 1).isLt; omega
  have e1 : (((Rect.unit (s := S1x16x256) ![0, h, 0] S1x1x256.size inb).emb z) 1).val = h := by
    show h + 1 * (z 1).val = h; omega
  unfold scaleVal
  rw [e1]
  congr 1
  funext a
  apply Fin.ext
  fin_cases a
  · show 0 + 1 * (z 0).val = (z 0).val; omega
  · show 0 = (z 1).val; omega
  · show 0 + 1 * (z 2).val = (z 2).val; omega

theorem factorVal_emb (x : Vec F S1x256x1024 .bf16) (h : ℕ) (inb : ∀ a, ![h, 0, 0] a + S1x1x256.size a ≤ S16x1x256.size a) (z : S1x1x256.Idx) :
    factorVal x ((Rect.unit (s := S16x1x256) ![h, 0, 0] S1x1x256.size inb).emb z) = headFactor (xTile x (h / 2)) (h % 2) z := by
  have hz : (z 0).val = 0 := by have h1 : (z 0).val < 1 := (z 0).isLt; omega
  have e1 : (((Rect.unit (s := S16x1x256) ![h, 0, 0] S1x1x256.size inb).emb z) 0).val = h := by
    show h + 1 * (z 0).val = h; omega
  unfold factorVal
  rw [e1]
  congr 1
  funext a
  apply Fin.ext
  fin_cases a
  · show 0 = (z 0).val; omega
  · show 0 + 1 * (z 1).val = (z 1).val; omega
  · show 0 + 1 * (z 2).val = (z 2).val; omega

/-- Head `h` of the codes. -/
theorem qcHead_codesVal (x : Vec F S1x256x1024 .bf16) (h : ℕ) (hh : h < 16) : qcHead (codesVal x) h = headCodes (xTile x (h / 2)) (h % 2) := by
  funext z
  have e : h % 16 = h := Nat.mod_eq_of_lt hh
  exact (codesVal_emb x (h % 16) (inb_q h) z).trans (by rw [e])
/-- Head `h` of the factors. -/
theorem qsHead_factorVal (x : Vec F S1x256x1024 .bf16) (h : ℕ) (hh : h < 16) : qsHead (factorVal x) h = headFactor (xTile x (h / 2)) (h % 2) := by
  funext z
  have e : h % 16 = h := Nat.mod_eq_of_lt hh
  exact (factorVal_emb x (h % 16) (inb_qs h) z).trans (by rw [e])

/-- Sixteen pieces, one to a head, cover the codes, the scales and the factors. -/
theorem mem_codes (y : S1x16x64x256.Idx) (h : ℕ) (hy : (y 1).val = h) (inb : ∀ a, ![0, h, 0, 0] a + S1x1x64x256.size a ≤ S1x16x64x256.size a) :
    y ∈ (Rect.unit (s := S1x16x64x256) ![0, h, 0, 0] S1x1x64x256.size inb).set := by
  refine Rect.mem_set_unit.mpr fun a => ?_
  fin_cases a
  · exact ⟨Nat.zero_le _, by show (y 0).val < 0 + 1; have : (y 0).val < 1 := (y 0).isLt; omega⟩
  · exact ⟨by show h ≤ (y 1).val; omega, by show (y 1).val < h + 1; omega⟩
  · exact ⟨Nat.zero_le _, by show (y 2).val < 0 + 64; have : (y 2).val < 64 := (y 2).isLt; omega⟩
  · exact ⟨Nat.zero_le _, by show (y 3).val < 0 + 256; have : (y 3).val < 256 := (y 3).isLt; omega⟩
theorem mem_scale (y : S1x16x256.Idx) (h : ℕ) (hy : (y 1).val = h) (inb : ∀ a, ![0, h, 0] a + S1x1x256.size a ≤ S1x16x256.size a) :
    y ∈ (Rect.unit (s := S1x16x256) ![0, h, 0] S1x1x256.size inb).set := by
  refine Rect.mem_set_unit.mpr fun a => ?_
  fin_cases a
  · exact ⟨Nat.zero_le _, by show (y 0).val < 0 + 1; have : (y 0).val < 1 := (y 0).isLt; omega⟩
  · exact ⟨by show h ≤ (y 1).val; omega, by show (y 1).val < h + 1; omega⟩
  · exact ⟨Nat.zero_le _, by show (y 2).val < 0 + 256; have : (y 2).val < 256 := (y 2).isLt; omega⟩
theorem mem_factor (y : S16x1x256.Idx) (h : ℕ) (hy : (y 0).val = h) (inb : ∀ a, ![h, 0, 0] a + S1x1x256.size a ≤ S16x1x256.size a) :
    y ∈ (Rect.unit (s := S16x1x256) ![h, 0, 0] S1x1x256.size inb).set := by
  refine Rect.mem_set_unit.mpr fun a => ?_
  fin_cases a
  · exact ⟨by show h ≤ (y 0).val; omega, by show (y 0).val < h + 1; omega⟩
  · exact ⟨Nat.zero_le _, by show (y 1).val < 0 + 1; have : (y 1).val < 1 := (y 1).isLt; omega⟩
  · exact ⟨Nat.zero_le _, by show (y 2).val < 0 + 256; have : (y 2).val < 256 := (y 2).isLt; omega⟩

end Cert.Proof.Kernel
-- ==== Proof.K.Body0.lean ====
module

public import proofs.«01_k».proof.Proof.Gen.Kernel.Loops
public import proofs.«01_k».proof.Proof.K.Offsets
public import proofs.«01_k».proof.Proof.K.Tiles
public import proofs.«01_k».proof.Proof.K.Quant
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! # The key-value kernel -/

theorem trips_k0 : k0_t1_loop.trips = 64 := by decide +kernel
theorem k0_off1_eq : ∀ t : Fin k0_t1_loop.trips, k0_off1 t = ![0, 0, 128 * t.val] := by decide +kernel
theorem k0_off2_eq : ∀ t : Fin k0_t1_loop.trips, k0_off2 t = ![0, 0, 128 * t.val] := by decide +kernel
theorem k0_off3_eq : ∀ t : Fin k0_t1_loop.trips, k0_off3 t = ![0, 128 * t.val, 0] := by decide +kernel

/-- The first `k` tiles of 128 along an axis are those of `G`. -/
def Filled {d : Fin 3 → ℕ} {e : EltTy} (z G : (⟨3, d⟩ : Shape).Idx → Elt F e) (ax : Fin 3) (k : ℕ) : Prop :=
  ∀ y : (⟨3, d⟩ : Shape).Idx, (y ax).val / 128 < k → z y = G y

theorem fill {κ : Kind} {sp : Space} {d : Fin 3 → ℕ} {e : EltTy} (v : View sig κ sp ⟨3, d⟩ e) (f : v.ty.Contents (Elt F)) (G : (⟨3, d⟩ : Shape).Idx → Elt F e)
    (ax : Fin 3) (t : ℕ) {off off' size : Fin 3 → ℕ} (inb : ∀ a, off a + size a ≤ d a) (hoff : off = off') (hax : off' ax = 128 * t) (hsz : size ax = 128)
    (hoth : ∀ a, a ≠ ax → off' a = 0 ∧ size a = d a) (w : (Rect.unit (s := (⟨3, d⟩ : Shape)) off size inb).shape.Idx → Elt F e)
    (hw : ∀ (y : (⟨3, d⟩ : Shape).Idx) (z : (Rect.unit (s := (⟨3, d⟩ : Shape)) off size inb).shape.Idx), (y ax).val / 128 = t → (z ax).val = (y ax).val % 128 →
      (∀ a, a ≠ ax → (z a).val = (y a).val) → w z = G y)
    (h : Filled (v.read (Elt F) f) G ax t) : Filled (v.read (Elt F) (v.writes (Elt F) f [⟨Rect.unit (s := (⟨3, d⟩ : Shape)) off size inb, w⟩])) G ax (t + 1) := by
  intro y hy
  by_cases e : (y ax).val / 128 = t
  · have hlt : ∀ a, (if a = ax then (y a).val % 128 else (y a).val) < size a := by
      intro a
      by_cases ha : a = ax
      · subst ha; rw [if_pos rfl, hsz]; exact Nat.mod_lt _ (by omega)
      · rw [if_neg ha, (hoth a ha).2]; exact (y a).isLt
    have hx : ∀ a, (y a).val = off' a + (if a = ax then (y a).val % 128 else (y a).val) := by
      intro a
      by_cases ha : a = ax
      · subst ha; rw [if_pos rfl, hax]; omega
      · rw [if_neg ha, (hoth a ha).1]; omega
    rw [View.read_writes_cons_unit_of_mem (off' := off') v f inb w [] y (fun a => ⟨if a = ax then (y a).val % 128 else (y a).val, hlt a⟩) hoff hx]
    refine hw y _ e ?_ ?_
    · exact if_pos rfl
    · intro a ha; exact if_neg ha
  · rw [View.read_writes_cons_unit_of_not_mem (off' := off') v f inb w [] y hoff ax (by rw [hax, hsz]; omega)]
    exact h y (by omega)

theorem inb_kv (t : ℕ) : ∀ a, ![0, 0, 128 * (t % 64)] a + S1x64x128.size a ≤ S1x64x8192.size a := by
  have h : t % 64 < 64 := Nat.mod_lt _ (by omega)
  intro a; fin_cases a
  · show 0 + 1 ≤ 1; omega
  · show 0 + 64 ≤ 64; omega
  · show 128 * (t % 64) + 128 ≤ 8192; omega

/-- Tile `t` of the keys or values: 128 columns. -/
def kvTile (x : Vec F S1x64x8192 .bf16) (t : ℕ) : Vec F S1x64x128 .bf16 := VecWindow.window x ![0, 0, 128 * (t % 64)] S1x64x128.size (inb_kv t)

theorem load_kv (arg : Memref sig .tc .vmem S1x64x8192 .bf16) (X : BufTy.Contents (Elt F) arg.view.ty) {off : Fin 3 → ℕ} {inb : ∀ a, off a + S1x64x128.size a ≤ S1x64x8192.size a} {t : ℕ} (ht : t < 64) (hoff : off = ![0, 0, 128 * t]) :
    arg.view.readAt (Elt F) (Rect.unit (s := S1x64x8192) off S1x64x128.size inb).toLoadRect X = kvTile (arg.view.read (Elt F) X) t :=
  View.readAt_unit arg.view X inb (off' := ![0, 0, 128 * (t % 64)]) (hoff.trans (by rw [Nat.mod_eq_of_lt ht])) (inb_kv t)

def colAt (y : S1x64x8192.Idx) : S1x64x128.Idx := fun a => ⟨if a.val = 2 then (y a).val % 128 else (y a).val, by
  fin_cases a
  · exact (y 0).isLt
  · exact (y 1).isLt
  · exact Nat.mod_lt _ (by show 0 < 128; omega)⟩
theorem colAt_eq (y : S1x64x8192.Idx) (z : S1x64x128.Idx) (hz : (z 2).val = (y 2).val % 128) (hz' : ∀ a, a ≠ 2 → (z a).val = (y a).val) : colAt y = z := by
  funext a
  apply Fin.ext
  fin_cases a
  · exact (hz' 0 (by decide)).symm
  · exact (hz' 1 (by decide)).symm
  · exact hz.symm
def laneAt (y : S1x1x8192.Idx) : S1x1x128.Idx := fun a => ⟨if a.val = 2 then (y a).val % 128 else (y a).val, by
  fin_cases a
  · exact (y 0).isLt
  · exact (y 1).isLt
  · exact Nat.mod_lt _ (by show 0 < 128; omega)⟩
theorem laneAt_eq (y : S1x1x8192.Idx) (z : S1x1x128.Idx) (hz : (z 2).val = (y 2).val % 128) (hz' : ∀ a, a ≠ 2 → (z a).val = (y a).val) : laneAt y = z := by
  funext a
  apply Fin.ext
  fin_cases a
  · exact (hz' 0 (by decide)).symm
  · exact (hz' 1 (by decide)).symm
  · exact hz.symm
def rowAt (y : S1x8192x128.Idx) : S1x128x128.Idx := fun a => ⟨if a.val = 1 then (y a).val % 128 else (y a).val, by
  fin_cases a
  · exact (y 0).isLt
  · exact Nat.mod_lt _ (by show 0 < 128; omega)
  · exact (y 2).isLt⟩
theorem rowAt_eq (y : S1x8192x128.Idx) (z : S1x128x128.Idx) (hz : (z 1).val = (y 1).val % 128) (hz' : ∀ a, a ≠ 1 → (z a).val = (y a).val) : rowAt y = z := by
  funext a
  apply Fin.ext
  fin_cases a
  · exact (hz' 0 (by decide)).symm
  · exact hz.symm
  · exact (hz' 2 (by decide)).symm

def kcValTile (x : Vec F S1x64x8192 .bf16) (t : ℕ) : Vec F S1x64x128 .fp8e4m3 := k0_pay10 (k0_pay7 (kvTile x t))
def kcVal (x : Vec F S1x64x8192 .bf16) : Vec F S1x64x8192 .fp8e4m3 := fun y => kcValTile x ((y 2).val / 128) (colAt y)

def ksValTile (x : Vec F S1x64x8192 .bf16) (t : ℕ) : Vec F S1x1x128 .f32 := k0_pay11 (F := F) (k0_pay6 (kvTile x t)) k0_pay8
def ksVal (x : Vec F S1x64x8192 .bf16) : Vec F S1x1x8192 .f32 := fun y => ksValTile x ((y 2).val / 128) (laneAt y)

def vcValTile (x : Vec F S1x64x8192 .bf16) (t : ℕ) : Vec F S1x64x128 .fp8e4m3 := k0_pay18 (k0_pay14 (kvTile x t)) (k0_pay15 (kvTile x t)) (iota .tc S256x1 32 [0] iota_S256x1_d0_w32) 23#32
def vcVal (x : Vec F S1x64x8192 .bf16) : Vec F S1x64x8192 .fp8e4m3 := fun y => vcValTile x ((y 2).val / 128) (colAt y)

def klValTile (x : Vec F S1x64x8192 .bf16) (t : ℕ) : Vec F S1x128x128 .fp8e4m3 := k0_pay12 (k0_pay7 (kvTile x t))
def klVal (x : Vec F S1x64x8192 .bf16) : Vec F S1x8192x128 .fp8e4m3 := fun y => klValTile x ((y 1).val / 128) (rowAt y)

def kbValTile (x : Vec F S1x64x8192 .bf16) (t : ℕ) : Vec F S1x128x128 .f32 := k0_pay13 (F := F) (k0_pay6 (kvTile x t)) k0_pay8
def kbVal (x : Vec F S1x64x8192 .bf16) : Vec F S1x8192x128 .f32 := fun y => kbValTile x ((y 1).val / 128) (rowAt y)

def vdValTile (x : Vec F S1x64x8192 .bf16) (t : ℕ) : Vec F S1x64x128 .bf16 := k0_pay2 (k0_pay19 (k0_pay14 (kvTile x t)) (k0_pay15 (kvTile x t)) (iota .tc S256x1 32 [0] iota_S256x1_d0_w32) 23#32)
def vdVal (x : Vec F S1x64x8192 .bf16) : Vec F S1x64x8192 .bf16 := fun y => vdValTile x ((y 2).val / 128) (colAt y)

/-- The largest exponent of the first `k` tiles of the values, lane by lane. -/
def vsAcc (x : Vec F S1x64x8192 .bf16) : ℕ → FVec F S1x64 .f32
  | 0 => k0_pay1 (F := F)
  | t + 1 => k0_pay3 (vsAcc x t) (Scf.iv 0#32 1#32 t) (k0_pay16 (k0_pay15 (kvTile x t)) (iota .tc S256x1 32 [0] iota_S256x1_d0_w32) 23#32)
def vsVal (x : Vec F S1x64x8192 .bf16) : Vec F S1x1x64 .f32 := k0_pay4 (vsAcc x 64)

section
variable (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x64x8192 .fp8e4m3) (harg3 : arg3.IsWhole) (arg4 : Memref sig .tc .vmem S1x1x8192 .f32) (harg4 : arg4.IsWhole) (arg5 : Memref sig .tc .vmem S1x64x8192 .fp8e4m3) (harg5 : arg5.IsWhole) (arg6 : Memref sig .tc .vmem S1x1x64 .f32) (harg6 : arg6.IsWhole) (arg7 : Memref sig .tc .vmem S1x8192x128 .fp8e4m3) (harg7 : arg7.IsWhole) (arg8 : Memref sig .tc .vmem S1x8192x128 .f32) (harg8 : arg8.IsWhole) (arg9 : Memref sig .tc .vmem S1x64x8192 .bf16) (harg9 : arg9.IsWhole)

set_option warn.classDefReducibility false in
set_option maxHeartbeats 4000000 in
/-- The loop over the tiles: before trip `k`, the first `k` tiles of every output are written. -/
def inv_k0 (X1 : BufTy.Contents (Elt F) arg1.view.ty) (X2 : BufTy.Contents (Elt F) arg2.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 (k0_pay1 (F := F)) where
  inv k acc := iprop((arg1.view.loc (c : Thread nD τ) ↦[arg1.view.set]{fullShare} X1) ∗ (arg2.view.loc (c : Thread nD τ) ↦[arg2.view.set]{fullShare} X2) ∗ (∃ f, (arg3.view.loc (c : Thread nD τ) ↦[arg3.view.set]{fullShare} f) ∗ ⌜Filled (arg3.view.read (Elt F) f) (kcVal (arg1.view.read (Elt F) X1)) 2 k⌝) ∗ (∃ f, (arg4.view.loc (c : Thread nD τ) ↦[arg4.view.set]{fullShare} f) ∗ ⌜Filled (arg4.view.read (Elt F) f) (ksVal (arg1.view.read (Elt F) X1)) 2 k⌝) ∗ (∃ f, (arg5.view.loc (c : Thread nD τ) ↦[arg5.view.set]{fullShare} f) ∗ ⌜Filled (arg5.view.read (Elt F) f) (vcVal (arg2.view.read (Elt F) X2)) 2 k⌝) ∗ (∃ f, (arg7.view.loc (c : Thread nD τ) ↦[arg7.view.set]{fullShare} f) ∗ ⌜Filled (arg7.view.read (Elt F) f) (klVal (arg1.view.read (Elt F) X1)) 1 k⌝) ∗ (∃ f, (arg8.view.loc (c : Thread nD τ) ↦[arg8.view.set]{fullShare} f) ∗ ⌜Filled (arg8.view.read (Elt F) f) (kbVal (arg1.view.read (Elt F) X1)) 1 k⌝) ∗ (∃ f, (arg9.view.loc (c : Thread nD τ) ↦[arg9.view.set]{fullShare} f) ∗ ⌜Filled (arg9.view.read (Elt F) f) (vdVal (arg2.view.read (Elt F) X2)) 2 k⌝) ∗ ⌜acc = vsAcc (arg2.view.read (Elt F) X2) k⌝)
  step t acc := by
    have ht : t.val < 64 := t.isLt.trans_eq trips_k0
    unfold k0_t1_body
    simp only [k0_part1_eq_skeleton, k0_part2_eq_skeleton, k0_part3_eq_skeleton]
    iintro ⟨H1, H2, ⟨%f3, H3, %hf3⟩, ⟨%f4, H4, %hf4⟩, ⟨%f5, H5, %hf5⟩, ⟨%f7, H7, %hf7⟩, ⟨%f8, H8, %hf8⟩, ⟨%f9, H9, %hf9⟩, %hacc⟩
    sl_exec
    sl_step
    have hA1 := load_kv arg1 X1 (inb := k0_off1_inb t) ht (k0_off1_eq t)
    have hA2 := load_kv arg2 X2 (inb := k0_off1_inb t) ht (k0_off1_eq t)
    isplitl [H1]
    · iexact H1
    isplitl [H2]
    · iexact H2
    isplitl [H3]
    · iexists _
      isplitl [H3]
      · iexact H3
      ipureintro
      refine fill arg3.view f3 _ 2 t.val _ (k0_off1_eq t) rfl rfl ?_ _ ?_ hf3
      · intro a ha
        fin_cases a
        · exact ⟨rfl, rfl⟩
        · exact ⟨rfl, rfl⟩
        · exact absurd rfl ha
      · intro y z e hz hz'
        have ez : colAt y = z := colAt_eq y z hz hz'
        unfold kcVal
        rw [e, ez]
        exact congrFun (congrArg (fun v => k0_pay10 (k0_pay7 v)) hA1) z
    isplitl [H4]
    · iexists _
      isplitl [H4]
      · iexact H4
      ipureintro
      refine fill arg4.view f4 _ 2 t.val _ (k0_off2_eq t) rfl rfl ?_ _ ?_ hf4
      · intro a ha
        fin_cases a
        · exact ⟨rfl, rfl⟩
        · exact ⟨rfl, rfl⟩
        · exact absurd rfl ha
      · intro y z e hz hz'
        have ez : laneAt y = z := laneAt_eq y z hz hz'
        unfold ksVal
        rw [e, ez]
        exact congrFun (congrArg (fun v => k0_pay11 (F := F) (k0_pay6 v) k0_pay8) hA1) z
    isplitl [H5]
    · iexists _
      isplitl [H5]
      · iexact H5
      ipureintro
      refine fill arg5.view f5 _ 2 t.val _ (k0_off1_eq t) rfl rfl ?_ _ ?_ hf5
      · intro a ha
        fin_cases a
        · exact ⟨rfl, rfl⟩
        · exact ⟨rfl, rfl⟩
        · exact absurd rfl ha
      · intro y z e hz hz'
        have ez : colAt y = z := colAt_eq y z hz hz'
        unfold vcVal
        rw [e, ez]
        exact congrFun (congrArg (fun v => k0_pay18 (k0_pay14 v) (k0_pay15 v) (iota .tc S256x1 32 [0] iota_S256x1_d0_w32) 23#32) hA2) z
    isplitl [H7]
    · iexists _
      isplitl [H7]
      · iexact H7
      ipureintro
      refine fill arg7.view f7 _ 1 t.val _ (k0_off3_eq t) rfl rfl ?_ _ ?_ hf7
      · intro a ha
        fin_cases a
        · exact ⟨rfl, rfl⟩
        · exact absurd rfl ha
        · exact ⟨rfl, rfl⟩
      · intro y z e hz hz'
        have ez : rowAt y = z := rowAt_eq y z hz hz'
        unfold klVal
        rw [e, ez]
        exact congrFun (congrArg (fun v => k0_pay12 (k0_pay7 v)) hA1) z
    isplitl [H8]
    · iexists _
      isplitl [H8]
      · iexact H8
      ipureintro
      refine fill arg8.view f8 _ 1 t.val _ (k0_off3_eq t) rfl rfl ?_ _ ?_ hf8
      · intro a ha
        fin_cases a
        · exact ⟨rfl, rfl⟩
        · exact absurd rfl ha
        · exact ⟨rfl, rfl⟩
      · intro y z e hz hz'
        have ez : rowAt y = z := rowAt_eq y z hz hz'
        unfold kbVal
        rw [e, ez]
        exact congrFun (congrArg (fun v => k0_pay13 (F := F) (k0_pay6 v) k0_pay8) hA1) z
    isplitl [H9]
    · iexists _
      isplitl [H9]
      · iexact H9
      ipureintro
      refine fill arg9.view f9 _ 2 t.val _ (k0_off1_eq t) rfl rfl ?_ _ ?_ hf9
      · intro a ha
        fin_cases a
        · exact ⟨rfl, rfl⟩
        · exact ⟨rfl, rfl⟩
        · exact absurd rfl ha
      · intro y z e hz hz'
        have ez : colAt y = z := colAt_eq y z hz hz'
        unfold vdVal
        rw [e, ez]
        exact congrFun (congrArg (fun v => k0_pay2 (k0_pay19 (k0_pay14 v) (k0_pay15 v) (iota .tc S256x1 32 [0] iota_S256x1_d0_w32) 23#32)) hA2) z
    ipureintro
    rw [hacc]
    exact congrArg (fun v => k0_pay3 (vsAcc (arg2.view.read (Elt F) X2) t.val) (Scf.iv 0#32 1#32 t.val) (k0_pay16 (k0_pay15 v) (iota .tc S256x1 32 [0] iota_S256x1_d0_w32) 23#32)) hA2

theorem filled_all {d : Fin 3 → ℕ} {e : EltTy} (z G : (⟨3, d⟩ : Shape).Idx → Elt F e) (ax : Fin 3) (hd : d ax = 8192) (h : Filled z G ax k0_t1_loop.trips) : z = G := by
  funext y
  refine h y ?_
  have h2 : (y ax).val < 8192 := (y ax).isLt.trans_eq hd
  rw [trips_k0]
  omega

set_option maxHeartbeats 4000000 in
/-- The body of the key-value kernel. -/
theorem sound_kernel0 (k v : Vec F S1x64x8192 .bf16) (K : PUnit → sProp 𝕄G) :
    (iprop(owns (c : Thread nD τ) arg1 fullShare k ∗ owns (c : Thread nD τ) arg2 fullShare v ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg1 fullShare k ∗ owns (c : Thread nD τ) arg2 fullShare v ∗ owns (c : Thread nD τ) arg3 fullShare (kcVal k) ∗ owns (c : Thread nD τ) arg4 fullShare (ksVal k) ∗ owns (c : Thread nD τ) arg5 fullShare (vcVal v) ∗ owns (c : Thread nD τ) arg6 fullShare (vsVal v) ∗ owns (c : Thread nD τ) arg7 fullShare (klVal k) ∗ owns (c : Thread nD τ) arg8 fullShare (kbVal k) ∗ owns (c : Thread nD τ) arg9 fullShare (vdVal v)) -∗ K ⟨⟩)) : sProp 𝕄G)
    ⊢ wp frame (wpE (defs₀ (F := F)) Variants.none c none) Set.univ (cc0_kv i arg1 harg1 arg2 harg2 arg3 harg3 arg4 harg4 arg5 harg5 arg6 harg6 arg7 harg7 arg8 harg8 arg9 harg9) K := by
  rw [cc0_kv_eq_skeleton (F := F)]; unfold cc0_kv_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  let L := inv_k0 (F := F) c i arg1 harg1 arg2 harg2 arg3 harg3 arg4 harg4 arg5 harg5 arg6 harg6 arg7 harg7 arg8 harg8 arg9 harg9 f1 f2
  have h3 : Filled (d := S1x64x8192.size) (arg3.view.read (Elt F) f3) (kcVal (arg1.view.read (Elt F) f1)) 2 0 := fun y hy => absurd hy (Nat.not_lt_zero _)
  have h4 : Filled (d := S1x1x8192.size) (arg4.view.read (Elt F) f4) (ksVal (arg1.view.read (Elt F) f1)) 2 0 := fun y hy => absurd hy (Nat.not_lt_zero _)
  have h5 : Filled (d := S1x64x8192.size) (arg5.view.read (Elt F) f5) (vcVal (arg2.view.read (Elt F) f2)) 2 0 := fun y hy => absurd hy (Nat.not_lt_zero _)
  have h7 : Filled (d := S1x8192x128.size) (arg7.view.read (Elt F) f7) (klVal (arg1.view.read (Elt F) f1)) 1 0 := fun y hy => absurd hy (Nat.not_lt_zero _)
  have h8 : Filled (d := S1x8192x128.size) (arg8.view.read (Elt F) f8) (kbVal (arg1.view.read (Elt F) f1)) 1 0 := fun y hy => absurd hy (Nat.not_lt_zero _)
  have h9 : Filled (d := S1x64x8192.size) (arg9.view.read (Elt F) f9) (vdVal (arg2.view.read (Elt F) f2)) 2 0 := fun y hy => absurd hy (Nat.not_lt_zero _)
  sl_exec
  sl_step
  subst hf1 hf2
  iapply Hk
  isplitl [H1]
  · iexists _; isplitr
    swap; · iexact H1
    ipureintro
    rfl
  isplitl [H2]
  · iexists _; isplitr
    swap; · iexact H2
    ipureintro
    rfl
  isplitl [H3]
  · iexists _; isplitr
    swap; · iexact H3
    ipureintro
    exact filled_all (d := S1x64x8192.size) _ _ 2 rfl hL3
  isplitl [H4]
  · iexists _; isplitr
    swap; · iexact H4
    ipureintro
    exact filled_all (d := S1x1x8192.size) _ _ 2 rfl hL5
  isplitl [H5]
  · iexists _; isplitr
    swap; · iexact H5
    ipureintro
    exact filled_all (d := S1x64x8192.size) _ _ 2 rfl hL7
  isplitl [H6]
  · iexists _; isplitr
    swap; · iexact H6
    ipureintro
    exact (View.read_writes_full arg6.view f6 inb_S1x1x64_S1x1x64_0_0_0 _ []).trans (congrArg (fun n => k0_pay4 (vsAcc (arg2.view.read (Elt F) f2) n)) trips_k0)
  isplitl [H7]
  · iexists _; isplitr
    swap; · iexact H7
    ipureintro
    exact filled_all (d := S1x8192x128.size) _ _ 1 rfl hL9
  isplitl [H8]
  · iexists _; isplitr
    swap; · iexact H8
    ipureintro
    exact filled_all (d := S1x8192x128.size) _ _ 1 rfl hL11
  iexists _; isplitr
  swap; · iexact H9
  ipureintro
  exact filled_all (d := S1x64x8192.size) _ _ 2 rfl hL13

end

end Cert.Proof.Kernel
-- ==== Proof.K.HeadParts.lean ====
module

public import proofs.«01_k».proof.Proof.Gen.Kernel.Loops
public import proofs.«01_k».proof.Proof.K.Offsets
public import proofs.«01_k».proof.Proof.K.Tiles
public import proofs.«01_k».proof.Proof.K.HeadLoops
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! # The parts of one pair of heads -/

section
variable (c : Dev nD) (i : grid1.Coords) (arg2 : Memref sig .tc .vmem S1x256x1024 .bf16) (harg2 : arg2.IsWhole) (arg3 : Memref sig .tc .vmem S1x8192x128 .fp8e4m3) (harg3 : arg3.IsWhole) (arg4 : Memref sig .tc .vmem S1x8192x128 .f32) (harg4 : arg4.IsWhole) (arg5 : Memref sig .tc .vmem S1x64x8192 .bf16) (harg5 : arg5.IsWhole) (arg6 : Memref sig .tc .vmem S1x256x1024 .bf16) (harg6 : arg6.IsWhole) (arg7 : Memref sig .tc .vmem S1x16x64x256 .fp8e4m3) (harg7 : arg7.IsWhole) (arg8 : Memref sig .tc .vmem S1x16x256 .f32) (harg8 : arg8.IsWhole) (arg9 : Memref sig .tc .vmem S16x1x256 .f32) (harg9 : arg9.IsWhole) (arg10 : Memref sig .tc .vmem S8192x256 .f32) (harg10 : arg10.IsWhole)
  (X3 : BufTy.Contents (Elt F) arg3.view.ty) (X4 : BufTy.Contents (Elt F) arg4.view.ty) (X5 : BufTy.Contents (Elt F) arg5.view.ty) (X7 : BufTy.Contents (Elt F) arg7.view.ty) (X9 : BufTy.Contents (Elt F) arg9.view.ty)

/-- The scores of the first head of pair `t`. -/
theorem spec_part1 (arg1 c0 c1 : BitVec 32) (t : Fin k1_t1_loop.trips) (f : BufTy.Contents (Elt F) arg10.view.ty) :
    (iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} f)) : sProp 𝕄G) ⊢
    wp frame (wpE (defs₀ (F := F)) Variants.none c none) Set.univ (k1_part1 i arg2 harg2 arg3 harg3 arg4 harg4 arg5 harg5 arg6 harg6 arg7 harg7 arg8 harg8 arg9 harg9 arg10 harg10 arg1 c0 c1 t) (fun r => iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg9.view.loc (c : Thread nD τ) ↦[arg9.view.set]{fullShare} X9) ∗ (∃ f', (arg10.view.loc (c : Thread nD τ) ↦[arg10.view.set]{fullShare} f') ∗ ⌜Scored (arg10.view.read (Elt F) f') (i 1).val (scoreTile (qcHead (arg7.view.read (Elt F) X7) (2 * t.val)) (qsHead (arg9.view.read (Elt F) X9) (2 * t.val)) (arg3.view.read (Elt F) X3) (arg4.view.read (Elt F) X4) (i 1).val)⌝) ∗ ⌜r.2.1 = k1_pay3 (qcHead (arg7.view.read (Elt F) X7) (2 * t.val))⌝ ∗ ⌜r.2.2.1 = k1_pay4 (qsHead (arg9.view.read (Elt F) X9) (2 * t.val))⌝ ∗ ⌜r.2.2.2.2 = headMax (qcHead (arg7.view.read (Elt F) X7) (2 * t.val)) (qsHead (arg9.view.read (Elt F) X9) (2 * t.val)) (arg3.view.read (Elt F) X3) (arg4.view.read (Elt F) X4) (i 1).val⌝)) := by
  have ht : t.val < 8 := t.isLt.trans_eq trips_t1
  have hq := qi_lt i
  rw [k1_part1_eq_skeleton]
  unfold k1_part1_skel
  iintro ⟨H3, H4, H7, H9, H10⟩
  set_option sl_exec.maxSteps 6 in sl_exec
  rw [load_q arg7 X7 (by omega) (off1_eq t), load_qs arg9 X9 (by omega) (off2_eq t), load_kl arg3 X3 hq (off3_eq i), load_kb arg4 X4 hq (off4_eq i)]
  generalize hqv : qcHead (arg7.view.read (Elt F) X7) (2 * t.val) = q
  generalize hsv : qsHead (arg9.view.read (Elt F) X9) (2 * t.val) = s
  have hD : ∀ j, j < 0 ∨ j = (i 1).val → TileAt (arg10.view.read (Elt F) (arg10.view.writes (Elt F) f
      [⟨Rect.unit (s := S8192x256) (k1_off5 i) S256x256.size (k1_off5_inb i), k1_pay6 q s (klTile (arg3.view.read (Elt F) X3) (i 1).val) (kbTile (arg4.view.read (Elt F) X4) (i 1).val)⟩])) j
      (scoreTile q s (arg3.view.read (Elt F) X3) (arg4.view.read (Elt F) X4) (i 1).val j) := by
    intro j hj
    obtain rfl : j = (i 1).val := by omega
    have hs : scoreTile q s (arg3.view.read (Elt F) X3) (arg4.view.read (Elt F) X4) (i 1).val (i 1).val = k1_pay6 q s (klTile (arg3.view.read (Elt F) X3) (i 1).val) (kbTile (arg4.view.read (Elt F) X4) (i 1).val) := by
      unfold scoreTile; rw [if_pos rfl]
    rw [hs]
    exact store_tile arg10 f hq (off5_eq i) _ []
  let L := inv_t2 c i arg2 harg2 arg3 harg3 arg4 harg4 arg5 harg5 arg6 harg6 arg7 harg7 arg8 harg8 arg9 harg9 arg10 harg10 X3 X4 arg1 c0 c1 t q s
  sl_exec
  have h2 : Scf.trips (k1_t2_loop i).lb (k1_t2_loop i).ub (k1_t2_loop i).st = (i 1).val := trips_t2 i
  rw [h2] at hL3
  rw [h2]
  sl_step
  isplitl [H3]; · iexact H3
  isplitl [H4]; · iexact H4
  isplitl [H7]; · iexact H7
  isplitl [H9]; · iexact H9
  isplitl [H10]
  · iexists _
    isplitl [H10]; · iexact H10
    ipureintro
    exact fun j hj => hL3 j (by omega)
  isplitl []; · ipureintro; rfl
  isplitl []; · ipureintro; rfl
  ipureintro; rfl

/-- The exponentials of the first head. -/
theorem spec_part2 (arg1 : BitVec 32) (v964 : FVec F S64x256 .fp8e4m3) (v967 : FVec F S1x256 .f32) (v998 : BitVec 32) (m : FVec F S8x256 .f32)
    (S : ℕ → Vec F S256x256 .f32) (f : BufTy.Contents (Elt F) arg10.view.ty) :
    (iprop((arg10.view.loc (c : Thread nD τ) ↦[arg10.view.set]{fullShare} f) ∗ ⌜Scored (arg10.view.read (Elt F) f) (i 1).val S⌝) : sProp 𝕄G) ⊢
    wp frame (wpE (defs₀ (F := F)) Variants.none c none) Set.univ (k1_part2 i arg2 harg2 arg3 harg3 arg4 harg4 arg5 harg5 arg6 harg6 arg7 harg7 arg8 harg8 arg9 harg9 arg10 harg10 arg1 v964 v967 v998 m) (fun r => iprop((∃ f', (arg10.view.loc (c : Thread nD τ) ↦[arg10.view.set]{fullShare} f') ∗ ⌜Scored (arg10.view.read (Elt F) f') (i 1).val (fun j => k1_pay17 m (S j))⌝) ∗ ⌜r.1 = k1_pay22 (sumAcc m S ((i 1).val + 1))⌝ ∗ ⌜r.2.1 = k1_pay23 (sumAcc m S ((i 1).val + 1))⌝ ∗ ⌜r.2.2.1 = k1_pay24 (sumAcc m S ((i 1).val + 1))⌝ ∗ ⌜r.2.2.2 = k1_pay25⌝)) := by
  have hq := qi_lt i
  rw [k1_part2_eq_skeleton]
  unfold k1_part2_skel
  iintro ⟨H10, %hS⟩
  have htr := trips_t3 i
  have hE : ExpBefore (arg10.view.read (Elt F) f) (i 1).val m S 0 := ⟨fun j hj _ => absurd hj (by omega), fun j _ hj => hS j hj⟩
  let L := inv_t4 c i arg2 harg2 arg3 harg3 arg4 harg4 arg5 harg5 arg6 harg6 arg7 harg7 arg8 harg8 arg9 harg9 arg10 harg10 arg1 v964 v967 v998 m m S
  sl_exec
  have h5 : Scf.trips (k1_t5_loop i).lb (k1_t5_loop i).ub (k1_t5_loop i).st = 0 := trips_t5 i
  have h4 : Scf.trips (k1_t4_loop i).lb (k1_t4_loop i).ub (k1_t4_loop i).st = (i 1).val + 1 := trips_t4 i
  rw [h5, h4]
  rw [h4] at hL2
  simp only [st_k1_t5]
  sl_step
  isplitl [H10]
  · iexists _
    isplitl [H10]; · iexact H10
    ipureintro
    exact fun j hj => hL2.1 j (by omega) hj
  isplitl []; · ipureintro; exact congrArg k1_pay22 rfl
  isplitl []; · ipureintro; dsimp only
  isplitl []; · ipureintro; exact congrArg k1_pay24 rfl
  ipureintro; rfl

/-- The first head's output and the operands of the second head's scores. -/
theorem spec_part3 (arg1 : BitVec 32) (t : Fin k1_t1_loop.trips) (arg11 : BitVec 32) (u : FVec F S1x256 .f32) (v1034 w₁ w₂ : IVec S1x256 32)
    (E : ℕ → Vec F S256x256 .f32) (f : BufTy.Contents (Elt F) arg10.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} f) ∗ ⌜Scored (arg10.view.read (Elt F) f) (i 1).val E⌝) : sProp 𝕄G) ⊢
    wp frame (wpE (defs₀ (F := F)) Variants.none c none) Set.univ (k1_part3 i arg2 harg2 arg3 harg3 arg4 harg4 arg5 harg5 arg6 harg6 arg7 harg7 arg8 harg8 arg9 harg9 arg10 harg10 arg1 t arg11 u v1034 w₁ w₂) (fun r => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} f) ∗ ⌜r.1 = k1_pay30 v1034 (outAcc (arg5.view.read (Elt F) X5) u w₁ w₂ E ((i 1).val + 1))⌝ ∗ ⌜r.2.1 = k1_pay31 (qcHead (arg7.view.read (Elt F) X7) (2 * t.val + 1))⌝ ∗ ⌜r.2.2.1 = k1_pay32 (qsHead (arg9.view.read (Elt F) X9) (2 * t.val + 1))⌝ ∗ ⌜r.2.2.2.1 = k1_pay33⌝ ∗ ⌜r.2.2.2.2.2.1 = k1_pay34 (qcHead (arg7.view.read (Elt F) X7) (2 * t.val + 1)) (klTile (arg3.view.read (Elt F) X3) (i 1).val)⌝ ∗ ⌜r.2.2.2.2.2.2 = k1_pay35 (kbTile (arg4.view.read (Elt F) X4) (i 1).val)⌝)) := by
  have ht : t.val < 8 := t.isLt.trans_eq trips_t1
  have hq := qi_lt i
  rw [k1_part3_eq_skeleton]
  unfold k1_part3_skel
  iintro ⟨H3, H4, H5, H7, H9, H10, %hE⟩
  let L := inv_t6 c i arg2 harg2 arg3 harg3 arg4 harg4 arg5 harg5 arg6 harg6 arg7 harg7 arg8 harg8 arg9 harg9 arg10 harg10 X5 arg1 t arg11 u v1034 w₁ w₂ f E hE
  sl_exec
  rw [load_q arg7 X7 (by omega) (off18_eq t), load_qs arg9 X9 (by omega) (off19_eq t), load_kl arg3 X3 hq (off3_eq i), load_kb arg4 X4 hq (off4_eq i)]
  have h6 : Scf.trips (k1_t6_loop i).lb (k1_t6_loop i).ub (k1_t6_loop i).st = (i 1).val + 1 := trips_t6 i
  have h7 : Scf.trips (k1_t7_loop i).lb (k1_t7_loop i).ub (k1_t7_loop i).st = 0 := trips_t7 i
  rw [h6, h7]
  simp only [st_k1_t7]
  sl_step
  isplitl [H3]; · iexact H3
  isplitl [H4]; · iexact H4
  isplitl [H5]; · iexact H5
  isplitl [H7]; · iexact H7
  isplitl [H9]; · iexact H9
  isplitl [H10]; · iexact H10
  isplitl []; · ipureintro; exact congrArg (k1_pay30 _) rfl
  isplitl []; · ipureintro; rfl
  isplitl []; · ipureintro; rfl
  isplitl []; · ipureintro; rfl
  isplitl []; · ipureintro; rfl
  ipureintro; rfl

/-- The scores and the exponentials of the second head. -/
theorem spec_part4 (arg1 v1069 : BitVec 32) (q : Vec F S1x1x64x256 .fp8e4m3) (s : Vec F S1x1x256 .f32) (f : BufTy.Contents (Elt F) arg10.view.ty) :
    (iprop((arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} f)) : sProp 𝕄G) ⊢
    wp frame (wpE (defs₀ (F := F)) Variants.none c none) Set.univ (k1_part4 i arg2 harg2 arg3 harg3 arg4 harg4 arg5 harg5 arg6 harg6 arg7 harg7 arg8 harg8 arg9 harg9 arg10 harg10 arg1 (k1_pay31 q) (k1_pay32 s) k1_pay33 v1069 (k1_pay34 q (klTile (arg3.view.read (Elt F) X3) (i 1).val)) (k1_pay35 (kbTile (arg4.view.read (Elt F) X4) (i 1).val))) (fun r => iprop((arg3.view.loc (c : Thread nD τ) ↦[arg3.view.set]{fullShare} X3) ∗ (arg4.view.loc (c : Thread nD τ) ↦[arg4.view.set]{fullShare} X4) ∗ (∃ f', (arg10.view.loc (c : Thread nD τ) ↦[arg10.view.set]{fullShare} f') ∗ ⌜Scored (arg10.view.read (Elt F) f') (i 1).val (headExp q s (arg3.view.read (Elt F) X3) (arg4.view.read (Elt F) X4) (i 1).val)⌝) ∗ ⌜r.1 = k1_pay53 (headSum q s (arg3.view.read (Elt F) X3) (arg4.view.read (Elt F) X4) (i 1).val)⌝ ∗ ⌜r.2.1 = k1_pay54 (headSum q s (arg3.view.read (Elt F) X3) (arg4.view.read (Elt F) X4) (i 1).val)⌝ ∗ ⌜r.2.2.1 = iota .tc S256x256 32 [0] iota_S256x256_d0_w32⌝ ∗ ⌜r.2.2.2 = k1_pay55⌝)) := by
  have hq := qi_lt i
  rw [k1_part4_eq_skeleton]
  unfold k1_part4_skel
  iintro ⟨H3, H4, H10⟩
  have hD : ∀ j, j < 0 ∨ j = (i 1).val → TileAt (arg10.view.read (Elt F) (arg10.view.writes (Elt F) f
      [⟨Rect.unit (s := S8192x256) (k1_off5 i) S256x256.size (k1_off5_inb i),
        k1_pay37 (k1_pay32 s) (k1_pay34 q (klTile (arg3.view.read (Elt F) X3) (i 1).val)) (k1_pay35 (kbTile (arg4.view.read (Elt F) X4) (i 1).val))⟩])) j
      (scoreTile q s (arg3.view.read (Elt F) X3) (arg4.view.read (Elt F) X4) (i 1).val j) := by
    intro j hj
    obtain rfl : j = (i 1).val := by omega
    have hs : scoreTile q s (arg3.view.read (Elt F) X3) (arg4.view.read (Elt F) X4) (i 1).val (i 1).val = k1_pay6 q s (klTile (arg3.view.read (Elt F) X3) (i 1).val) (kbTile (arg4.view.read (Elt F) X4) (i 1).val) := by
      unfold scoreTile; rw [if_pos rfl]
    rw [hs]
    exact store_tile arg10 f hq (off5_eq i) _ []
  set_option sl_exec.maxSteps 2 in sl_exec
  sl_for (fun k acc => iprop((arg3.view.loc (c : Thread nD τ) ↦[arg3.view.set]{fullShare} X3) ∗ (arg4.view.loc (c : Thread nD τ) ↦[arg4.view.set]{fullShare} X4) ∗
    (∃ f, (arg10.view.loc (c : Thread nD τ) ↦[arg10.view.set]{fullShare} f) ∗ ⌜∀ j, j < k ∨ j = (i 1).val → TileAt (arg10.view.read (Elt F) f) j (scoreTile q s (arg3.view.read (Elt F) X3) (arg4.view.read (Elt F) X4) (i 1).val j)⌝)
    ∗ ⌜acc = maxAcc q s (arg3.view.read (Elt F) X3) (arg4.view.read (Elt F) X4) (i 1).val k⌝)) $$ [H3 H4 H10]
  case region => exact (inv_t8 c i arg2 harg2 arg3 harg3 arg4 harg4 arg5 harg5 arg6 harg6 arg7 harg7 arg8 harg8 arg9 harg9 arg10 harg10 X3 X4 arg1 v1069 q s).step
  · isplitl [H3]; · iexact H3
    isplitl [H4]; · iexact H4
    isplitl [H10]
    · iexists _
      isplitl [H10]; · iexact H10
      ipureintro; exact hD
    ipureintro; rfl
  iintro %acc ⟨H3, H4, ⟨%f1, H10, %hf1⟩, %hacc⟩
  have h8 : Scf.trips (k1_t8_loop i).lb (k1_t8_loop i).ub (k1_t8_loop i).st = (i 1).val := trips_t8 i
  rw [h8] at hf1 hacc
  subst hacc
  sl_for0 (trips_t9 i)
  have hE : ExpBefore (arg10.view.read (Elt F) f1) (i 1).val (headMax q s (arg3.view.read (Elt F) X3) (arg4.view.read (Elt F) X4) (i 1).val) (scoreTile q s (arg3.view.read (Elt F) X3) (arg4.view.read (Elt F) X4) (i 1).val) 0 :=
    ⟨fun j hj _ => absurd hj (by omega), fun j _ hj => hf1 j (by omega)⟩
  let L := inv_t10 c i arg2 harg2 arg3 harg3 arg4 harg4 arg5 harg5 arg6 harg6 arg7 harg7 arg8 harg8 arg9 harg9 arg10 harg10 arg1 (k1_pay31 q) (k1_pay32 s) k1_pay33 v1069 (k1_pay34 q (klTile (arg3.view.read (Elt F) X3) (i 1).val)) (k1_pay35 (kbTile (arg4.view.read (Elt F) X4) (i 1).val))
    (headMax q s (arg3.view.read (Elt F) X3) (arg4.view.read (Elt F) X4) (i 1).val) (scoreTile q s (arg3.view.read (Elt F) X3) (arg4.view.read (Elt F) X4) (i 1).val)
  sl_exec
  have h10 : Scf.trips (k1_t10_loop i).lb (k1_t10_loop i).ub (k1_t10_loop i).st = (i 1).val + 1 := trips_t10 i
  have h11 : Scf.trips (k1_t11_loop i).lb (k1_t11_loop i).ub (k1_t11_loop i).st = 0 := trips_t11 i
  rw [h10] at hL1
  rw [h10, h11]
  simp only [st_k1_t11]
  sl_step
  isplitl [H3]; · iexact H3
  isplitl [H4]; · iexact H4
  isplitl [H10]
  · iexists _
    isplitl [H10]; · iexact H10
    ipureintro
    exact fun j hj => hL1.1 j (by omega) hj
  isplitl []; · ipureintro; exact congrArg k1_pay53 rfl
  isplitl []; · ipureintro; exact congrArg k1_pay54 rfl
  isplitl []; · ipureintro; rfl
  ipureintro; rfl

/-- The second head's output, beside the first's. -/
theorem spec_part5 (arg1 arg11 : BitVec 32) (v1058 : FVec F S64x256 .f32) (l : FVec F S8x256 .f32)
    (E : ℕ → Vec F S256x256 .f32) (f : BufTy.Contents (Elt F) arg10.view.ty) :
    (iprop((arg5.view.loc (c : Thread nD τ) ↦[arg5.view.set]{fullShare} X5) ∗ (arg10.view.loc (c : Thread nD τ) ↦[arg10.view.set]{fullShare} f) ∗ ⌜Scored (arg10.view.read (Elt F) f) (i 1).val E⌝) : sProp 𝕄G) ⊢
    wp frame (wpE (defs₀ (F := F)) Variants.none c none) Set.univ (k1_part5 i arg2 harg2 arg3 harg3 arg4 harg4 arg5 harg5 arg6 harg6 arg7 harg7 arg8 harg8 arg9 harg9 arg10 harg10 arg1 arg11 v1058 (k1_pay53 l) (k1_pay54 l) (iota .tc S256x256 32 [0] iota_S256x256_d0_w32) k1_pay55) (fun r => iprop((arg5.view.loc (c : Thread nD τ) ↦[arg5.view.set]{fullShare} X5) ∗ (arg10.view.loc (c : Thread nD τ) ↦[arg10.view.set]{fullShare} f) ∗ ⌜r.1 = k1_pay61 v1058 (k1_pay54 l) (iota .tc S256x256 32 [0] iota_S256x256_d0_w32) k1_pay55 (outAcc (arg5.view.read (Elt F) X5) (k1_pay22 l) (k1_pay24 l) k1_pay25 E ((i 1).val + 1))⌝)) := by
  have hq := qi_lt i
  rw [k1_part5_eq_skeleton]
  unfold k1_part5_skel
  iintro ⟨H5, H10, %hE⟩
  let L := inv_t12 c i arg2 harg2 arg3 harg3 arg4 harg4 arg5 harg5 arg6 harg6 arg7 harg7 arg8 harg8 arg9 harg9 arg10 harg10 X5 arg1 arg11 v1058 l f E hE
  sl_exec
  have h6 : Scf.trips (k1_t12_loop i).lb (k1_t12_loop i).ub (k1_t12_loop i).st = (i 1).val + 1 := trips_t12 i
  have h7 : Scf.trips (k1_t13_loop i).lb (k1_t13_loop i).ub (k1_t13_loop i).st = 0 := trips_t13 i
  rw [h6, h7]
  simp only [st_k1_t13]
  sl_step
  isplitl [H5]; · iexact H5
  isplitl [H10]; · iexact H10
  ipureintro; rfl

end

end Cert.Proof.Kernel
-- ==== Proof.K.Pairs.lean ====
module

public import proofs.«01_k».proof.Proof.Gen.Kernel.Loops
public import proofs.«01_k».proof.Proof.K.Offsets
public import proofs.«01_k».proof.Proof.K.Tiles
public import proofs.«01_k».proof.Proof.K.HeadParts
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! # The loop over the pairs of heads -/

section
variable (qc : Vec F S1x16x64x256 .fp8e4m3) (qs : Vec F S16x1x256 .f32) (kl : Vec F S1x8192x128 .fp8e4m3) (kb : Vec F S1x8192x128 .f32)
  (vd : Vec F S1x64x8192 .bf16) (qi : ℕ)

/-- The output of pair `t`: heads `2 t` and `2 t + 1`, side by side. -/
def pairOut (t : ℕ) : Vec F S1x256x128 .bf16 :=
  k1_pay2 (k1_pay61 (headOut (qcHead qc (2 * t)) (qsHead qs (2 * t)) kl kb vd qi)
    (k1_pay54 (headSum (qcHead qc (2 * t + 1)) (qsHead qs (2 * t + 1)) kl kb qi)) (iota .tc S256x256 32 [0] iota_S256x256_d0_w32) k1_pay55
    (headProd (qcHead qc (2 * t + 1)) (qsHead qs (2 * t + 1)) kl kb vd qi))

/-- The index of a pair's block a coordinate of the output falls on. -/
def pairAt (y : S1x256x1024.Idx) : S1x256x128.Idx := fun a => ⟨if a.val = 2 then (y a).val % 128 else (y a).val, by
  fin_cases a
  · exact (y 0).isLt
  · exact (y 1).isLt
  · exact Nat.mod_lt _ (by show 0 < 128; omega)⟩

/-- The output of a query tile. -/
def outVal : Vec F S1x256x1024 .bf16 := fun y => pairOut qc qs kl kb vd qi ((y 2).val / 128) (pairAt y)

end

/-- The output's columns of the first `k` pairs are written. -/
def Written (z G : Vec F S1x256x1024 .bf16) (k : ℕ) : Prop := ∀ y : S1x256x1024.Idx, (y 2).val / 128 < k → z y = G y

section
variable (c : Dev nD) (i : grid1.Coords) (arg2 : Memref sig .tc .vmem S1x256x1024 .bf16) (harg2 : arg2.IsWhole) (arg3 : Memref sig .tc .vmem S1x8192x128 .fp8e4m3) (harg3 : arg3.IsWhole) (arg4 : Memref sig .tc .vmem S1x8192x128 .f32) (harg4 : arg4.IsWhole) (arg5 : Memref sig .tc .vmem S1x64x8192 .bf16) (harg5 : arg5.IsWhole) (arg6 : Memref sig .tc .vmem S1x256x1024 .bf16) (harg6 : arg6.IsWhole) (arg7 : Memref sig .tc .vmem S1x16x64x256 .fp8e4m3) (harg7 : arg7.IsWhole) (arg8 : Memref sig .tc .vmem S1x16x256 .f32) (harg8 : arg8.IsWhole) (arg9 : Memref sig .tc .vmem S16x1x256 .f32) (harg9 : arg9.IsWhole) (arg10 : Memref sig .tc .vmem S8192x256 .f32) (harg10 : arg10.IsWhole)
  (X3 : BufTy.Contents (Elt F) arg3.view.ty) (X4 : BufTy.Contents (Elt F) arg4.view.ty) (X5 : BufTy.Contents (Elt F) arg5.view.ty) (X7 : BufTy.Contents (Elt F) arg7.view.ty) (X9 : BufTy.Contents (Elt F) arg9.view.ty)

theorem store_pair (f : BufTy.Contents (Elt F) arg6.view.ty) (G : Vec F S1x256x1024 .bf16) (t : ℕ) {off : Fin 3 → ℕ} {inb : ∀ a, off a + S1x256x128.size a ≤ S1x256x1024.size a} (hoff : off = ![0, 0, 128 * t])
    (w : Vec F S1x256x128 .bf16) (hw : ∀ y : S1x256x1024.Idx, (y 2).val / 128 = t → G y = w (pairAt y)) (h : Written (arg6.view.read (Elt F) f) G t) :
    Written (arg6.view.read (Elt F) (arg6.view.writes (Elt F) f [⟨Rect.unit (s := S1x256x1024) off S1x256x128.size inb, w⟩])) G (t + 1) := by
  intro y hy
  rw [View.read_writes_cons_put arg6.view f inb w [] hoff]
  unfold VecWindow.put
  by_cases e : (y 2).val / 128 = t
  · have hin : ∀ a : Fin 3, (![0, 0, 128 * t] : Fin 3 → ℕ) a ≤ (y a).val ∧ (y a).val < (![0, 0, 128 * t] : Fin 3 → ℕ) a + S1x256x128.size a := by
      intro a; fin_cases a
      · exact ⟨Nat.zero_le _, by show (y 0).val < 0 + 1; have : (y 0).val < 1 := (y 0).isLt; omega⟩
      · exact ⟨Nat.zero_le _, by show (y 1).val < 0 + 256; have : (y 1).val < 256 := (y 1).isLt; omega⟩
      · exact ⟨by show 128 * t ≤ (y 2).val; omega, by show (y 2).val < 128 * t + 128; omega⟩
    rw [dif_pos hin, hw y e]
    congr 1
    funext a
    apply Fin.ext
    fin_cases a
    · show (y 0).val - 0 = (y 0).val; omega
    · show (y 1).val - 0 = (y 1).val; omega
    · show (y 2).val - 128 * t = (y 2).val % 128; omega
  · have hout : ¬ ∀ a : Fin 3, (![0, 0, 128 * t] : Fin 3 → ℕ) a ≤ (y a).val ∧ (y a).val < (![0, 0, 128 * t] : Fin 3 → ℕ) a + S1x256x128.size a := by
      intro hall
      have h2 := (hall 2).1
      have h2' : 128 * t ≤ (y 2).val := h2
      omega
    rw [dif_neg hout]
    exact h y (by omega)

set_option warn.classDefReducibility false in
/-- The loop over the pairs: before trip `k`, the columns of the first `k` pairs hold their heads' outputs. -/
def inv_t1 (arg1 : BitVec 32) :
    LoopInvTy_k1_t1 (F := F) Unit ℕ (UR sig nD τ) ℕ Variants.none c none Set.univ i arg2 harg2 arg3 harg3 arg4 harg4 arg5 harg5 arg6 harg6 arg7 harg7 arg8 harg8 arg9 harg9 arg10 harg10 arg1 where
  inv k _ := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg9.view.loc (c : Thread nD τ) ↦[arg9.view.set]{fullShare} X9) ∗ (∃ f, (arg10.view.loc (c : Thread nD τ) ↦[arg10.view.set]{fullShare} f)) ∗
    (∃ f, (arg6.view.loc (c : Thread nD τ) ↦[arg6.view.set]{fullShare} f) ∗ ⌜Written (arg6.view.read (Elt F) f) (outVal (arg7.view.read (Elt F) X7) (arg9.view.read (Elt F) X9) (arg3.view.read (Elt F) X3) (arg4.view.read (Elt F) X4) (arg5.view.read (Elt F) X5) (i 1).val) k⌝))
  step t _ := by
    have ht : t.val < 8 := t.isLt.trans_eq trips_t1
    unfold k1_t1_body
    iintro ⟨H3, H4, H5, H7, H9, ⟨%f10, H10⟩, ⟨%f6, H6, %hf6⟩⟩
    have hc1 := spec_part1 c i arg2 harg2 arg3 harg3 arg4 harg4 arg5 harg5 arg6 harg6 arg7 harg7 arg8 harg8 arg9 harg9 arg10 harg10 X3 X4 X7 X9
    have hc2 := fun a1 v1 v2 v3 f => spec_part2 c i arg2 harg2 arg3 harg3 arg4 harg4 arg5 harg5 arg6 harg6 arg7 harg7 arg8 harg8 arg9 harg9 arg10 harg10 a1 v1 v2 v3 (headMax (qcHead (arg7.view.read (Elt F) X7) (2 * t.val)) (qsHead (arg9.view.read (Elt F) X9) (2 * t.val)) (arg3.view.read (Elt F) X3) (arg4.view.read (Elt F) X4) (i 1).val) (scoreTile (qcHead (arg7.view.read (Elt F) X7) (2 * t.val)) (qsHead (arg9.view.read (Elt F) X9) (2 * t.val)) (arg3.view.read (Elt F) X3) (arg4.view.read (Elt F) X4) (i 1).val) f
    have hc3 := fun a1 t' a11 u v w1 w2 f => spec_part3 c i arg2 harg2 arg3 harg3 arg4 harg4 arg5 harg5 arg6 harg6 arg7 harg7 arg8 harg8 arg9 harg9 arg10 harg10 X3 X4 X5 X7 X9 a1 t' a11 u v w1 w2 (fun j => k1_pay17 (headMax (qcHead (arg7.view.read (Elt F) X7) (2 * t.val)) (qsHead (arg9.view.read (Elt F) X9) (2 * t.val)) (arg3.view.read (Elt F) X3) (arg4.view.read (Elt F) X4) (i 1).val) (scoreTile (qcHead (arg7.view.read (Elt F) X7) (2 * t.val)) (qsHead (arg9.view.read (Elt F) X9) (2 * t.val)) (arg3.view.read (Elt F) X3) (arg4.view.read (Elt F) X4) (i 1).val j)) f
    have hc4 := fun a1 v f => spec_part4 c i arg2 harg2 arg3 harg3 arg4 harg4 arg5 harg5 arg6 harg6 arg7 harg7 arg8 harg8 arg9 harg9 arg10 harg10 X3 X4 a1 v (qcHead (arg7.view.read (Elt F) X7) (2 * t.val + 1)) (qsHead (arg9.view.read (Elt F) X9) (2 * t.val + 1)) f
    have hc5 := fun a1 a11 v l f => spec_part5 c i arg2 harg2 arg3 harg3 arg4 harg4 arg5 harg5 arg6 harg6 arg7 harg7 arg8 harg8 arg9 harg9 arg10 harg10 X5 a1 a11 v l (headExp (qcHead (arg7.view.read (Elt F) X7) (2 * t.val + 1)) (qsHead (arg9.view.read (Elt F) X9) (2 * t.val + 1)) (arg3.view.read (Elt F) X3) (arg4.view.read (Elt F) X4) (i 1).val) f
    set_option sl_exec.stopBefore "k1_part2" in sl_exec
    dsimp only at hk1_part1_6 hk1_part1_7 hk1_part1_8
    subst hk1_part1_6 hk1_part1_7 hk1_part1_8
    set_option sl_exec.stopBefore "k1_part3" in sl_exec
    dsimp only at hk1_part2_2 hk1_part2_3 hk1_part2_4 hk1_part2_5
    subst hk1_part2_2 hk1_part2_3 hk1_part2_4 hk1_part2_5
    set_option sl_exec.stopBefore "k1_part4" in sl_exec
    dsimp only at hk1_part3_6 hk1_part3_7 hk1_part3_8 hk1_part3_9 hk1_part3_10 hk1_part3_11
    subst hk1_part3_6 hk1_part3_7 hk1_part3_8 hk1_part3_9 hk1_part3_10 hk1_part3_11
    set_option sl_exec.stopBefore "k1_part5" in sl_exec
    dsimp only at hk1_part4_4 hk1_part4_5 hk1_part4_6 hk1_part4_7
    subst hk1_part4_4 hk1_part4_5 hk1_part4_6 hk1_part4_7
    set_option sl_exec.maxSteps 1 in sl_exec
    dsimp only at hk1_part5_2
    subst hk1_part5_2
    sl_exec
    clear hc1 hc2 hc3 hc4 hc5
    sl_step
    isplitl [Hk1_part4_0]
    · iexact Hk1_part4_0
    isplitl [Hk1_part4_1]
    · iexact Hk1_part4_1
    isplitl [Hk1_part5_0]
    · iexact Hk1_part5_0
    isplitl [Hk1_part3_3]
    · iexact Hk1_part3_3
    isplitl [Hk1_part3_4]
    · iexact Hk1_part3_4
    isplitl [Hk1_part5_1]
    · iexists _; iexact Hk1_part5_1
    iexists _
    isplitl [H6]
    · iexact H6
    ipureintro
    refine store_pair arg6 f6 _ t.val (off32_eq t) _ ?_ hf6
    intro y e
    unfold outVal
    rw [e]
    rfl

end

end Cert.Proof.Kernel
-- ==== Proof.K.Part30.lean ====
module

public import proofs.«01_k».proof.Proof.Gen.Kernel.Loops
public import proofs.«01_k».proof.Proof.K.Offsets
public import proofs.«01_k».proof.Proof.K.Tiles
public import proofs.«01_k».proof.Proof.K.Quant
public import proofs.«01_k».proof.Proof.K.Pairs
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! # The attention kernel's body -/

section
variable (c : Dev nD) (i : grid1.Coords) (arg2 : Memref sig .tc .vmem S1x256x1024 .bf16) (harg2 : arg2.IsWhole) (arg3 : Memref sig .tc .vmem S1x8192x128 .fp8e4m3) (harg3 : arg3.IsWhole) (arg4 : Memref sig .tc .vmem S1x8192x128 .f32) (harg4 : arg4.IsWhole) (arg5 : Memref sig .tc .vmem S1x64x8192 .bf16) (harg5 : arg5.IsWhole) (arg6 : Memref sig .tc .vmem S1x256x1024 .bf16) (harg6 : arg6.IsWhole) (arg7 : Memref sig .tc .vmem S1x16x64x256 .fp8e4m3) (harg7 : arg7.IsWhole) (arg8 : Memref sig .tc .vmem S1x16x256 .f32) (harg8 : arg8.IsWhole) (arg9 : Memref sig .tc .vmem S16x1x256 .f32) (harg9 : arg9.IsWhole) (arg10 : Memref sig .tc .vmem S8192x256 .f32) (harg10 : arg10.IsWhole)

theorem lt16 (n : ℕ) (h : n < 16) (P : ℕ → Prop) (h0 : P 0) (h1 : P 1) (h2 : P 2) (h3 : P 3) (h4 : P 4) (h5 : P 5) (h6 : P 6) (h7 : P 7)
    (h8 : P 8) (h9 : P 9) (h10 : P 10) (h11 : P 11) (h12 : P 12) (h13 : P 13) (h14 : P 14) (h15 : P 15) : P n := by
  interval_cases n <;> assumption

set_option maxHeartbeats 4000000 in
/-- The quantisation of the query tile, but for the last head's factor. -/
theorem spec_part30 (X2 : BufTy.Contents (Elt F) arg2.view.ty) (f7 : BufTy.Contents (Elt F) arg7.view.ty) (f8 : BufTy.Contents (Elt F) arg8.view.ty) (f9 : BufTy.Contents (Elt F) arg9.view.ty) :
    (iprop((arg2.view.loc (c : Thread nD τ) ↦[arg2.view.set]{fullShare} X2) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G) ⊢
    wp frame (wpE (defs₀ (F := F)) Variants.none c none) Set.univ (k1_part30 i arg2 harg2 arg3 harg3 arg4 harg4 arg5 harg5 arg6 harg6 arg7 harg7 arg8 harg8 arg9 harg9 arg10 harg10) (fun r => iprop((arg2.view.loc (c : Thread nD τ) ↦[arg2.view.set]{fullShare} X2) ∗ (∃ f', (arg7.view.loc (c : Thread nD τ) ↦[arg7.view.set]{fullShare} f') ∗ ⌜arg7.view.read (Elt F) f' = codesVal (arg2.view.read (Elt F) X2)⌝)
      ∗ (∃ f', (arg8.view.loc (c : Thread nD τ) ↦[arg8.view.set]{fullShare} f') ∗ ⌜arg8.view.read (Elt F) f' = scaleVal (arg2.view.read (Elt F) X2)⌝)
      ∗ (∃ f', (arg9.view.loc (c : Thread nD τ) ↦[arg9.view.set]{fullShare} f') ∗ ⌜arg9.view.read (Elt F) (arg9.view.writes (Elt F) f' [⟨Rect.unit (s := S16x1x256) ![15, 0, 0] S1x1x256.size inb_S16x1x256_S1x1x256_15_0_0, k1_pay1 r.2⟩]) = factorVal (arg2.view.read (Elt F) X2)⌝)
      ∗ ⌜r.1 = BitVec.ofNat 32 (i 1).val⌝)) := by
  rw [k1_part30_eq_skeleton]; unfold k1_part30_skel
  simp only [k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton]
  iintro ⟨H2, H7, H8, H9⟩
  sl_exec
  sl_step
  isplitl [H2]
  · iexact H2
  isplitl [H7]
  · iexists _
    isplitl [H7]
    · iexact H7
    ipureintro
    refine read_writes_eq_of _ _ _ _ ?_ ?_
    · intro y
      refine lt16 (y 1).val (y 1).isLt (fun n => (y 1).val = n → _) ?_ ?_ ?_ ?_ ?_ ?_ ?_ ?_ ?_ ?_ ?_ ?_ ?_ ?_ ?_ ?_ rfl
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_codes y 0 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_codes y 1 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_codes y 2 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_codes y 3 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_codes y 4 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_codes y 5 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_codes y 6 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_codes y 7 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_codes y 8 e (by decide)⟩
      · intro e; exact ⟨_, List.mem_cons_of_mem _ (List.mem_cons_of_mem _ (List.mem_cons_of_mem _ (List.mem_cons_of_mem _ (List.mem_cons_of_mem _ (List.mem_cons_of_mem _ (List.mem_cons_self)))))), mem_codes y 9 e (by decide)⟩
      · intro e; exact ⟨_, List.mem_cons_of_mem _ (List.mem_cons_of_mem _ (List.mem_cons_of_mem _ (List.mem_cons_of_mem _ (List.mem_cons_of_mem _ (List.mem_cons_self))))), mem_codes y 10 e (by decide)⟩
      · intro e; exact ⟨_, List.mem_cons_of_mem _ (List.mem_cons_of_mem _ (List.mem_cons_of_mem _ (List.mem_cons_of_mem _ (List.mem_cons_self)))), mem_codes y 11 e (by decide)⟩
      · intro e; exact ⟨_, List.mem_cons_of_mem _ (List.mem_cons_of_mem _ (List.mem_cons_of_mem _ (List.mem_cons_self))), mem_codes y 12 e (by decide)⟩
      · intro e; exact ⟨_, List.mem_cons_of_mem _ (List.mem_cons_of_mem _ (List.mem_cons_self)), mem_codes y 13 e (by decide)⟩
      · intro e; exact ⟨_, List.mem_cons_of_mem _ (List.mem_cons_self), mem_codes y 14 e (by decide)⟩
      · intro e; exact ⟨_, List.mem_cons_self, mem_codes y 15 e (by decide)⟩
    · simp only [List.forall_mem_cons]
      refine ⟨?_, ?_, ?_, ?_, ?_, ?_, ?_, ?_, ?_, ?_, ?_, ?_, ?_, ?_, ?_, ?_, fun _ h => absurd h List.not_mem_nil⟩
      all_goals (intro z; refine Eq.trans ?_ (codesVal_emb _ _ _ z).symm; refine congrFun ?_ z; rfl)
  isplitl [H8]
  · iexists _
    isplitl [H8]
    · iexact H8
    ipureintro
    refine read_writes_eq_of _ _ _ _ ?_ ?_
    · intro y
      refine lt16 (y 1).val (y 1).isLt (fun n => (y 1).val = n → _) ?_ ?_ ?_ ?_ ?_ ?_ ?_ ?_ ?_ ?_ ?_ ?_ ?_ ?_ ?_ ?_ rfl
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_scale y 0 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_scale y 1 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_scale y 2 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_scale y 3 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_scale y 4 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_scale y 5 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_scale y 6 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_scale y 7 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_scale y 8 e (by decide)⟩
      · intro e; exact ⟨_, List.mem_cons_of_mem _ (List.mem_cons_of_mem _ (List.mem_cons_of_mem _ (List.mem_cons_of_mem _ (List.mem_cons_of_mem _ (List.mem_cons_of_mem _ (List.mem_cons_self)))))), mem_scale y 9 e (by decide)⟩
      · intro e; exact ⟨_, List.mem_cons_of_mem _ (List.mem_cons_of_mem _ (List.mem_cons_of_mem _ (List.mem_cons_of_mem _ (List.mem_cons_of_mem _ (List.mem_cons_self))))), mem_scale y 10 e (by decide)⟩
      · intro e; exact ⟨_, List.mem_cons_of_mem _ (List.mem_cons_of_mem _ (List.mem_cons_of_mem _ (List.mem_cons_of_mem _ (List.mem_cons_self)))), mem_scale y 11 e (by decide)⟩
      · intro e; exact ⟨_, List.mem_cons_of_mem _ (List.mem_cons_of_mem _ (List.mem_cons_of_mem _ (List.mem_cons_self))), mem_scale y 12 e (by decide)⟩
      · intro e; exact ⟨_, List.mem_cons_of_mem _ (List.mem_cons_of_mem _ (List.mem_cons_self)), mem_scale y 13 e (by decide)⟩
      · intro e; exact ⟨_, List.mem_cons_of_mem _ (List.mem_cons_self), mem_scale y 14 e (by decide)⟩
      · intro e; exact ⟨_, List.mem_cons_self, mem_scale y 15 e (by decide)⟩
    · simp only [List.forall_mem_cons]
      refine ⟨?_, ?_, ?_, ?_, ?_, ?_, ?_, ?_, ?_, ?_, ?_, ?_, ?_, ?_, ?_, ?_, fun _ h => absurd h List.not_mem_nil⟩
      all_goals (intro z; refine Eq.trans ?_ (scaleVal_emb _ _ _ z).symm; refine congrFun ?_ z; rfl)
  isplitl [H9]
  · iexists _
    isplitl [H9]
    · iexact H9
    ipureintro
    refine read_writes_eq_of arg9.view f9 _ (_ :: _) ?_ ?_
    · intro y
      refine lt16 (y 0).val (y 0).isLt (fun n => (y 0).val = n → _) ?_ ?_ ?_ ?_ ?_ ?_ ?_ ?_ ?_ ?_ ?_ ?_ ?_ ?_ ?_ ?_ rfl
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_factor y 0 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_factor y 1 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_factor y 2 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_factor y 3 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_factor y 4 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_factor y 5 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_factor y 6 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_factor y 7 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_factor y 8 e (by decide)⟩
      · intro e; exact ⟨_, List.mem_cons_of_mem _ (List.mem_cons_of_mem _ (List.mem_cons_of_mem _ (List.mem_cons_of_mem _ (List.mem_cons_of_mem _ (List.mem_cons_of_mem _ (List.mem_cons_self)))))), mem_factor y 9 e (by decide)⟩
      · intro e; exact ⟨_, List.mem_cons_of_mem _ (List.mem_cons_of_mem _ (List.mem_cons_of_mem _ (List.mem_cons_of_mem _ (List.mem_cons_of_mem _ (List.mem_cons_self))))), mem_factor y 10 e (by decide)⟩
      · intro e; exact ⟨_, List.mem_cons_of_mem _ (List.mem_cons_of_mem _ (List.mem_cons_of_mem _ (List.mem_cons_of_mem _ (List.mem_cons_self)))), mem_factor y 11 e (by decide)⟩
      · intro e; exact ⟨_, List.mem_cons_of_mem _ (List.mem_cons_of_mem _ (List.mem_cons_of_mem _ (List.mem_cons_self))), mem_factor y 12 e (by decide)⟩
      · intro e; exact ⟨_, List.mem_cons_of_mem _ (List.mem_cons_of_mem _ (List.mem_cons_self)), mem_factor y 13 e (by decide)⟩
      · intro e; exact ⟨_, List.mem_cons_of_mem _ (List.mem_cons_self), mem_factor y 14 e (by decide)⟩
      · intro e; exact ⟨_, List.mem_cons_self, mem_factor y 15 e (by decide)⟩
    · simp only [List.forall_mem_cons]
      refine ⟨?_, ?_, ?_, ?_, ?_, ?_, ?_, ?_, ?_, ?_, ?_, ?_, ?_, ?_, ?_, ?_, fun _ h => absurd h List.not_mem_nil⟩
      all_goals (intro z; refine Eq.trans ?_ (factorVal_emb _ _ _ z).symm; refine congrFun ?_ z; rfl)
  ipureintro
  rfl

end

end Cert.Proof.Kernel
-- ==== Proof.K.Body1.lean ====
module

public import proofs.«01_k».proof.Proof.Gen.Kernel.Loops
public import proofs.«01_k».proof.Proof.K.Offsets
public import proofs.«01_k».proof.Proof.K.Tiles
public import proofs.«01_k».proof.Proof.K.Part30
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! # The attention kernel's body -/

section
variable (c : Dev nD) (i : grid1.Coords) (arg2 : Memref sig .tc .vmem S1x256x1024 .bf16) (harg2 : arg2.IsWhole) (arg3 : Memref sig .tc .vmem S1x8192x128 .fp8e4m3) (harg3 : arg3.IsWhole) (arg4 : Memref sig .tc .vmem S1x8192x128 .f32) (harg4 : arg4.IsWhole) (arg5 : Memref sig .tc .vmem S1x64x8192 .bf16) (harg5 : arg5.IsWhole) (arg6 : Memref sig .tc .vmem S1x256x1024 .bf16) (harg6 : arg6.IsWhole) (arg7 : Memref sig .tc .vmem S1x16x64x256 .fp8e4m3) (harg7 : arg7.IsWhole) (arg8 : Memref sig .tc .vmem S1x16x256 .f32) (harg8 : arg8.IsWhole) (arg9 : Memref sig .tc .vmem S16x1x256 .f32) (harg9 : arg9.IsWhole) (arg10 : Memref sig .tc .vmem S8192x256 .f32) (harg10 : arg10.IsWhole)

theorem written_all (z G : Vec F S1x256x1024 .bf16) (h : Written z G k1_t1_loop.trips) : z = G := by
  funext y
  refine h y ?_
  have h2 : (y 2).val < 1024 := (y 2).isLt
  rw [trips_t1]
  omega

set_option maxHeartbeats 4000000 in
/-- The body of the attention kernel: from the query tile and the batch's keys and values, the output, the codes and the scales. -/
theorem sound_kernel1 (x : Vec F S1x256x1024 .bf16) (kl : Vec F S1x8192x128 .fp8e4m3) (kb : Vec F S1x8192x128 .f32) (vd : Vec F S1x64x8192 .bf16) (K : PUnit → sProp 𝕄G) :
    (iprop(owns (c : Thread nD τ) arg2 fullShare x ∗ owns (c : Thread nD τ) arg3 fullShare kl ∗ owns (c : Thread nD τ) arg4 fullShare kb ∗ owns (c : Thread nD τ) arg5 fullShare vd ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg2 fullShare x ∗ owns (c : Thread nD τ) arg3 fullShare kl ∗ owns (c : Thread nD τ) arg4 fullShare kb ∗ owns (c : Thread nD τ) arg5 fullShare vd ∗ owns (c : Thread nD τ) arg6 fullShare (outVal (codesVal x) (factorVal x) kl kb vd (i 1).val) ∗ owns (c : Thread nD τ) arg7 fullShare (codesVal x) ∗ owns (c : Thread nD τ) arg8 fullShare (scaleVal x) ∗ (∃ d, owns (c : Thread nD τ) arg9 fullShare d) ∗ (∃ d, owns (c : Thread nD τ) arg10 fullShare d)) -∗ K ⟨⟩)) : sProp 𝕄G)
    ⊢ wp frame (wpE (defs₀ (F := F)) Variants.none c none) Set.univ (cc1_attention i arg2 harg2 arg3 harg3 arg4 harg4 arg5 harg5 arg6 harg6 arg7 harg7 arg8 harg8 arg9 harg9 arg10 harg10) K := by
  rw [cc1_attention_eq_skeleton (F := F)]; unfold cc1_attention_skel
  have hc := spec_part30 (F := F) c i arg2 harg2 arg3 harg3 arg4 harg4 arg5 harg5 arg6 harg6 arg7 harg7 arg8 harg8 arg9 harg9 arg10 harg10
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  sl_exec
  dsimp only at hk1_part30_6 hk1_part30_7
  have h0 : Written (arg6.view.read (Elt F) f6) (outVal (arg7.view.read (Elt F) f'k1_part30_0) (arg9.view.read (Elt F) (arg9.view.writes (Elt F) f'k1_part30_2
      [⟨Rect.unit (s := S16x1x256) ![15, 0, 0] S1x1x256.size inb_S16x1x256_S1x1x256_15_0_0, k1_pay1 v956⟩])) (arg3.view.read (Elt F) f3) (arg4.view.read (Elt F) f4) (arg5.view.read (Elt F) f5) (i 1).val) 0 := fun y hy => absurd hy (Nat.not_lt_zero _)
  let L := inv_t1 c i arg2 harg2 arg3 harg3 arg4 harg4 arg5 harg5 arg6 harg6 arg7 harg7 arg8 harg8 arg9 harg9 arg10 harg10 f3 f4 f5 f'k1_part30_0 (arg9.view.writes (Elt F) f'k1_part30_2
      [⟨Rect.unit (s := S16x1x256) ![15, 0, 0] S1x1x256.size inb_S16x1x256_S1x1x256_15_0_0, k1_pay1 v956⟩]) arg1
  sl_exec
  sl_step
  have e6 := written_all _ _ hL7
  rw [hk1_part30_2, hf3, hf4, hf5] at e6
  have e9 := congrArg (fun z => outVal (codesVal (arg2.view.read (Elt F) f2)) z kl kb vd (i 1).val) hk1_part30_6
  rw [hf2] at e6 e9 hk1_part30_2 hk1_part30_4
  iapply Hk
  isplitl [Hk1_part30_0]
  · iexists _; isplitr
    swap; · iexact Hk1_part30_0
    ipureintro
    exact hf2
  isplitl [H3]
  · iexists _; isplitr
    swap; · iexact H3
    ipureintro
    exact hf3
  isplitl [H4]
  · iexists _; isplitr
    swap; · iexact H4
    ipureintro
    exact hf4
  isplitl [H5]
  · iexists _; isplitr
    swap; · iexact H5
    ipureintro
    exact hf5
  isplitl [H6]
  · iexists _; isplitr
    swap; · iexact H6
    ipureintro
    exact e6.trans e9
  isplitl [Hk1_part30_1]
  · iexists _; isplitr
    swap; · iexact Hk1_part30_1
    ipureintro
    exact hk1_part30_2
  isplitl [Hk1_part30_3]
  · iexists _; isplitr
    swap; · iexact Hk1_part30_3
    ipureintro
    exact hk1_part30_4
  isplitl [Hk1_part30_5]
  · iexists _; iexists _; isplitr
    swap; · iexact Hk1_part30_5
    ipureintro; rfl
  iexists _; iexists _; isplitr
  swap; · iexact H10
  ipureintro; rfl

end

end Cert.Proof.Kernel
-- ==== Proof.K.Dats.lean ====
module

public import proofs.«01_k».proof.Proof.Gen.Kernel.Loops
public import proofs.«01_k».proof.Proof.K.Offsets
public import proofs.«01_k».proof.Proof.K.Tiles
public import proofs.«01_k».proof.Proof.K.Body0
public import proofs.«01_k».proof.Proof.K.Body1
public import proofs.«01_k».proof.Proof.Gen.Kernel.Points
public import proofs.«01_k».proof.Proof.Gen.Kernel.Launch
public import Idealize.ShloMosaic.Lib.Pipeline.Frame
public import Idealize.ShloMosaic.Lib.Pipeline.FrameBody
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Pipeline (Dat BodyObligation)

/-! # The two regions' proof data and body obligations -/

variable (W : Dev nD → Valuation τ sig (Elt F))

/-- Window `w`'s block at point `t` of region 0, as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- Region 0's proof data on core `c`, its arrays entered at `W`. -/
def dat0 (c : Dev nD) : Dat τ (Elt F) Unit ℕ (UR sig nD τ) ℕ cfg0 c where
  A w := W c (Pipeline.arrRef spec0 w)
  after w t := match w with
    | ⟨0, _⟩ => blk0 W c 0 t
    | ⟨1, _⟩ => blk0 W c 1 t
    | ⟨2, _⟩ => kcVal (blk0 W c 0 t)
    | ⟨3, _⟩ => ksVal (blk0 W c 0 t)
    | ⟨4, _⟩ => vcVal (blk0 W c 1 t)
    | ⟨5, _⟩ => vsVal (blk0 W c 1 t)
    | ⟨6, _⟩ => klVal (blk0 W c 0 t)
    | ⟨7, _⟩ => kbVal (blk0 W c 0 t)
    | ⟨8, _⟩ => vdVal (blk0 W c 1 t)
  Φ _ := Pipeline.ΦA spec0 c
  q _ := fullShare
  owed _ := 0

theorem A0_eq (c : Dev nD) (w : Fin cfg0.W) : (dat0 W c).A w = W c (Pipeline.arrRef spec0 w) := by dsimp only [dat0]
theorem after0_0 (c : Dev nD) (t : Fin cfg0.N) : (dat0 W c).after 0 t = blk0 W c 0 t := by dsimp only [dat0]
theorem after0_1 (c : Dev nD) (t : Fin cfg0.N) : (dat0 W c).after 1 t = blk0 W c 1 t := by dsimp only [dat0]
theorem after0_2 (c : Dev nD) (t : Fin cfg0.N) : (dat0 W c).after 2 t = kcVal (blk0 W c 0 t) := by dsimp only [dat0]
theorem after0_3 (c : Dev nD) (t : Fin cfg0.N) : (dat0 W c).after 3 t = ksVal (blk0 W c 0 t) := by dsimp only [dat0]
theorem after0_4 (c : Dev nD) (t : Fin cfg0.N) : (dat0 W c).after 4 t = vcVal (blk0 W c 1 t) := by dsimp only [dat0]
theorem after0_5 (c : Dev nD) (t : Fin cfg0.N) : (dat0 W c).after 5 t = vsVal (blk0 W c 1 t) := by dsimp only [dat0]
theorem after0_6 (c : Dev nD) (t : Fin cfg0.N) : (dat0 W c).after 6 t = klVal (blk0 W c 0 t) := by dsimp only [dat0]
theorem after0_7 (c : Dev nD) (t : Fin cfg0.N) : (dat0 W c).after 7 t = kbVal (blk0 W c 0 t) := by dsimp only [dat0]
theorem after0_8 (c : Dev nD) (t : Fin cfg0.N) : (dat0 W c).after 8 t = vdVal (blk0 W c 1 t) := by dsimp only [dat0]
theorem before0_0 (c : Dev nD) (t : Fin cfg0.N) (d) : (dat0 W c).before 0 t d = blk0 W c 0 t :=
  ((dat0 W c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 W c).before 1 t d = blk0 W c 1 t :=
  ((dat0 W c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)

/-- What the body of region 0 is called with at point `t`, -/
def pre0 (c : Dev nD) (t : Fin cfg0.N) : sProp 𝕄G :=
  iprop((dat0 W c).Φ t.castSucc ∗ (dat0 W c).owesAt () t.castSucc ∗ (∃ d, owns (c : Thread nD τ) (st0_0 t) fullShare ((dat0 W c).before 0 t d)) ∗ (∃ d, owns (c : Thread nD τ) (st0_1 t) fullShare ((dat0 W c).before 1 t d)) ∗ (∃ d, owns (c : Thread nD τ) (st0_2 t) fullShare ((dat0 W c).before 2 t d)) ∗ (∃ d, owns (c : Thread nD τ) (st0_3 t) fullShare ((dat0 W c).before 3 t d)) ∗ (∃ d, owns (c : Thread nD τ) (st0_4 t) fullShare ((dat0 W c).before 4 t d)) ∗ (∃ d, owns (c : Thread nD τ) (st0_5 t) fullShare ((dat0 W c).before 5 t d)) ∗ (∃ d, owns (c : Thread nD τ) (st0_6 t) fullShare ((dat0 W c).before 6 t d)) ∗ (∃ d, owns (c : Thread nD τ) (st0_7 t) fullShare ((dat0 W c).before 7 t d)) ∗ (∃ d, owns (c : Thread nD τ) (st0_8 t) fullShare ((dat0 W c).before 8 t d)))
/-- and what it returns. -/
def post0 (c : Dev nD) (t : Fin cfg0.N) : sProp 𝕄G :=
  iprop((dat0 W c).Φ t.succ ∗ (dat0 W c).owesAt () t.succ ∗ owns (c : Thread nD τ) (st0_0 t) fullShare ((dat0 W c).after 0 t) ∗ owns (c : Thread nD τ) (st0_1 t) fullShare ((dat0 W c).after 1 t) ∗ owns (c : Thread nD τ) (st0_2 t) fullShare ((dat0 W c).after 2 t) ∗ owns (c : Thread nD τ) (st0_3 t) fullShare ((dat0 W c).after 3 t) ∗ owns (c : Thread nD τ) (st0_4 t) fullShare ((dat0 W c).after 4 t) ∗ owns (c : Thread nD τ) (st0_5 t) fullShare ((dat0 W c).after 5 t) ∗ owns (c : Thread nD τ) (st0_6 t) fullShare ((dat0 W c).after 6 t) ∗ owns (c : Thread nD τ) (st0_7 t) fullShare ((dat0 W c).after 7 t) ∗ owns (c : Thread nD τ) (st0_8 t) fullShare ((dat0 W c).after 8 t))

theorem sound_body0 (c : Dev nD) (t : Fin cfg0.N) :
    pre0 W c t ⊢ wp frame (wpE (defs₀ (F := F)) Variants.none (c : Thread nD τ) none) Set.univ (bodyAt0 t) (fun _ => post0 W c t) := by
  unfold pre0 post0 bodyAt0
  simp only [before0_0, before0_1]
  rw [show (dat0 W c).Φ t.succ = (dat0 W c).Φ t.castSucc from rfl, show (dat0 W c).owesAt () t.succ = (dat0 W c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 (F := F) c _ _ _ _ _ _ _ _ _ _ _ _ _ _ _ _ _ _ _ (blk0 W c 0 t) (blk0 W c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row0 (t : Fin cfg0.N) :
    defs₀ (F := F) .tc cfg0.body (cfg0.bodyArgs t (cfg0.slots t)) = bodyAt0 t := by
  unfold defs₀; rw [Defs.onTc_tc]

/-- The body obligation of region 0. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

/-- Window `w`'s block at point `t` of region 1, as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- Region 1's proof data on core `c`, its arrays entered at `W`. -/
def dat1 (c : Dev nD) : Dat τ (Elt F) Unit ℕ (UR sig nD τ) ℕ cfg1 c where
  A w := W c (Pipeline.arrRef spec1 w)
  after w t := match w with
    | ⟨0, _⟩ => blk1 W c 0 t
    | ⟨1, _⟩ => blk1 W c 1 t
    | ⟨2, _⟩ => blk1 W c 2 t
    | ⟨3, _⟩ => blk1 W c 3 t
    | ⟨4, _⟩ => outVal (codesVal (blk1 W c 0 t)) (factorVal (blk1 W c 0 t)) (blk1 W c 1 t) (blk1 W c 2 t) (blk1 W c 3 t) (cfg1.grid.coords t 1).val
    | ⟨5, _⟩ => codesVal (blk1 W c 0 t)
    | ⟨6, _⟩ => scaleVal (blk1 W c 0 t)
  Φ _ := Pipeline.ΦA spec1 c
  q _ := fullShare
  owed _ := 0

theorem A1_eq (c : Dev nD) (w : Fin cfg1.W) : (dat1 W c).A w = W c (Pipeline.arrRef spec1 w) := by dsimp only [dat1]
theorem after1_0 (c : Dev nD) (t : Fin cfg1.N) : (dat1 W c).after 0 t = blk1 W c 0 t := by dsimp only [dat1]
theorem after1_1 (c : Dev nD) (t : Fin cfg1.N) : (dat1 W c).after 1 t = blk1 W c 1 t := by dsimp only [dat1]
theorem after1_2 (c : Dev nD) (t : Fin cfg1.N) : (dat1 W c).after 2 t = blk1 W c 2 t := by dsimp only [dat1]
theorem after1_3 (c : Dev nD) (t : Fin cfg1.N) : (dat1 W c).after 3 t = blk1 W c 3 t := by dsimp only [dat1]
theorem after1_4 (c : Dev nD) (t : Fin cfg1.N) : (dat1 W c).after 4 t = outVal (codesVal (blk1 W c 0 t)) (factorVal (blk1 W c 0 t)) (blk1 W c 1 t) (blk1 W c 2 t) (blk1 W c 3 t) (cfg1.grid.coords t 1).val := by dsimp only [dat1]
theorem after1_5 (c : Dev nD) (t : Fin cfg1.N) : (dat1 W c).after 5 t = codesVal (blk1 W c 0 t) := by dsimp only [dat1]
theorem after1_6 (c : Dev nD) (t : Fin cfg1.N) : (dat1 W c).after 6 t = scaleVal (blk1 W c 0 t) := by dsimp only [dat1]
theorem before1_0 (c : Dev nD) (t : Fin cfg1.N) (d) : (dat1 W c).before 0 t d = blk1 W c 0 t :=
  ((dat1 W c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 W c).before 2 t d = blk1 W c 2 t :=
  ((dat1 W c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 W c).before 3 t d = blk1 W c 3 t :=
  ((dat1 W c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)

/-- What the body of region 1 is called with at point `t`, -/
def pre1 (c : Dev nD) (t : Fin cfg1.N) : sProp 𝕄G :=
  iprop((dat1 W c).Φ t.castSucc ∗ (dat1 W c).owesAt () t.castSucc ∗ (∃ d, owns (c : Thread nD τ) (st1_0 t) fullShare ((dat1 W c).before 0 t d)) ∗ (∃ d, owns (c : Thread nD τ) (st1_1 t) fullShare ((dat1 W c).before 1 t d)) ∗ (∃ d, owns (c : Thread nD τ) (st1_2 t) fullShare ((dat1 W c).before 2 t d)) ∗ (∃ d, owns (c : Thread nD τ) (st1_3 t) fullShare ((dat1 W c).before 3 t d)) ∗ (∃ d, owns (c : Thread nD τ) (st1_4 t) fullShare ((dat1 W c).before 4 t d)) ∗ (∃ d, owns (c : Thread nD τ) (st1_5 t) fullShare ((dat1 W c).before 5 t d)) ∗ (∃ d, owns (c : Thread nD τ) (st1_6 t) fullShare ((dat1 W c).before 6 t d)))
/-- and what it returns. -/
def post1 (c : Dev nD) (t : Fin cfg1.N) : sProp 𝕄G :=
  iprop((dat1 W c).Φ t.succ ∗ (dat1 W c).owesAt () t.succ ∗ owns (c : Thread nD τ) (st1_0 t) fullShare ((dat1 W c).after 0 t) ∗ owns (c : Thread nD τ) (st1_1 t) fullShare ((dat1 W c).after 1 t) ∗ owns (c : Thread nD τ) (st1_2 t) fullShare ((dat1 W c).after 2 t) ∗ owns (c : Thread nD τ) (st1_3 t) fullShare ((dat1 W c).after 3 t) ∗ owns (c : Thread nD τ) (st1_4 t) fullShare ((dat1 W c).after 4 t) ∗ owns (c : Thread nD τ) (st1_5 t) fullShare ((dat1 W c).after 5 t) ∗ owns (c : Thread nD τ) (st1_6 t) fullShare ((dat1 W c).after 6 t))

theorem sound_body1 (c : Dev nD) (t : Fin cfg1.N) :
    pre1 W c t ⊢ wp frame (wpE (defs₀ (F := F)) Variants.none (c : Thread nD τ) none) Set.univ (bodyAt1 t) (fun _ => post1 W c t) := by
  unfold pre1 post1 bodyAt1
  simp only [before1_0, before1_1, before1_2, before1_3]
  rw [show (dat1 W c).Φ t.succ = (dat1 W c).Φ t.castSucc from rfl, show (dat1 W c).owesAt () t.succ = (dat1 W c).owesAt () t.castSucc from rfl,
    after1_0, after1_1, after1_2, after1_3, after1_4, after1_5, after1_6]
  rw [show (dat1 W c).Φ t.castSucc = Pipeline.ΦA spec1 c from rfl]
  unfold Pipeline.ΦA
  rw [scopedRest1_eq]
  iintro ⟨⟨⟨G0, G1, G2, G3, G4, G5, G6, G7, G8, G9, G10, G11, G12, G13, G14, G15, G16, G17, ⟨%g9, G18⟩, ⟨%g10, G19⟩⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel1 (F := F) c _ _ _ _ _ _ _ _ _ _ _ _ _ _ _ _ _ _ _ (blk1 W c 0 t) (blk1 W c 1 t) (blk1 W c 2 t) (blk1 W c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [G18]
  · iexists g9; rw [owns_whole]; iexact G18
  isplitl [G19]
  · iexists g10; rw [owns_whole]; iexact G19
  simp only [owns_whole]
  iintro ⟨H0, H1, H2, H3, H4, H5, H6, ⟨%g9', G18⟩, ⟨%g10', G19⟩⟩
  isplitl [G0 G1 G2 G3 G4 G5 G6 G7 G8 G9 G10 G11 G12 G13 G14 G15 G16 G17 G18 G19 Hp]
  · isplitl [G0 G1 G2 G3 G4 G5 G6 G7 G8 G9 G10 G11 G12 G13 G14 G15 G16 G17 G18 G19]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [G15]; · iexact G15
      isplitl [G16]; · iexact G16
      isplitl [G17]; · iexact G17
      isplitl [G18]; · iexists g9'; iexact G18
      iexists g10'; iexact G19
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row1 (t : Fin cfg1.N) :
    defs₀ (F := F) .tc cfg1.body (cfg1.bodyArgs t (cfg1.slots t)) = bodyAt1 t := by
  unfold defs₀; rw [Defs.onTc_tc]

/-- The body obligation of region 1. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end Cert.Proof.Kernel
-- ==== Proof.K.Run.lean ====
module

public import proofs.«01_k».proof.Proof.Gen.Kernel.Loops
public import proofs.«01_k».proof.Proof.K.Offsets
public import proofs.«01_k».proof.Proof.K.Tiles
public import proofs.«01_k».proof.Proof.K.Dats
public import proofs.«01_k».proof.Proof.Gen.Kernel.Regions
public import Idealize.ShloMosaic.Lib.Pipeline.RegionArraysS
public import Idealize.ShloMosaic.Lib.Pipeline.FrameTail
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Rounds
open Idealize.ShloMosaic.Pipeline (Dat Seg HostSeg RegionSeg)

/-! # The whole program's run

Between two items of @main core `c` holds every unscoped buffer whole: at `W0` as launched, at `W1` after the two transposes, at
`W2` after the quantising region, at `W3` after the attention region, at `W4` after the six reshapings of the results. -/

variable (m : (ℓ : Loc nD τ sig) → Buf (Elt F) ℓ) (ρ : Dev nD → PrngReg)

/-- The buffers as launched, -/
def W0 (c : Dev nD) : Valuation τ sig (Elt F) := fun b => m (c, b)
/-- as the quantising region finds them, -/
def W1 (c : Dev nD) : Valuation τ sig (Elt F) := StableHlo.after hostOps0 (W0 m c)
/-- as the attention region finds them, -/
def W2 (c : Dev nD) : Valuation τ sig (Elt F) := Pipeline.afterRegion (dat0 (W1 m) c) (W1 m c)
/-- as it leaves them, -/
def W3 (c : Dev nD) : Valuation τ sig (Elt F) := Pipeline.afterRegion (dat1 (W2 m) c) (W2 m c)
/-- and at the end. -/
def W4 (c : Dev nD) : Valuation τ sig (Elt F) := StableHlo.after hostOps2 (W3 m c)

/-- Both regions' proof data. -/
def pdats : (p : Fin 2) → (c : Dev nD) → Dat τ (Elt F) Unit ℕ (UR sig nD τ) ℕ (cfgs p) c
  | ⟨0, _⟩ => dat0 (W1 m)
  | ⟨1, _⟩ => dat1 (W2 m)

/-- The one level, on the TensorCore's cells. -/
abbrev L : GSem nD τ sig → Finset Unit := fun g => if g.1.2 = .tc then {()} else ∅
abbrev lv : GSem nD τ sig → Unit → ℕ := fun _ _ => 0

/-- What rides beside the buffers: what the core owes (nothing), the generator register. -/
def E (c : Dev nD) : sProp 𝕄G :=
  iprop((∃ Wd, owes (c : Thread nD τ) (0 : CellTallies nD τ sig Unit) Wd) ∗ (∃ r, prngReg c r) ∗ emp)

theorem cut (p : Fin 2) : Pipeline.LevelCut (pcfgs (F := F)) adm () L lv p (fun _ => 0) (fun _ => 0) where
  hι c w s := by simp [L]
  hιb c w s := le_rfl
  hD c g i h := absurd h (by simp)

set_option backward.isDefEq.respectTransparency.types false in
/-- The quantising region as a segment. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (body_obligation0 (W1 m) c).loose) (fun _ _ => rfl) (fun _ => rfl) (fun c => (dat0 (W1 m) c).share_full fun _ => rfl)
    (fun _ => .rfl) (fun _ => .rfl) (fun _ => 0) (cut 0) (fun _ => iprop(emp)) (W1 m) (fun _ _ => rfl)

set_option backward.isDefEq.respectTransparency.types false in
/-- The attention region as a segment. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (body_obligation1 (W2 m) c).loose) (fun _ _ => rfl) (fun _ => rfl) (fun c => (dat1 (W2 m) c).share_full fun _ => rfl)
    (fun _ => .rfl) (fun _ => .rfl) (fun _ => 0) (cut 1) (fun _ => iprop(emp)) (W2 m) (fun _ _ => rfl)

theorem arr0_sub : Pipeline.arrRefs (τ := τ) (pcfgs (F := F) 0).spec ⊆ Pipeline.ucRefs τ sig :=
  Pipeline.arrRefs_sub_ucRefs _ (show ∀ w : Fin cfg0.W, (Pipeline.arrRef spec0 w).isScoped = false from by decide)
set_option backward.isDefEq.respectTransparency.types false in
theorem reg0_pre (c : Dev nD) : iprop(StableHlo.held (c : Thread nD τ) (Pipeline.ucRefs τ sig) (W1 m c) ∗ E (F := F) c) ⊢ (reg0 m).pre c := by
  unfold reg0 E
  refine BI.Entails.trans ?_ (RegionSeg.ofHeldIn_pre arr0_sub c)
  exact BI.Entails.refl _
set_option backward.isDefEq.respectTransparency.types false in
theorem reg0_post (c : Dev nD) : (reg0 m).post c ⊢ iprop(StableHlo.held (c : Thread nD τ) (Pipeline.ucRefs τ sig) (W2 m c) ∗ E (F := F) c) := by
  unfold reg0 E
  have h : W2 m c = Pipeline.afterRegion (pdats m 0 c) (W1 m c) := rfl
  rw [h]
  exact RegionSeg.ofHeldIn_post arr0_sub c
theorem arr1_sub : Pipeline.arrRefs (τ := τ) (pcfgs (F := F) 1).spec ⊆ Pipeline.ucRefs τ sig :=
  Pipeline.arrRefs_sub_ucRefs _ (show ∀ w : Fin cfg1.W, (Pipeline.arrRef spec1 w).isScoped = false from by decide)
set_option backward.isDefEq.respectTransparency.types false in
theorem reg1_pre (c : Dev nD) : iprop(StableHlo.held (c : Thread nD τ) (Pipeline.ucRefs τ sig) (W2 m c) ∗ E (F := F) c) ⊢ (reg1 m).pre c := by
  unfold reg1 E
  refine BI.Entails.trans ?_ (RegionSeg.ofHeldIn_pre arr1_sub c)
  exact BI.Entails.refl _
set_option backward.isDefEq.respectTransparency.types false in
theorem reg1_post (c : Dev nD) : (reg1 m).post c ⊢ iprop(StableHlo.held (c : Thread nD τ) (Pipeline.ucRefs τ sig) (W3 m c) ∗ E (F := F) c) := by
  unfold reg1 E
  have h : W3 m c = Pipeline.afterRegion (pdats m 1 c) (W2 m c) := rfl
  rw [h]
  exact RegionSeg.ofHeldIn_post arr1_sub c

/-- The transposes before the regions, -/
def head : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (E (F := F))
/-- and the reshapings after them. -/
def last : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) (E (F := F))

/-- @main's items. -/
abbrev items (_ : Dev nD) : List (Seg (pcfgs (F := F)) adm (pdats m) () defs₀ Variants.none L lv) :=
  [.host (head m), .region (reg0 m), .region (reg1 m), .host (last m)]

set_option backward.isDefEq.respectTransparency.types false in
/-- Every run of @main ends, every unscoped buffer at `W4` and every semaphore at zero. -/
theorem run_held :
    θ_run defs (onTc (τ := τ) (main (F := F))) ⟨m, fun _ => 0, ρ⟩ (fun r => (∀ c : Dev nD, ∀ b ∈ Pipeline.ucRefs τ sig,
      r.2.mem (c, b) = W4 m c b) ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0 (fun g h => if_neg h) (fun _ => iprop(emp))
    (initOf (Pipeline.cells cfgs cellOf_inj) (Pipeline.launchToks cfgs cellOf_inj))
    (by
      iintro Hu; imodintro
      isplitl [Hu]; · iapply (show (ownU _ : sProp 𝕄G) ⊢ BI.own (emb₁ (initOf (Pipeline.cells cfgs cellOf_inj) (Pipeline.launchToks cfgs cellOf_inj))) from .rfl); iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (W0 m c) ∗ E (F := F) c))
    (Tₙ := fun c => StableHlo.held (c : Thread nD τ) (Pipeline.ucRefs τ sig) (W4 m c))
    (hch := fun c => ⟨.rfl, reg0_pre m c, (reg0_post m c).trans (reg1_pre m c), reg1_post m c, sep_mono .rfl ?_⟩)
    (hinit := ?_) (QY := fun c s => ∀ b ∈ Pipeline.ucRefs τ sig, s.mem (c, b) = W4 m c b)
    (hfin := fun c s' => ?_) (hQ := fun _ h hz => ⟨h, funext fun g => hz g (.inr (regions_no_unscoped g.2))⟩)
  · unfold E
    iintro ⟨HO, -, -⟩
    iexact HO
  · refine Pipeline.initEach L lv fun c => ?_
    rw [← Pipeline.unscopedBufs_held (Ix := Unit) (Name := ℕ) (U := UR sig nD τ) (Lvl := ℕ) c (W0 m c)]
    unfold E
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro; exact h
    · iexact HSI

/-- A reference of @main's is among the held buffers. -/
theorem uc_mem (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

theorem A0_eq' (c : Dev nD) (w : Fin cfg0.W) : (dat0 (W1 m) c).A w = W1 m c (Pipeline.arrRef spec0 w) := A0_eq (W1 m) c w
theorem A1_eq' (c : Dev nD) (w : Fin cfg1.W) : (dat1 (W2 m) c).A w = W2 m c (Pipeline.arrRef spec1 w) := A1_eq (W2 m) c w

/-- What no host operation writes and no region flushes reaches the end as launched. -/
theorem kept (c : Dev nD) (r : Ref sig .tc) (h0 : r ∉ hostOps0_W) (h1 : ∀ w, Pipeline.arrRef cfg0.spec w = r → (cfg0.win w).isOut = false)
    (h2 : ∀ w, Pipeline.arrRef cfg1.spec w = r → (cfg1.win w).isOut = false) (h3 : r ∉ hostOps2_W) :
    W4 m c r = m ((c : Thread nD τ).loc r) :=
  (StableHlo.after_of_writes_sub hostOps2 _ hostOps2_writes h3).trans <|
    (Pipeline.afterRegion_keeps (dat1 (W2 m) c) (W2 m c) launch1.win.arr_inj (A1_eq' m c) r h2).trans <|
    (Pipeline.afterRegion_keeps (dat0 (W1 m) c) (W1 m c) launch0.win.arr_inj (A0_eq' m c) r h1).trans <|
    (StableHlo.after_of_writes_sub hostOps0 _ hostOps0_writes h0).trans rfl

theorem kept_arg0 (c : Dev nD) : W4 m c main_arg0 = m ((c : Thread nD τ).loc main_arg0) := kept m c main_arg0 (by decide) (by decide) (by decide) (by decide)
theorem kept_arg1 (c : Dev nD) : W4 m c main_arg1 = m ((c : Thread nD τ).loc main_arg1) := kept m c main_arg1 (by decide) (by decide) (by decide) (by decide)
theorem kept_arg2 (c : Dev nD) : W4 m c main_arg2 = m ((c : Thread nD τ).loc main_arg2) := kept m c main_arg2 (by decide) (by decide) (by decide) (by decide)

/-- Every run of @main ends with the arguments as launched and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c _ (uc_mem main_arg0 (by decide))).trans (kept_arg0 m c), (h.1 c _ (uc_mem main_arg1 (by decide))).trans (kept_arg1 m c),
      (h.1 c _ (uc_mem main_arg2 (by decide))).trans (kept_arg2 m c)⟩, h.2⟩) (run_held m ρ)

end Cert.Proof.Kernel
-- ==== Proof.KI.Tiles.lean ====
module

public import proofs.«01_k».proof.Proof.Gen.KernelIdeal.Skeleton
public import Idealize.ShloMosaic.Lib.VecWindow
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F] [Named F]

/-! # What one query tile and one head computes

The attention kernel keeps, for the query tile and head at hand, one column of score tiles (256 keys by 256 queries
each) in a buffer of 8192 rows. This module names the tiles of the operands, says what it means for the buffer to hold a
tile, and states the head's result as a function of its operands over the program's own operations. -/

/-! ## Tiles of the operands -/

theorem inb_k64 (j : ℕ) : ∀ a, (![0, 256 * (j % 32), 0] : Fin 3 → ℕ) a + S1x256x64.size a ≤ S1x8192x128.size a := by
  have := Nat.mod_lt j (show 0 < 32 by decide)
  intro a
  match a with
  | ⟨0, _⟩ => exact (by decide : 0 + 1 ≤ 1)
  | ⟨1, _⟩ => show 256 * (j % 32) + 256 ≤ 8192; omega
  | ⟨2, _⟩ => exact (by decide : 0 + 64 ≤ 128)

theorem inb_k128 (j : ℕ) : ∀ a, (![0, 256 * (j % 32), 0] : Fin 3 → ℕ) a + S1x256x128.size a ≤ S1x8192x128.size a := by
  have := Nat.mod_lt j (show 0 < 32 by decide)
  intro a
  match a with
  | ⟨0, _⟩ => exact (by decide : 0 + 1 ≤ 1)
  | ⟨1, _⟩ => show 256 * (j % 32) + 256 ≤ 8192; omega
  | ⟨2, _⟩ => exact (by decide : 0 + 128 ≤ 128)

theorem inb_v (j : ℕ) : ∀ a, (![0, 0, 256 * (j % 32)] : Fin 3 → ℕ) a + S1x64x256.size a ≤ S1x64x8192.size a := by
  have := Nat.mod_lt j (show 0 < 32 by decide)
  intro a
  match a with
  | ⟨0, _⟩ => exact (by decide : 0 + 1 ≤ 1)
  | ⟨1, _⟩ => exact (by decide : 0 + 64 ≤ 64)
  | ⟨2, _⟩ => show 256 * (j % 32) + 256 ≤ 8192; omega

theorem inb_s (j : ℕ) : ∀ a, (![256 * (j % 32), 0] : Fin 2 → ℕ) a + S256x256.size a ≤ S8192x256.size a := by
  have := Nat.mod_lt j (show 0 < 32 by decide)
  intro a
  match a with
  | ⟨0, _⟩ => show 256 * (j % 32) + 256 ≤ 8192; omega
  | ⟨1, _⟩ => exact (by decide : 0 + 256 ≤ 256)

theorem inb_q (h : ℕ) : ∀ a, (![0, h % 16, 0, 0] : Fin 4 → ℕ) a + S1x1x64x256.size a ≤ S1x16x64x256.size a := by
  have := Nat.mod_lt h (show 0 < 16 by decide)
  intro a
  match a with
  | ⟨0, _⟩ => exact (by decide : 0 + 1 ≤ 1)
  | ⟨1, _⟩ => show h % 16 + 1 ≤ 16; omega
  | ⟨2, _⟩ => exact (by decide : 0 + 64 ≤ 64)
  | ⟨3, _⟩ => exact (by decide : 0 + 256 ≤ 256)

theorem inb_qs (h : ℕ) : ∀ a, (![h % 16, 0, 0] : Fin 3 → ℕ) a + S1x1x256.size a ≤ S16x1x256.size a := by
  have := Nat.mod_lt h (show 0 < 16 by decide)
  intro a
  match a with
  | ⟨0, _⟩ => show h % 16 + 1 ≤ 16; omega
  | ⟨1, _⟩ => exact (by decide : 0 + 1 ≤ 1)
  | ⟨2, _⟩ => exact (by decide : 0 + 256 ≤ 256)

/-- The codes of key tile `j`: 256 keys by 64 features. -/
def klTile (kl : Vec F S1x8192x128 .fp8e4m3) (j : ℕ) : Vec F S1x256x64 .fp8e4m3 :=
  VecWindow.window kl ![0, 256 * (j % 32), 0] S1x256x64.size (inb_k64 j)

/-- The scales of key tile `j`, one row of 128 equal lanes per key. -/
def kbTile (kb : Vec F S1x8192x128 .f32) (j : ℕ) : Vec F S1x256x128 .f32 :=
  VecWindow.window kb ![0, 256 * (j % 32), 0] S1x256x128.size (inb_k128 j)

/-- The dequantised values of key tile `j`: 64 features by 256 keys. -/
def vdTile (vd : Vec F S1x64x8192 .bf16) (j : ℕ) : Vec F S1x64x256 .bf16 :=
  VecWindow.window vd ![0, 0, 256 * (j % 32)] S1x64x256.size (inb_v j)

/-- The query codes of head `h`. -/
def qcHead (qc : Vec F S1x16x64x256 .fp8e4m3) (h : ℕ) : Vec F S1x1x64x256 .fp8e4m3 :=
  VecWindow.window qc ![0, h % 16, 0, 0] S1x1x64x256.size (inb_q h)

/-- The query scales of head `h`, times `log₂ e / 8`. -/
def qsHead (qs : Vec F S16x1x256 .f32) (h : ℕ) : Vec F S1x1x256 .f32 :=
  VecWindow.window qs ![h % 16, 0, 0] S1x1x256.size (inb_qs h)

/-! ## The score buffer, tile by tile -/

/-- The score buffer holds `w` in its tile `j`. -/
def TileAt (z : Vec F S8192x256 .f32) (j : ℕ) (w : Vec F S256x256 .f32) : Prop :=
  VecWindow.window z ![256 * (j % 32), 0] S256x256.size (inb_s j) = w

section Store

variable (arg10 : Memref sig .tc .vmem S8192x256 .f32) (f : BufTy.Contents (Elt F) arg10.view.ty)

/-- A load of the rectangle of tile `j` reads the tile. -/
theorem load_tile {off : Fin 2 → ℕ} {inb : ∀ a, off a + S256x256.size a ≤ S8192x256.size a} {j : ℕ} (hj : j < 32) (hoff : off = ![256 * j, 0])
    {w : Vec F S256x256 .f32} (h : TileAt (arg10.view.read (Elt F) f) j w) :
    arg10.view.readAt (Elt F) (Rect.unit (s := S8192x256) off S256x256.size inb).toLoadRect f = w :=
  (View.readAt_unit arg10.view f inb (off' := ![256 * (j % 32), 0]) (hoff.trans (by rw [Nat.mod_eq_of_lt hj])) (inb_s j)).trans h

/-- A store over the rectangle of tile `j` leaves the stored tile there. -/
theorem store_tile {off : Fin 2 → ℕ} {inb : ∀ a, off a + S256x256.size a ≤ S8192x256.size a} {j : ℕ} (hj : j < 32) (hoff : off = ![256 * j, 0])
    (w : Vec F S256x256 .f32) (L : List (View.Piece (Elt F) S8192x256 .f32)) :
    TileAt (arg10.view.read (Elt F) (arg10.view.writes (Elt F) f (⟨Rect.unit (s := S8192x256) off S256x256.size inb, w⟩ :: L))) j w := by
  unfold TileAt
  rw [View.read_writes_cons_put arg10.view f (off' := ![256 * (j % 32), 0]) inb w L (hoff.trans (by rw [Nat.mod_eq_of_lt hj]))]
  exact VecWindow.window_put_same _ _ _ _ _

/-- A store over the rectangle of tile `j` leaves every other tile as it was. -/
theorem store_other {off : Fin 2 → ℕ} {inb : ∀ a, off a + S256x256.size a ≤ S8192x256.size a} {j j' : ℕ} (hj : j < 32) (hj' : j' < 32) (hne : j' ≠ j)
    (hoff : off = ![256 * j, 0]) (w : Vec F S256x256 .f32) (L : List (View.Piece (Elt F) S8192x256 .f32)) {w' : Vec F S256x256 .f32}
    (h : TileAt (arg10.view.read (Elt F) (arg10.view.writes (Elt F) f L)) j' w') :
    TileAt (arg10.view.read (Elt F) (arg10.view.writes (Elt F) f (⟨Rect.unit (s := S8192x256) off S256x256.size inb, w⟩ :: L))) j' w' := by
  unfold TileAt
  rw [View.read_writes_cons_put arg10.view f (off' := ![256 * (j % 32), 0]) inb w L (hoff.trans (by rw [Nat.mod_eq_of_lt hj]))]
  refine (VecWindow.window_put_of_disjoint _ _ _ _ _ _ _ 0 ?_).trans h
  show 256 * (j' % 32) + 256 ≤ 256 * (j % 32) ∨ 256 * (j % 32) + 256 ≤ 256 * (j' % 32)
  omega

end Store

/-! ## One head -/

section Head

variable (q : Vec F S1x1x64x256 .fp8e4m3) (s : Vec F S1x1x256 .f32) (kl : Vec F S1x8192x128 .fp8e4m3) (kb : Vec F S1x8192x128 .f32)
  (vd : Vec F S1x64x8192 .bf16) (qi : ℕ)

/-- The scores against key tile `j` of the column of query tile `qi`: on the diagonal, masked. -/
def scoreTile (j : ℕ) : Vec F S256x256 .f32 :=
  if j = qi then k1_pay6 q s (klTile kl qi) (kbTile kb qi) else k1_pay9 q s (klTile kl j) (kbTile kb j)

/-- The running maximum (8 partial maxima per query): the diagonal tile first, then the first `k` tiles. -/
def maxAcc : ℕ → FVec F S8x256 .f32
  | 0 => k1_pay7 q s (klTile kl qi) (kbTile kb qi)
  | k + 1 => k1_pay10 q s (maxAcc k) (klTile kl k) (kbTile kb k)

/-- The running sum (8 partial sums per query) of the exponentials of the first `k` of the tiles `S`, at the partial maxima `m`. -/
def sumAcc (m : FVec F S8x256 .f32) (S : ℕ → Vec F S256x256 .f32) : ℕ → FVec F S8x256 .f32
  | 0 => k1_pay15
  | k + 1 => k1_pay18 m (sumAcc m S k) (S k)

/-- The running product of the values and the codes of the weights, over the first `k` of the tiles `E` of exponentials; `u` is
    the reciprocal of the sum and `w₁`, `w₂` give the weights' inverse scale. -/
def outAcc (u : FVec F S1x256 .f32) (w₁ w₂ : IVec S1x256 32) (E : ℕ → Vec F S256x256 .f32) : ℕ → FVec F S64x256 .f32
  | 0 => k1_pay27
  | k + 1 => k1_pay28 u w₁ w₂ (outAcc u w₁ w₂ E k) (E k) (vdTile vd k)

/-- The column's partial maxima. -/
def headMax : FVec F S8x256 .f32 := maxAcc q s kl kb qi qi
/-- The column's tiles of exponentials. -/
def headExp (j : ℕ) : Vec F S256x256 .f32 := k1_pay17 (headMax q s kl kb qi) (scoreTile q s kl kb qi j)
/-- The column's partial sums. -/
def headSum : FVec F S8x256 .f32 := sumAcc (headMax q s kl kb qi) (scoreTile q s kl kb qi) (qi + 1)
/-- The head's output before its scale: the values times the codes of the weights. -/
def headProd : FVec F S64x256 .f32 :=
  outAcc vd (k1_pay22 (headSum q s kl kb qi)) (k1_pay24 (headSum q s kl kb qi)) k1_pay25 (headExp q s kl kb qi) (qi + 1)
/-- The head's output, 64 features by 256 queries. -/
def headOut : FVec F S64x256 .f32 := k1_pay30 (k1_pay23 (headSum q s kl kb qi)) (headProd q s kl kb vd qi)

end Head

/-- The score buffer holds the tiles `S` up to the diagonal. -/
def Scored (z : Vec F S8192x256 .f32) (qi : ℕ) (S : ℕ → Vec F S256x256 .f32) : Prop := ∀ j, j ≤ qi → TileAt z j (S j)

section Loads

variable (arg3 : Memref sig .tc .vmem S1x8192x128 .fp8e4m3) (X3 : BufTy.Contents (Elt F) arg3.view.ty)
variable (arg4 : Memref sig .tc .vmem S1x8192x128 .f32) (X4 : BufTy.Contents (Elt F) arg4.view.ty)
variable (arg5 : Memref sig .tc .vmem S1x64x8192 .bf16) (X5 : BufTy.Contents (Elt F) arg5.view.ty)
variable (arg7 : Memref sig .tc .vmem S1x16x64x256 .fp8e4m3) (X7 : BufTy.Contents (Elt F) arg7.view.ty)
variable (arg9 : Memref sig .tc .vmem S16x1x256 .f32) (X9 : BufTy.Contents (Elt F) arg9.view.ty)

theorem load_kl {off : Fin 3 → ℕ} {inb : ∀ a, off a + S1x256x64.size a ≤ S1x8192x128.size a} {j : ℕ} (hj : j < 32) (hoff : off = ![0, 256 * j, 0]) :
    arg3.view.readAt (Elt F) (Rect.unit (s := S1x8192x128) off S1x256x64.size inb).toLoadRect X3 = klTile (arg3.view.read (Elt F) X3) j :=
  View.readAt_unit arg3.view X3 inb (off' := ![0, 256 * (j % 32), 0]) (hoff.trans (by rw [Nat.mod_eq_of_lt hj])) (inb_k64 j)

theorem load_kb {off : Fin 3 → ℕ} {inb : ∀ a, off a + S1x256x128.size a ≤ S1x8192x128.size a} {j : ℕ} (hj : j < 32) (hoff : off = ![0, 256 * j, 0]) :
    arg4.view.readAt (Elt F) (Rect.unit (s := S1x8192x128) off S1x256x128.size inb).toLoadRect X4 = kbTile (arg4.view.read (Elt F) X4) j :=
  View.readAt_unit arg4.view X4 inb (off' := ![0, 256 * (j % 32), 0]) (hoff.trans (by rw [Nat.mod_eq_of_lt hj])) (inb_k128 j)

theorem load_vd {off : Fin 3 → ℕ} {inb : ∀ a, off a + S1x64x256.size a ≤ S1x64x8192.size a} {j : ℕ} (hj : j < 32) (hoff : off = ![0, 0, 256 * j]) :
    arg5.view.readAt (Elt F) (Rect.unit (s := S1x64x8192) off S1x64x256.size inb).toLoadRect X5 = vdTile (arg5.view.read (Elt F) X5) j :=
  View.readAt_unit arg5.view X5 inb (off' := ![0, 0, 256 * (j % 32)]) (hoff.trans (by rw [Nat.mod_eq_of_lt hj])) (inb_v j)

theorem load_q {off : Fin 4 → ℕ} {inb : ∀ a, off a + S1x1x64x256.size a ≤ S1x16x64x256.size a} {h : ℕ} (hh : h < 16) (hoff : off = ![0, h, 0, 0]) :
    arg7.view.readAt (Elt F) (Rect.unit (s := S1x16x64x256) off S1x1x64x256.size inb).toLoadRect X7 = qcHead (arg7.view.read (Elt F) X7) h :=
  View.readAt_unit arg7.view X7 inb (off' := ![0, h % 16, 0, 0]) (hoff.trans (by rw [Nat.mod_eq_of_lt hh])) (inb_q h)

theorem load_qs {off : Fin 3 → ℕ} {inb : ∀ a, off a + S1x1x256.size a ≤ S16x1x256.size a} {h : ℕ} (hh : h < 16) (hoff : off = ![h, 0, 0]) :
    arg9.view.readAt (Elt F) (Rect.unit (s := S16x1x256) off S1x1x256.size inb).toLoadRect X9 = qsHead (arg9.view.read (Elt F) X9) h :=
  View.readAt_unit arg9.view X9 inb (off' := ![h % 16, 0, 0]) (hoff.trans (by rw [Nat.mod_eq_of_lt hh])) (inb_qs h)

end Loads

theorem qi_lt (i : grid1.Coords) : (i 1).val < 32 := (i 1).isLt

end Cert.Proof.KernelIdeal
-- ==== Proof.KI.HeadLoops.lean ====
module

public import proofs.«01_k».proof.Proof.Gen.KernelIdeal.Loops
public import proofs.«01_k».proof.Proof.KI.Offsets
public import proofs.«01_k».proof.Proof.KI.Tiles

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! # The loops of one head, by their invariants -/

/-- Before trip `k` of the loop over the exponentials: the tiles before `k` hold exponentials, the others scores. -/
def ExpBefore (z : Vec F S8192x256 .f32) (qi : ℕ) (m : FVec F S8x256 .f32) (S : ℕ → Vec F S256x256 .f32) (k : ℕ) : Prop :=
  (∀ j, j < k → j ≤ qi → TileAt z j (k1_pay17 m (S j))) ∧ (∀ j, k ≤ j → j ≤ qi → TileAt z j (S j))

section
variable (c : Dev nD) (i : grid1.Coords) (arg2 : Memref sig .tc .vmem S1x256x1024 .bf16) (harg2 : arg2.IsWhole) (arg3 : Memref sig .tc .vmem S1x8192x128 .fp8e4m3) (harg3 : arg3.IsWhole) (arg4 : Memref sig .tc .vmem S1x8192x128 .f32) (harg4 : arg4.IsWhole) (arg5 : Memref sig .tc .vmem S1x64x8192 .bf16) (harg5 : arg5.IsWhole) (arg6 : Memref sig .tc .vmem S1x256x1024 .bf16) (harg6 : arg6.IsWhole) (arg7 : Memref sig .tc .vmem S1x16x64x256 .fp8e4m3) (harg7 : arg7.IsWhole) (arg8 : Memref sig .tc .vmem S1x16x256 .f32) (harg8 : arg8.IsWhole) (arg9 : Memref sig .tc .vmem S16x1x256 .f32) (harg9 : arg9.IsWhole) (arg10 : Memref sig .tc .vmem S8192x256 .f32) (harg10 : arg10.IsWhole)
  (X3 : BufTy.Contents (Elt F) arg3.view.ty) (X4 : BufTy.Contents (Elt F) arg4.view.ty) (X5 : BufTy.Contents (Elt F) arg5.view.ty)

set_option warn.classDefReducibility false in
/-- The scores against the tiles before the diagonal and their running maximum, first head: before trip `k` the tiles before `k` and the
    diagonal tile hold their scores, and the carried value is their partial maxima. -/
def inv_t2 (arg1 c0 c1 : BitVec 32) (t : Fin k1_t1_loop.trips) (q : Vec F S1x1x64x256 .fp8e4m3) (s : Vec F S1x1x256 .f32) :
    LoopInvTy_k1_t2 (F := F) Unit ℕ (UR sig nD τ) ℕ Variants.none c none Set.univ i arg2 harg2 arg3 harg3 arg4 harg4 arg5 harg5 arg6 harg6 arg7 harg7 arg8 harg8 arg9 harg9 arg10 harg10 arg1 c0 c1 t q s
      (k1_pay7 q s (klTile (arg3.view.read (Elt F) X3) (i 1).val) (kbTile (arg4.view.read (Elt F) X4) (i 1).val)) where
  inv k acc := iprop((arg3.view.loc (c : Thread nD τ) ↦[arg3.view.set]{fullShare} X3) ∗ (arg4.view.loc (c : Thread nD τ) ↦[arg4.view.set]{fullShare} X4) ∗
    (∃ f, (arg10.view.loc (c : Thread nD τ) ↦[arg10.view.set]{fullShare} f) ∗ ⌜∀ j, j < k ∨ j = (i 1).val → TileAt (arg10.view.read (Elt F) f) j (scoreTile q s (arg3.view.read (Elt F) X3) (arg4.view.read (Elt F) X4) (i 1).val j)⌝)
    ∗ ⌜acc = maxAcc q s (arg3.view.read (Elt F) X3) (arg4.view.read (Elt F) X4) (i 1).val k⌝)
  step k acc := by
    have hk : k.val < (i 1).val := k.isLt.trans_eq (trips_t2 i)
    have hq := qi_lt i
    unfold k1_t2_body
    iintro ⟨H3, H4, ⟨%f, H10, %hf⟩, %hacc⟩
    sl_exec
    sl_step
    rw [load_kl arg3 X3 (by omega) (off6_eq i k), load_kb arg4 X4 (by omega) (off7_eq i k)]
    isplitl [H3]; · iexact H3
    isplitl [H4]; · iexact H4
    isplitl [H10]
    · iexists _
      isplitl [H10]; · iexact H10
      ipureintro
      intro j hj
      by_cases e : j = k.val
      · subst e
        have hs : scoreTile q s (arg3.view.read (Elt F) X3) (arg4.view.read (Elt F) X4) (i 1).val k.val = k1_pay9 q s (klTile (arg3.view.read (Elt F) X3) k.val) (kbTile (arg4.view.read (Elt F) X4) k.val) := by
          unfold scoreTile; rw [if_neg (by omega)]
        rw [hs]
        exact store_tile arg10 f (by omega) (off8_eq i k) _ []
      · exact store_other arg10 f (by omega) (by omega) e (off8_eq i k) _ [] (hf j (by omega))
    · ipureintro
      rw [hacc]
      rfl

set_option warn.classDefReducibility false in
/-- The same loop for the second head. -/
def inv_t8 (arg1 v1069 : BitVec 32) (q : Vec F S1x1x64x256 .fp8e4m3) (s : Vec F S1x1x256 .f32) :
    LoopInvTy_k1_t8 (F := F) Unit ℕ (UR sig nD τ) ℕ Variants.none c none Set.univ i arg2 harg2 arg3 harg3 arg4 harg4 arg5 harg5 arg6 harg6 arg7 harg7 arg8 harg8 arg9 harg9 arg10 harg10 arg1 (k1_pay31 q) (k1_pay32 s) k1_pay33 v1069 (k1_pay34 q (klTile (arg3.view.read (Elt F) X3) (i 1).val)) (k1_pay35 (kbTile (arg4.view.read (Elt F) X4) (i 1).val))
      (k1_pay38 (k1_pay32 s) k1_pay33 (k1_pay34 q (klTile (arg3.view.read (Elt F) X3) (i 1).val)) (k1_pay35 (kbTile (arg4.view.read (Elt F) X4) (i 1).val))) where
  inv k acc := iprop((arg3.view.loc (c : Thread nD τ) ↦[arg3.view.set]{fullShare} X3) ∗ (arg4.view.loc (c : Thread nD τ) ↦[arg4.view.set]{fullShare} X4) ∗
    (∃ f, (arg10.view.loc (c : Thread nD τ) ↦[arg10.view.set]{fullShare} f) ∗ ⌜∀ j, j < k ∨ j = (i 1).val → TileAt (arg10.view.read (Elt F) f) j (scoreTile q s (arg3.view.read (Elt F) X3) (arg4.view.read (Elt F) X4) (i 1).val j)⌝)
    ∗ ⌜acc = maxAcc q s (arg3.view.read (Elt F) X3) (arg4.view.read (Elt F) X4) (i 1).val k⌝)
  step k acc := by
    have hk : k.val < (i 1).val := k.isLt.trans_eq (trips_t8 i)
    have hq := qi_lt i
    unfold k1_t8_body
    iintro ⟨H3, H4, ⟨%f, H10, %hf⟩, %hacc⟩
    sl_exec
    sl_step
    rw [load_kl arg3 X3 (by omega) (off20_eq i k), load_kb arg4 X4 (by omega) (off21_eq i k)]
    isplitl [H3]; · iexact H3
    isplitl [H4]; · iexact H4
    isplitl [H10]
    · iexists _
      isplitl [H10]; · iexact H10
      ipureintro
      intro j hj
      by_cases e : j = k.val
      · subst e
        have hs : scoreTile q s (arg3.view.read (Elt F) X3) (arg4.view.read (Elt F) X4) (i 1).val k.val = k1_pay9 q s (klTile (arg3.view.read (Elt F) X3) k.val) (kbTile (arg4.view.read (Elt F) X4) k.val) := by
          unfold scoreTile; rw [if_neg (by omega)]
        rw [hs]
        exact store_tile arg10 f (by omega) (off22_eq i k) _ []
      · exact store_other arg10 f (by omega) (by omega) e (off22_eq i k) _ [] (hf j (by omega))
    · ipureintro
      rw [hacc]
      rfl

set_option warn.classDefReducibility false in
/-- The exponentials and their running sum, first head: the tiles before `k` are replaced by their exponentials. -/
def inv_t4 (arg1 : BitVec 32) (v964 : FVec F S64x256 .fp8e4m3) (v967 : FVec F S1x256 .f32) (v998 : BitVec 32) (v999 m : FVec F S8x256 .f32) (S : ℕ → Vec F S256x256 .f32) :
    LoopInvTy_k1_t4 (F := F) Unit ℕ (UR sig nD τ) ℕ Variants.none c none Set.univ i arg2 harg2 arg3 harg3 arg4 harg4 arg5 harg5 arg6 harg6 arg7 harg7 arg8 harg8 arg9 harg9 arg10 harg10 arg1 v964 v967 v998 v999 m k1_pay15 where
  inv k acc := iprop((∃ f, (arg10.view.loc (c : Thread nD τ) ↦[arg10.view.set]{fullShare} f) ∗ ⌜ExpBefore (arg10.view.read (Elt F) f) (i 1).val m S k⌝) ∗ ⌜acc = sumAcc m S k⌝)
  step k acc := by
    have hk : k.val < (i 1).val + 1 := k.isLt.trans_eq (trips_t4 i)
    have hq := qi_lt i
    unfold k1_t4_body
    iintro ⟨⟨%f, H10, %hf⟩, %hacc⟩
    sl_exec
    sl_step
    have hld := load_tile arg10 f (inb := k1_off12_inb i k) (by omega) (off12_eq i k) (hf.2 k.val le_rfl (by omega))
    rw [hld]
    isplitl [H10]
    · iexists _
      isplitl [H10]; · iexact H10
      ipureintro
      refine ⟨fun j hj hjq => ?_, fun j hj hjq => ?_⟩
      · by_cases e : j = k.val
        · subst e
          exact store_tile arg10 f (by omega) (off12_eq i k) _ []
        · exact store_other arg10 f (by omega) (by omega) e (off12_eq i k) _ [] (hf.1 j (by omega) hjq)
      · exact store_other arg10 f (by omega) (by omega) (by omega) (off12_eq i k) _ [] (hf.2 j (by omega) hjq)
    · ipureintro
      rw [hacc]
      rfl

set_option warn.classDefReducibility false in
/-- The same loop for the second head. -/
def inv_t10 (arg1 : BitVec 32) (v1063 : FVec F S64x256 .fp8e4m3) (v1066 : FVec F S1x256 .f32) (v1067 : FVec F S8x256 .f32) (v1069 : BitVec 32) (v1073 v1077 : FVec F S256x256 .f32) (m : FVec F S8x256 .f32) (S : ℕ → Vec F S256x256 .f32) :
    LoopInvTy_k1_t10 (F := F) Unit ℕ (UR sig nD τ) ℕ Variants.none c none Set.univ i arg2 harg2 arg3 harg3 arg4 harg4 arg5 harg5 arg6 harg6 arg7 harg7 arg8 harg8 arg9 harg9 arg10 harg10 arg1 v1063 v1066 v1067 v1069 v1073 v1077 m k1_pay46 where
  inv k acc := iprop((∃ f, (arg10.view.loc (c : Thread nD τ) ↦[arg10.view.set]{fullShare} f) ∗ ⌜ExpBefore (arg10.view.read (Elt F) f) (i 1).val m S k⌝) ∗ ⌜acc = sumAcc m S k⌝)
  step k acc := by
    have hk : k.val < (i 1).val + 1 := k.isLt.trans_eq (trips_t10 i)
    have hq := qi_lt i
    unfold k1_t10_body
    iintro ⟨⟨%f, H10, %hf⟩, %hacc⟩
    sl_exec
    sl_step
    have hld := load_tile arg10 f (inb := k1_off26_inb i k) (by omega) (off26_eq i k) (hf.2 k.val le_rfl (by omega))
    rw [hld]
    isplitl [H10]
    · iexists _
      isplitl [H10]; · iexact H10
      ipureintro
      refine ⟨fun j hj hjq => ?_, fun j hj hjq => ?_⟩
      · by_cases e : j = k.val
        · subst e
          exact store_tile arg10 f (by omega) (off26_eq i k) _ []
        · exact store_other arg10 f (by omega) (by omega) e (off26_eq i k) _ [] (hf.1 j (by omega) hjq)
      · exact store_other arg10 f (by omega) (by omega) (by omega) (off26_eq i k) _ [] (hf.2 j (by omega) hjq)
    · ipureintro
      rw [hacc]
      rfl

set_option warn.classDefReducibility false in
/-- The values times the codes of the weights, first head: the score buffer, holding the exponentials `E`, is only read. -/
def inv_t6 (arg1 : BitVec 32) (t : Fin k1_t1_loop.trips) (arg11 : BitVec 32) (u : FVec F S1x256 .f32) (v1034 w₁ w₂ : IVec S1x256 32) (f : BufTy.Contents (Elt F) arg10.view.ty) (E : ℕ → Vec F S256x256 .f32) (hE : Scored (arg10.view.read (Elt F) f) (i 1).val E) :
    LoopInvTy_k1_t6 (F := F) Unit ℕ (UR sig nD τ) ℕ Variants.none c none Set.univ i arg2 harg2 arg3 harg3 arg4 harg4 arg5 harg5 arg6 harg6 arg7 harg7 arg8 harg8 arg9 harg9 arg10 harg10 arg1 t arg11 u v1034 w₁ w₂ k1_pay27 where
  inv k acc := iprop((arg5.view.loc (c : Thread nD τ) ↦[arg5.view.set]{fullShare} X5) ∗ (arg10.view.loc (c : Thread nD τ) ↦[arg10.view.set]{fullShare} f) ∗ ⌜acc = outAcc (arg5.view.read (Elt F) X5) u w₁ w₂ E k⌝)
  step k acc := by
    have hk : k.val < (i 1).val + 1 := k.isLt.trans_eq (trips_t6 i)
    have hq := qi_lt i
    unfold k1_t6_body
    iintro ⟨H5, H10, %hacc⟩
    sl_exec
    sl_step
    rw [load_tile arg10 f (by omega) (off14_eq i k) (hE k.val (by omega)), load_vd arg5 X5 (by omega) (off15_eq i k)]
    isplitl [H5]; · iexact H5
    isplitl [H10]; · iexact H10
    ipureintro
    rw [hacc]
    rfl

set_option warn.classDefReducibility false in
/-- The same loop for the second head, at the partial sums `l`. -/
def inv_t12 (arg1 arg11 : BitVec 32) (v1058 : FVec F S64x256 .f32) (l : FVec F S8x256 .f32) (f : BufTy.Contents (Elt F) arg10.view.ty) (E : ℕ → Vec F S256x256 .f32) (hE : Scored (arg10.view.read (Elt F) f) (i 1).val E) :
    LoopInvTy_k1_t12 (F := F) Unit ℕ (UR sig nD τ) ℕ Variants.none c none Set.univ i arg2 harg2 arg3 harg3 arg4 harg4 arg5 harg5 arg6 harg6 arg7 harg7 arg8 harg8 arg9 harg9 arg10 harg10 arg1 arg11 v1058 (k1_pay53 l) (k1_pay54 l) (iota .tc S256x256 32 [0] iota_S256x256_d0_w32) k1_pay55 k1_pay58 where
  inv k acc := iprop((arg5.view.loc (c : Thread nD τ) ↦[arg5.view.set]{fullShare} X5) ∗ (arg10.view.loc (c : Thread nD τ) ↦[arg10.view.set]{fullShare} f) ∗ ⌜acc = outAcc (arg5.view.read (Elt F) X5) (k1_pay22 l) (k1_pay24 l) k1_pay25 E k⌝)
  step k acc := by
    have hk : k.val < (i 1).val + 1 := k.isLt.trans_eq (trips_t12 i)
    have hq := qi_lt i
    unfold k1_t12_body
    iintro ⟨H5, H10, %hacc⟩
    sl_exec
    sl_step
    rw [load_tile arg10 f (by omega) (off28_eq i k) (hE k.val (by omega)), load_vd arg5 X5 (by omega) (off29_eq i k)]
    isplitl [H5]; · iexact H5
    isplitl [H10]; · iexact H10
    ipureintro
    rw [hacc]
    rfl

end

end Cert.Proof.KernelIdeal
-- ==== Proof.KI.Quant.lean ====
module

public import proofs.«01_k».proof.Proof.Gen.KernelIdeal.Loops
public import proofs.«01_k».proof.Proof.KI.Offsets
public import proofs.«01_k».proof.Proof.KI.Tiles
public import proofs.«01_k».proof.Proof.KI.HeadLoops
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! # The quantisation of a query tile -/

/-- Writes that cover the shape, each the restriction of `G`, leave `G`. -/
theorem canon_eq_of {s : Shape} {e : EltTy} (G : s.Idx → Elt F e) (L : List (View.Piece (Elt F) s e))
    (hval : ∀ p ∈ L, ∀ x, p.2 x = G (p.1.emb x)) : ∀ y, (∃ p ∈ L, y ∈ p.1.set) → View.canon L y = G y := by
  induction L with
  | nil => rintro y ⟨p, hp, _⟩; exact absurd hp (List.not_mem_nil)
  | cons q L ih =>
    rintro y ⟨p, hp, hy⟩
    by_cases hq : y ∈ q.1.set
    · have hq' := hq
      rw [← Rect.map_emb_univ] at hq'
      obtain ⟨x, -, rfl⟩ := Finset.mem_map.mp hq'
      rw [View.canon_cons_emb]
      exact hval q (List.mem_cons_self) x
    · rw [View.canon_cons_of_not_mem q L hq]
      refine ih (fun p hp => hval p (List.mem_cons_of_mem _ hp)) y ?_
      rcases List.mem_cons.mp hp with rfl | hp
      · exact absurd hy hq
      · exact ⟨p, hp, hy⟩

/-- A buffer that covering writes, each the restriction of `G`, were made to reads as `G`. -/
theorem read_writes_eq_of {κ : Kind} {sp : Space} {s : Shape} {e : EltTy} (v : View sig κ sp s e) (f : v.ty.Contents (Elt F))
    (G : s.Idx → Elt F e) (L : List (View.Piece (Elt F) s e)) (hcov : ∀ y, ∃ p ∈ L, y ∈ p.1.set)
    (hval : ∀ p ∈ L, ∀ x, p.2 x = G (p.1.emb x)) : v.read (Elt F) (v.writes (Elt F) f L) = G := by
  rw [View.read_writes_eq_canon v f L hcov]
  exact funext fun y => canon_eq_of G L hval y (hcov y)

theorem inb_x (p : ℕ) : ∀ a, ![0, 0, 128 * (p % 8)] a + S1x256x128.size a ≤ S1x256x1024.size a := by
  have h : p % 8 < 8 := Nat.mod_lt _ (by omega)
  intro a; fin_cases a
  · show 0 + 1 ≤ 1; omega
  · show 0 + 256 ≤ 256; omega
  · show 128 * (p % 8) + 128 ≤ 1024; omega

/-- The two heads of pair `p` of a query tile: 128 columns. -/
def xTile (x : Vec F S1x256x1024 .bf16) (p : ℕ) : Vec F S1x256x128 .bf16 := VecWindow.window x ![0, 0, 128 * (p % 8)] S1x256x128.size (inb_x p)

/-- The codes of one head of a pair (`par`: the second). -/
def headCodes (v : Vec F S1x256x128 .bf16) (par : ℕ) : Vec F S1x1x64x256 .fp8e4m3 :=
  if par = 0 then k1_pay66 (k1_pay65 v) else k1_pay72 (k1_pay69 (k1_pay62 v)) (k1_pay70 (k1_pay62 v))

/-- The scales of one head of a pair. -/
def headScale (v : Vec F S1x256x128 .bf16) (par : ℕ) : Vec F S1x1x256 .f32 :=
  if par = 0 then k1_pay67 (k1_pay64 v) else k1_pay73 (k1_pay70 (k1_pay62 v))

/-- The scales of one head of a pair, times the softmax's factor. -/
def headFactor (v : Vec F S1x256x128 .bf16) (par : ℕ) : Vec F S1x1x256 .f32 :=
  if par = 0 then k1_pay68 (k1_pay64 v) else k1_pay75 (k1_pay74 (k1_pay70 (k1_pay62 v)))

/-- The index of a head's block a coordinate falls on. -/
def codesAt (y : S1x16x64x256.Idx) : S1x1x64x256.Idx := fun a => ⟨if a.val = 1 then 0 else (y a).val, by
  fin_cases a
  · exact (y 0).isLt
  · show (0 : ℕ) < 1; omega
  · exact (y 2).isLt
  · exact (y 3).isLt⟩
def scaleAt (y : S1x16x256.Idx) : S1x1x256.Idx := fun a => ⟨if a.val = 1 then 0 else (y a).val, by
  fin_cases a
  · exact (y 0).isLt
  · show (0 : ℕ) < 1; omega
  · exact (y 2).isLt⟩
def factorAt (y : S16x1x256.Idx) : S1x1x256.Idx := fun a => ⟨if a.val = 0 then 0 else (y a).val, by
  fin_cases a
  · show (0 : ℕ) < 1; omega
  · exact (y 1).isLt
  · exact (y 2).isLt⟩

/-- The codes of a query tile. -/
def codesVal (x : Vec F S1x256x1024 .bf16) : Vec F S1x16x64x256 .fp8e4m3 :=
  fun y => headCodes (xTile x ((y 1).val / 2)) ((y 1).val % 2) (codesAt y)
/-- The scales of a query tile. -/
def scaleVal (x : Vec F S1x256x1024 .bf16) : Vec F S1x16x256 .f32 :=
  fun y => headScale (xTile x ((y 1).val / 2)) ((y 1).val % 2) (scaleAt y)
/-- The scales of a query tile, times the softmax's factor. -/
def factorVal (x : Vec F S1x256x1024 .bf16) : Vec F S16x1x256 .f32 :=
  fun y => headFactor (xTile x ((y 0).val / 2)) ((y 0).val % 2) (factorAt y)

theorem codesVal_emb (x : Vec F S1x256x1024 .bf16) (h : ℕ) (inb : ∀ a, ![0, h, 0, 0] a + S1x1x64x256.size a ≤ S1x16x64x256.size a) (z : S1x1x64x256.Idx) :
    codesVal x ((Rect.unit (s := S1x16x64x256) ![0, h, 0, 0] S1x1x64x256.size inb).emb z) = headCodes (xTile x (h / 2)) (h % 2) z := by
  have hz : (z 1).val = 0 := by have h1 : (z 1).val < 1 := (z 1).isLt; omega
  have e1 : (((Rect.unit (s := S1x16x64x256) ![0, h, 0, 0] S1x1x64x256.size inb).emb z) 1).val = h := by
    show h + 1 * (z 1).val = h; omega
  unfold codesVal
  rw [e1]
  congr 1
  funext a
  apply Fin.ext
  fin_cases a
  · show 0 + 1 * (z 0).val = (z 0).val; omega
  · show 0 = (z 1).val; omega
  · show 0 + 1 * (z 2).val = (z 2).val; omega
  · show 0 + 1 * (z 3).val = (z 3).val; omega

theorem scaleVal_emb (x : Vec F S1x256x1024 .bf16) (h : ℕ) (inb : ∀ a, ![0, h, 0] a + S1x1x256.size a ≤ S1x16x256.size a) (z : S1x1x256.Idx) :
    scaleVal x ((Rect.unit (s := S1x16x256) ![0, h, 0] S1x1x256.size inb).emb z) = headScale (xTile x (h / 2)) (h % 2) z := by
  have hz : (z 1).val = 0 := by have h1 : (z 1).val < 1 := (z 1).isLt; omega
  have e1 : (((Rect.unit (s := S1x16x256) ![0, h, 0] S1x1x256.size inb).emb z) 1).val = h := by
    show h + 1 * (z 1).val = h; omega
  unfold scaleVal
  rw [e1]
  congr 1
  funext a
  apply Fin.ext
  fin_cases a
  · show 0 + 1 * (z 0).val = (z 0).val; omega
  · show 0 = (z 1).val; omega
  · show 0 + 1 * (z 2).val = (z 2).val; omega

theorem factorVal_emb (x : Vec F S1x256x1024 .bf16) (h : ℕ) (inb : ∀ a, ![h, 0, 0] a + S1x1x256.size a ≤ S16x1x256.size a) (z : S1x1x256.Idx) :
    factorVal x ((Rect.unit (s := S16x1x256) ![h, 0, 0] S1x1x256.size inb).emb z) = headFactor (xTile x (h / 2)) (h % 2) z := by
  have hz : (z 0).val = 0 := by have h1 : (z 0).val < 1 := (z 0).isLt; omega
  have e1 : (((Rect.unit (s := S16x1x256) ![h, 0, 0] S1x1x256.size inb).emb z) 0).val = h := by
    show h + 1 * (z 0).val = h; omega
  unfold factorVal
  rw [e1]
  congr 1
  funext a
  apply Fin.ext
  fin_cases a
  · show 0 = (z 0).val; omega
  · show 0 + 1 * (z 1).val = (z 1).val; omega
  · show 0 + 1 * (z 2).val = (z 2).val; omega

/-- Head `h` of the codes. -/
theorem qcHead_codesVal (x : Vec F S1x256x1024 .bf16) (h : ℕ) (hh : h < 16) : qcHead (codesVal x) h = headCodes (xTile x (h / 2)) (h % 2) := by
  funext z
  have e : h % 16 = h := Nat.mod_eq_of_lt hh
  exact (codesVal_emb x (h % 16) (inb_q h) z).trans (by rw [e])
/-- Head `h` of the factors. -/
theorem qsHead_factorVal (x : Vec F S1x256x1024 .bf16) (h : ℕ) (hh : h < 16) : qsHead (factorVal x) h = headFactor (xTile x (h / 2)) (h % 2) := by
  funext z
  have e : h % 16 = h := Nat.mod_eq_of_lt hh
  exact (factorVal_emb x (h % 16) (inb_qs h) z).trans (by rw [e])

/-- Sixteen pieces, one to a head, cover the codes, the scales and the factors. -/
theorem mem_codes (y : S1x16x64x256.Idx) (h : ℕ) (hy : (y 1).val = h) (inb : ∀ a, ![0, h, 0, 0] a + S1x1x64x256.size a ≤ S1x16x64x256.size a) :
    y ∈ (Rect.unit (s := S1x16x64x256) ![0, h, 0, 0] S1x1x64x256.size inb).set := by
  refine Rect.mem_set_unit.mpr fun a => ?_
  fin_cases a
  · exact ⟨Nat.zero_le _, by show (y 0).val < 0 + 1; have : (y 0).val < 1 := (y 0).isLt; omega⟩
  · exact ⟨by show h ≤ (y 1).val; omega, by show (y 1).val < h + 1; omega⟩
  · exact ⟨Nat.zero_le _, by show (y 2).val < 0 + 64; have : (y 2).val < 64 := (y 2).isLt; omega⟩
  · exact ⟨Nat.zero_le _, by show (y 3).val < 0 + 256; have : (y 3).val < 256 := (y 3).isLt; omega⟩
theorem mem_scale (y : S1x16x256.Idx) (h : ℕ) (hy : (y 1).val = h) (inb : ∀ a, ![0, h, 0] a + S1x1x256.size a ≤ S1x16x256.size a) :
    y ∈ (Rect.unit (s := S1x16x256) ![0, h, 0] S1x1x256.size inb).set := by
  refine Rect.mem_set_unit.mpr fun a => ?_
  fin_cases a
  · exact ⟨Nat.zero_le _, by show (y 0).val < 0 + 1; have : (y 0).val < 1 := (y 0).isLt; omega⟩
  · exact ⟨by show h ≤ (y 1).val; omega, by show (y 1).val < h + 1; omega⟩
  · exact ⟨Nat.zero_le _, by show (y 2).val < 0 + 256; have : (y 2).val < 256 := (y 2).isLt; omega⟩
theorem mem_factor (y : S16x1x256.Idx) (h : ℕ) (hy : (y 0).val = h) (inb : ∀ a, ![h, 0, 0] a + S1x1x256.size a ≤ S16x1x256.size a) :
    y ∈ (Rect.unit (s := S16x1x256) ![h, 0, 0] S1x1x256.size inb).set := by
  refine Rect.mem_set_unit.mpr fun a => ?_
  fin_cases a
  · exact ⟨by show h ≤ (y 0).val; omega, by show (y 0).val < h + 1; omega⟩
  · exact ⟨Nat.zero_le _, by show (y 1).val < 0 + 1; have : (y 1).val < 1 := (y 1).isLt; omega⟩
  · exact ⟨Nat.zero_le _, by show (y 2).val < 0 + 256; have : (y 2).val < 256 := (y 2).isLt; omega⟩

end Cert.Proof.KernelIdeal
-- ==== Proof.KI.Body0.lean ====
module

public import proofs.«01_k».proof.Proof.Gen.KernelIdeal.Loops
public import proofs.«01_k».proof.Proof.KI.Offsets
public import proofs.«01_k».proof.Proof.KI.Tiles
public import proofs.«01_k».proof.Proof.KI.Quant
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! # The key-value kernel -/

theorem trips_k0 : k0_t1_loop.trips = 64 := by decide +kernel
theorem k0_off1_eq : ∀ t : Fin k0_t1_loop.trips, k0_off1 t = ![0, 0, 128 * t.val] := by decide +kernel
theorem k0_off2_eq : ∀ t : Fin k0_t1_loop.trips, k0_off2 t = ![0, 0, 128 * t.val] := by decide +kernel
theorem k0_off3_eq : ∀ t : Fin k0_t1_loop.trips, k0_off3 t = ![0, 128 * t.val, 0] := by decide +kernel

/-- The first `k` tiles of 128 along an axis are those of `G`. -/
def Filled {d : Fin 3 → ℕ} {e : EltTy} (z G : (⟨3, d⟩ : Shape).Idx → Elt F e) (ax : Fin 3) (k : ℕ) : Prop :=
  ∀ y : (⟨3, d⟩ : Shape).Idx, (y ax).val / 128 < k → z y = G y

theorem fill {κ : Kind} {sp : Space} {d : Fin 3 → ℕ} {e : EltTy} (v : View sig κ sp ⟨3, d⟩ e) (f : v.ty.Contents (Elt F)) (G : (⟨3, d⟩ : Shape).Idx → Elt F e)
    (ax : Fin 3) (t : ℕ) {off off' size : Fin 3 → ℕ} (inb : ∀ a, off a + size a ≤ d a) (hoff : off = off') (hax : off' ax = 128 * t) (hsz : size ax = 128)
    (hoth : ∀ a, a ≠ ax → off' a = 0 ∧ size a = d a) (w : (Rect.unit (s := (⟨3, d⟩ : Shape)) off size inb).shape.Idx → Elt F e)
    (hw : ∀ (y : (⟨3, d⟩ : Shape).Idx) (z : (Rect.unit (s := (⟨3, d⟩ : Shape)) off size inb).shape.Idx), (y ax).val / 128 = t → (z ax).val = (y ax).val % 128 →
      (∀ a, a ≠ ax → (z a).val = (y a).val) → w z = G y)
    (h : Filled (v.read (Elt F) f) G ax t) : Filled (v.read (Elt F) (v.writes (Elt F) f [⟨Rect.unit (s := (⟨3, d⟩ : Shape)) off size inb, w⟩])) G ax (t + 1) := by
  intro y hy
  by_cases e : (y ax).val / 128 = t
  · have hlt : ∀ a, (if a = ax then (y a).val % 128 else (y a).val) < size a := by
      intro a
      by_cases ha : a = ax
      · subst ha; rw [if_pos rfl, hsz]; exact Nat.mod_lt _ (by omega)
      · rw [if_neg ha, (hoth a ha).2]; exact (y a).isLt
    have hx : ∀ a, (y a).val = off' a + (if a = ax then (y a).val % 128 else (y a).val) := by
      intro a
      by_cases ha : a = ax
      · subst ha; rw [if_pos rfl, hax]; omega
      · rw [if_neg ha, (hoth a ha).1]; omega
    rw [View.read_writes_cons_unit_of_mem (off' := off') v f inb w [] y (fun a => ⟨if a = ax then (y a).val % 128 else (y a).val, hlt a⟩) hoff hx]
    refine hw y _ e ?_ ?_
    · exact if_pos rfl
    · intro a ha; exact if_neg ha
  · rw [View.read_writes_cons_unit_of_not_mem (off' := off') v f inb w [] y hoff ax (by rw [hax, hsz]; omega)]
    exact h y (by omega)

theorem inb_kv (t : ℕ) : ∀ a, ![0, 0, 128 * (t % 64)] a + S1x64x128.size a ≤ S1x64x8192.size a := by
  have h : t % 64 < 64 := Nat.mod_lt _ (by omega)
  intro a; fin_cases a
  · show 0 + 1 ≤ 1; omega
  · show 0 + 64 ≤ 64; omega
  · show 128 * (t % 64) + 128 ≤ 8192; omega

/-- Tile `t` of the keys or values: 128 columns. -/
def kvTile (x : Vec F S1x64x8192 .bf16) (t : ℕ) : Vec F S1x64x128 .bf16 := VecWindow.window x ![0, 0, 128 * (t % 64)] S1x64x128.size (inb_kv t)

theorem load_kv (arg : Memref sig .tc .vmem S1x64x8192 .bf16) (X : BufTy.Contents (Elt F) arg.view.ty) {off : Fin 3 → ℕ} {inb : ∀ a, off a + S1x64x128.size a ≤ S1x64x8192.size a} {t : ℕ} (ht : t < 64) (hoff : off = ![0, 0, 128 * t]) :
    arg.view.readAt (Elt F) (Rect.unit (s := S1x64x8192) off S1x64x128.size inb).toLoadRect X = kvTile (arg.view.read (Elt F) X) t :=
  View.readAt_unit arg.view X inb (off' := ![0, 0, 128 * (t % 64)]) (hoff.trans (by rw [Nat.mod_eq_of_lt ht])) (inb_kv t)

def colAt (y : S1x64x8192.Idx) : S1x64x128.Idx := fun a => ⟨if a.val = 2 then (y a).val % 128 else (y a).val, by
  fin_cases a
  · exact (y 0).isLt
  · exact (y 1).isLt
  · exact Nat.mod_lt _ (by show 0 < 128; omega)⟩
theorem colAt_eq (y : S1x64x8192.Idx) (z : S1x64x128.Idx) (hz : (z 2).val = (y 2).val % 128) (hz' : ∀ a, a ≠ 2 → (z a).val = (y a).val) : colAt y = z := by
  funext a
  apply Fin.ext
  fin_cases a
  · exact (hz' 0 (by decide)).symm
  · exact (hz' 1 (by decide)).symm
  · exact hz.symm
def laneAt (y : S1x1x8192.Idx) : S1x1x128.Idx := fun a => ⟨if a.val = 2 then (y a).val % 128 else (y a).val, by
  fin_cases a
  · exact (y 0).isLt
  · exact (y 1).isLt
  · exact Nat.mod_lt _ (by show 0 < 128; omega)⟩
theorem laneAt_eq (y : S1x1x8192.Idx) (z : S1x1x128.Idx) (hz : (z 2).val = (y 2).val % 128) (hz' : ∀ a, a ≠ 2 → (z a).val = (y a).val) : laneAt y = z := by
  funext a
  apply Fin.ext
  fin_cases a
  · exact (hz' 0 (by decide)).symm
  · exact (hz' 1 (by decide)).symm
  · exact hz.symm
def rowAt (y : S1x8192x128.Idx) : S1x128x128.Idx := fun a => ⟨if a.val = 1 then (y a).val % 128 else (y a).val, by
  fin_cases a
  · exact (y 0).isLt
  · exact Nat.mod_lt _ (by show 0 < 128; omega)
  · exact (y 2).isLt⟩
theorem rowAt_eq (y : S1x8192x128.Idx) (z : S1x128x128.Idx) (hz : (z 1).val = (y 1).val % 128) (hz' : ∀ a, a ≠ 1 → (z a).val = (y a).val) : rowAt y = z := by
  funext a
  apply Fin.ext
  fin_cases a
  · exact (hz' 0 (by decide)).symm
  · exact hz.symm
  · exact (hz' 2 (by decide)).symm

def kcValTile (x : Vec F S1x64x8192 .bf16) (t : ℕ) : Vec F S1x64x128 .fp8e4m3 := k0_pay10 (k0_pay7 (kvTile x t))
def kcVal (x : Vec F S1x64x8192 .bf16) : Vec F S1x64x8192 .fp8e4m3 := fun y => kcValTile x ((y 2).val / 128) (colAt y)

def ksValTile (x : Vec F S1x64x8192 .bf16) (t : ℕ) : Vec F S1x1x128 .f32 := k0_pay11 (F := F) (k0_pay6 (kvTile x t)) k0_pay8
def ksVal (x : Vec F S1x64x8192 .bf16) : Vec F S1x1x8192 .f32 := fun y => ksValTile x ((y 2).val / 128) (laneAt y)

def vcValTile (x : Vec F S1x64x8192 .bf16) (t : ℕ) : Vec F S1x64x128 .fp8e4m3 := k0_pay18 (k0_pay14 (kvTile x t)) (k0_pay15 (kvTile x t)) (iota .tc S256x1 32 [0] iota_S256x1_d0_w32) 23#32
def vcVal (x : Vec F S1x64x8192 .bf16) : Vec F S1x64x8192 .fp8e4m3 := fun y => vcValTile x ((y 2).val / 128) (colAt y)

def klValTile (x : Vec F S1x64x8192 .bf16) (t : ℕ) : Vec F S1x128x128 .fp8e4m3 := k0_pay12 (k0_pay7 (kvTile x t))
def klVal (x : Vec F S1x64x8192 .bf16) : Vec F S1x8192x128 .fp8e4m3 := fun y => klValTile x ((y 1).val / 128) (rowAt y)

def kbValTile (x : Vec F S1x64x8192 .bf16) (t : ℕ) : Vec F S1x128x128 .f32 := k0_pay13 (F := F) (k0_pay6 (kvTile x t)) k0_pay8
def kbVal (x : Vec F S1x64x8192 .bf16) : Vec F S1x8192x128 .f32 := fun y => kbValTile x ((y 1).val / 128) (rowAt y)

def vdValTile (x : Vec F S1x64x8192 .bf16) (t : ℕ) : Vec F S1x64x128 .bf16 := k0_pay2 (k0_pay19 (k0_pay14 (kvTile x t)) (k0_pay15 (kvTile x t)) (iota .tc S256x1 32 [0] iota_S256x1_d0_w32) 23#32)
def vdVal (x : Vec F S1x64x8192 .bf16) : Vec F S1x64x8192 .bf16 := fun y => vdValTile x ((y 2).val / 128) (colAt y)

/-- The largest exponent of the first `k` tiles of the values, lane by lane. -/
def vsAcc (x : Vec F S1x64x8192 .bf16) : ℕ → FVec F S1x64 .f32
  | 0 => k0_pay1 (F := F)
  | t + 1 => k0_pay3 (vsAcc x t) (Scf.iv 0#32 1#32 t) (k0_pay16 (k0_pay15 (kvTile x t)) (iota .tc S256x1 32 [0] iota_S256x1_d0_w32) 23#32)
def vsVal (x : Vec F S1x64x8192 .bf16) : Vec F S1x1x64 .f32 := k0_pay4 (vsAcc x 64)

section
variable (c : Dev nD) (i : grid0.Coords) (arg1 : Memref sig .tc .vmem S1x64x8192 .bf16) (harg1 : arg1.IsWhole) (arg2 : Memref sig .tc .vmem S1x64x8192 .bf16) (harg2 : arg2.IsWhole) (arg3 : Memref sig .tc .vmem S1x64x8192 .fp8e4m3) (harg3 : arg3.IsWhole) (arg4 : Memref sig .tc .vmem S1x1x8192 .f32) (harg4 : arg4.IsWhole) (arg5 : Memref sig .tc .vmem S1x64x8192 .fp8e4m3) (harg5 : arg5.IsWhole) (arg6 : Memref sig .tc .vmem S1x1x64 .f32) (harg6 : arg6.IsWhole) (arg7 : Memref sig .tc .vmem S1x8192x128 .fp8e4m3) (harg7 : arg7.IsWhole) (arg8 : Memref sig .tc .vmem S1x8192x128 .f32) (harg8 : arg8.IsWhole) (arg9 : Memref sig .tc .vmem S1x64x8192 .bf16) (harg9 : arg9.IsWhole)

set_option warn.classDefReducibility false in
set_option maxHeartbeats 4000000 in
/-- The loop over the tiles: before trip `k`, the first `k` tiles of every output are written. -/
def inv_k0 (X1 : BufTy.Contents (Elt F) arg1.view.ty) (X2 : BufTy.Contents (Elt F) arg2.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 (k0_pay1 (F := F)) where
  inv k acc := iprop((arg1.view.loc (c : Thread nD τ) ↦[arg1.view.set]{fullShare} X1) ∗ (arg2.view.loc (c : Thread nD τ) ↦[arg2.view.set]{fullShare} X2) ∗ (∃ f, (arg3.view.loc (c : Thread nD τ) ↦[arg3.view.set]{fullShare} f) ∗ ⌜Filled (arg3.view.read (Elt F) f) (kcVal (arg1.view.read (Elt F) X1)) 2 k⌝) ∗ (∃ f, (arg4.view.loc (c : Thread nD τ) ↦[arg4.view.set]{fullShare} f) ∗ ⌜Filled (arg4.view.read (Elt F) f) (ksVal (arg1.view.read (Elt F) X1)) 2 k⌝) ∗ (∃ f, (arg5.view.loc (c : Thread nD τ) ↦[arg5.view.set]{fullShare} f) ∗ ⌜Filled (arg5.view.read (Elt F) f) (vcVal (arg2.view.read (Elt F) X2)) 2 k⌝) ∗ (∃ f, (arg7.view.loc (c : Thread nD τ) ↦[arg7.view.set]{fullShare} f) ∗ ⌜Filled (arg7.view.read (Elt F) f) (klVal (arg1.view.read (Elt F) X1)) 1 k⌝) ∗ (∃ f, (arg8.view.loc (c : Thread nD τ) ↦[arg8.view.set]{fullShare} f) ∗ ⌜Filled (arg8.view.read (Elt F) f) (kbVal (arg1.view.read (Elt F) X1)) 1 k⌝) ∗ (∃ f, (arg9.view.loc (c : Thread nD τ) ↦[arg9.view.set]{fullShare} f) ∗ ⌜Filled (arg9.view.read (Elt F) f) (vdVal (arg2.view.read (Elt F) X2)) 2 k⌝) ∗ ⌜acc = vsAcc (arg2.view.read (Elt F) X2) k⌝)
  step t acc := by
    have ht : t.val < 64 := t.isLt.trans_eq trips_k0
    unfold k0_t1_body
    simp only [k0_part1_eq_skeleton, k0_part2_eq_skeleton, k0_part3_eq_skeleton]
    iintro ⟨H1, H2, ⟨%f3, H3, %hf3⟩, ⟨%f4, H4, %hf4⟩, ⟨%f5, H5, %hf5⟩, ⟨%f7, H7, %hf7⟩, ⟨%f8, H8, %hf8⟩, ⟨%f9, H9, %hf9⟩, %hacc⟩
    sl_exec
    sl_step
    have hA1 := load_kv arg1 X1 (inb := k0_off1_inb t) ht (k0_off1_eq t)
    have hA2 := load_kv arg2 X2 (inb := k0_off1_inb t) ht (k0_off1_eq t)
    isplitl [H1]
    · iexact H1
    isplitl [H2]
    · iexact H2
    isplitl [H3]
    · iexists _
      isplitl [H3]
      · iexact H3
      ipureintro
      refine fill arg3.view f3 _ 2 t.val _ (k0_off1_eq t) rfl rfl ?_ _ ?_ hf3
      · intro a ha
        fin_cases a
        · exact ⟨rfl, rfl⟩
        · exact ⟨rfl, rfl⟩
        · exact absurd rfl ha
      · intro y z e hz hz'
        have ez : colAt y = z := colAt_eq y z hz hz'
        unfold kcVal
        rw [e, ez]
        exact congrFun (congrArg (fun v => k0_pay10 (k0_pay7 v)) hA1) z
    isplitl [H4]
    · iexists _
      isplitl [H4]
      · iexact H4
      ipureintro
      refine fill arg4.view f4 _ 2 t.val _ (k0_off2_eq t) rfl rfl ?_ _ ?_ hf4
      · intro a ha
        fin_cases a
        · exact ⟨rfl, rfl⟩
        · exact ⟨rfl, rfl⟩
        · exact absurd rfl ha
      · intro y z e hz hz'
        have ez : laneAt y = z := laneAt_eq y z hz hz'
        unfold ksVal
        rw [e, ez]
        exact congrFun (congrArg (fun v => k0_pay11 (F := F) (k0_pay6 v) k0_pay8) hA1) z
    isplitl [H5]
    · iexists _
      isplitl [H5]
      · iexact H5
      ipureintro
      refine fill arg5.view f5 _ 2 t.val _ (k0_off1_eq t) rfl rfl ?_ _ ?_ hf5
      · intro a ha
        fin_cases a
        · exact ⟨rfl, rfl⟩
        · exact ⟨rfl, rfl⟩
        · exact absurd rfl ha
      · intro y z e hz hz'
        have ez : colAt y = z := colAt_eq y z hz hz'
        unfold vcVal
        rw [e, ez]
        exact congrFun (congrArg (fun v => k0_pay18 (k0_pay14 v) (k0_pay15 v) (iota .tc S256x1 32 [0] iota_S256x1_d0_w32) 23#32) hA2) z
    isplitl [H7]
    · iexists _
      isplitl [H7]
      · iexact H7
      ipureintro
      refine fill arg7.view f7 _ 1 t.val _ (k0_off3_eq t) rfl rfl ?_ _ ?_ hf7
      · intro a ha
        fin_cases a
        · exact ⟨rfl, rfl⟩
        · exact absurd rfl ha
        · exact ⟨rfl, rfl⟩
      · intro y z e hz hz'
        have ez : rowAt y = z := rowAt_eq y z hz hz'
        unfold klVal
        rw [e, ez]
        exact congrFun (congrArg (fun v => k0_pay12 (k0_pay7 v)) hA1) z
    isplitl [H8]
    · iexists _
      isplitl [H8]
      · iexact H8
      ipureintro
      refine fill arg8.view f8 _ 1 t.val _ (k0_off3_eq t) rfl rfl ?_ _ ?_ hf8
      · intro a ha
        fin_cases a
        · exact ⟨rfl, rfl⟩
        · exact absurd rfl ha
        · exact ⟨rfl, rfl⟩
      · intro y z e hz hz'
        have ez : rowAt y = z := rowAt_eq y z hz hz'
        unfold kbVal
        rw [e, ez]
        exact congrFun (congrArg (fun v => k0_pay13 (F := F) (k0_pay6 v) k0_pay8) hA1) z
    isplitl [H9]
    · iexists _
      isplitl [H9]
      · iexact H9
      ipureintro
      refine fill arg9.view f9 _ 2 t.val _ (k0_off1_eq t) rfl rfl ?_ _ ?_ hf9
      · intro a ha
        fin_cases a
        · exact ⟨rfl, rfl⟩
        · exact ⟨rfl, rfl⟩
        · exact absurd rfl ha
      · intro y z e hz hz'
        have ez : colAt y = z := colAt_eq y z hz hz'
        unfold vdVal
        rw [e, ez]
        exact congrFun (congrArg (fun v => k0_pay2 (k0_pay19 (k0_pay14 v) (k0_pay15 v) (iota .tc S256x1 32 [0] iota_S256x1_d0_w32) 23#32)) hA2) z
    ipureintro
    rw [hacc]
    exact congrArg (fun v => k0_pay3 (vsAcc (arg2.view.read (Elt F) X2) t.val) (Scf.iv 0#32 1#32 t.val) (k0_pay16 (k0_pay15 v) (iota .tc S256x1 32 [0] iota_S256x1_d0_w32) 23#32)) hA2

theorem filled_all {d : Fin 3 → ℕ} {e : EltTy} (z G : (⟨3, d⟩ : Shape).Idx → Elt F e) (ax : Fin 3) (hd : d ax = 8192) (h : Filled z G ax k0_t1_loop.trips) : z = G := by
  funext y
  refine h y ?_
  have h2 : (y ax).val < 8192 := (y ax).isLt.trans_eq hd
  rw [trips_k0]
  omega

set_option maxHeartbeats 4000000 in
/-- The body of the key-value kernel. -/
theorem sound_kernel0 (k v : Vec F S1x64x8192 .bf16) (K : PUnit → sProp 𝕄G) :
    (iprop(owns (c : Thread nD τ) arg1 fullShare k ∗ owns (c : Thread nD τ) arg2 fullShare v ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg1 fullShare k ∗ owns (c : Thread nD τ) arg2 fullShare v ∗ owns (c : Thread nD τ) arg3 fullShare (kcVal k) ∗ owns (c : Thread nD τ) arg4 fullShare (ksVal k) ∗ owns (c : Thread nD τ) arg5 fullShare (vcVal v) ∗ owns (c : Thread nD τ) arg6 fullShare (vsVal v) ∗ owns (c : Thread nD τ) arg7 fullShare (klVal k) ∗ owns (c : Thread nD τ) arg8 fullShare (kbVal k) ∗ owns (c : Thread nD τ) arg9 fullShare (vdVal v)) -∗ K ⟨⟩)) : sProp 𝕄G)
    ⊢ wp frame (wpE (defs₀ (F := F)) Variants.none c none) Set.univ (cc0_kv i arg1 harg1 arg2 harg2 arg3 harg3 arg4 harg4 arg5 harg5 arg6 harg6 arg7 harg7 arg8 harg8 arg9 harg9) K := by
  rw [cc0_kv_eq_skeleton (F := F)]; unfold cc0_kv_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  let L := inv_k0 (F := F) c i arg1 harg1 arg2 harg2 arg3 harg3 arg4 harg4 arg5 harg5 arg6 harg6 arg7 harg7 arg8 harg8 arg9 harg9 f1 f2
  have h3 : Filled (d := S1x64x8192.size) (arg3.view.read (Elt F) f3) (kcVal (arg1.view.read (Elt F) f1)) 2 0 := fun y hy => absurd hy (Nat.not_lt_zero _)
  have h4 : Filled (d := S1x1x8192.size) (arg4.view.read (Elt F) f4) (ksVal (arg1.view.read (Elt F) f1)) 2 0 := fun y hy => absurd hy (Nat.not_lt_zero _)
  have h5 : Filled (d := S1x64x8192.size) (arg5.view.read (Elt F) f5) (vcVal (arg2.view.read (Elt F) f2)) 2 0 := fun y hy => absurd hy (Nat.not_lt_zero _)
  have h7 : Filled (d := S1x8192x128.size) (arg7.view.read (Elt F) f7) (klVal (arg1.view.read (Elt F) f1)) 1 0 := fun y hy => absurd hy (Nat.not_lt_zero _)
  have h8 : Filled (d := S1x8192x128.size) (arg8.view.read (Elt F) f8) (kbVal (arg1.view.read (Elt F) f1)) 1 0 := fun y hy => absurd hy (Nat.not_lt_zero _)
  have h9 : Filled (d := S1x64x8192.size) (arg9.view.read (Elt F) f9) (vdVal (arg2.view.read (Elt F) f2)) 2 0 := fun y hy => absurd hy (Nat.not_lt_zero _)
  sl_exec
  sl_step
  subst hf1 hf2
  iapply Hk
  isplitl [H1]
  · iexists _; isplitr
    swap; · iexact H1
    ipureintro
    rfl
  isplitl [H2]
  · iexists _; isplitr
    swap; · iexact H2
    ipureintro
    rfl
  isplitl [H3]
  · iexists _; isplitr
    swap; · iexact H3
    ipureintro
    exact filled_all (d := S1x64x8192.size) _ _ 2 rfl hL3
  isplitl [H4]
  · iexists _; isplitr
    swap; · iexact H4
    ipureintro
    exact filled_all (d := S1x1x8192.size) _ _ 2 rfl hL5
  isplitl [H5]
  · iexists _; isplitr
    swap; · iexact H5
    ipureintro
    exact filled_all (d := S1x64x8192.size) _ _ 2 rfl hL7
  isplitl [H6]
  · iexists _; isplitr
    swap; · iexact H6
    ipureintro
    exact (View.read_writes_full arg6.view f6 inb_S1x1x64_S1x1x64_0_0_0 _ []).trans (congrArg (fun n => k0_pay4 (vsAcc (arg2.view.read (Elt F) f2) n)) trips_k0)
  isplitl [H7]
  · iexists _; isplitr
    swap; · iexact H7
    ipureintro
    exact filled_all (d := S1x8192x128.size) _ _ 1 rfl hL9
  isplitl [H8]
  · iexists _; isplitr
    swap; · iexact H8
    ipureintro
    exact filled_all (d := S1x8192x128.size) _ _ 1 rfl hL11
  iexists _; isplitr
  swap; · iexact H9
  ipureintro
  exact filled_all (d := S1x64x8192.size) _ _ 2 rfl hL13

end

end Cert.Proof.KernelIdeal
-- ==== Proof.KI.HeadParts.lean ====
module

public import proofs.«01_k».proof.Proof.Gen.KernelIdeal.Loops
public import proofs.«01_k».proof.Proof.KI.Offsets
public import proofs.«01_k».proof.Proof.KI.Tiles
public import proofs.«01_k».proof.Proof.KI.HeadLoops
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! # The parts of one pair of heads -/

section
variable (c : Dev nD) (i : grid1.Coords) (arg2 : Memref sig .tc .vmem S1x256x1024 .bf16) (harg2 : arg2.IsWhole) (arg3 : Memref sig .tc .vmem S1x8192x128 .fp8e4m3) (harg3 : arg3.IsWhole) (arg4 : Memref sig .tc .vmem S1x8192x128 .f32) (harg4 : arg4.IsWhole) (arg5 : Memref sig .tc .vmem S1x64x8192 .bf16) (harg5 : arg5.IsWhole) (arg6 : Memref sig .tc .vmem S1x256x1024 .bf16) (harg6 : arg6.IsWhole) (arg7 : Memref sig .tc .vmem S1x16x64x256 .fp8e4m3) (harg7 : arg7.IsWhole) (arg8 : Memref sig .tc .vmem S1x16x256 .f32) (harg8 : arg8.IsWhole) (arg9 : Memref sig .tc .vmem S16x1x256 .f32) (harg9 : arg9.IsWhole) (arg10 : Memref sig .tc .vmem S8192x256 .f32) (harg10 : arg10.IsWhole)
  (X3 : BufTy.Contents (Elt F) arg3.view.ty) (X4 : BufTy.Contents (Elt F) arg4.view.ty) (X5 : BufTy.Contents (Elt F) arg5.view.ty) (X7 : BufTy.Contents (Elt F) arg7.view.ty) (X9 : BufTy.Contents (Elt F) arg9.view.ty)

/-- The scores of the first head of pair `t`. -/
theorem spec_part1 (arg1 c0 c1 : BitVec 32) (t : Fin k1_t1_loop.trips) (f : BufTy.Contents (Elt F) arg10.view.ty) :
    (iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} f)) : sProp 𝕄G) ⊢
    wp frame (wpE (defs₀ (F := F)) Variants.none c none) Set.univ (k1_part1 i arg2 harg2 arg3 harg3 arg4 harg4 arg5 harg5 arg6 harg6 arg7 harg7 arg8 harg8 arg9 harg9 arg10 harg10 arg1 c0 c1 t) (fun r => iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg9.view.loc (c : Thread nD τ) ↦[arg9.view.set]{fullShare} X9) ∗ (∃ f', (arg10.view.loc (c : Thread nD τ) ↦[arg10.view.set]{fullShare} f') ∗ ⌜Scored (arg10.view.read (Elt F) f') (i 1).val (scoreTile (qcHead (arg7.view.read (Elt F) X7) (2 * t.val)) (qsHead (arg9.view.read (Elt F) X9) (2 * t.val)) (arg3.view.read (Elt F) X3) (arg4.view.read (Elt F) X4) (i 1).val)⌝) ∗ ⌜r.2.1 = k1_pay3 (qcHead (arg7.view.read (Elt F) X7) (2 * t.val))⌝ ∗ ⌜r.2.2.1 = k1_pay4 (qsHead (arg9.view.read (Elt F) X9) (2 * t.val))⌝ ∗ ⌜r.2.2.2.2 = headMax (qcHead (arg7.view.read (Elt F) X7) (2 * t.val)) (qsHead (arg9.view.read (Elt F) X9) (2 * t.val)) (arg3.view.read (Elt F) X3) (arg4.view.read (Elt F) X4) (i 1).val⌝)) := by
  have ht : t.val < 8 := t.isLt.trans_eq trips_t1
  have hq := qi_lt i
  rw [k1_part1_eq_skeleton]
  unfold k1_part1_skel
  iintro ⟨H3, H4, H7, H9, H10⟩
  set_option sl_exec.maxSteps 6 in sl_exec
  rw [load_q arg7 X7 (by omega) (off1_eq t), load_qs arg9 X9 (by omega) (off2_eq t), load_kl arg3 X3 hq (off3_eq i), load_kb arg4 X4 hq (off4_eq i)]
  generalize hqv : qcHead (arg7.view.read (Elt F) X7) (2 * t.val) = q
  generalize hsv : qsHead (arg9.view.read (Elt F) X9) (2 * t.val) = s
  have hD : ∀ j, j < 0 ∨ j = (i 1).val → TileAt (arg10.view.read (Elt F) (arg10.view.writes (Elt F) f
      [⟨Rect.unit (s := S8192x256) (k1_off5 i) S256x256.size (k1_off5_inb i), k1_pay6 q s (klTile (arg3.view.read (Elt F) X3) (i 1).val) (kbTile (arg4.view.read (Elt F) X4) (i 1).val)⟩])) j
      (scoreTile q s (arg3.view.read (Elt F) X3) (arg4.view.read (Elt F) X4) (i 1).val j) := by
    intro j hj
    obtain rfl : j = (i 1).val := by omega
    have hs : scoreTile q s (arg3.view.read (Elt F) X3) (arg4.view.read (Elt F) X4) (i 1).val (i 1).val = k1_pay6 q s (klTile (arg3.view.read (Elt F) X3) (i 1).val) (kbTile (arg4.view.read (Elt F) X4) (i 1).val) := by
      unfold scoreTile; rw [if_pos rfl]
    rw [hs]
    exact store_tile arg10 f hq (off5_eq i) _ []
  let L := inv_t2 c i arg2 harg2 arg3 harg3 arg4 harg4 arg5 harg5 arg6 harg6 arg7 harg7 arg8 harg8 arg9 harg9 arg10 harg10 X3 X4 arg1 c0 c1 t q s
  sl_exec
  have h2 : Scf.trips (k1_t2_loop i).lb (k1_t2_loop i).ub (k1_t2_loop i).st = (i 1).val := trips_t2 i
  rw [h2] at hL3
  rw [h2]
  sl_step
  isplitl [H3]; · iexact H3
  isplitl [H4]; · iexact H4
  isplitl [H7]; · iexact H7
  isplitl [H9]; · iexact H9
  isplitl [H10]
  · iexists _
    isplitl [H10]; · iexact H10
    ipureintro
    exact fun j hj => hL3 j (by omega)
  isplitl []; · ipureintro; rfl
  isplitl []; · ipureintro; rfl
  ipureintro; rfl

/-- The exponentials of the first head. -/
theorem spec_part2 (arg1 : BitVec 32) (v964 : FVec F S64x256 .fp8e4m3) (v967 : FVec F S1x256 .f32) (v998 : BitVec 32) (m : FVec F S8x256 .f32)
    (S : ℕ → Vec F S256x256 .f32) (f : BufTy.Contents (Elt F) arg10.view.ty) :
    (iprop((arg10.view.loc (c : Thread nD τ) ↦[arg10.view.set]{fullShare} f) ∗ ⌜Scored (arg10.view.read (Elt F) f) (i 1).val S⌝) : sProp 𝕄G) ⊢
    wp frame (wpE (defs₀ (F := F)) Variants.none c none) Set.univ (k1_part2 i arg2 harg2 arg3 harg3 arg4 harg4 arg5 harg5 arg6 harg6 arg7 harg7 arg8 harg8 arg9 harg9 arg10 harg10 arg1 v964 v967 v998 m) (fun r => iprop((∃ f', (arg10.view.loc (c : Thread nD τ) ↦[arg10.view.set]{fullShare} f') ∗ ⌜Scored (arg10.view.read (Elt F) f') (i 1).val (fun j => k1_pay17 m (S j))⌝) ∗ ⌜r.1 = k1_pay22 (sumAcc m S ((i 1).val + 1))⌝ ∗ ⌜r.2.1 = k1_pay23 (sumAcc m S ((i 1).val + 1))⌝ ∗ ⌜r.2.2.1 = k1_pay24 (sumAcc m S ((i 1).val + 1))⌝ ∗ ⌜r.2.2.2 = k1_pay25⌝)) := by
  have hq := qi_lt i
  rw [k1_part2_eq_skeleton]
  unfold k1_part2_skel
  iintro ⟨H10, %hS⟩
  have htr := trips_t3 i
  have hE : ExpBefore (arg10.view.read (Elt F) f) (i 1).val m S 0 := ⟨fun j hj _ => absurd hj (by omega), fun j _ hj => hS j hj⟩
  let L := inv_t4 c i arg2 harg2 arg3 harg3 arg4 harg4 arg5 harg5 arg6 harg6 arg7 harg7 arg8 harg8 arg9 harg9 arg10 harg10 arg1 v964 v967 v998 m m S
  sl_exec
  have h5 : Scf.trips (k1_t5_loop i).lb (k1_t5_loop i).ub (k1_t5_loop i).st = 0 := trips_t5 i
  have h4 : Scf.trips (k1_t4_loop i).lb (k1_t4_loop i).ub (k1_t4_loop i).st = (i 1).val + 1 := trips_t4 i
  rw [h5, h4]
  rw [h4] at hL2
  simp only [st_k1_t5]
  sl_step
  isplitl [H10]
  · iexists _
    isplitl [H10]; · iexact H10
    ipureintro
    exact fun j hj => hL2.1 j (by omega) hj
  isplitl []; · ipureintro; exact congrArg k1_pay22 rfl
  isplitl []; · ipureintro; dsimp only
  isplitl []; · ipureintro; exact congrArg k1_pay24 rfl
  ipureintro; rfl

/-- The first head's output and the operands of the second head's scores. -/
theorem spec_part3 (arg1 : BitVec 32) (t : Fin k1_t1_loop.trips) (arg11 : BitVec 32) (u : FVec F S1x256 .f32) (v1034 w₁ w₂ : IVec S1x256 32)
    (E : ℕ → Vec F S256x256 .f32) (f : BufTy.Contents (Elt F) arg10.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} f) ∗ ⌜Scored (arg10.view.read (Elt F) f) (i 1).val E⌝) : sProp 𝕄G) ⊢
    wp frame (wpE (defs₀ (F := F)) Variants.none c none) Set.univ (k1_part3 i arg2 harg2 arg3 harg3 arg4 harg4 arg5 harg5 arg6 harg6 arg7 harg7 arg8 harg8 arg9 harg9 arg10 harg10 arg1 t arg11 u v1034 w₁ w₂) (fun r => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} f) ∗ ⌜r.1 = k1_pay30 v1034 (outAcc (arg5.view.read (Elt F) X5) u w₁ w₂ E ((i 1).val + 1))⌝ ∗ ⌜r.2.1 = k1_pay31 (qcHead (arg7.view.read (Elt F) X7) (2 * t.val + 1))⌝ ∗ ⌜r.2.2.1 = k1_pay32 (qsHead (arg9.view.read (Elt F) X9) (2 * t.val + 1))⌝ ∗ ⌜r.2.2.2.1 = k1_pay33⌝ ∗ ⌜r.2.2.2.2.2.1 = k1_pay34 (qcHead (arg7.view.read (Elt F) X7) (2 * t.val + 1)) (klTile (arg3.view.read (Elt F) X3) (i 1).val)⌝ ∗ ⌜r.2.2.2.2.2.2 = k1_pay35 (kbTile (arg4.view.read (Elt F) X4) (i 1).val)⌝)) := by
  have ht : t.val < 8 := t.isLt.trans_eq trips_t1
  have hq := qi_lt i
  rw [k1_part3_eq_skeleton]
  unfold k1_part3_skel
  iintro ⟨H3, H4, H5, H7, H9, H10, %hE⟩
  let L := inv_t6 c i arg2 harg2 arg3 harg3 arg4 harg4 arg5 harg5 arg6 harg6 arg7 harg7 arg8 harg8 arg9 harg9 arg10 harg10 X5 arg1 t arg11 u v1034 w₁ w₂ f E hE
  sl_exec
  rw [load_q arg7 X7 (by omega) (off18_eq t), load_qs arg9 X9 (by omega) (off19_eq t), load_kl arg3 X3 hq (off3_eq i), load_kb arg4 X4 hq (off4_eq i)]
  have h6 : Scf.trips (k1_t6_loop i).lb (k1_t6_loop i).ub (k1_t6_loop i).st = (i 1).val + 1 := trips_t6 i
  have h7 : Scf.trips (k1_t7_loop i).lb (k1_t7_loop i).ub (k1_t7_loop i).st = 0 := trips_t7 i
  rw [h6, h7]
  simp only [st_k1_t7]
  sl_step
  isplitl [H3]; · iexact H3
  isplitl [H4]; · iexact H4
  isplitl [H5]; · iexact H5
  isplitl [H7]; · iexact H7
  isplitl [H9]; · iexact H9
  isplitl [H10]; · iexact H10
  isplitl []; · ipureintro; exact congrArg (k1_pay30 _) rfl
  isplitl []; · ipureintro; rfl
  isplitl []; · ipureintro; rfl
  isplitl []; · ipureintro; rfl
  isplitl []; · ipureintro; rfl
  ipureintro; rfl

/-- The scores and the exponentials of the second head. -/
theorem spec_part4 (arg1 v1069 : BitVec 32) (q : Vec F S1x1x64x256 .fp8e4m3) (s : Vec F S1x1x256 .f32) (f : BufTy.Contents (Elt F) arg10.view.ty) :
    (iprop((arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} f)) : sProp 𝕄G) ⊢
    wp frame (wpE (defs₀ (F := F)) Variants.none c none) Set.univ (k1_part4 i arg2 harg2 arg3 harg3 arg4 harg4 arg5 harg5 arg6 harg6 arg7 harg7 arg8 harg8 arg9 harg9 arg10 harg10 arg1 (k1_pay31 q) (k1_pay32 s) k1_pay33 v1069 (k1_pay34 q (klTile (arg3.view.read (Elt F) X3) (i 1).val)) (k1_pay35 (kbTile (arg4.view.read (Elt F) X4) (i 1).val))) (fun r => iprop((arg3.view.loc (c : Thread nD τ) ↦[arg3.view.set]{fullShare} X3) ∗ (arg4.view.loc (c : Thread nD τ) ↦[arg4.view.set]{fullShare} X4) ∗ (∃ f', (arg10.view.loc (c : Thread nD τ) ↦[arg10.view.set]{fullShare} f') ∗ ⌜Scored (arg10.view.read (Elt F) f') (i 1).val (headExp q s (arg3.view.read (Elt F) X3) (arg4.view.read (Elt F) X4) (i 1).val)⌝) ∗ ⌜r.1 = k1_pay53 (headSum q s (arg3.view.read (Elt F) X3) (arg4.view.read (Elt F) X4) (i 1).val)⌝ ∗ ⌜r.2.1 = k1_pay54 (headSum q s (arg3.view.read (Elt F) X3) (arg4.view.read (Elt F) X4) (i 1).val)⌝ ∗ ⌜r.2.2.1 = iota .tc S256x256 32 [0] iota_S256x256_d0_w32⌝ ∗ ⌜r.2.2.2 = k1_pay55⌝)) := by
  have hq := qi_lt i
  rw [k1_part4_eq_skeleton]
  unfold k1_part4_skel
  iintro ⟨H3, H4, H10⟩
  have hD : ∀ j, j < 0 ∨ j = (i 1).val → TileAt (arg10.view.read (Elt F) (arg10.view.writes (Elt F) f
      [⟨Rect.unit (s := S8192x256) (k1_off5 i) S256x256.size (k1_off5_inb i),
        k1_pay37 (k1_pay32 s) (k1_pay34 q (klTile (arg3.view.read (Elt F) X3) (i 1).val)) (k1_pay35 (kbTile (arg4.view.read (Elt F) X4) (i 1).val))⟩])) j
      (scoreTile q s (arg3.view.read (Elt F) X3) (arg4.view.read (Elt F) X4) (i 1).val j) := by
    intro j hj
    obtain rfl : j = (i 1).val := by omega
    have hs : scoreTile q s (arg3.view.read (Elt F) X3) (arg4.view.read (Elt F) X4) (i 1).val (i 1).val = k1_pay6 q s (klTile (arg3.view.read (Elt F) X3) (i 1).val) (kbTile (arg4.view.read (Elt F) X4) (i 1).val) := by
      unfold scoreTile; rw [if_pos rfl]
    rw [hs]
    exact store_tile arg10 f hq (off5_eq i) _ []
  set_option sl_exec.maxSteps 2 in sl_exec
  sl_for (fun k acc => iprop((arg3.view.loc (c : Thread nD τ) ↦[arg3.view.set]{fullShare} X3) ∗ (arg4.view.loc (c : Thread nD τ) ↦[arg4.view.set]{fullShare} X4) ∗
    (∃ f, (arg10.view.loc (c : Thread nD τ) ↦[arg10.view.set]{fullShare} f) ∗ ⌜∀ j, j < k ∨ j = (i 1).val → TileAt (arg10.view.read (Elt F) f) j (scoreTile q s (arg3.view.read (Elt F) X3) (arg4.view.read (Elt F) X4) (i 1).val j)⌝)
    ∗ ⌜acc = maxAcc q s (arg3.view.read (Elt F) X3) (arg4.view.read (Elt F) X4) (i 1).val k⌝)) $$ [H3 H4 H10]
  case region => exact (inv_t8 c i arg2 harg2 arg3 harg3 arg4 harg4 arg5 harg5 arg6 harg6 arg7 harg7 arg8 harg8 arg9 harg9 arg10 harg10 X3 X4 arg1 v1069 q s).step
  · isplitl [H3]; · iexact H3
    isplitl [H4]; · iexact H4
    isplitl [H10]
    · iexists _
      isplitl [H10]; · iexact H10
      ipureintro; exact hD
    ipureintro; rfl
  iintro %acc ⟨H3, H4, ⟨%f1, H10, %hf1⟩, %hacc⟩
  have h8 : Scf.trips (k1_t8_loop i).lb (k1_t8_loop i).ub (k1_t8_loop i).st = (i 1).val := trips_t8 i
  rw [h8] at hf1 hacc
  subst hacc
  sl_for0 (trips_t9 i)
  have hE : ExpBefore (arg10.view.read (Elt F) f1) (i 1).val (headMax q s (arg3.view.read (Elt F) X3) (arg4.view.read (Elt F) X4) (i 1).val) (scoreTile q s (arg3.view.read (Elt F) X3) (arg4.view.read (Elt F) X4) (i 1).val) 0 :=
    ⟨fun j hj _ => absurd hj (by omega), fun j _ hj => hf1 j (by omega)⟩
  let L := inv_t10 c i arg2 harg2 arg3 harg3 arg4 harg4 arg5 harg5 arg6 harg6 arg7 harg7 arg8 harg8 arg9 harg9 arg10 harg10 arg1 (k1_pay31 q) (k1_pay32 s) k1_pay33 v1069 (k1_pay34 q (klTile (arg3.view.read (Elt F) X3) (i 1).val)) (k1_pay35 (kbTile (arg4.view.read (Elt F) X4) (i 1).val))
    (headMax q s (arg3.view.read (Elt F) X3) (arg4.view.read (Elt F) X4) (i 1).val) (scoreTile q s (arg3.view.read (Elt F) X3) (arg4.view.read (Elt F) X4) (i 1).val)
  sl_exec
  have h10 : Scf.trips (k1_t10_loop i).lb (k1_t10_loop i).ub (k1_t10_loop i).st = (i 1).val + 1 := trips_t10 i
  have h11 : Scf.trips (k1_t11_loop i).lb (k1_t11_loop i).ub (k1_t11_loop i).st = 0 := trips_t11 i
  rw [h10] at hL1
  rw [h10, h11]
  simp only [st_k1_t11]
  sl_step
  isplitl [H3]; · iexact H3
  isplitl [H4]; · iexact H4
  isplitl [H10]
  · iexists _
    isplitl [H10]; · iexact H10
    ipureintro
    exact fun j hj => hL1.1 j (by omega) hj
  isplitl []; · ipureintro; exact congrArg k1_pay53 rfl
  isplitl []; · ipureintro; exact congrArg k1_pay54 rfl
  isplitl []; · ipureintro; rfl
  ipureintro; rfl

/-- The second head's output, beside the first's. -/
theorem spec_part5 (arg1 arg11 : BitVec 32) (v1058 : FVec F S64x256 .f32) (l : FVec F S8x256 .f32)
    (E : ℕ → Vec F S256x256 .f32) (f : BufTy.Contents (Elt F) arg10.view.ty) :
    (iprop((arg5.view.loc (c : Thread nD τ) ↦[arg5.view.set]{fullShare} X5) ∗ (arg10.view.loc (c : Thread nD τ) ↦[arg10.view.set]{fullShare} f) ∗ ⌜Scored (arg10.view.read (Elt F) f) (i 1).val E⌝) : sProp 𝕄G) ⊢
    wp frame (wpE (defs₀ (F := F)) Variants.none c none) Set.univ (k1_part5 i arg2 harg2 arg3 harg3 arg4 harg4 arg5 harg5 arg6 harg6 arg7 harg7 arg8 harg8 arg9 harg9 arg10 harg10 arg1 arg11 v1058 (k1_pay53 l) (k1_pay54 l) (iota .tc S256x256 32 [0] iota_S256x256_d0_w32) k1_pay55) (fun r => iprop((arg5.view.loc (c : Thread nD τ) ↦[arg5.view.set]{fullShare} X5) ∗ (arg10.view.loc (c : Thread nD τ) ↦[arg10.view.set]{fullShare} f) ∗ ⌜r.1 = k1_pay61 v1058 (k1_pay54 l) (iota .tc S256x256 32 [0] iota_S256x256_d0_w32) k1_pay55 (outAcc (arg5.view.read (Elt F) X5) (k1_pay22 l) (k1_pay24 l) k1_pay25 E ((i 1).val + 1))⌝)) := by
  have hq := qi_lt i
  rw [k1_part5_eq_skeleton]
  unfold k1_part5_skel
  iintro ⟨H5, H10, %hE⟩
  let L := inv_t12 c i arg2 harg2 arg3 harg3 arg4 harg4 arg5 harg5 arg6 harg6 arg7 harg7 arg8 harg8 arg9 harg9 arg10 harg10 X5 arg1 arg11 v1058 l f E hE
  sl_exec
  have h6 : Scf.trips (k1_t12_loop i).lb (k1_t12_loop i).ub (k1_t12_loop i).st = (i 1).val + 1 := trips_t12 i
  have h7 : Scf.trips (k1_t13_loop i).lb (k1_t13_loop i).ub (k1_t13_loop i).st = 0 := trips_t13 i
  rw [h6, h7]
  simp only [st_k1_t13]
  sl_step
  isplitl [H5]; · iexact H5
  isplitl [H10]; · iexact H10
  ipureintro; rfl

end

end Cert.Proof.KernelIdeal
-- ==== Proof.KI.Pairs.lean ====
module

public import proofs.«01_k».proof.Proof.Gen.KernelIdeal.Loops
public import proofs.«01_k».proof.Proof.KI.Offsets
public import proofs.«01_k».proof.Proof.KI.Tiles
public import proofs.«01_k».proof.Proof.KI.HeadParts
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! # The loop over the pairs of heads -/

section
variable (qc : Vec F S1x16x64x256 .fp8e4m3) (qs : Vec F S16x1x256 .f32) (kl : Vec F S1x8192x128 .fp8e4m3) (kb : Vec F S1x8192x128 .f32)
  (vd : Vec F S1x64x8192 .bf16) (qi : ℕ)

/-- The output of pair `t`: heads `2 t` and `2 t + 1`, side by side. -/
def pairOut (t : ℕ) : Vec F S1x256x128 .bf16 :=
  k1_pay2 (k1_pay61 (headOut (qcHead qc (2 * t)) (qsHead qs (2 * t)) kl kb vd qi)
    (k1_pay54 (headSum (qcHead qc (2 * t + 1)) (qsHead qs (2 * t + 1)) kl kb qi)) (iota .tc S256x256 32 [0] iota_S256x256_d0_w32) k1_pay55
    (headProd (qcHead qc (2 * t + 1)) (qsHead qs (2 * t + 1)) kl kb vd qi))

/-- The index of a pair's block a coordinate of the output falls on. -/
def pairAt (y : S1x256x1024.Idx) : S1x256x128.Idx := fun a => ⟨if a.val = 2 then (y a).val % 128 else (y a).val, by
  fin_cases a
  · exact (y 0).isLt
  · exact (y 1).isLt
  · exact Nat.mod_lt _ (by show 0 < 128; omega)⟩

/-- The output of a query tile. -/
def outVal : Vec F S1x256x1024 .bf16 := fun y => pairOut qc qs kl kb vd qi ((y 2).val / 128) (pairAt y)

end

/-- The output's columns of the first `k` pairs are written. -/
def Written (z G : Vec F S1x256x1024 .bf16) (k : ℕ) : Prop := ∀ y : S1x256x1024.Idx, (y 2).val / 128 < k → z y = G y

section
variable (c : Dev nD) (i : grid1.Coords) (arg2 : Memref sig .tc .vmem S1x256x1024 .bf16) (harg2 : arg2.IsWhole) (arg3 : Memref sig .tc .vmem S1x8192x128 .fp8e4m3) (harg3 : arg3.IsWhole) (arg4 : Memref sig .tc .vmem S1x8192x128 .f32) (harg4 : arg4.IsWhole) (arg5 : Memref sig .tc .vmem S1x64x8192 .bf16) (harg5 : arg5.IsWhole) (arg6 : Memref sig .tc .vmem S1x256x1024 .bf16) (harg6 : arg6.IsWhole) (arg7 : Memref sig .tc .vmem S1x16x64x256 .fp8e4m3) (harg7 : arg7.IsWhole) (arg8 : Memref sig .tc .vmem S1x16x256 .f32) (harg8 : arg8.IsWhole) (arg9 : Memref sig .tc .vmem S16x1x256 .f32) (harg9 : arg9.IsWhole) (arg10 : Memref sig .tc .vmem S8192x256 .f32) (harg10 : arg10.IsWhole)
  (X3 : BufTy.Contents (Elt F) arg3.view.ty) (X4 : BufTy.Contents (Elt F) arg4.view.ty) (X5 : BufTy.Contents (Elt F) arg5.view.ty) (X7 : BufTy.Contents (Elt F) arg7.view.ty) (X9 : BufTy.Contents (Elt F) arg9.view.ty)

theorem store_pair (f : BufTy.Contents (Elt F) arg6.view.ty) (G : Vec F S1x256x1024 .bf16) (t : ℕ) {off : Fin 3 → ℕ} {inb : ∀ a, off a + S1x256x128.size a ≤ S1x256x1024.size a} (hoff : off = ![0, 0, 128 * t])
    (w : Vec F S1x256x128 .bf16) (hw : ∀ y : S1x256x1024.Idx, (y 2).val / 128 = t → G y = w (pairAt y)) (h : Written (arg6.view.read (Elt F) f) G t) :
    Written (arg6.view.read (Elt F) (arg6.view.writes (Elt F) f [⟨Rect.unit (s := S1x256x1024) off S1x256x128.size inb, w⟩])) G (t + 1) := by
  intro y hy
  rw [View.read_writes_cons_put arg6.view f inb w [] hoff]
  unfold VecWindow.put
  by_cases e : (y 2).val / 128 = t
  · have hin : ∀ a : Fin 3, (![0, 0, 128 * t] : Fin 3 → ℕ) a ≤ (y a).val ∧ (y a).val < (![0, 0, 128 * t] : Fin 3 → ℕ) a + S1x256x128.size a := by
      intro a; fin_cases a
      · exact ⟨Nat.zero_le _, by show (y 0).val < 0 + 1; have : (y 0).val < 1 := (y 0).isLt; omega⟩
      · exact ⟨Nat.zero_le _, by show (y 1).val < 0 + 256; have : (y 1).val < 256 := (y 1).isLt; omega⟩
      · exact ⟨by show 128 * t ≤ (y 2).val; omega, by show (y 2).val < 128 * t + 128; omega⟩
    rw [dif_pos hin, hw y e]
    congr 1
    funext a
    apply Fin.ext
    fin_cases a
    · show (y 0).val - 0 = (y 0).val; omega
    · show (y 1).val - 0 = (y 1).val; omega
    · show (y 2).val - 128 * t = (y 2).val % 128; omega
  · have hout : ¬ ∀ a : Fin 3, (![0, 0, 128 * t] : Fin 3 → ℕ) a ≤ (y a).val ∧ (y a).val < (![0, 0, 128 * t] : Fin 3 → ℕ) a + S1x256x128.size a := by
      intro hall
      have h2 := (hall 2).1
      have h2' : 128 * t ≤ (y 2).val := h2
      omega
    rw [dif_neg hout]
    exact h y (by omega)

set_option warn.classDefReducibility false in
/-- The loop over the pairs: before trip `k`, the columns of the first `k` pairs hold their heads' outputs. -/
def inv_t1 (arg1 : BitVec 32) :
    LoopInvTy_k1_t1 (F := F) Unit ℕ (UR sig nD τ) ℕ Variants.none c none Set.univ i arg2 harg2 arg3 harg3 arg4 harg4 arg5 harg5 arg6 harg6 arg7 harg7 arg8 harg8 arg9 harg9 arg10 harg10 arg1 where
  inv k _ := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg9.view.loc (c : Thread nD τ) ↦[arg9.view.set]{fullShare} X9) ∗ (∃ f, (arg10.view.loc (c : Thread nD τ) ↦[arg10.view.set]{fullShare} f)) ∗
    (∃ f, (arg6.view.loc (c : Thread nD τ) ↦[arg6.view.set]{fullShare} f) ∗ ⌜Written (arg6.view.read (Elt F) f) (outVal (arg7.view.read (Elt F) X7) (arg9.view.read (Elt F) X9) (arg3.view.read (Elt F) X3) (arg4.view.read (Elt F) X4) (arg5.view.read (Elt F) X5) (i 1).val) k⌝))
  step t _ := by
    have ht : t.val < 8 := t.isLt.trans_eq trips_t1
    unfold k1_t1_body
    iintro ⟨H3, H4, H5, H7, H9, ⟨%f10, H10⟩, ⟨%f6, H6, %hf6⟩⟩
    have hc1 := spec_part1 c i arg2 harg2 arg3 harg3 arg4 harg4 arg5 harg5 arg6 harg6 arg7 harg7 arg8 harg8 arg9 harg9 arg10 harg10 X3 X4 X7 X9
    have hc2 := fun a1 v1 v2 v3 f => spec_part2 c i arg2 harg2 arg3 harg3 arg4 harg4 arg5 harg5 arg6 harg6 arg7 harg7 arg8 harg8 arg9 harg9 arg10 harg10 a1 v1 v2 v3 (headMax (qcHead (arg7.view.read (Elt F) X7) (2 * t.val)) (qsHead (arg9.view.read (Elt F) X9) (2 * t.val)) (arg3.view.read (Elt F) X3) (arg4.view.read (Elt F) X4) (i 1).val) (scoreTile (qcHead (arg7.view.read (Elt F) X7) (2 * t.val)) (qsHead (arg9.view.read (Elt F) X9) (2 * t.val)) (arg3.view.read (Elt F) X3) (arg4.view.read (Elt F) X4) (i 1).val) f
    have hc3 := fun a1 t' a11 u v w1 w2 f => spec_part3 c i arg2 harg2 arg3 harg3 arg4 harg4 arg5 harg5 arg6 harg6 arg7 harg7 arg8 harg8 arg9 harg9 arg10 harg10 X3 X4 X5 X7 X9 a1 t' a11 u v w1 w2 (fun j => k1_pay17 (headMax (qcHead (arg7.view.read (Elt F) X7) (2 * t.val)) (qsHead (arg9.view.read (Elt F) X9) (2 * t.val)) (arg3.view.read (Elt F) X3) (arg4.view.read (Elt F) X4) (i 1).val) (scoreTile (qcHead (arg7.view.read (Elt F) X7) (2 * t.val)) (qsHead (arg9.view.read (Elt F) X9) (2 * t.val)) (arg3.view.read (Elt F) X3) (arg4.view.read (Elt F) X4) (i 1).val j)) f
    have hc4 := fun a1 v f => spec_part4 c i arg2 harg2 arg3 harg3 arg4 harg4 arg5 harg5 arg6 harg6 arg7 harg7 arg8 harg8 arg9 harg9 arg10 harg10 X3 X4 a1 v (qcHead (arg7.view.read (Elt F) X7) (2 * t.val + 1)) (qsHead (arg9.view.read (Elt F) X9) (2 * t.val + 1)) f
    have hc5 := fun a1 a11 v l f => spec_part5 c i arg2 harg2 arg3 harg3 arg4 harg4 arg5 harg5 arg6 harg6 arg7 harg7 arg8 harg8 arg9 harg9 arg10 harg10 X5 a1 a11 v l (headExp (qcHead (arg7.view.read (Elt F) X7) (2 * t.val + 1)) (qsHead (arg9.view.read (Elt F) X9) (2 * t.val + 1)) (arg3.view.read (Elt F) X3) (arg4.view.read (Elt F) X4) (i 1).val) f
    set_option sl_exec.stopBefore "k1_part2" in sl_exec
    dsimp only at hk1_part1_6 hk1_part1_7 hk1_part1_8
    subst hk1_part1_6 hk1_part1_7 hk1_part1_8
    set_option sl_exec.stopBefore "k1_part3" in sl_exec
    dsimp only at hk1_part2_2 hk1_part2_3 hk1_part2_4 hk1_part2_5
    subst hk1_part2_2 hk1_part2_3 hk1_part2_4 hk1_part2_5
    set_option sl_exec.stopBefore "k1_part4" in sl_exec
    dsimp only at hk1_part3_6 hk1_part3_7 hk1_part3_8 hk1_part3_9 hk1_part3_10 hk1_part3_11
    subst hk1_part3_6 hk1_part3_7 hk1_part3_8 hk1_part3_9 hk1_part3_10 hk1_part3_11
    set_option sl_exec.stopBefore "k1_part5" in sl_exec
    dsimp only at hk1_part4_4 hk1_part4_5 hk1_part4_6 hk1_part4_7
    subst hk1_part4_4 hk1_part4_5 hk1_part4_6 hk1_part4_7
    set_option sl_exec.maxSteps 1 in sl_exec
    dsimp only at hk1_part5_2
    subst hk1_part5_2
    sl_exec
    clear hc1 hc2 hc3 hc4 hc5
    sl_step
    isplitl [Hk1_part4_0]
    · iexact Hk1_part4_0
    isplitl [Hk1_part4_1]
    · iexact Hk1_part4_1
    isplitl [Hk1_part5_0]
    · iexact Hk1_part5_0
    isplitl [Hk1_part3_3]
    · iexact Hk1_part3_3
    isplitl [Hk1_part3_4]
    · iexact Hk1_part3_4
    isplitl [Hk1_part5_1]
    · iexists _; iexact Hk1_part5_1
    iexists _
    isplitl [H6]
    · iexact H6
    ipureintro
    refine store_pair arg6 f6 _ t.val (off32_eq t) _ ?_ hf6
    intro y e
    unfold outVal
    rw [e]
    rfl

end

end Cert.Proof.KernelIdeal
-- ==== Proof.KI.Part30.lean ====
module

public import proofs.«01_k».proof.Proof.Gen.KernelIdeal.Loops
public import proofs.«01_k».proof.Proof.KI.Offsets
public import proofs.«01_k».proof.Proof.KI.Tiles
public import proofs.«01_k».proof.Proof.KI.Quant
public import proofs.«01_k».proof.Proof.KI.Pairs
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! # The attention kernel's body -/

section
variable (c : Dev nD) (i : grid1.Coords) (arg2 : Memref sig .tc .vmem S1x256x1024 .bf16) (harg2 : arg2.IsWhole) (arg3 : Memref sig .tc .vmem S1x8192x128 .fp8e4m3) (harg3 : arg3.IsWhole) (arg4 : Memref sig .tc .vmem S1x8192x128 .f32) (harg4 : arg4.IsWhole) (arg5 : Memref sig .tc .vmem S1x64x8192 .bf16) (harg5 : arg5.IsWhole) (arg6 : Memref sig .tc .vmem S1x256x1024 .bf16) (harg6 : arg6.IsWhole) (arg7 : Memref sig .tc .vmem S1x16x64x256 .fp8e4m3) (harg7 : arg7.IsWhole) (arg8 : Memref sig .tc .vmem S1x16x256 .f32) (harg8 : arg8.IsWhole) (arg9 : Memref sig .tc .vmem S16x1x256 .f32) (harg9 : arg9.IsWhole) (arg10 : Memref sig .tc .vmem S8192x256 .f32) (harg10 : arg10.IsWhole)

theorem lt16 (n : ℕ) (h : n < 16) (P : ℕ → Prop) (h0 : P 0) (h1 : P 1) (h2 : P 2) (h3 : P 3) (h4 : P 4) (h5 : P 5) (h6 : P 6) (h7 : P 7)
    (h8 : P 8) (h9 : P 9) (h10 : P 10) (h11 : P 11) (h12 : P 12) (h13 : P 13) (h14 : P 14) (h15 : P 15) : P n := by
  interval_cases n <;> assumption

set_option maxHeartbeats 4000000 in
/-- The quantisation of the query tile, but for the last head's factor. -/
theorem spec_part30 (X2 : BufTy.Contents (Elt F) arg2.view.ty) (f7 : BufTy.Contents (Elt F) arg7.view.ty) (f8 : BufTy.Contents (Elt F) arg8.view.ty) (f9 : BufTy.Contents (Elt F) arg9.view.ty) :
    (iprop((arg2.view.loc (c : Thread nD τ) ↦[arg2.view.set]{fullShare} X2) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G) ⊢
    wp frame (wpE (defs₀ (F := F)) Variants.none c none) Set.univ (k1_part30 i arg2 harg2 arg3 harg3 arg4 harg4 arg5 harg5 arg6 harg6 arg7 harg7 arg8 harg8 arg9 harg9 arg10 harg10) (fun r => iprop((arg2.view.loc (c : Thread nD τ) ↦[arg2.view.set]{fullShare} X2) ∗ (∃ f', (arg7.view.loc (c : Thread nD τ) ↦[arg7.view.set]{fullShare} f') ∗ ⌜arg7.view.read (Elt F) f' = codesVal (arg2.view.read (Elt F) X2)⌝)
      ∗ (∃ f', (arg8.view.loc (c : Thread nD τ) ↦[arg8.view.set]{fullShare} f') ∗ ⌜arg8.view.read (Elt F) f' = scaleVal (arg2.view.read (Elt F) X2)⌝)
      ∗ (∃ f', (arg9.view.loc (c : Thread nD τ) ↦[arg9.view.set]{fullShare} f') ∗ ⌜arg9.view.read (Elt F) (arg9.view.writes (Elt F) f' [⟨Rect.unit (s := S16x1x256) ![15, 0, 0] S1x1x256.size inb_S16x1x256_S1x1x256_15_0_0, k1_pay1 r.2⟩]) = factorVal (arg2.view.read (Elt F) X2)⌝)
      ∗ ⌜r.1 = BitVec.ofNat 32 (i 1).val⌝)) := by
  rw [k1_part30_eq_skeleton]; unfold k1_part30_skel
  simp only [k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton]
  iintro ⟨H2, H7, H8, H9⟩
  sl_exec
  sl_step
  isplitl [H2]
  · iexact H2
  isplitl [H7]
  · iexists _
    isplitl [H7]
    · iexact H7
    ipureintro
    refine read_writes_eq_of _ _ _ _ ?_ ?_
    · intro y
      refine lt16 (y 1).val (y 1).isLt (fun n => (y 1).val = n → _) ?_ ?_ ?_ ?_ ?_ ?_ ?_ ?_ ?_ ?_ ?_ ?_ ?_ ?_ ?_ ?_ rfl
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_codes y 0 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_codes y 1 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_codes y 2 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_codes y 3 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_codes y 4 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_codes y 5 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_codes y 6 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_codes y 7 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_codes y 8 e (by decide)⟩
      · intro e; exact ⟨_, List.mem_cons_of_mem _ (List.mem_cons_of_mem _ (List.mem_cons_of_mem _ (List.mem_cons_of_mem _ (List.mem_cons_of_mem _ (List.mem_cons_of_mem _ (List.mem_cons_self)))))), mem_codes y 9 e (by decide)⟩
      · intro e; exact ⟨_, List.mem_cons_of_mem _ (List.mem_cons_of_mem _ (List.mem_cons_of_mem _ (List.mem_cons_of_mem _ (List.mem_cons_of_mem _ (List.mem_cons_self))))), mem_codes y 10 e (by decide)⟩
      · intro e; exact ⟨_, List.mem_cons_of_mem _ (List.mem_cons_of_mem _ (List.mem_cons_of_mem _ (List.mem_cons_of_mem _ (List.mem_cons_self)))), mem_codes y 11 e (by decide)⟩
      · intro e; exact ⟨_, List.mem_cons_of_mem _ (List.mem_cons_of_mem _ (List.mem_cons_of_mem _ (List.mem_cons_self))), mem_codes y 12 e (by decide)⟩
      · intro e; exact ⟨_, List.mem_cons_of_mem _ (List.mem_cons_of_mem _ (List.mem_cons_self)), mem_codes y 13 e (by decide)⟩
      · intro e; exact ⟨_, List.mem_cons_of_mem _ (List.mem_cons_self), mem_codes y 14 e (by decide)⟩
      · intro e; exact ⟨_, List.mem_cons_self, mem_codes y 15 e (by decide)⟩
    · simp only [List.forall_mem_cons]
      refine ⟨?_, ?_, ?_, ?_, ?_, ?_, ?_, ?_, ?_, ?_, ?_, ?_, ?_, ?_, ?_, ?_, fun _ h => absurd h List.not_mem_nil⟩
      all_goals (intro z; refine Eq.trans ?_ (codesVal_emb _ _ _ z).symm; refine congrFun ?_ z; rfl)
  isplitl [H8]
  · iexists _
    isplitl [H8]
    · iexact H8
    ipureintro
    refine read_writes_eq_of _ _ _ _ ?_ ?_
    · intro y
      refine lt16 (y 1).val (y 1).isLt (fun n => (y 1).val = n → _) ?_ ?_ ?_ ?_ ?_ ?_ ?_ ?_ ?_ ?_ ?_ ?_ ?_ ?_ ?_ ?_ rfl
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_scale y 0 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_scale y 1 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_scale y 2 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_scale y 3 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_scale y 4 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_scale y 5 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_scale y 6 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_scale y 7 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_scale y 8 e (by decide)⟩
      · intro e; exact ⟨_, List.mem_cons_of_mem _ (List.mem_cons_of_mem _ (List.mem_cons_of_mem _ (List.mem_cons_of_mem _ (List.mem_cons_of_mem _ (List.mem_cons_of_mem _ (List.mem_cons_self)))))), mem_scale y 9 e (by decide)⟩
      · intro e; exact ⟨_, List.mem_cons_of_mem _ (List.mem_cons_of_mem _ (List.mem_cons_of_mem _ (List.mem_cons_of_mem _ (List.mem_cons_of_mem _ (List.mem_cons_self))))), mem_scale y 10 e (by decide)⟩
      · intro e; exact ⟨_, List.mem_cons_of_mem _ (List.mem_cons_of_mem _ (List.mem_cons_of_mem _ (List.mem_cons_of_mem _ (List.mem_cons_self)))), mem_scale y 11 e (by decide)⟩
      · intro e; exact ⟨_, List.mem_cons_of_mem _ (List.mem_cons_of_mem _ (List.mem_cons_of_mem _ (List.mem_cons_self))), mem_scale y 12 e (by decide)⟩
      · intro e; exact ⟨_, List.mem_cons_of_mem _ (List.mem_cons_of_mem _ (List.mem_cons_self)), mem_scale y 13 e (by decide)⟩
      · intro e; exact ⟨_, List.mem_cons_of_mem _ (List.mem_cons_self), mem_scale y 14 e (by decide)⟩
      · intro e; exact ⟨_, List.mem_cons_self, mem_scale y 15 e (by decide)⟩
    · simp only [List.forall_mem_cons]
      refine ⟨?_, ?_, ?_, ?_, ?_, ?_, ?_, ?_, ?_, ?_, ?_, ?_, ?_, ?_, ?_, ?_, fun _ h => absurd h List.not_mem_nil⟩
      all_goals (intro z; refine Eq.trans ?_ (scaleVal_emb _ _ _ z).symm; refine congrFun ?_ z; rfl)
  isplitl [H9]
  · iexists _
    isplitl [H9]
    · iexact H9
    ipureintro
    refine read_writes_eq_of arg9.view f9 _ (_ :: _) ?_ ?_
    · intro y
      refine lt16 (y 0).val (y 0).isLt (fun n => (y 0).val = n → _) ?_ ?_ ?_ ?_ ?_ ?_ ?_ ?_ ?_ ?_ ?_ ?_ ?_ ?_ ?_ ?_ rfl
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_factor y 0 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_factor y 1 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_factor y 2 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_factor y 3 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_factor y 4 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_factor y 5 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_factor y 6 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_factor y 7 e (by decide)⟩
      · intro e; exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_factor y 8 e (by decide)⟩
      · intro e; exact ⟨_, List.mem_cons_of_mem _ (List.mem_cons_of_mem _ (List.mem_cons_of_mem _ (List.mem_cons_of_mem _ (List.mem_cons_of_mem _ (List.mem_cons_of_mem _ (List.mem_cons_self)))))), mem_factor y 9 e (by decide)⟩
      · intro e; exact ⟨_, List.mem_cons_of_mem _ (List.mem_cons_of_mem _ (List.mem_cons_of_mem _ (List.mem_cons_of_mem _ (List.mem_cons_of_mem _ (List.mem_cons_self))))), mem_factor y 10 e (by decide)⟩
      · intro e; exact ⟨_, List.mem_cons_of_mem _ (List.mem_cons_of_mem _ (List.mem_cons_of_mem _ (List.mem_cons_of_mem _ (List.mem_cons_self)))), mem_factor y 11 e (by decide)⟩
      · intro e; exact ⟨_, List.mem_cons_of_mem _ (List.mem_cons_of_mem _ (List.mem_cons_of_mem _ (List.mem_cons_self))), mem_factor y 12 e (by decide)⟩
      · intro e; exact ⟨_, List.mem_cons_of_mem _ (List.mem_cons_of_mem _ (List.mem_cons_self)), mem_factor y 13 e (by decide)⟩
      · intro e; exact ⟨_, List.mem_cons_of_mem _ (List.mem_cons_self), mem_factor y 14 e (by decide)⟩
      · intro e; exact ⟨_, List.mem_cons_self, mem_factor y 15 e (by decide)⟩
    · simp only [List.forall_mem_cons]
      refine ⟨?_, ?_, ?_, ?_, ?_, ?_, ?_, ?_, ?_, ?_, ?_, ?_, ?_, ?_, ?_, ?_, fun _ h => absurd h List.not_mem_nil⟩
      all_goals (intro z; refine Eq.trans ?_ (factorVal_emb _ _ _ z).symm; refine congrFun ?_ z; rfl)
  ipureintro
  rfl

end

end Cert.Proof.KernelIdeal
-- ==== Proof.KI.Body1.lean ====
module

public import proofs.«01_k».proof.Proof.Gen.KernelIdeal.Loops
public import proofs.«01_k».proof.Proof.KI.Offsets
public import proofs.«01_k».proof.Proof.KI.Tiles
public import proofs.«01_k».proof.Proof.KI.Part30
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! # The attention kernel's body -/

section
variable (c : Dev nD) (i : grid1.Coords) (arg2 : Memref sig .tc .vmem S1x256x1024 .bf16) (harg2 : arg2.IsWhole) (arg3 : Memref sig .tc .vmem S1x8192x128 .fp8e4m3) (harg3 : arg3.IsWhole) (arg4 : Memref sig .tc .vmem S1x8192x128 .f32) (harg4 : arg4.IsWhole) (arg5 : Memref sig .tc .vmem S1x64x8192 .bf16) (harg5 : arg5.IsWhole) (arg6 : Memref sig .tc .vmem S1x256x1024 .bf16) (harg6 : arg6.IsWhole) (arg7 : Memref sig .tc .vmem S1x16x64x256 .fp8e4m3) (harg7 : arg7.IsWhole) (arg8 : Memref sig .tc .vmem S1x16x256 .f32) (harg8 : arg8.IsWhole) (arg9 : Memref sig .tc .vmem S16x1x256 .f32) (harg9 : arg9.IsWhole) (arg10 : Memref sig .tc .vmem S8192x256 .f32) (harg10 : arg10.IsWhole)

theorem written_all (z G : Vec F S1x256x1024 .bf16) (h : Written z G k1_t1_loop.trips) : z = G := by
  funext y
  refine h y ?_
  have h2 : (y 2).val < 1024 := (y 2).isLt
  rw [trips_t1]
  omega

set_option maxHeartbeats 4000000 in
/-- The body of the attention kernel: from the query tile and the batch's keys and values, the output, the codes and the scales. -/
theorem sound_kernel1 (x : Vec F S1x256x1024 .bf16) (kl : Vec F S1x8192x128 .fp8e4m3) (kb : Vec F S1x8192x128 .f32) (vd : Vec F S1x64x8192 .bf16) (K : PUnit → sProp 𝕄G) :
    (iprop(owns (c : Thread nD τ) arg2 fullShare x ∗ owns (c : Thread nD τ) arg3 fullShare kl ∗ owns (c : Thread nD τ) arg4 fullShare kb ∗ owns (c : Thread nD τ) arg5 fullShare vd ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg2 fullShare x ∗ owns (c : Thread nD τ) arg3 fullShare kl ∗ owns (c : Thread nD τ) arg4 fullShare kb ∗ owns (c : Thread nD τ) arg5 fullShare vd ∗ owns (c : Thread nD τ) arg6 fullShare (outVal (codesVal x) (factorVal x) kl kb vd (i 1).val) ∗ owns (c : Thread nD τ) arg7 fullShare (codesVal x) ∗ owns (c : Thread nD τ) arg8 fullShare (scaleVal x) ∗ (∃ d, owns (c : Thread nD τ) arg9 fullShare d) ∗ (∃ d, owns (c : Thread nD τ) arg10 fullShare d)) -∗ K ⟨⟩)) : sProp 𝕄G)
    ⊢ wp frame (wpE (defs₀ (F := F)) Variants.none c none) Set.univ (cc1_attention i arg2 harg2 arg3 harg3 arg4 harg4 arg5 harg5 arg6 harg6 arg7 harg7 arg8 harg8 arg9 harg9 arg10 harg10) K := by
  rw [cc1_attention_eq_skeleton (F := F)]; unfold cc1_attention_skel
  have hc := spec_part30 (F := F) c i arg2 harg2 arg3 harg3 arg4 harg4 arg5 harg5 arg6 harg6 arg7 harg7 arg8 harg8 arg9 harg9 arg10 harg10
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  sl_exec
  dsimp only at hk1_part30_6 hk1_part30_7
  have h0 : Written (arg6.view.read (Elt F) f6) (outVal (arg7.view.read (Elt F) f'k1_part30_0) (arg9.view.read (Elt F) (arg9.view.writes (Elt F) f'k1_part30_2
      [⟨Rect.unit (s := S16x1x256) ![15, 0, 0] S1x1x256.size inb_S16x1x256_S1x1x256_15_0_0, k1_pay1 v956⟩])) (arg3.view.read (Elt F) f3) (arg4.view.read (Elt F) f4) (arg5.view.read (Elt F) f5) (i 1).val) 0 := fun y hy => absurd hy (Nat.not_lt_zero _)
  let L := inv_t1 c i arg2 harg2 arg3 harg3 arg4 harg4 arg5 harg5 arg6 harg6 arg7 harg7 arg8 harg8 arg9 harg9 arg10 harg10 f3 f4 f5 f'k1_part30_0 (arg9.view.writes (Elt F) f'k1_part30_2
      [⟨Rect.unit (s := S16x1x256) ![15, 0, 0] S1x1x256.size inb_S16x1x256_S1x1x256_15_0_0, k1_pay1 v956⟩]) arg1
  sl_exec
  sl_step
  have e6 := written_all _ _ hL7
  rw [hk1_part30_2, hf3, hf4, hf5] at e6
  have e9 := congrArg (fun z => outVal (codesVal (arg2.view.read (Elt F) f2)) z kl kb vd (i 1).val) hk1_part30_6
  rw [hf2] at e6 e9 hk1_part30_2 hk1_part30_4
  iapply Hk
  isplitl [Hk1_part30_0]
  · iexists _; isplitr
    swap; · iexact Hk1_part30_0
    ipureintro
    exact hf2
  isplitl [H3]
  · iexists _; isplitr
    swap; · iexact H3
    ipureintro
    exact hf3
  isplitl [H4]
  · iexists _; isplitr
    swap; · iexact H4
    ipureintro
    exact hf4
  isplitl [H5]
  · iexists _; isplitr
    swap; · iexact H5
    ipureintro
    exact hf5
  isplitl [H6]
  · iexists _; isplitr
    swap; · iexact H6
    ipureintro
    exact e6.trans e9
  isplitl [Hk1_part30_1]
  · iexists _; isplitr
    swap; · iexact Hk1_part30_1
    ipureintro
    exact hk1_part30_2
  isplitl [Hk1_part30_3]
  · iexists _; isplitr
    swap; · iexact Hk1_part30_3
    ipureintro
    exact hk1_part30_4
  isplitl [Hk1_part30_5]
  · iexists _; iexists _; isplitr
    swap; · iexact Hk1_part30_5
    ipureintro; rfl
  iexists _; iexists _; isplitr
  swap; · iexact H10
  ipureintro; rfl

end

end Cert.Proof.KernelIdeal
-- ==== Proof.KI.Dats.lean ====
module

public import proofs.«01_k».proof.Proof.Gen.KernelIdeal.Loops
public import proofs.«01_k».proof.Proof.KI.Offsets
public import proofs.«01_k».proof.Proof.KI.Tiles
public import proofs.«01_k».proof.Proof.KI.Body0
public import proofs.«01_k».proof.Proof.KI.Body1
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Idealize.ShloMosaic.Pipeline (Dat BodyObligation)

/-! # The two regions' proof data and body obligations -/

variable (W : Dev nD → Valuation τ sig (Elt F))

/-- Window `w`'s block at point `t` of region 0, as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- Region 0's proof data on core `c`, its arrays entered at `W`. -/
def dat0 (c : Dev nD) : Dat τ (Elt F) Unit ℕ (UR sig nD τ) ℕ cfg0 c where
  A w := W c (Pipeline.arrRef spec0 w)
  after w t := match w with
    | ⟨0, _⟩ => blk0 W c 0 t
    | ⟨1, _⟩ => blk0 W c 1 t
    | ⟨2, _⟩ => kcVal (blk0 W c 0 t)
    | ⟨3, _⟩ => ksVal (blk0 W c 0 t)
    | ⟨4, _⟩ => vcVal (blk0 W c 1 t)
    | ⟨5, _⟩ => vsVal (blk0 W c 1 t)
    | ⟨6, _⟩ => klVal (blk0 W c 0 t)
    | ⟨7, _⟩ => kbVal (blk0 W c 0 t)
    | ⟨8, _⟩ => vdVal (blk0 W c 1 t)
  Φ _ := Pipeline.ΦA spec0 c
  q _ := fullShare
  owed _ := 0

theorem A0_eq (c : Dev nD) (w : Fin cfg0.W) : (dat0 W c).A w = W c (Pipeline.arrRef spec0 w) := by dsimp only [dat0]
theorem after0_0 (c : Dev nD) (t : Fin cfg0.N) : (dat0 W c).after 0 t = blk0 W c 0 t := by dsimp only [dat0]
theorem after0_1 (c : Dev nD) (t : Fin cfg0.N) : (dat0 W c).after 1 t = blk0 W c 1 t := by dsimp only [dat0]
theorem after0_2 (c : Dev nD) (t : Fin cfg0.N) : (dat0 W c).after 2 t = kcVal (blk0 W c 0 t) := by dsimp only [dat0]
theorem after0_3 (c : Dev nD) (t : Fin cfg0.N) : (dat0 W c).after 3 t = ksVal (blk0 W c 0 t) := by dsimp only [dat0]
theorem after0_4 (c : Dev nD) (t : Fin cfg0.N) : (dat0 W c).after 4 t = vcVal (blk0 W c 1 t) := by dsimp only [dat0]
theorem after0_5 (c : Dev nD) (t : Fin cfg0.N) : (dat0 W c).after 5 t = vsVal (blk0 W c 1 t) := by dsimp only [dat0]
theorem after0_6 (c : Dev nD) (t : Fin cfg0.N) : (dat0 W c).after 6 t = klVal (blk0 W c 0 t) := by dsimp only [dat0]
theorem after0_7 (c : Dev nD) (t : Fin cfg0.N) : (dat0 W c).after 7 t = kbVal (blk0 W c 0 t) := by dsimp only [dat0]
theorem after0_8 (c : Dev nD) (t : Fin cfg0.N) : (dat0 W c).after 8 t = vdVal (blk0 W c 1 t) := by dsimp only [dat0]
theorem before0_0 (c : Dev nD) (t : Fin cfg0.N) (d) : (dat0 W c).before 0 t d = blk0 W c 0 t :=
  ((dat0 W c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 W c).before 1 t d = blk0 W c 1 t :=
  ((dat0 W c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)

/-- What the body of region 0 is called with at point `t`, -/
def pre0 (c : Dev nD) (t : Fin cfg0.N) : sProp 𝕄G :=
  iprop((dat0 W c).Φ t.castSucc ∗ (dat0 W c).owesAt () t.castSucc ∗ (∃ d, owns (c : Thread nD τ) (st0_0 t) fullShare ((dat0 W c).before 0 t d)) ∗ (∃ d, owns (c : Thread nD τ) (st0_1 t) fullShare ((dat0 W c).before 1 t d)) ∗ (∃ d, owns (c : Thread nD τ) (st0_2 t) fullShare ((dat0 W c).before 2 t d)) ∗ (∃ d, owns (c : Thread nD τ) (st0_3 t) fullShare ((dat0 W c).before 3 t d)) ∗ (∃ d, owns (c : Thread nD τ) (st0_4 t) fullShare ((dat0 W c).before 4 t d)) ∗ (∃ d, owns (c : Thread nD τ) (st0_5 t) fullShare ((dat0 W c).before 5 t d)) ∗ (∃ d, owns (c : Thread nD τ) (st0_6 t) fullShare ((dat0 W c).before 6 t d)) ∗ (∃ d, owns (c : Thread nD τ) (st0_7 t) fullShare ((dat0 W c).before 7 t d)) ∗ (∃ d, owns (c : Thread nD τ) (st0_8 t) fullShare ((dat0 W c).before 8 t d)))
/-- and what it returns. -/
def post0 (c : Dev nD) (t : Fin cfg0.N) : sProp 𝕄G :=
  iprop((dat0 W c).Φ t.succ ∗ (dat0 W c).owesAt () t.succ ∗ owns (c : Thread nD τ) (st0_0 t) fullShare ((dat0 W c).after 0 t) ∗ owns (c : Thread nD τ) (st0_1 t) fullShare ((dat0 W c).after 1 t) ∗ owns (c : Thread nD τ) (st0_2 t) fullShare ((dat0 W c).after 2 t) ∗ owns (c : Thread nD τ) (st0_3 t) fullShare ((dat0 W c).after 3 t) ∗ owns (c : Thread nD τ) (st0_4 t) fullShare ((dat0 W c).after 4 t) ∗ owns (c : Thread nD τ) (st0_5 t) fullShare ((dat0 W c).after 5 t) ∗ owns (c : Thread nD τ) (st0_6 t) fullShare ((dat0 W c).after 6 t) ∗ owns (c : Thread nD τ) (st0_7 t) fullShare ((dat0 W c).after 7 t) ∗ owns (c : Thread nD τ) (st0_8 t) fullShare ((dat0 W c).after 8 t))

theorem sound_body0 (c : Dev nD) (t : Fin cfg0.N) :
    pre0 W c t ⊢ wp frame (wpE (defs₀ (F := F)) Variants.none (c : Thread nD τ) none) Set.univ (bodyAt0 t) (fun _ => post0 W c t) := by
  unfold pre0 post0 bodyAt0
  simp only [before0_0, before0_1]
  rw [show (dat0 W c).Φ t.succ = (dat0 W c).Φ t.castSucc from rfl, show (dat0 W c).owesAt () t.succ = (dat0 W c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 (F := F) c _ _ _ _ _ _ _ _ _ _ _ _ _ _ _ _ _ _ _ (blk0 W c 0 t) (blk0 W c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row0 (t : Fin cfg0.N) :
    defs₀ (F := F) .tc cfg0.body (cfg0.bodyArgs t (cfg0.slots t)) = bodyAt0 t := by
  unfold defs₀; rw [Defs.onTc_tc]

/-- The body obligation of region 0. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

/-- Window `w`'s block at point `t` of region 1, as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- Region 1's proof data on core `c`, its arrays entered at `W`. -/
def dat1 (c : Dev nD) : Dat τ (Elt F) Unit ℕ (UR sig nD τ) ℕ cfg1 c where
  A w := W c (Pipeline.arrRef spec1 w)
  after w t := match w with
    | ⟨0, _⟩ => blk1 W c 0 t
    | ⟨1, _⟩ => blk1 W c 1 t
    | ⟨2, _⟩ => blk1 W c 2 t
    | ⟨3, _⟩ => blk1 W c 3 t
    | ⟨4, _⟩ => outVal (codesVal (blk1 W c 0 t)) (factorVal (blk1 W c 0 t)) (blk1 W c 1 t) (blk1 W c 2 t) (blk1 W c 3 t) (cfg1.grid.coords t 1).val
    | ⟨5, _⟩ => codesVal (blk1 W c 0 t)
    | ⟨6, _⟩ => scaleVal (blk1 W c 0 t)
  Φ _ := Pipeline.ΦA spec1 c
  q _ := fullShare
  owed _ := 0

theorem A1_eq (c : Dev nD) (w : Fin cfg1.W) : (dat1 W c).A w = W c (Pipeline.arrRef spec1 w) := by dsimp only [dat1]
theorem after1_0 (c : Dev nD) (t : Fin cfg1.N) : (dat1 W c).after 0 t = blk1 W c 0 t := by dsimp only [dat1]
theorem after1_1 (c : Dev nD) (t : Fin cfg1.N) : (dat1 W c).after 1 t = blk1 W c 1 t := by dsimp only [dat1]
theorem after1_2 (c : Dev nD) (t : Fin cfg1.N) : (dat1 W c).after 2 t = blk1 W c 2 t := by dsimp only [dat1]
theorem after1_3 (c : Dev nD) (t : Fin cfg1.N) : (dat1 W c).after 3 t = blk1 W c 3 t := by dsimp only [dat1]
theorem after1_4 (c : Dev nD) (t : Fin cfg1.N) : (dat1 W c).after 4 t = outVal (codesVal (blk1 W c 0 t)) (factorVal (blk1 W c 0 t)) (blk1 W c 1 t) (blk1 W c 2 t) (blk1 W c 3 t) (cfg1.grid.coords t 1).val := by dsimp only [dat1]
theorem after1_5 (c : Dev nD) (t : Fin cfg1.N) : (dat1 W c).after 5 t = codesVal (blk1 W c 0 t) := by dsimp only [dat1]
theorem after1_6 (c : Dev nD) (t : Fin cfg1.N) : (dat1 W c).after 6 t = scaleVal (blk1 W c 0 t) := by dsimp only [dat1]
theorem before1_0 (c : Dev nD) (t : Fin cfg1.N) (d) : (dat1 W c).before 0 t d = blk1 W c 0 t :=
  ((dat1 W c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 W c).before 2 t d = blk1 W c 2 t :=
  ((dat1 W c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 W c).before 3 t d = blk1 W c 3 t :=
  ((dat1 W c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)

/-- What the body of region 1 is called with at point `t`, -/
def pre1 (c : Dev nD) (t : Fin cfg1.N) : sProp 𝕄G :=
  iprop((dat1 W c).Φ t.castSucc ∗ (dat1 W c).owesAt () t.castSucc ∗ (∃ d, owns (c : Thread nD τ) (st1_0 t) fullShare ((dat1 W c).before 0 t d)) ∗ (∃ d, owns (c : Thread nD τ) (st1_1 t) fullShare ((dat1 W c).before 1 t d)) ∗ (∃ d, owns (c : Thread nD τ) (st1_2 t) fullShare ((dat1 W c).before 2 t d)) ∗ (∃ d, owns (c : Thread nD τ) (st1_3 t) fullShare ((dat1 W c).before 3 t d)) ∗ (∃ d, owns (c : Thread nD τ) (st1_4 t) fullShare ((dat1 W c).before 4 t d)) ∗ (∃ d, owns (c : Thread nD τ) (st1_5 t) fullShare ((dat1 W c).before 5 t d)) ∗ (∃ d, owns (c : Thread nD τ) (st1_6 t) fullShare ((dat1 W c).before 6 t d)))
/-- and what it returns. -/
def post1 (c : Dev nD) (t : Fin cfg1.N) : sProp 𝕄G :=
  iprop((dat1 W c).Φ t.succ ∗ (dat1 W c).owesAt () t.succ ∗ owns (c : Thread nD τ) (st1_0 t) fullShare ((dat1 W c).after 0 t) ∗ owns (c : Thread nD τ) (st1_1 t) fullShare ((dat1 W c).after 1 t) ∗ owns (c : Thread nD τ) (st1_2 t) fullShare ((dat1 W c).after 2 t) ∗ owns (c : Thread nD τ) (st1_3 t) fullShare ((dat1 W c).after 3 t) ∗ owns (c : Thread nD τ) (st1_4 t) fullShare ((dat1 W c).after 4 t) ∗ owns (c : Thread nD τ) (st1_5 t) fullShare ((dat1 W c).after 5 t) ∗ owns (c : Thread nD τ) (st1_6 t) fullShare ((dat1 W c).after 6 t))

theorem sound_body1 (c : Dev nD) (t : Fin cfg1.N) :
    pre1 W c t ⊢ wp frame (wpE (defs₀ (F := F)) Variants.none (c : Thread nD τ) none) Set.univ (bodyAt1 t) (fun _ => post1 W c t) := by
  unfold pre1 post1 bodyAt1
  simp only [before1_0, before1_1, before1_2, before1_3]
  rw [show (dat1 W c).Φ t.succ = (dat1 W c).Φ t.castSucc from rfl, show (dat1 W c).owesAt () t.succ = (dat1 W c).owesAt () t.castSucc from rfl,
    after1_0, after1_1, after1_2, after1_3, after1_4, after1_5, after1_6]
  rw [show (dat1 W c).Φ t.castSucc = Pipeline.ΦA spec1 c from rfl]
  unfold Pipeline.ΦA
  rw [scopedRest1_eq]
  iintro ⟨⟨⟨G0, G1, G2, G3, G4, G5, G6, G7, G8, G9, G10, G11, G12, G13, G14, G15, G16, G17, ⟨%g9, G18⟩, ⟨%g10, G19⟩⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel1 (F := F) c _ _ _ _ _ _ _ _ _ _ _ _ _ _ _ _ _ _ _ (blk1 W c 0 t) (blk1 W c 1 t) (blk1 W c 2 t) (blk1 W c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [G18]
  · iexists g9; rw [owns_whole]; iexact G18
  isplitl [G19]
  · iexists g10; rw [owns_whole]; iexact G19
  simp only [owns_whole]
  iintro ⟨H0, H1, H2, H3, H4, H5, H6, ⟨%g9', G18⟩, ⟨%g10', G19⟩⟩
  isplitl [G0 G1 G2 G3 G4 G5 G6 G7 G8 G9 G10 G11 G12 G13 G14 G15 G16 G17 G18 G19 Hp]
  · isplitl [G0 G1 G2 G3 G4 G5 G6 G7 G8 G9 G10 G11 G12 G13 G14 G15 G16 G17 G18 G19]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [G15]; · iexact G15
      isplitl [G16]; · iexact G16
      isplitl [G17]; · iexact G17
      isplitl [G18]; · iexists g9'; iexact G18
      iexists g10'; iexact G19
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row1 (t : Fin cfg1.N) :
    defs₀ (F := F) .tc cfg1.body (cfg1.bodyArgs t (cfg1.slots t)) = bodyAt1 t := by
  unfold defs₀; rw [Defs.onTc_tc]

/-- The body obligation of region 1. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end Cert.Proof.KernelIdeal
-- ==== Proof.KI.Run.lean ====
module

public import proofs.«01_k».proof.Proof.Gen.KernelIdeal.Loops
public import proofs.«01_k».proof.Proof.KI.Offsets
public import proofs.«01_k».proof.Proof.KI.Tiles
public import proofs.«01_k».proof.Proof.KI.Dats
public import proofs.«01_k».proof.Proof.Gen.KernelIdeal.Regions
public import Idealize.ShloMosaic.Lib.Pipeline.RegionArraysS
public import Idealize.ShloMosaic.Lib.Pipeline.FrameTail
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Idealize.ShloMosaic.Rounds
open Idealize.ShloMosaic.Pipeline (Dat Seg HostSeg RegionSeg)

/-! # The whole program's run

Between two items of @main core `c` holds every unscoped buffer whole: at `W0` as launched, at `W1` after the two transposes, at
`W2` after the quantising region, at `W3` after the attention region, at `W4` after the six reshapings of the results. -/

variable (m : (ℓ : Loc nD τ sig) → Buf (Elt F) ℓ) (ρ : Dev nD → PrngReg)

/-- The buffers as launched, -/
def W0 (c : Dev nD) : Valuation τ sig (Elt F) := fun b => m (c, b)
/-- as the quantising region finds them, -/
def W1 (c : Dev nD) : Valuation τ sig (Elt F) := StableHlo.after hostOps0 (W0 m c)
/-- as the attention region finds them, -/
def W2 (c : Dev nD) : Valuation τ sig (Elt F) := Pipeline.afterRegion (dat0 (W1 m) c) (W1 m c)
/-- as it leaves them, -/
def W3 (c : Dev nD) : Valuation τ sig (Elt F) := Pipeline.afterRegion (dat1 (W2 m) c) (W2 m c)
/-- and at the end. -/
def W4 (c : Dev nD) : Valuation τ sig (Elt F) := StableHlo.after hostOps2 (W3 m c)

/-- Both regions' proof data. -/
def pdats : (p : Fin 2) → (c : Dev nD) → Dat τ (Elt F) Unit ℕ (UR sig nD τ) ℕ (cfgs p) c
  | ⟨0, _⟩ => dat0 (W1 m)
  | ⟨1, _⟩ => dat1 (W2 m)

/-- The one level, on the TensorCore's cells. -/
abbrev L : GSem nD τ sig → Finset Unit := fun g => if g.1.2 = .tc then {()} else ∅
abbrev lv : GSem nD τ sig → Unit → ℕ := fun _ _ => 0

/-- What rides beside the buffers: what the core owes (nothing), the generator register. -/
def E (c : Dev nD) : sProp 𝕄G :=
  iprop((∃ Wd, owes (c : Thread nD τ) (0 : CellTallies nD τ sig Unit) Wd) ∗ (∃ r, prngReg c r) ∗ emp)

theorem cut (p : Fin 2) : Pipeline.LevelCut (pcfgs (F := F)) adm () L lv p (fun _ => 0) (fun _ => 0) where
  hι c w s := by simp [L]
  hιb c w s := le_rfl
  hD c g i h := absurd h (by simp)

set_option backward.isDefEq.respectTransparency.types false in
/-- The quantising region as a segment. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (body_obligation0 (W1 m) c).loose) (fun _ _ => rfl) (fun _ => rfl) (fun c => (dat0 (W1 m) c).share_full fun _ => rfl)
    (fun _ => .rfl) (fun _ => .rfl) (fun _ => 0) (cut 0) (fun _ => iprop(emp)) (W1 m) (fun _ _ => rfl)

set_option backward.isDefEq.respectTransparency.types false in
/-- The attention region as a segment. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (body_obligation1 (W2 m) c).loose) (fun _ _ => rfl) (fun _ => rfl) (fun c => (dat1 (W2 m) c).share_full fun _ => rfl)
    (fun _ => .rfl) (fun _ => .rfl) (fun _ => 0) (cut 1) (fun _ => iprop(emp)) (W2 m) (fun _ _ => rfl)

theorem arr0_sub : Pipeline.arrRefs (τ := τ) (pcfgs (F := F) 0).spec ⊆ Pipeline.ucRefs τ sig :=
  Pipeline.arrRefs_sub_ucRefs _ (show ∀ w : Fin cfg0.W, (Pipeline.arrRef spec0 w).isScoped = false from by decide)
set_option backward.isDefEq.respectTransparency.types false in
theorem reg0_pre (c : Dev nD) : iprop(StableHlo.held (c : Thread nD τ) (Pipeline.ucRefs τ sig) (W1 m c) ∗ E (F := F) c) ⊢ (reg0 m).pre c := by
  unfold reg0 E
  refine BI.Entails.trans ?_ (RegionSeg.ofHeldIn_pre arr0_sub c)
  exact BI.Entails.refl _
set_option backward.isDefEq.respectTransparency.types false in
theorem reg0_post (c : Dev nD) : (reg0 m).post c ⊢ iprop(StableHlo.held (c : Thread nD τ) (Pipeline.ucRefs τ sig) (W2 m c) ∗ E (F := F) c) := by
  unfold reg0 E
  have h : W2 m c = Pipeline.afterRegion (pdats m 0 c) (W1 m c) := rfl
  rw [h]
  exact RegionSeg.ofHeldIn_post arr0_sub c
theorem arr1_sub : Pipeline.arrRefs (τ := τ) (pcfgs (F := F) 1).spec ⊆ Pipeline.ucRefs τ sig :=
  Pipeline.arrRefs_sub_ucRefs _ (show ∀ w : Fin cfg1.W, (Pipeline.arrRef spec1 w).isScoped = false from by decide)
set_option backward.isDefEq.respectTransparency.types false in
theorem reg1_pre (c : Dev nD) : iprop(StableHlo.held (c : Thread nD τ) (Pipeline.ucRefs τ sig) (W2 m c) ∗ E (F := F) c) ⊢ (reg1 m).pre c := by
  unfold reg1 E
  refine BI.Entails.trans ?_ (RegionSeg.ofHeldIn_pre arr1_sub c)
  exact BI.Entails.refl _
set_option backward.isDefEq.respectTransparency.types false in
theorem reg1_post (c : Dev nD) : (reg1 m).post c ⊢ iprop(StableHlo.held (c : Thread nD τ) (Pipeline.ucRefs τ sig) (W3 m c) ∗ E (F := F) c) := by
  unfold reg1 E
  have h : W3 m c = Pipeline.afterRegion (pdats m 1 c) (W2 m c) := rfl
  rw [h]
  exact RegionSeg.ofHeldIn_post arr1_sub c

/-- The transposes before the regions, -/
def head : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (E (F := F))
/-- and the reshapings after them. -/
def last : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) (E (F := F))

/-- @main's items. -/
abbrev items (_ : Dev nD) : List (Seg (pcfgs (F := F)) adm (pdats m) () defs₀ Variants.none L lv) :=
  [.host (head m), .region (reg0 m), .region (reg1 m), .host (last m)]

set_option backward.isDefEq.respectTransparency.types false in
/-- Every run of @main ends, every unscoped buffer at `W4` and every semaphore at zero. -/
theorem run_held :
    θ_run defs (onTc (τ := τ) (main (F := F))) ⟨m, fun _ => 0, ρ⟩ (fun r => (∀ c : Dev nD, ∀ b ∈ Pipeline.ucRefs τ sig,
      r.2.mem (c, b) = W4 m c b) ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0 (fun g h => if_neg h) (fun _ => iprop(emp))
    (initOf (Pipeline.cells cfgs cellOf_inj) (Pipeline.launchToks cfgs cellOf_inj))
    (by
      iintro Hu; imodintro
      isplitl [Hu]; · iapply (show (ownU _ : sProp 𝕄G) ⊢ BI.own (emb₁ (initOf (Pipeline.cells cfgs cellOf_inj) (Pipeline.launchToks cfgs cellOf_inj))) from .rfl); iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (W0 m c) ∗ E (F := F) c))
    (Tₙ := fun c => StableHlo.held (c : Thread nD τ) (Pipeline.ucRefs τ sig) (W4 m c))
    (hch := fun c => ⟨.rfl, reg0_pre m c, (reg0_post m c).trans (reg1_pre m c), reg1_post m c, sep_mono .rfl ?_⟩)
    (hinit := ?_) (QY := fun c s => ∀ b ∈ Pipeline.ucRefs τ sig, s.mem (c, b) = W4 m c b)
    (hfin := fun c s' => ?_) (hQ := fun _ h hz => ⟨h, funext fun g => hz g (.inr (regions_no_unscoped g.2))⟩)
  · unfold E
    iintro ⟨HO, -, -⟩
    iexact HO
  · refine Pipeline.initEach L lv fun c => ?_
    rw [← Pipeline.unscopedBufs_held (Ix := Unit) (Name := ℕ) (U := UR sig nD τ) (Lvl := ℕ) c (W0 m c)]
    unfold E
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro; exact h
    · iexact HSI

/-- A reference of @main's is among the held buffers. -/
theorem uc_mem (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

theorem A0_eq' (c : Dev nD) (w : Fin cfg0.W) : (dat0 (W1 m) c).A w = W1 m c (Pipeline.arrRef spec0 w) := A0_eq (W1 m) c w
theorem A1_eq' (c : Dev nD) (w : Fin cfg1.W) : (dat1 (W2 m) c).A w = W2 m c (Pipeline.arrRef spec1 w) := A1_eq (W2 m) c w

/-- What no host operation writes and no region flushes reaches the end as launched. -/
theorem kept (c : Dev nD) (r : Ref sig .tc) (h0 : r ∉ hostOps0_W) (h1 : ∀ w, Pipeline.arrRef cfg0.spec w = r → (cfg0.win w).isOut = false)
    (h2 : ∀ w, Pipeline.arrRef cfg1.spec w = r → (cfg1.win w).isOut = false) (h3 : r ∉ hostOps2_W) :
    W4 m c r = m ((c : Thread nD τ).loc r) :=
  (StableHlo.after_of_writes_sub hostOps2 _ hostOps2_writes h3).trans <|
    (Pipeline.afterRegion_keeps (dat1 (W2 m) c) (W2 m c) launch1.win.arr_inj (A1_eq' m c) r h2).trans <|
    (Pipeline.afterRegion_keeps (dat0 (W1 m) c) (W1 m c) launch0.win.arr_inj (A0_eq' m c) r h1).trans <|
    (StableHlo.after_of_writes_sub hostOps0 _ hostOps0_writes h0).trans rfl

theorem kept_arg0 (c : Dev nD) : W4 m c main_arg0 = m ((c : Thread nD τ).loc main_arg0) := kept m c main_arg0 (by decide) (by decide) (by decide) (by decide)
theorem kept_arg1 (c : Dev nD) : W4 m c main_arg1 = m ((c : Thread nD τ).loc main_arg1) := kept m c main_arg1 (by decide) (by decide) (by decide) (by decide)
theorem kept_arg2 (c : Dev nD) : W4 m c main_arg2 = m ((c : Thread nD τ).loc main_arg2) := kept m c main_arg2 (by decide) (by decide) (by decide) (by decide)

/-- Every run of @main ends with the arguments as launched and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c _ (uc_mem main_arg0 (by decide))).trans (kept_arg0 m c), (h.1 c _ (uc_mem main_arg1 (by decide))).trans (kept_arg1 m c),
      (h.1 c _ (uc_mem main_arg2 (by decide))).trans (kept_arg2 m c)⟩, h.2⟩) (run_held m ρ)

end Cert.Proof.KernelIdeal
-- ==== Proof.V.Num.lean ====
module

public import Idealize.ShloMosaic.PureOps.Ideal
public import Idealize.ShloMosaic.PureOps.Ideal.Laws
public import Idealize.ShloMosaic.Lib.Pointwise
public import Mathlib.Analysis.SpecialFunctions.Log.Basic

/-! # Powers of two on bit patterns

The kernel finds the exponent of a number `t ≥ 0` by counting how many of the words `0 << 23,
1 << 23, …, 255 << 23`, read as floats, are at most `t`, and writes a power of two by shifting a
biased exponent into place. The reference takes a logarithm and an exponential. Both are the one
integer `expo t` here. -/

@[expose] public section

set_option maxRecDepth 16384

noncomputable section

namespace Cert.Proof.Value

open Idealize.ShloMosaic

/-- The word whose float reading has the biased exponent `i` and mantissa zero. -/
def word (i : Fin 256) : EReal := Ideal.ofBits .f32 (IntOp.shli .vector (BitVec.ofNat 32 i.val) 23#32)

/-- The kernel's count of the words at most `t`. -/
def wcount (t : EReal) : BitVec 32 :=
  Finset.fold IntOp.addi (0#32) (fun i : Fin 256 => BitVec.setWidth 32 (BitVec.ofBool (decide (word i ≤ t)))) Finset.univ

/-- The kernel's exponent of `t`. -/
def kexp (t : EReal) : BitVec 32 :=
  Scalar.select (IntOp.cmpi CmpIPredicate.eq (IntOp.subi (wcount t) 1#32) 0#32) (0#32) (IntOp.subi (IntOp.subi (wcount t) 1#32) 126#32)

/-- The float with exponent `e`. -/
def kpow (e : BitVec 32) : EReal := Ideal.ofBits .f32 (IntOp.shli .vector (IntOp.addi e 127#32) 23#32)

/-- The kernel's code of `x` at the threshold `t`. -/
def kcode (t x : EReal) : EReal :=
  min (Ideal.ofBits .f32 1138753536#32) (max (Ideal.ofBits .f32 3286237184#32) (x * kpow (IntOp.subi 0#32 (kexp t))))

/-- The largest absolute value of `n` numbers, times the float nearest `1 / 448`. -/
def thr {n : ℕ} (f : Fin n → EReal) : EReal :=
  Finset.fold max (Ideal.ofBits .f32 4286578688#32) (fun k => FloatOps.absf (F := Ideal) (φ := .f32) (f k)) Finset.univ * Ideal.ofBits .f32 991054117#32

/-- The threshold of a group of values. -/
def thr2 (f : Fin 128 → Fin 64 → EReal) : EReal :=
  Finset.fold max (Ideal.ofBits .f32 4286578688#32) (fun j =>
    Finset.fold max (Ideal.ofBits .f32 4286578688#32) (fun k => FloatOps.absf (F := Ideal) (φ := .f32) (f j k)) Finset.univ) Finset.univ
    * Ideal.ofBits .f32 991054117#32

/-- The reference's exponent of `t`. -/
def rexp (t : EReal) : EReal :=
  if t < Ideal.ofBits .f32 8388608#32 then 0
  else Ideal.liftRound Int.floor (Ideal.div (Ideal.log t) (Ideal.log (Ideal.ofBits .f32 1073741824#32))) + 1

/-- The integer part of the binary logarithm. -/
def ilog (t : ℝ) : ℤ := ⌊Real.log t / Real.log 2⌋

/-- The reference's code of `x` at the threshold `t`. -/
def rcode (t x : EReal) : EReal :=
  min (Ideal.ofBits .f32 1138753536#32) (max (Ideal.ofBits .f32 3286237184#32) (x * Ideal.exp2 (0 - rexp t)))

/-- The exponent both take. -/
def expo (t : ℝ) : ℤ := if t < (2 : ℝ) ^ (-126 : ℤ) then 0 else ilog t + 1

theorem word_bits : ∀ i : Fin 256,
    (BitVec.extractLsb' 31 1 (IntOp.shli .vector (BitVec.ofNat 32 i.val) 23#32) == 1#1) = false
    ∧ (BitVec.extractLsb' 23 8 (IntOp.shli .vector (BitVec.ofNat 32 i.val) 23#32)).toNat = i.val
    ∧ (BitVec.extractLsb' 0 23 (IntOp.shli .vector (BitVec.ofNat 32 i.val) 23#32)).toNat = 0 := by
  decide +kernel

theorem ieee_zero (w : BitVec 32) (h2 : (BitVec.extractLsb' 23 8 w).toNat = 0) (h3 : (BitVec.extractLsb' 0 23 w).toNat = 0) :
    Ideal.ofBits .f32 w = 0 := by
  unfold Ideal.ofBits Ideal.ieee
  simp only [h2, h3]
  simp

theorem ieee_top (w : BitVec 32) (h1 : (BitVec.extractLsb' 31 1 w == 1#1) = false) (h2 : (BitVec.extractLsb' 23 8 w).toNat = 255)
    (h3 : (BitVec.extractLsb' 0 23 w).toNat = 0) : Ideal.ofBits .f32 w = ⊤ := by
  unfold Ideal.ofBits Ideal.ieee
  simp only [Nat.reduceAdd, h1, h2, h3]
  simp

theorem ieee_pow (w : BitVec 32) (i : ℕ) (h : i ≠ 0) (h' : i ≠ 255) (h1 : (BitVec.extractLsb' 31 1 w == 1#1) = false)
    (h2 : (BitVec.extractLsb' 23 8 w).toNat = i) (h3 : (BitVec.extractLsb' 0 23 w).toNat = 0) :
    Ideal.ofBits .f32 w = (((2 : ℝ) ^ ((i : ℤ) - 127) : ℝ) : EReal) := by
  unfold Ideal.ofBits Ideal.ieee
  simp only [Nat.reduceAdd, h1, h2, h3]
  rw [if_neg (by simpa using h'), if_neg h]
  refine congrArg (fun r : ℝ => (r : EReal)) ?_
  have : ((2 ^ 23 + 0 : ℕ) : ℝ) = (2 : ℝ) ^ (23 : ℤ) := by norm_num
  rw [this]
  simp only [Bool.false_eq_true, if_false, one_mul]
  rw [← zpow_add₀ (by norm_num)]
  refine congrArg (fun z : ℤ => (2 : ℝ) ^ z) ?_
  norm_num

theorem word_zero (i : Fin 256) (h : i.val = 0) : word i = 0 := by
  obtain ⟨h1, h2, h3⟩ := word_bits i
  exact ieee_zero _ (h2.trans h) h3

theorem word_top (i : Fin 256) (h : i.val = 255) : word i = ⊤ := by
  obtain ⟨h1, h2, h3⟩ := word_bits i
  exact ieee_top _ h1 (h2.trans h) h3

theorem word_pow (i : Fin 256) (h : i.val ≠ 0) (h' : i.val ≠ 255) : word i = (((2 : ℝ) ^ ((i.val : ℤ) - 127) : ℝ) : EReal) := by
  obtain ⟨h1, h2, h3⟩ := word_bits i
  exact ieee_pow _ _ h h' h1 h2 h3

theorem word_mono {i j : Fin 256} (h : i ≤ j) : word i ≤ word j := by
  rcases eq_or_lt_of_le h with rfl | hl
  · exact le_rfl
  have hl' : i.val < j.val := hl
  by_cases hi : i.val = 0
  · rw [word_zero i hi]
    by_cases hj : j.val = 255
    · rw [word_top j hj]; exact le_top
    · rw [word_pow j (by omega) hj]
      exact_mod_cast (by positivity : (0 : ℝ) ≤ (2 : ℝ) ^ ((j.val : ℤ) - 127))
  · by_cases hj : j.val = 255
    · rw [word_top j hj]; exact le_top
    · rw [word_pow j (by omega) hj, word_pow i hi (by omega)]
      apply EReal.coe_le_coe_iff.mpr
      exact zpow_le_zpow_right₀ (by norm_num) (by omega)

theorem fold_count (p : Fin 256 → Bool) (s : Finset (Fin 256)) :
    s.fold IntOp.addi (0#32) (fun i => BitVec.setWidth 32 (BitVec.ofBool (p i))) = BitVec.ofNat 32 (s.filter fun i => p i = true).card := by
  induction s using Finset.induction_on with
  | empty => simp
  | insert a s ha ih =>
    rw [Finset.fold_insert ha, ih, Finset.filter_insert]
    cases hp : p a
    · simp [IntOp.addi]
    · have : a ∉ s.filter fun i => p i = true := fun h => ha (Finset.mem_filter.mp h).1
      simp only [if_true, Finset.card_insert_of_notMem this, BitVec.ofBool_true, IntOp.addi]
      rw [BitVec.ofNat_add, BitVec.add_comm]
      rfl

/-- The count finds the word just below `t`. -/
theorem count_eq (t : EReal) (b : ℕ) (hb : b < 255) (h0 : word ⟨b, by omega⟩ ≤ t) (h1 : t < word ⟨b + 1, by omega⟩) :
    wcount t = BitVec.ofNat 32 (b + 1) := by
  unfold wcount
  rw [fold_count]
  congr 1
  have : (Finset.univ.filter fun i : Fin 256 => decide (word i ≤ t) = true) = Finset.univ.filter fun i : Fin 256 => i.val < b + 1 := by
    apply Finset.filter_congr
    intro i _
    rw [decide_eq_true_iff]
    constructor
    · intro h
      by_contra hc
      exact absurd (lt_of_le_of_lt (le_trans (word_mono (show (⟨b + 1, by omega⟩ : Fin 256) ≤ i from by show b + 1 ≤ i.val; omega)) h) h1) (lt_irrefl _)
    · intro h
      exact le_trans (word_mono (show i ≤ (⟨b, by omega⟩ : Fin 256) from by show i.val ≤ b; omega)) h0
  rw [this, Fin.card_filter_val_lt]
  omega

theorem small_bits : Ideal.ofBits .f32 8388608#32 = (((2 : ℝ) ^ (-126 : ℤ) : ℝ) : EReal) := by
  rw [ieee_pow 8388608#32 1 (by decide) (by decide) (by decide) (by decide) (by decide)]
  norm_num

theorem two_bits : Ideal.ofBits .f32 1073741824#32 = ((2 : ℝ) : EReal) := by
  rw [ieee_pow 1073741824#32 128 (by decide) (by decide) (by decide) (by decide) (by decide)]
  norm_num

theorem le_ilog (t : ℝ) (ht : 0 < t) (n : ℤ) : n ≤ ilog t ↔ (2 : ℝ) ^ n ≤ t := by
  have h2 : 0 < Real.log 2 := Real.log_pos (by norm_num)
  unfold ilog
  rw [Int.le_floor, le_div_iff₀ h2, ← Real.log_zpow, Real.log_le_log_iff (by positivity) ht]

theorem log_le (t : ℝ) (h : (2 : ℝ) ^ (-126 : ℤ) ≤ t) : -126 ≤ ilog t :=
  (le_ilog t (lt_of_lt_of_le (by positivity) h) _).mpr h

theorem log_lt (t : ℝ) (ht : 0 < t) (n : ℤ) (h : t < (2 : ℝ) ^ n) : ilog t < n := by
  by_contra hc
  exact absurd ((le_ilog t ht n).mp (not_lt.mp hc)) (not_le.mpr h)

theorem sel_bits : ∀ n : Fin 254, n.val ≠ 0 →
    Scalar.select (IntOp.cmpi CmpIPredicate.eq (IntOp.subi (BitVec.ofNat 32 (n.val + 1)) 1#32) 0#32) (0#32)
      (IntOp.subi (IntOp.subi (BitVec.ofNat 32 (n.val + 1)) 1#32) 126#32) = BitVec.ofInt 32 ((n.val : ℤ) - 126) := by
  decide +kernel

/-- The kernel's exponent is `expo`. -/
theorem kexp_eq (t : ℝ) (h0 : 0 ≤ t) (h1 : t < (2 : ℝ) ^ (126 : ℤ)) : kexp (t : EReal) = BitVec.ofInt 32 (expo t) := by
  unfold kexp expo
  split_ifs with hs
  · rw [count_eq t 0 (by omega) (by rw [word_zero _ rfl]; exact_mod_cast h0) (by rw [word_pow _ (by decide) (by decide)]; exact_mod_cast hs)]
    rfl
  · rw [not_lt] at hs
    have ht : 0 < t := lt_of_lt_of_le (by positivity) hs
    have hl := log_le t hs
    have hu := log_lt t ht _ h1
    obtain ⟨n, hn⟩ : ∃ n : ℕ, ilog t = (n : ℤ) - 127 := ⟨(ilog t + 127).toNat, by omega⟩
    have hlo : (2 : ℝ) ^ ((n : ℤ) - 127) ≤ t := (le_ilog t ht _).mp hn.ge
    have hhi : t < (2 : ℝ) ^ ((n : ℤ) + 1 - 127) := by
      by_contra hc
      have := (le_ilog t ht _).mpr (not_lt.mp hc)
      omega
    have hc := count_eq (t : EReal) n (by omega)
      (by rw [word_pow _ (by show n ≠ 0; omega) (by show n ≠ 255; omega)]; exact_mod_cast hlo)
      (by rw [word_pow _ (by show n + 1 ≠ 0; omega) (by show n + 1 ≠ 255; omega)]
          apply EReal.coe_lt_coe_iff.mpr; push_cast; exact hhi)
    rw [hc]
    have := sel_bits ⟨n, by omega⟩ (by show n ≠ 0; omega)
    rw [this, hn]
    congr 1
    show (n : ℤ) - 126 = (n : ℤ) - 127 + 1
    ring

theorem expo_range (t : ℝ) (h1 : t < (2 : ℝ) ^ (126 : ℤ)) : -125 ≤ expo t ∧ expo t ≤ 126 := by
  unfold expo
  split_ifs with hs
  · omega
  · rw [not_lt] at hs
    have ht : 0 < t := lt_of_lt_of_le (by positivity) hs
    have hl := log_le t hs
    have hu := log_lt t ht _ h1
    omega

theorem add_bits : ∀ n : Fin 253, IntOp.addi (BitVec.ofInt 32 ((n.val : ℤ) - 126)) 127#32 = BitVec.ofNat 32 (n.val + 1)
    ∧ IntOp.subi 0#32 (BitVec.ofInt 32 ((n.val : ℤ) - 126)) = BitVec.ofInt 32 (126 - (n.val : ℤ)) := by
  decide +kernel

/-- Shifting the biased exponent into place writes the power of two. -/
theorem kpow_eq (e : ℤ) (h0 : -126 ≤ e) (h1 : e ≤ 126) : kpow (BitVec.ofInt 32 e) = (((2 : ℝ) ^ e : ℝ) : EReal) := by
  obtain ⟨n, hn⟩ : ∃ n : ℕ, e = (n : ℤ) - 126 := ⟨(e + 126).toNat, by omega⟩
  unfold kpow
  rw [hn, (add_bits ⟨n, by omega⟩).1]
  have := word_pow ⟨n + 1, by omega⟩ (by show n + 1 ≠ 0; omega) (by show n + 1 ≠ 255; omega)
  unfold word at this
  rw [this]
  congr 2
  push_cast
  ring

theorem neg_bits (e : ℤ) (h0 : -126 ≤ e) (h1 : e ≤ 126) : IntOp.subi 0#32 (BitVec.ofInt 32 e) = BitVec.ofInt 32 (-e) := by
  obtain ⟨n, hn⟩ : ∃ n : ℕ, e = (n : ℤ) - 126 := ⟨(e + 126).toNat, by omega⟩
  rw [hn, (add_bits ⟨n, by omega⟩).2]
  congr 1
  ring

theorem kpow_kexp (t : ℝ) (h0 : 0 ≤ t) (h1 : t < (2 : ℝ) ^ (126 : ℤ)) : kpow (kexp (t : EReal)) = (((2 : ℝ) ^ expo t : ℝ) : EReal) := by
  have := expo_range t h1
  rw [kexp_eq t h0 h1, kpow_eq _ (by omega) (by omega)]

theorem kpow_neg_kexp (t : ℝ) (h0 : 0 ≤ t) (h1 : t < (2 : ℝ) ^ (126 : ℤ)) : kpow (IntOp.subi 0#32 (kexp (t : EReal))) = (((2 : ℝ) ^ (-expo t) : ℝ) : EReal) := by
  have := expo_range t h1
  rw [kexp_eq t h0 h1, neg_bits _ (by omega) (by omega), kpow_eq _ (by omega) (by omega)]

/-- The reference's exponent is `expo`. -/
theorem rexp_eq (t : ℝ) : rexp (t : EReal) = ((expo t : ℝ) : EReal) := by
  unfold rexp expo
  rw [small_bits, two_bits]
  by_cases hs : t < (2 : ℝ) ^ (-126 : ℤ)
  · rw [if_pos (EReal.coe_lt_coe_iff.mpr hs), if_pos hs]; simp
  · rw [if_neg (fun h => hs (EReal.coe_lt_coe_iff.mp h)), if_neg hs]
    rw [not_lt] at hs
    have ht : 0 < t := lt_of_lt_of_le (by positivity) hs
    have e1 : Ideal.log (t : EReal) = (Real.log t : EReal) := by
      show (if t ≤ 0 then ⊥ else (Real.log t : EReal)) = _
      rw [if_neg (not_le.mpr ht)]
    have e2 : Ideal.log ((2 : ℝ) : EReal) = (Real.log 2 : EReal) := by
      show (if (2 : ℝ) ≤ 0 then ⊥ else (Real.log 2 : EReal)) = _
      rw [if_neg (by norm_num)]
    rw [e1, e2]
    have e3 : Ideal.div (Real.log t : EReal) (Real.log 2 : EReal) = ((Real.log t / Real.log 2 : ℝ) : EReal) := by
      have h2 : (Real.log 2) ≠ 0 := (Real.log_pos (by norm_num)).ne'
      unfold Ideal.div
      rw [if_neg (by exact_mod_cast h2)]
      rw [← EReal.coe_inv, ← EReal.coe_mul]
      rfl
    rw [e3]
    show ((ilog t : ℝ) : EReal) + 1 = _
    push_cast
    rfl

theorem rpow_rexp (t : ℝ) : Ideal.exp2 (rexp (t : EReal)) = (((2 : ℝ) ^ expo t : ℝ) : EReal) := by
  rw [rexp_eq]
  show ((Real.rpow 2 (expo t : ℝ) : ℝ) : EReal) = _
  congr 1
  exact Real.rpow_intCast 2 _

theorem rpow_neg_rexp (t : ℝ) : Ideal.exp2 (0 - rexp (t : EReal)) = (((2 : ℝ) ^ (-expo t) : ℝ) : EReal) := by
  rw [rexp_eq, ← EReal.coe_zero, ← EReal.coe_sub]
  show ((Real.rpow 2 (0 - (expo t : ℝ)) : ℝ) : EReal) = _
  congr 1
  have e : (0 : ℝ) - (expo t : ℝ) = ((-expo t : ℤ) : ℝ) := by push_cast; ring
  rw [e]
  exact Real.rpow_intCast 2 (-expo t)

/-- Kernel and reference write one power of two. -/
theorem kpow_kexp_eq (t : ℝ) (h0 : 0 ≤ t) (h1 : t < (2 : ℝ) ^ (126 : ℤ)) : kpow (kexp (t : EReal)) = Ideal.exp2 (rexp (t : EReal)) :=
  (kpow_kexp t h0 h1).trans (rpow_rexp t).symm

theorem kpow_neg_kexp_eq (t : ℝ) (h0 : 0 ≤ t) (h1 : t < (2 : ℝ) ^ (126 : ℤ)) :
    kpow (IntOp.subi 0#32 (kexp (t : EReal))) = Ideal.exp2 (0 - rexp (t : EReal)) :=
  (kpow_neg_kexp t h0 h1).trans (rpow_neg_rexp t).symm

end Cert.Proof.Value
-- ==== Proof.V.Arr0.lean ====
module

public import proofs.«01_k».proof.Proof.KI.Dats
public import proofs.«01_k».proof.Proof.KI.Run
public import Idealize.ShloMosaic.Lib.Pipeline.ValueKit.Geometry
public import Idealize.ShloMosaic.Lib.Pointwise
public import proofs.«01_k».proof.Proof.V.Num

@[expose] public section

set_option maxRecDepth 16384

noncomputable section

namespace Cert.Proof.KernelIdeal

open Cert.KernelIdeal Cert.KernelIdeal.Gen
open Idealize.ShloMosaic Idealize.ShloMosaic.TcCoe
open Cert.Proof.Value

/-! # What the quantising region leaves in its arrays

One grid point is one batch: each result array, read at batch `b`, is the body's value on the batch's block of keys or values. -/

variable {F : FTy → Type} [FloatOps F] [Named F]

/-- Batch `b` of an array of eight, as a block of one. -/
def bat {α : Type} {p q : ℕ} (X : (⟨3, ![8, p, q]⟩ : Shape).Idx → α) (b : Fin 8) : (⟨3, ![1, p, q]⟩ : Shape).Idx → α :=
  fun j => X (ix3 b (j 1) (j 2))

/-- The point's number, as a batch. -/
def pt0 (t : Fin cfg0.N) : Fin 8 := ⟨t.val, by have := t.isLt; have : cfg0.N = 8 := N_0; omega⟩

theorem i0_0 : ∀ t : Fin cfg0.N, win0_0.index t = ![t.val, 0, 0] := (by decide +kernel : ∀ t : Fin grid0.N, _)
theorem i0_1 : ∀ t : Fin cfg0.N, win0_1.index t = ![t.val, 0, 0] := (by decide +kernel : ∀ t : Fin grid0.N, _)
theorem i0_2 : ∀ t : Fin cfg0.N, win0_2.index t = ![t.val, 0, 0] := (by decide +kernel : ∀ t : Fin grid0.N, _)
theorem i0_3 : ∀ t : Fin cfg0.N, win0_3.index t = ![t.val, 0, 0] := (by decide +kernel : ∀ t : Fin grid0.N, _)
theorem i0_4 : ∀ t : Fin cfg0.N, win0_4.index t = ![t.val, 0, 0] := (by decide +kernel : ∀ t : Fin grid0.N, _)
theorem i0_5 : ∀ t : Fin cfg0.N, win0_5.index t = ![t.val, 0, 0] := (by decide +kernel : ∀ t : Fin grid0.N, _)
theorem i0_6 : ∀ t : Fin cfg0.N, win0_6.index t = ![t.val, 0, 0] := (by decide +kernel : ∀ t : Fin grid0.N, _)
theorem i0_7 : ∀ t : Fin cfg0.N, win0_7.index t = ![t.val, 0, 0] := (by decide +kernel : ∀ t : Fin grid0.N, _)
theorem i0_8 : ∀ t : Fin cfg0.N, win0_8.index t = ![t.val, 0, 0] := (by decide +kernel : ∀ t : Fin grid0.N, _)

variable (W : Dev nD → Valuation τ sig (Elt F)) (c : Dev nD)

/-- The keys' block at a point is its batch. -/
theorem blk0_0 (t : Fin cfg0.N) : blk0 W c 0 t = bat (W c (Pipeline.arrRef spec0 0)) (pt0 t) := by
  funext y
  unfold blk0 bat
  blk_simp [i0_0]
  refine congrArg (W c (Pipeline.arrRef spec0 0)) ?_
  funext a
  apply Fin.ext
  have h0 : (y 0).val < 1 := (y 0).isLt
  match a with
  | ⟨0, _⟩ => blk_simp [i0_0] <;> simp [pt0] <;> omega
  | ⟨1, _⟩ => blk_simp [i0_0] <;> simp
  | ⟨2, _⟩ => blk_simp [i0_0] <;> simp

/-- The values' block at a point is its batch. -/
theorem blk0_1 (t : Fin cfg0.N) : blk0 W c 1 t = bat (W c (Pipeline.arrRef spec0 1)) (pt0 t) := by
  funext y
  unfold blk0 bat
  blk_simp [i0_1]
  refine congrArg (W c (Pipeline.arrRef spec0 1)) ?_
  funext a
  apply Fin.ext
  have h0 : (y 0).val < 1 := (y 0).isLt
  match a with
  | ⟨0, _⟩ => blk_simp [i0_1] <;> simp [pt0] <;> omega
  | ⟨1, _⟩ => blk_simp [i0_1] <;> simp
  | ⟨2, _⟩ => blk_simp [i0_1] <;> simp

/-- The keys' codes. -/
theorem arr0_2 : (dat0 W c).arrAt 2 cfg0.N
    = fun i : S8x64x8192.Idx => kcVal (bat (W c (Pipeline.arrRef spec0 0)) (i 0)) (ix3 0 (i 1) (i 2)) := by
  refine (dat0 W c).arrAt_eq_of_covers 2 _ (by decide +kernel) fun t hf y => ?_
  blk_simp
  rw [after0_2, blk0_0]
  have h0 : (y 0).val < 1 := (y 0).isLt
  refine congr (congrArg kcVal (congrArg (bat _) ?_)) ?_
  · apply Fin.ext
    blk_simp [i0_2] <;> simp [pt0] <;> omega
  · funext a
    apply Fin.ext
    match a with
    | ⟨0, _⟩ => simp
    | ⟨1, _⟩ => blk_simp [i0_2] <;> simp
    | ⟨2, _⟩ => blk_simp [i0_2] <;> simp

/-- The keys' scales. -/
theorem arr0_3 : (dat0 W c).arrAt 3 cfg0.N
    = fun i : S8x1x8192.Idx => ksVal (bat (W c (Pipeline.arrRef spec0 0)) (i 0)) (ix3 0 (i 1) (i 2)) := by
  refine (dat0 W c).arrAt_eq_of_covers 3 _ (by decide +kernel) fun t hf y => ?_
  blk_simp
  rw [after0_3, blk0_0]
  have h0 : (y 0).val < 1 := (y 0).isLt
  refine congr (congrArg ksVal (congrArg (bat _) ?_)) ?_
  · apply Fin.ext
    blk_simp [i0_3] <;> simp [pt0] <;> omega
  · funext a
    apply Fin.ext
    match a with
    | ⟨0, _⟩ => simp
    | ⟨1, _⟩ => blk_simp [i0_3] <;> simp
    | ⟨2, _⟩ => blk_simp [i0_3] <;> simp

/-- The values' codes. -/
theorem arr0_4 : (dat0 W c).arrAt 4 cfg0.N
    = fun i : S8x64x8192.Idx => vcVal (bat (W c (Pipeline.arrRef spec0 1)) (i 0)) (ix3 0 (i 1) (i 2)) := by
  refine (dat0 W c).arrAt_eq_of_covers 4 _ (by decide +kernel) fun t hf y => ?_
  blk_simp
  rw [after0_4, blk0_1]
  have h0 : (y 0).val < 1 := (y 0).isLt
  refine congr (congrArg vcVal (congrArg (bat _) ?_)) ?_
  · apply Fin.ext
    blk_simp [i0_4] <;> simp [pt0] <;> omega
  · funext a
    apply Fin.ext
    match a with
    | ⟨0, _⟩ => simp
    | ⟨1, _⟩ => blk_simp [i0_4] <;> simp
    | ⟨2, _⟩ => blk_simp [i0_4] <;> simp

/-- The values' scales. -/
theorem arr0_5 : (dat0 W c).arrAt 5 cfg0.N
    = fun i : S8x1x64.Idx => vsVal (bat (W c (Pipeline.arrRef spec0 1)) (i 0)) (ix3 0 (i 1) (i 2)) := by
  refine (dat0 W c).arrAt_eq_of_covers 5 _ (by decide +kernel) fun t hf y => ?_
  blk_simp
  rw [after0_5, blk0_1]
  have h0 : (y 0).val < 1 := (y 0).isLt
  refine congr (congrArg vsVal (congrArg (bat _) ?_)) ?_
  · apply Fin.ext
    blk_simp [i0_5] <;> simp [pt0] <;> omega
  · funext a
    apply Fin.ext
    match a with
    | ⟨0, _⟩ => simp
    | ⟨1, _⟩ => blk_simp [i0_5] <;> simp
    | ⟨2, _⟩ => blk_simp [i0_5] <;> simp

/-- The keys' codes transposed. -/
theorem arr0_6 : (dat0 W c).arrAt 6 cfg0.N
    = fun i : S8x8192x128.Idx => klVal (bat (W c (Pipeline.arrRef spec0 0)) (i 0)) (ix3 0 (i 1) (i 2)) := by
  refine (dat0 W c).arrAt_eq_of_covers 6 _ (by decide +kernel) fun t hf y => ?_
  blk_simp
  rw [after0_6, blk0_0]
  have h0 : (y 0).val < 1 := (y 0).isLt
  refine congr (congrArg klVal (congrArg (bat _) ?_)) ?_
  · apply Fin.ext
    blk_simp [i0_6] <;> simp [pt0] <;> omega
  · funext a
    apply Fin.ext
    match a with
    | ⟨0, _⟩ => simp
    | ⟨1, _⟩ => blk_simp [i0_6] <;> simp
    | ⟨2, _⟩ => blk_simp [i0_6] <;> simp

/-- The keys' scales spread over the lanes. -/
theorem arr0_7 : (dat0 W c).arrAt 7 cfg0.N
    = fun i : S8x8192x128.Idx => kbVal (bat (W c (Pipeline.arrRef spec0 0)) (i 0)) (ix3 0 (i 1) (i 2)) := by
  refine (dat0 W c).arrAt_eq_of_covers 7 _ (by decide +kernel) fun t hf y => ?_
  blk_simp
  rw [after0_7, blk0_0]
  have h0 : (y 0).val < 1 := (y 0).isLt
  refine congr (congrArg kbVal (congrArg (bat _) ?_)) ?_
  · apply Fin.ext
    blk_simp [i0_7] <;> simp [pt0] <;> omega
  · funext a
    apply Fin.ext
    match a with
    | ⟨0, _⟩ => simp
    | ⟨1, _⟩ => blk_simp [i0_7] <;> simp
    | ⟨2, _⟩ => blk_simp [i0_7] <;> simp

/-- The values' codes times their scales. -/
theorem arr0_8 : (dat0 W c).arrAt 8 cfg0.N
    = fun i : S8x64x8192.Idx => vdVal (bat (W c (Pipeline.arrRef spec0 1)) (i 0)) (ix3 0 (i 1) (i 2)) := by
  refine (dat0 W c).arrAt_eq_of_covers 8 _ (by decide +kernel) fun t hf y => ?_
  blk_simp
  rw [after0_8, blk0_1]
  have h0 : (y 0).val < 1 := (y 0).isLt
  refine congr (congrArg vdVal (congrArg (bat _) ?_)) ?_
  · apply Fin.ext
    blk_simp [i0_8] <;> simp [pt0] <;> omega
  · funext a
    apply Fin.ext
    match a with
    | ⟨0, _⟩ => simp
    | ⟨1, _⟩ => blk_simp [i0_8] <;> simp
    | ⟨2, _⟩ => blk_simp [i0_8] <;> simp

end Cert.Proof.KernelIdeal
-- ==== Proof.V.Arr1.lean ====
module

public import proofs.«01_k».proof.Proof.KI.Dats
public import proofs.«01_k».proof.Proof.KI.Run
public import Idealize.ShloMosaic.Lib.Pipeline.ValueKit.Geometry
public import Idealize.ShloMosaic.Lib.Pointwise
public import proofs.«01_k».proof.Proof.V.Arr0
public import proofs.«01_k».proof.Proof.V.Num

@[expose] public section

set_option maxRecDepth 16384

noncomputable section

namespace Cert.Proof.KernelIdeal

open Cert.KernelIdeal Cert.KernelIdeal.Gen
open Idealize.ShloMosaic Idealize.ShloMosaic.TcCoe
open Cert.Proof.Value

/-! # What the attention region leaves in its arrays

Point `t` of the 256 is batch `t / 32`, query block `t % 32`: each result array, read at batch `b` and position `s`, is the body's
value, at row `s % 256`, on query block `s / 256` of the batch. -/

variable {F : FTy → Type} [FloatOps F] [Named F]

/-- The point's batch, -/
def bt1 (t : Fin cfg1.N) : Fin 8 := ⟨t.val / 32, by have := t.isLt; have : cfg1.N = 256 := N_1; omega⟩
/-- and its query block. -/
def qi1 (t : Fin cfg1.N) : Fin 32 := ⟨t.val % 32, by omega⟩

/-- The query block of a position, -/
def blkOf (s : Fin 8192) : Fin 32 := ⟨s.val / 256, by omega⟩
/-- and its row in the block. -/
def rowOf (s : Fin 8192) : Fin 256 := ⟨s.val % 256, by omega⟩

/-- Query block `q` of batch `b` of the queries. -/
def qblk {α : Type} (X : S8x8192x1024.Idx → α) (b : Fin 8) (q : Fin 32) : S1x256x1024.Idx → α :=
  fun j => X (ix3 b ⟨q.val * 256 + (j 1).val, by have : (j 1).val < 256 := (j 1).isLt; omega⟩ (j 2))

theorem i1_0 : ∀ t : Fin cfg1.N, win1_0.index t = ![t.val / 32, t.val % 32, 0] := (by decide +kernel : ∀ t : Fin grid1.N, _)
theorem i1_1 : ∀ t : Fin cfg1.N, win1_1.index t = ![t.val / 32, 0, 0] := (by decide +kernel : ∀ t : Fin grid1.N, _)
theorem i1_2 : ∀ t : Fin cfg1.N, win1_2.index t = ![t.val / 32, 0, 0] := (by decide +kernel : ∀ t : Fin grid1.N, _)
theorem i1_3 : ∀ t : Fin cfg1.N, win1_3.index t = ![t.val / 32, 0, 0] := (by decide +kernel : ∀ t : Fin grid1.N, _)
theorem i1_4 : ∀ t : Fin cfg1.N, win1_4.index t = ![t.val / 32, t.val % 32, 0] := (by decide +kernel : ∀ t : Fin grid1.N, _)
theorem i1_5 : ∀ t : Fin cfg1.N, win1_5.index t = ![t.val / 32, 0, 0, t.val % 32] := (by decide +kernel : ∀ t : Fin grid1.N, _)
theorem i1_6 : ∀ t : Fin cfg1.N, win1_6.index t = ![t.val / 32, 0, t.val % 32] := (by decide +kernel : ∀ t : Fin grid1.N, _)
theorem c1_1 : ∀ t : Fin cfg1.N, (cfg1.grid.coords t 1).val = (qi1 t).val := (by decide +kernel : ∀ t : Fin grid1.N, _)

variable (W : Dev nD → Valuation τ sig (Elt F)) (c : Dev nD)

/-- The queries' block at a point. -/
theorem blk1_0 (t : Fin cfg1.N) : blk1 W c 0 t = qblk (W c (Pipeline.arrRef spec1 0)) (bt1 t) (qi1 t) := by
  funext y
  unfold blk1 qblk
  blk_simp [i1_0]
  refine congrArg (W c (Pipeline.arrRef spec1 0)) ?_
  funext a
  apply Fin.ext
  have h0 : (y 0).val < 1 := (y 0).isLt
  match a with
  | ⟨0, _⟩ => blk_simp [i1_0] <;> simp [bt1] <;> omega
  | ⟨1, _⟩ => blk_simp [i1_0] <;> simp [qi1]
  | ⟨2, _⟩ => blk_simp [i1_0] <;> simp

/-- Window 1's block at a point is its batch. -/
theorem blk1_1 (t : Fin cfg1.N) : blk1 W c 1 t = bat (W c (Pipeline.arrRef spec1 1)) (bt1 t) := by
  funext y
  unfold blk1 bat
  blk_simp [i1_1]
  refine congrArg (W c (Pipeline.arrRef spec1 1)) ?_
  funext a
  apply Fin.ext
  have h0 : (y 0).val < 1 := (y 0).isLt
  match a with
  | ⟨0, _⟩ => blk_simp [i1_1] <;> simp [bt1] <;> omega
  | ⟨1, _⟩ => blk_simp [i1_1] <;> simp
  | ⟨2, _⟩ => blk_simp [i1_1] <;> simp

/-- Window 2's block at a point is its batch. -/
theorem blk1_2 (t : Fin cfg1.N) : blk1 W c 2 t = bat (W c (Pipeline.arrRef spec1 2)) (bt1 t) := by
  funext y
  unfold blk1 bat
  blk_simp [i1_2]
  refine congrArg (W c (Pipeline.arrRef spec1 2)) ?_
  funext a
  apply Fin.ext
  have h0 : (y 0).val < 1 := (y 0).isLt
  match a with
  | ⟨0, _⟩ => blk_simp [i1_2] <;> simp [bt1] <;> omega
  | ⟨1, _⟩ => blk_simp [i1_2] <;> simp
  | ⟨2, _⟩ => blk_simp [i1_2] <;> simp

/-- Window 3's block at a point is its batch. -/
theorem blk1_3 (t : Fin cfg1.N) : blk1 W c 3 t = bat (W c (Pipeline.arrRef spec1 3)) (bt1 t) := by
  funext y
  unfold blk1 bat
  blk_simp [i1_3]
  refine congrArg (W c (Pipeline.arrRef spec1 3)) ?_
  funext a
  apply Fin.ext
  have h0 : (y 0).val < 1 := (y 0).isLt
  match a with
  | ⟨0, _⟩ => blk_simp [i1_3] <;> simp [bt1] <;> omega
  | ⟨1, _⟩ => blk_simp [i1_3] <;> simp
  | ⟨2, _⟩ => blk_simp [i1_3] <;> simp

/-- The attention's output on a batch and query block, of the arrays. -/
def outBlk (W : Valuation τ sig (Elt F)) (b : Fin 8) (q : Fin 32) : FVec F S1x256x1024 .bf16 :=
  outVal (codesVal (qblk (W (Pipeline.arrRef spec1 0)) b q)) (factorVal (qblk (W (Pipeline.arrRef spec1 0)) b q))
    (bat (W (Pipeline.arrRef spec1 1)) b) (bat (W (Pipeline.arrRef spec1 2)) b) (bat (W (Pipeline.arrRef spec1 3)) b) q.val

/-- The output. -/
theorem arr1_4 : (dat1 W c).arrAt 4 cfg1.N
    = fun i : S8x8192x1024.Idx => outBlk (W c) (i 0) (blkOf (i 1)) (ix3 0 (rowOf (i 1)) (i 2)) := by
  refine (dat1 W c).arrAt_eq_of_covers 4 _ (by decide +kernel) fun t hf y => ?_
  blk_simp
  rw [after1_4, blk1_0, blk1_1, blk1_2, blk1_3, c1_1]
  show outBlk (W c) (bt1 t) (qi1 t) y = _
  have h0 : (y 0).val < 1 := (y 0).isLt
  have h1 : (y 1).val < 256 := (y 1).isLt
  refine congr (congr (congrArg (outBlk (W c)) ?_) ?_) ?_
  · apply Fin.ext
    blk_simp [i1_4] <;> simp [bt1] <;> omega
  · apply Fin.ext
    simp only [blkOf]
    blk_simp [i1_4] <;> simp [qi1] <;> omega
  · funext a
    apply Fin.ext
    match a with
    | ⟨0, _⟩ => simp
    | ⟨1, _⟩ => simp only [rowOf, ix3]; blk_simp [i1_4] <;> simp <;> omega
    | ⟨2, _⟩ => blk_simp [i1_4] <;> simp

/-- The queries' codes. -/
theorem arr1_5 : (dat1 W c).arrAt 5 cfg1.N
    = fun i : S8x16x64x8192.Idx => codesVal (qblk (W c (Pipeline.arrRef spec1 0)) (i 0) (blkOf (i 3))) (ix4 0 (i 1) (i 2) (rowOf (i 3))) := by
  refine (dat1 W c).arrAt_eq_of_covers 5 _ (by decide +kernel) fun t hf y => ?_
  blk_simp
  rw [after1_5, blk1_0]
  have h0 : (y 0).val < 1 := (y 0).isLt
  have h1 : (y 3).val < 256 := (y 3).isLt
  refine congr (congrArg codesVal (congr (congrArg (qblk _) ?_) ?_)) ?_
  · apply Fin.ext
    blk_simp [i1_5] <;> simp [bt1] <;> omega
  · apply Fin.ext
    simp only [blkOf]
    blk_simp [i1_5] <;> simp [qi1] <;> omega
  · funext a
    apply Fin.ext
    match a with
    | ⟨0, _⟩ => simp
    | ⟨1, _⟩ => blk_simp [i1_5] <;> simp
    | ⟨2, _⟩ => blk_simp [i1_5] <;> simp
    | ⟨3, _⟩ => simp only [rowOf, ix4]; blk_simp [i1_5] <;> simp <;> omega

/-- The queries' scales. -/
theorem arr1_6 : (dat1 W c).arrAt 6 cfg1.N
    = fun i : S8x16x8192.Idx => scaleVal (qblk (W c (Pipeline.arrRef spec1 0)) (i 0) (blkOf (i 2))) (ix3 0 (i 1) (rowOf (i 2))) := by
  refine (dat1 W c).arrAt_eq_of_covers 6 _ (by decide +kernel) fun t hf y => ?_
  blk_simp
  rw [after1_6, blk1_0]
  have h0 : (y 0).val < 1 := (y 0).isLt
  have h1 : (y 2).val < 256 := (y 2).isLt
  refine congr (congrArg scaleVal (congr (congrArg (qblk _) ?_) ?_)) ?_
  · apply Fin.ext
    blk_simp [i1_6] <;> simp [bt1] <;> omega
  · apply Fin.ext
    simp only [blkOf]
    blk_simp [i1_6] <;> simp [qi1] <;> omega
  · funext a
    apply Fin.ext
    match a with
    | ⟨0, _⟩ => simp
    | ⟨1, _⟩ => blk_simp [i1_6] <;> simp
    | ⟨2, _⟩ => simp only [rowOf, ix3]; blk_simp [i1_6] <;> simp <;> omega

end Cert.Proof.KernelIdeal
-- ==== Proof.V.Soft.lean ====
module

public import proofs.«01_k».proof.Proof.V.Num

/-! # Real thresholds, and the softmax's mathematics -/

@[expose] public section

noncomputable section

namespace Cert.Proof.Value

open Idealize.ShloMosaic

/-- The maximum of a family. -/
def rmax {n : ℕ} (z : Fin n → EReal) : EReal := Finset.fold max (Ideal.ofBits .f32 4286578688#32) z Finset.univ

/-- The softmax's weight. -/
def rweight {n : ℕ} (z : Fin n → EReal) (k : Fin n) : EReal := Ideal.div (Ideal.exp (z k - rmax z)) (∑ j, Ideal.exp (z j - rmax z))

/-- The output of one head's query at one feature, from the masked scores and the dequantised values. -/
def rout {n : ℕ} (z v : Fin n → EReal) : EReal :=
  (∑ k, rcode (thr (rweight z)) (rweight z k) * v k) * Ideal.exp2 (rexp (thr (rweight z)))

theorem bot_bits : Ideal.ofBits .f32 4286578688#32 = (⊥ : EReal) := by
  unfold Ideal.ofBits Ideal.ieee
  simp only [show (BitVec.extractLsb' 31 1 4286578688#32 == 1#1) = true by decide, show (BitVec.extractLsb' 23 8 4286578688#32).toNat = 255 by decide,
    show (BitVec.extractLsb' 0 23 4286578688#32).toNat = 0 by decide]
  simp

/-- The float nearest `1 / 448` that both programs multiply by. -/
def cf : ℝ := 9586981 / 2 ^ 32

theorem cf_bits : Ideal.ofBits .f32 991054117#32 = (cf : EReal) := by
  unfold Ideal.ofBits Ideal.ieee cf
  simp only [show (BitVec.extractLsb' 31 1 991054117#32 == 1#1) = false by decide, show (BitVec.extractLsb' 23 8 991054117#32).toNat = 118 by decide,
    show (BitVec.extractLsb' 0 23 991054117#32).toNat = 1198373 by decide]
  simp
  norm_num
  rw [← EReal.coe_mul]
  norm_num

theorem top_bits : Ideal.ofBits .f32 1138753536#32 = ((448 : ℝ) : EReal) := by
  unfold Ideal.ofBits Ideal.ieee
  simp only [show (BitVec.extractLsb' 31 1 1138753536#32 == 1#1) = false by decide, show (BitVec.extractLsb' 23 8 1138753536#32).toNat = 135 by decide,
    show (BitVec.extractLsb' 0 23 1138753536#32).toNat = 6291456 by decide]
  simp
  norm_num
  rw [← EReal.coe_mul]
  norm_num

theorem low_bits : Ideal.ofBits .f32 3286237184#32 = ((-448 : ℝ) : EReal) := by
  unfold Ideal.ofBits Ideal.ieee
  simp only [show (BitVec.extractLsb' 31 1 3286237184#32 == 1#1) = true by decide, show (BitVec.extractLsb' 23 8 3286237184#32).toNat = 135 by decide,
    show (BitVec.extractLsb' 0 23 3286237184#32).toNat = 6291456 by decide]
  simp
  norm_num
  rw [← EReal.coe_mul]
  norm_num

/-- A maximum folded from the bottom is characterised by its upper bounds. -/
theorem fold_le {n : ℕ} (f : Fin n → EReal) (c : EReal) : Finset.fold max (Ideal.ofBits .f32 4286578688#32) f Finset.univ ≤ c ↔ ∀ k, f k ≤ c := by
  rw [Finset.fold_max_le, bot_bits]
  simp

theorem abs_coe (r : ℝ) : FloatOps.absf (F := Ideal) (φ := .f32) (r : EReal) = ((|r| : ℝ) : EReal) := by
  show max (r : EReal) (-(r : EReal)) = _
  rw [← EReal.coe_neg, ← EReal.coe_strictMono.monotone.map_max]
  rfl

/-- A value is finite and below `2 ^ 128` in size. -/
def Fin32 (x : EReal) : Prop := ∃ r : ℝ, x = r ∧ |r| ≤ (2 : ℝ) ^ (128 : ℤ)

theorem fold_fin {n : ℕ} (hn : 0 < n) (B : ℝ) (f : Fin n → EReal) (hf : ∀ k, ∃ r : ℝ, f k = r ∧ 0 ≤ r ∧ r ≤ B) :
    ∃ r : ℝ, Finset.fold max (Ideal.ofBits .f32 4286578688#32) f Finset.univ = r ∧ 0 ≤ r ∧ r ≤ B := by
  obtain ⟨r0, h0, h1, h2⟩ := hf ⟨0, hn⟩
  have hle : Finset.fold max (Ideal.ofBits .f32 4286578688#32) f Finset.univ ≤ (B : EReal) := (fold_le f _).mpr fun k => by
    obtain ⟨r, e, _, h⟩ := hf k
    rw [e]; exact_mod_cast h
  have hge : ((r0 : ℝ) : EReal) ≤ Finset.fold max (Ideal.ofBits .f32 4286578688#32) f Finset.univ := by
    rw [← h0]; exact (fold_le f _).mp le_rfl _
  lift Finset.fold max (Ideal.ofBits .f32 4286578688#32) f Finset.univ to ℝ using ⟨ne_of_lt (lt_of_le_of_lt hle (EReal.coe_lt_top B)), ne_of_gt (lt_of_lt_of_le (EReal.bot_lt_coe r0) hge)⟩ with M
  exact ⟨M, rfl, h1.trans (by exact_mod_cast hge), by exact_mod_cast hle⟩

theorem small (M : ℝ) (h0 : 0 ≤ M) (h1 : M ≤ (2 : ℝ) ^ (128 : ℤ)) : 0 ≤ M * cf ∧ M * cf < (2 : ℝ) ^ (126 : ℤ) := by
  unfold cf
  refine ⟨by positivity, ?_⟩
  have : (2 : ℝ) ^ (128 : ℤ) = 4 * (2 : ℝ) ^ (126 : ℤ) := by norm_num
  have hp : (0 : ℝ) < (2 : ℝ) ^ (126 : ℤ) := by positivity
  rw [this] at h1
  nlinarith

theorem thr_fin {n : ℕ} (hn : 0 < n) (f : Fin n → EReal) (hf : ∀ k, Fin32 (f k)) :
    ∃ t : ℝ, thr f = t ∧ 0 ≤ t ∧ t < (2 : ℝ) ^ (126 : ℤ) := by
  obtain ⟨M, e, h0, h1⟩ := fold_fin hn ((2 : ℝ) ^ (128 : ℤ)) (fun k => FloatOps.absf (F := Ideal) (φ := .f32) (f k)) fun k => by
    obtain ⟨r, e, h⟩ := hf k
    exact ⟨|r|, by rw [e]; exact abs_coe r, abs_nonneg r, h⟩
  refine ⟨M * cf, ?_, small M h0 h1⟩
  unfold thr
  rw [e, cf_bits, ← EReal.coe_mul]

theorem thr2_fin (f : Fin 128 → Fin 64 → EReal) (hf : ∀ j k, Fin32 (f j k)) :
    ∃ t : ℝ, thr2 f = t ∧ 0 ≤ t ∧ t < (2 : ℝ) ^ (126 : ℤ) := by
  obtain ⟨M, e, h0, h1⟩ := fold_fin (n := 128) (by decide) ((2 : ℝ) ^ (128 : ℤ)) (fun j => Finset.fold max (Ideal.ofBits .f32 4286578688#32) (fun k => FloatOps.absf (F := Ideal) (φ := .f32) (f j k)) Finset.univ) fun j =>
    fold_fin (by decide) ((2 : ℝ) ^ (128 : ℤ)) _ fun k => by
      obtain ⟨r, e, h⟩ := hf j k
      exact ⟨|r|, by rw [e]; exact abs_coe r, abs_nonneg r, h⟩
  refine ⟨M * cf, ?_, small M h0 h1⟩
  unfold thr2
  rw [e, cf_bits, ← EReal.coe_mul]

/-- The kernel's and the reference's scales agree. -/
theorem scale_eq {n : ℕ} (hn : 0 < n) (f : Fin n → EReal) (hf : ∀ k, Fin32 (f k)) : kpow (kexp (thr f)) = Ideal.exp2 (rexp (thr f)) := by
  obtain ⟨t, e, h0, h1⟩ := thr_fin hn f hf
  rw [e]; exact kpow_kexp_eq t h0 h1

/-- The kernel's and the reference's codes agree. -/
theorem code_eq {n : ℕ} (hn : 0 < n) (f : Fin n → EReal) (hf : ∀ k, Fin32 (f k)) (x : EReal) : kcode (thr f) x = rcode (thr f) x := by
  obtain ⟨t, e, h0, h1⟩ := thr_fin hn f hf
  rw [e]; unfold kcode rcode; rw [kpow_neg_kexp_eq t h0 h1]

theorem scale2_eq (f : Fin 128 → Fin 64 → EReal) (hf : ∀ j k, Fin32 (f j k)) : kpow (kexp (thr2 f)) = Ideal.exp2 (rexp (thr2 f)) := by
  obtain ⟨t, e, h0, h1⟩ := thr2_fin f hf
  rw [e]; exact kpow_kexp_eq t h0 h1

theorem code2_eq (f : Fin 128 → Fin 64 → EReal) (hf : ∀ j k, Fin32 (f j k)) (x : EReal) : kcode (thr2 f) x = rcode (thr2 f) x := by
  obtain ⟨t, e, h0, h1⟩ := thr2_fin f hf
  rw [e]; unfold kcode rcode; rw [kpow_neg_kexp_eq t h0 h1]

/-- A scale is a positive real. -/
theorem scale_real {n : ℕ} (hn : 0 < n) (f : Fin n → EReal) (hf : ∀ k, Fin32 (f k)) : ∃ r : ℝ, Ideal.exp2 (rexp (thr f)) = r := by
  obtain ⟨t, e, h0, h1⟩ := thr_fin hn f hf
  exact ⟨_, by rw [e]; exact rpow_rexp t⟩

/-- A code is real. -/
theorem code_real {n : ℕ} (hn : 0 < n) (f : Fin n → EReal) (hf : ∀ k, Fin32 (f k)) (x : EReal) : ∃ r : ℝ, rcode (thr f) x = r := by
  unfold rcode
  rw [top_bits, low_bits]
  have h1 : min ((448 : ℝ) : EReal) (max ((-448 : ℝ) : EReal) (x * Ideal.exp2 (0 - rexp (thr f)))) ≤ ((448 : ℝ) : EReal) := min_le_left _ _
  have h2 : ((-448 : ℝ) : EReal) ≤ min ((448 : ℝ) : EReal) (max ((-448 : ℝ) : EReal) (x * Ideal.exp2 (0 - rexp (thr f)))) :=
    le_min (by exact_mod_cast (by norm_num : (-448 : ℝ) ≤ 448)) (le_max_left _ _)
  lift min ((448 : ℝ) : EReal) (max ((-448 : ℝ) : EReal) (x * Ideal.exp2 (0 - rexp (thr f)))) to ℝ using
    ⟨ne_of_lt (lt_of_le_of_lt h1 (EReal.coe_lt_top _)), ne_of_gt (lt_of_lt_of_le (EReal.bot_lt_coe _) h2)⟩ with M
  exact ⟨M, rfl⟩

end Cert.Proof.Value
-- ==== Proof.V.Spec.lean ====
module

public import Idealize.ShloMosaic.Lib.Pointwise
public import proofs.«01_k».proof.Proof.V.Soft

@[expose] public section

set_option maxRecDepth 16384

noncomputable section

namespace Cert.Proof.Value

open Idealize.ShloMosaic Idealize.ShloMosaic.TcCoe

/-! # What both programs compute, element by element

The seven results as functions of the three argument arrays at an index, in the reference's own words: the codes and scales of the
queries (by head), of the keys (by position) and of the values (by group of 128 positions), and the attention output. -/

/-- An array of rank 3 over the extended reals. -/
abbrev A3 (a b c : ℕ) := (⟨3, ![a, b, c]⟩ : Shape).Idx → EReal

variable (X : A3 8 8192 1024) (K V : A3 8 8192 64)

/-- The 64 features of one head's query, -/
def qrow (b : Fin 8) (s : Fin 8192) (h : Fin 16) (k : Fin 64) : EReal := X (ix3 b s ⟨h.val * 64 + k.val, by omega⟩)
/-- of one key, -/
def krow (b : Fin 8) (s : Fin 8192) (k : Fin 64) : EReal := K (ix3 b s k)
/-- and the 128 by 64 values of one group. -/
def vgrp (b : Fin 8) (g : Fin 64) (j : Fin 128) (k : Fin 64) : EReal := V (ix3 b ⟨g.val * 128 + j.val, by omega⟩ k)

/-- The queries' codes -/
def sQc (b : Fin 8) (s : Fin 8192) (h : Fin 16) (d : Fin 64) : EReal := rcode (thr (qrow X b s h)) (qrow X b s h d)
/-- and scales, -/
def sQs (b : Fin 8) (s : Fin 8192) (h : Fin 16) : EReal := Ideal.exp2 (rexp (thr (qrow X b s h)))
/-- the keys' codes -/
def sKc (b : Fin 8) (s : Fin 8192) (d : Fin 64) : EReal := rcode (thr (krow K b s)) (krow K b s d)
/-- and scales, -/
def sKs (b : Fin 8) (s : Fin 8192) : EReal := Ideal.exp2 (rexp (thr (krow K b s)))
/-- the values' codes -/
def sVc (b : Fin 8) (s : Fin 8192) (d : Fin 64) : EReal :=
  rcode (thr2 (vgrp V b ⟨s.val / 128, by omega⟩)) (vgrp V b ⟨s.val / 128, by omega⟩ ⟨s.val % 128, by omega⟩ d)
/-- and scales. -/
def sVs (b : Fin 8) (g : Fin 64) : EReal := Ideal.exp2 (rexp (thr2 (vgrp V b g)))

/-- The masked score of a query and a key. -/
def sScore (b : Fin 8) (s : Fin 8192) (h : Fin 16) (k : Fin 8192) : EReal :=
  Scalar.select (IntOp.cmpi CmpIPredicate.sle (BitVec.ofNat 32 k.val) (BitVec.ofNat 32 s.val))
    ((∑ d : Fin 64, sQc X b s h d * sKc K b k d) * (sQs X b s h * Ideal.ofBits .f32 0x3E000000#32) * sKs K b k) (Ideal.ofBits .f32 4286578688#32)

/-- The output. -/
def sOut (b : Fin 8) (s : Fin 8192) (c : Fin 1024) : EReal :=
  rout (sScore X K b s ⟨c.val / 64, by omega⟩) fun k => sVc V b k ⟨c.val % 64, by omega⟩ * sVs V b ⟨k.val / 128, by omega⟩

end Cert.Proof.Value
-- ==== Proof.V.KRun.lean ====
module

public import proofs.«01_k».proof.Proof.KI.Dats
public import proofs.«01_k».proof.Proof.KI.Run
public import Idealize.ShloMosaic.Lib.Pipeline.ValueKit.Geometry
public import Idealize.ShloMosaic.Lib.Pointwise
public import proofs.«01_k».proof.Proof.V.Arr1
public import proofs.«01_k».proof.Proof.V.Spec

@[expose] public section

set_option maxRecDepth 16384

noncomputable section

namespace Cert.Proof.KernelIdeal

open Cert.KernelIdeal Cert.KernelIdeal.Gen
open Idealize.ShloMosaic Idealize.ShloMosaic.TcCoe
open Cert.Proof.Value

/-! # The kernel program's results, element by element

Each result array at the end of @main, as the regions' arrays left it, the transposes around the regions read at an index. -/

variable (m : (ℓ : Loc nD τ sig) → Buf (Elt Ideal) ℓ) (ρ : Dev nD → PrngReg) (c : Dev nD)

/-- The three argument arrays. -/
abbrev ax : Vec Ideal S8x8192x1024 .bf16 := m ((c : Thread nD τ).loc main_arg0)
abbrev ak : Vec Ideal S8x8192x64 .bf16 := m ((c : Thread nD τ).loc main_arg1)
abbrev av : Vec Ideal S8x8192x64 .bf16 := m ((c : Thread nD τ).loc main_arg2)

/-- Batch `b` of a key or value array, features first. -/
def tblk (K : Vec Ideal S8x8192x64 .bf16) (b : Fin 8) : Vec Ideal S1x64x8192 .bf16 := fun j => K (ix3 b (j 2) (j 1))

theorem tr021_at (K : Vec Ideal S8x8192x64 .bf16) (b : Fin 8) (d : Fin 64) (s : Fin 8192) :
    transpose S8x64x8192 [0, 2, 1] K transposes_S8x8192x64_S8x64x8192_0_2_1 (ix3 b d s) = K (ix3 b s d) := by
  pointwise []

theorem bat_tr (K : Vec Ideal S8x8192x64 .bf16) (b : Fin 8) :
    bat (transpose S8x64x8192 [0, 2, 1] K transposes_S8x8192x64_S8x64x8192_0_2_1) b = tblk K b := by
  funext j
  exact tr021_at K b (j 1) (j 2)

theorem W1_v0 : W1 m c main_v0 = transpose S8x64x8192 [0, 2, 1] (ak m c) transposes_S8x8192x64_S8x64x8192_0_2_1 := by
  unfold W1
  after_results
  rfl
theorem W1_v1 : W1 m c main_v1 = transpose S8x64x8192 [0, 2, 1] (av m c) transposes_S8x8192x64_S8x64x8192_0_2_1 := by
  unfold W1
  after_results
  rfl

theorem kbat (b : Fin 8) : bat (W1 m c (Pipeline.arrRef spec0 0)) b = tblk (ak m c) b :=
  (congrArg (fun A => bat A b) (W1_v0 m c)).trans (bat_tr _ b)
theorem vbat (b : Fin 8) : bat (W1 m c (Pipeline.arrRef spec0 1)) b = tblk (av m c) b :=
  (congrArg (fun A => bat A b) (W1_v1 m c)).trans (bat_tr _ b)

/-! ## After the quantising region -/

theorem W2_0 : W2 m c main_v2_0 = fun i : S8x64x8192.Idx => kcVal (tblk (ak m c) (i 0)) (ix3 0 (i 1) (i 2)) := by
  refine ((Pipeline.afterRegion_arr (dat0 (W1 m) c) (W1 m c) launch0.win.arr_inj 2).trans (arr0_2 (W1 m) c)).trans ?_
  funext i
  exact congrArg (fun B => kcVal B (ix3 0 (i 1) (i 2))) (kbat m c (i 0))

theorem W2_1 : W2 m c main_v2_1 = fun i : S8x1x8192.Idx => ksVal (tblk (ak m c) (i 0)) (ix3 0 (i 1) (i 2)) := by
  refine ((Pipeline.afterRegion_arr (dat0 (W1 m) c) (W1 m c) launch0.win.arr_inj 3).trans (arr0_3 (W1 m) c)).trans ?_
  funext i
  exact congrArg (fun B => ksVal B (ix3 0 (i 1) (i 2))) (kbat m c (i 0))

theorem W2_2 : W2 m c main_v2_2 = fun i : S8x64x8192.Idx => vcVal (tblk (av m c) (i 0)) (ix3 0 (i 1) (i 2)) := by
  refine ((Pipeline.afterRegion_arr (dat0 (W1 m) c) (W1 m c) launch0.win.arr_inj 4).trans (arr0_4 (W1 m) c)).trans ?_
  funext i
  exact congrArg (fun B => vcVal B (ix3 0 (i 1) (i 2))) (vbat m c (i 0))

theorem W2_3 : W2 m c main_v2_3 = fun i : S8x1x64.Idx => vsVal (tblk (av m c) (i 0)) (ix3 0 (i 1) (i 2)) := by
  refine ((Pipeline.afterRegion_arr (dat0 (W1 m) c) (W1 m c) launch0.win.arr_inj 5).trans (arr0_5 (W1 m) c)).trans ?_
  funext i
  exact congrArg (fun B => vsVal B (ix3 0 (i 1) (i 2))) (vbat m c (i 0))

theorem W2_4 : W2 m c main_v2_4 = fun i : S8x8192x128.Idx => klVal (tblk (ak m c) (i 0)) (ix3 0 (i 1) (i 2)) := by
  refine ((Pipeline.afterRegion_arr (dat0 (W1 m) c) (W1 m c) launch0.win.arr_inj 6).trans (arr0_6 (W1 m) c)).trans ?_
  funext i
  exact congrArg (fun B => klVal B (ix3 0 (i 1) (i 2))) (kbat m c (i 0))

theorem W2_5 : W2 m c main_v2_5 = fun i : S8x8192x128.Idx => kbVal (tblk (ak m c) (i 0)) (ix3 0 (i 1) (i 2)) := by
  refine ((Pipeline.afterRegion_arr (dat0 (W1 m) c) (W1 m c) launch0.win.arr_inj 7).trans (arr0_7 (W1 m) c)).trans ?_
  funext i
  exact congrArg (fun B => kbVal B (ix3 0 (i 1) (i 2))) (kbat m c (i 0))

theorem W2_6 : W2 m c main_v2_6 = fun i : S8x64x8192.Idx => vdVal (tblk (av m c) (i 0)) (ix3 0 (i 1) (i 2)) := by
  refine ((Pipeline.afterRegion_arr (dat0 (W1 m) c) (W1 m c) launch0.win.arr_inj 8).trans (arr0_8 (W1 m) c)).trans ?_
  funext i
  exact congrArg (fun B => vdVal B (ix3 0 (i 1) (i 2))) (vbat m c (i 0))

theorem W2_arg0 : W2 m c main_arg0 = ax m c :=
  (Pipeline.afterRegion_of_not_arr (dat0 (W1 m) c) (W1 m c) (by decide)).trans
    ((StableHlo.after_of_writes_sub hostOps0 _ hostOps0_writes (by decide)).trans rfl)

/-! ## After the attention region -/

theorem W3_2_0 : W3 m c main_v2_0 = W2 m c main_v2_0 :=
  Pipeline.afterRegion_of_not_arr (dat1 (W2 m) c) (W2 m c) (by decide)
theorem W3_2_1 : W3 m c main_v2_1 = W2 m c main_v2_1 :=
  Pipeline.afterRegion_of_not_arr (dat1 (W2 m) c) (W2 m c) (by decide)
theorem W3_2_2 : W3 m c main_v2_2 = W2 m c main_v2_2 :=
  Pipeline.afterRegion_of_not_arr (dat1 (W2 m) c) (W2 m c) (by decide)
theorem W3_2_3 : W3 m c main_v2_3 = W2 m c main_v2_3 :=
  Pipeline.afterRegion_of_not_arr (dat1 (W2 m) c) (W2 m c) (by decide)

theorem bat_eq {p q : ℕ} (f : Fin 8 → (⟨3, ![1, p, q]⟩ : Shape).Idx → EReal) (b : Fin 8) :
    bat (fun i : (⟨3, ![8, p, q]⟩ : Shape).Idx => f (i 0) (ix3 0 (i 1) (i 2))) b = f b := by
  funext j
  unfold bat
  have h0 : (j 0).val < 1 := (j 0).isLt
  refine congrArg (f b) ?_
  funext a
  match a with
  | ⟨0, _⟩ => exact Fin.ext (show 0 = (j 0).val by omega)
  | ⟨1, _⟩ => rfl
  | ⟨2, _⟩ => rfl

/-- The attention's output on a batch and query block, of the argument arrays. -/
def oblk (X : Vec Ideal S8x8192x1024 .bf16) (K V : Vec Ideal S8x8192x64 .bf16) (b : Fin 8) (q : Fin 32) : Vec Ideal S1x256x1024 .bf16 :=
  outVal (codesVal (qblk X b q)) (factorVal (qblk X b q)) (klVal (tblk K b)) (kbVal (tblk K b)) (vdVal (tblk V b)) q.val

theorem outBlk_eq (b : Fin 8) (q : Fin 32) : outBlk (W2 m c) b q = oblk (ax m c) (ak m c) (av m c) b q := by
  have h0 : qblk (W2 m c (Pipeline.arrRef spec1 0)) b q = qblk (ax m c) b q := congrArg (fun A => qblk A b q) (W2_arg0 m c)
  have h1 : bat (W2 m c (Pipeline.arrRef spec1 1)) b = klVal (tblk (ak m c) b) :=
    (congrArg (fun A => bat A b) (W2_4 m c)).trans (bat_eq (fun b => klVal (tblk (ak m c) b)) b)
  have h2 : bat (W2 m c (Pipeline.arrRef spec1 2)) b = kbVal (tblk (ak m c) b) :=
    (congrArg (fun A => bat A b) (W2_5 m c)).trans (bat_eq (fun b => kbVal (tblk (ak m c) b)) b)
  have h3 : bat (W2 m c (Pipeline.arrRef spec1 3)) b = vdVal (tblk (av m c) b) :=
    (congrArg (fun A => bat A b) (W2_6 m c)).trans (bat_eq (fun b => vdVal (tblk (av m c) b)) b)
  unfold outBlk oblk
  rw [h0, h1, h2, h3]

theorem W3_0 : W3 m c main_v3_0 = fun i : S8x8192x1024.Idx => oblk (ax m c) (ak m c) (av m c) (i 0) (blkOf (i 1)) (ix3 0 (rowOf (i 1)) (i 2)) := by
  refine ((Pipeline.afterRegion_arr (dat1 (W2 m) c) (W2 m c) launch1.win.arr_inj 4).trans (arr1_4 (W2 m) c)).trans ?_
  funext i
  exact congrArg (fun B : Vec Ideal S1x256x1024 .bf16 => B (ix3 0 (rowOf (i 1)) (i 2))) (outBlk_eq m c (i 0) (blkOf (i 1)))

theorem W3_1 : W3 m c main_v3_1 = fun i : S8x16x64x8192.Idx => codesVal (qblk (ax m c) (i 0) (blkOf (i 3))) (ix4 0 (i 1) (i 2) (rowOf (i 3))) := by
  refine ((Pipeline.afterRegion_arr (dat1 (W2 m) c) (W2 m c) launch1.win.arr_inj 5).trans (arr1_5 (W2 m) c)).trans ?_
  rw [show W2 m c (Pipeline.arrRef spec1 0) = ax m c from W2_arg0 m c]

theorem W3_2 : W3 m c main_v3_2 = fun i : S8x16x8192.Idx => scaleVal (qblk (ax m c) (i 0) (blkOf (i 2))) (ix3 0 (i 1) (rowOf (i 2))) := by
  refine ((Pipeline.afterRegion_arr (dat1 (W2 m) c) (W2 m c) launch1.win.arr_inj 6).trans (arr1_6 (W2 m) c)).trans ?_
  rw [show W2 m c (Pipeline.arrRef spec1 0) = ax m c from W2_arg0 m c]

/-! ## At the end -/

/-- The output. -/
theorem W4_v3 (b : Fin 8) (s : Fin 8192) (e : Fin 1024) :
    W4 m c main_v3_0 (ix3 b s e) = oblk (ax m c) (ak m c) (av m c) b (blkOf s) (ix3 0 (rowOf s) e) := by
  have h : W4 m c main_v3_0 = W3 m c main_v3_0 := StableHlo.after_of_writes_sub hostOps2 _ hostOps2_writes (by decide)
  rw [h, W3_0]
  rfl

/-- The queries' codes. -/
theorem W4_v4 (b : Fin 8) (s : Fin 8192) (h : Fin 16) (d : Fin 64) :
    W4 m c main_v4 (ix4 b s h d) = codesVal (qblk (ax m c) b (blkOf s)) (ix4 0 h d (rowOf s)) := by
  have e : W4 m c main_v4 = transpose S8x8192x16x64 [0, 3, 1, 2] (W3 m c main_v3_1) transposes_S8x16x64x8192_S8x8192x16x64_0_3_1_2 := by
    unfold W4
    after_results
  rw [e, W3_1]
  pointwise []

/-- The queries' scales. -/
theorem W4_v5 (b : Fin 8) (s : Fin 8192) (h : Fin 16) :
    W4 m c main_v5 (ix3 b s h) = scaleVal (qblk (ax m c) b (blkOf s)) (ix3 0 h (rowOf s)) := by
  have e : W4 m c main_v5 = transpose S8x8192x16 [0, 2, 1] (W3 m c main_v3_2) transposes_S8x16x8192_S8x8192x16_0_2_1 := by
    unfold W4
    after_results
  rw [e, W3_2]
  pointwise []

/-- The keys' codes. -/
theorem W4_v6 (b : Fin 8) (s : Fin 8192) (d : Fin 64) : W4 m c main_v6 (ix3 b s d) = kcVal (tblk (ak m c) b) (ix3 0 d s) := by
  have e : W4 m c main_v6 = transpose S8x8192x64 [0, 2, 1] (W3 m c main_v2_0) transposes_S8x64x8192_S8x8192x64_0_2_1 := by
    unfold W4
    after_results
  rw [e, W3_2_0, W2_0]
  pointwise []

/-- The keys' scales. -/
theorem W4_v7 (b : Fin 8) (s : Fin 8192) : W4 m c main_v7 (ix2 b s) = ksVal (tblk (ak m c) b) (ix3 0 0 s) := by
  have e : W4 m c main_v7 = shapeCast S8x8192 (W3 m c main_v2_1) shapeCasts_S8x1x8192_S8x8192 := by
    unfold W4
    after_results
    rfl
  rw [e, W3_2_1, W2_1]
  pointwise []

/-- The values' codes. -/
theorem W4_v8 (b : Fin 8) (s : Fin 8192) (d : Fin 64) : W4 m c main_v8 (ix3 b s d) = vcVal (tblk (av m c) b) (ix3 0 d s) := by
  have e : W4 m c main_v8 = transpose S8x8192x64 [0, 2, 1] (W3 m c main_v2_2) transposes_S8x64x8192_S8x8192x64_0_2_1 := by
    unfold W4
    after_results
  rw [e, W3_2_2, W2_2]
  pointwise []

/-- The values' scales. -/
theorem W4_v9 (b : Fin 8) (g : Fin 64) : W4 m c main_v9 (ix2 b g) = vsVal (tblk (av m c) b) (ix3 0 0 g) := by
  have e : W4 m c main_v9 = shapeCast S8x64 (W3 m c main_v2_3) shapeCasts_S8x1x64_S8x64 := by
    unfold W4
    after_results
    rfl
  rw [e, W3_2_3, W2_3]
  pointwise []

end Cert.Proof.KernelIdeal
-- ==== Proof.V.QTile.lean ====
module

public import proofs.«01_k».proof.Proof.KI.Dats
public import proofs.«01_k».proof.Proof.V.Num
public import Idealize.ShloMosaic.Lib.Pointwise
public import Idealize.ShloMosaic.PureOps.Reduce

@[expose] public section

set_option maxRecDepth 16384

noncomputable section

namespace Cert.Proof.KernelIdeal

open Cert.KernelIdeal Cert.KernelIdeal.Gen
open Idealize.ShloMosaic Idealize.ShloMosaic.TcCoe
open Cert.Proof.Value

/-! # The quantisers' tiles at an index, over the extended reals -/

/-! ## Keys -/

theorem k0_pay6_at (x : Vec Ideal S1x64x128 .bf16) (y2 : Fin 128) : k0_pay6 (F := Ideal) x (ix2 0 y2) = kexp (thr fun k : Fin 64 => x (ix3 0 k y2)) := by
  pointwise [k0_pay6, k0_pay5, kexp, wcount, word, thr]

theorem k0_pay7_at (x : Vec Ideal S1x64x128 .bf16) (y1 : Fin 64) (y2 : Fin 128) :
    k0_pay7 x (ix2 y1 y2) = kcode (thr fun k : Fin 64 => x (ix3 0 k y2)) (x (ix3 0 y1 y2)) := by
  rw [kcode, ← k0_pay6_at]
  pointwise [k0_pay7, k0_pay5, kpow]

theorem k0_pay10_at (v : FVec Ideal S64x128 .f32) (y1 : Fin 64) (y2 : Fin 128) : k0_pay10 v (ix3 0 y1 y2) = v (ix2 y1 y2) := by
  pointwise [k0_pay10]

theorem k0_pay11_at (e : IVec S1x128 32) (y2 : Fin 128) : k0_pay11 (F := Ideal) e k0_pay8 (ix3 0 0 y2) = kpow (e (ix2 0 y2)) := by
  pointwise [k0_pay11, k0_pay9, k0_pay8, kpow]

theorem k0_pay12_at (v : FVec Ideal S64x128 .f32) (y1 y2 : Fin 128) (h : y2.val < 64) : k0_pay12 v (ix3 0 y1 y2) = v (ix2 ⟨y2.val, h⟩ y1) := by
  pointwise [k0_pay12]
  rw [dif_pos h]

theorem k0_pay13_at (e : IVec S1x128 32) (y1 y2 : Fin 128) : k0_pay13 (F := Ideal) e k0_pay8 (ix3 0 y1 y2) = kpow (e (ix2 0 y1)) := by
  pointwise [k0_pay13, k0_pay9, k0_pay8, kpow]

/-! ## Values -/

theorem k0_pay14_at (x : Vec Ideal S1x64x128 .bf16) (y1 : Fin 64) (y2 : Fin 128) : k0_pay14 x (ix2 y1 y2) = x (ix3 0 y1 y2) := by
  pointwise [k0_pay14]

theorem k0_pay15_at (x : Vec Ideal S1x64x128 .bf16) : k0_pay15 x (ix2 0 0) = thr2 fun (j : Fin 128) (k : Fin 64) => x (ix3 0 k j) := by
  pointwise [k0_pay15, k0_pay14, thr2]

theorem k0_pay16_at (a : FVec Ideal S1x1 .f32) :
    k0_pay16 a (iota .tc S256x1 32 [0] iota_S256x1_d0_w32) 23#32 (ix2 0 0) = kexp (a (ix2 0 0)) := by
  pointwise [k0_pay16, kexp, wcount, word]

theorem k0_pay17_at (v : FVec Ideal S64x128 .f32) (a : FVec Ideal S1x1 .f32) (y1 : Fin 64) (y2 : Fin 128) :
    k0_pay17 v a (iota .tc S256x1 32 [0] iota_S256x1_d0_w32) 23#32 (ix2 y1 y2) = kcode (a (ix2 0 0)) (v (ix2 y1 y2)) := by
  rw [kcode, ← k0_pay16_at]
  pointwise [k0_pay17, kpow]

theorem k0_pay18_at (v : FVec Ideal S64x128 .f32) (a : FVec Ideal S1x1 .f32) (i : IVec S256x1 32) (n : BitVec 32) (y1 : Fin 64) (y2 : Fin 128) :
    k0_pay18 v a i n (ix3 0 y1 y2) = k0_pay17 v a i n (ix2 y1 y2) := by
  pointwise [k0_pay18]

theorem k0_pay19_at (v : FVec Ideal S64x128 .f32) (a : FVec Ideal S1x1 .f32) (i : IVec S256x1 32) (n : BitVec 32) (y1 : Fin 64) (y2 : Fin 128) :
    k0_pay19 v a i n (ix2 y1 y2) = k0_pay17 v a i n (ix2 y1 y2) * kpow (k0_pay16 a i n (ix2 0 0)) := by
  pointwise [k0_pay19, kpow]

theorem k0_pay2_at (v : FVec Ideal S64x128 .bf16) (y1 : Fin 64) (y2 : Fin 128) : k0_pay2 v (ix3 0 y1 y2) = v (ix2 y1 y2) := by
  pointwise [k0_pay2]

/-! ## Queries -/

theorem k1_pay62_at (v : Vec Ideal S1x256x128 .bf16) (y0 : Fin 128) (y1 : Fin 256) : k1_pay62 v (ix2 y0 y1) = v (ix3 0 y1 y0) := by
  pointwise [k1_pay62]

theorem k1_pay64_at (v : Vec Ideal S1x256x128 .bf16) (y1 : Fin 256) :
    k1_pay64 (F := Ideal) v (ix2 0 y1) = kexp (thr fun k : Fin 64 => v (ix3 0 y1 ⟨k.val, by omega⟩)) := by
  pointwise [k1_pay64, k1_pay63, k1_pay62, kexp, wcount, word, thr]

theorem k1_pay65_at (v : Vec Ideal S1x256x128 .bf16) (y0 : Fin 64) (y1 : Fin 256) :
    k1_pay65 v (ix2 y0 y1) = kcode (thr fun k : Fin 64 => v (ix3 0 y1 ⟨k.val, by omega⟩)) (v (ix3 0 y1 ⟨y0.val, by omega⟩)) := by
  rw [kcode, ← k1_pay64_at]
  pointwise [k1_pay65, k1_pay63, k1_pay62, kpow]

theorem k1_pay66_at (v : FVec Ideal S64x256 .fp8e4m3) (y0 : Fin 64) (y1 : Fin 256) : k1_pay66 v (ix4 0 0 y0 y1) = v (ix2 y0 y1) := by
  pointwise [k1_pay66]

theorem k1_pay67_at (e : IVec S1x256 32) (y1 : Fin 256) : k1_pay67 (F := Ideal) e (ix3 0 0 y1) = kpow (e (ix2 0 y1)) := by
  pointwise [k1_pay67, kpow]

/-- The softmax's factor. -/
def lam : EReal := (((Real.log 2)⁻¹ * (1 / 8) : ℝ) : EReal)

theorem k1_pay68_at (e : IVec S1x256 32) (y1 : Fin 256) : k1_pay68 (F := Ideal) e (ix3 0 0 y1) = kpow (e (ix2 0 y1)) * lam := by
  have h : Named.named (F := Ideal) (φ := .f32) κ "log2e_sm" 0x3E38AA3B#32 = lam := rfl
  rw [← h]
  pointwise [k1_pay68, kpow]

theorem k1_pay69_at (v : FVec Ideal S128x256 .f32) (y0 : Fin 64) (y1 : Fin 256) : k1_pay69 v (ix2 y0 y1) = v (ix2 ⟨64 + y0.val, by omega⟩ y1) := by
  pointwise [k1_pay69]

theorem k1_pay71_at (v : FVec Ideal S128x256 .f32) (y1 : Fin 256) :
    k1_pay71 (k1_pay70 (F := Ideal) v) (ix2 0 y1) = kexp (thr fun k : Fin 64 => v (ix2 ⟨64 + k.val, by omega⟩ y1)) := by
  pointwise [k1_pay71, k1_pay70, k1_pay69, kexp, wcount, word, thr]

theorem k1_pay72_at (v : FVec Ideal S64x256 .f32) (e : IVec S1x256 32) (y0 : Fin 64) (y1 : Fin 256) :
    k1_pay72 v e (ix4 0 0 y0 y1) = min (Ideal.ofBits .f32 1138753536#32) (max (Ideal.ofBits .f32 3286237184#32)
      (v (ix2 y0 y1) * kpow (IntOp.subi 0#32 (k1_pay71 e (ix2 0 y1))))) := by
  pointwise [k1_pay72, kpow]

theorem k1_pay73_at (e : IVec S1x256 32) (y1 : Fin 256) : k1_pay73 (F := Ideal) e (ix3 0 0 y1) = kpow (k1_pay71 e (ix2 0 y1)) := by
  pointwise [k1_pay73, kpow]

theorem k1_pay74_at (e : IVec S1x256 32) (y1 : Fin 256) : k1_pay74 (F := Ideal) e (ix2 0 y1) = kpow (k1_pay71 e (ix2 0 y1)) * lam := by
  have h : Named.named (F := Ideal) (φ := .f32) κ "log2e_sm" 0x3E38AA3B#32 = lam := rfl
  rw [← h]
  pointwise [k1_pay74, kpow]

theorem k1_pay75_at (v : FVec Ideal S1x256 .f32) (y1 : Fin 256) : k1_pay75 v (ix3 0 0 y1) = v (ix2 0 y1) := by
  pointwise [k1_pay75]

end Cert.Proof.KernelIdeal
-- ==== Proof.V.Attn.lean ====
module

public import proofs.«01_k».proof.Proof.V.Soft

/-! # The tiled attention of one query is the reference's -/

@[expose] public section

set_option maxRecDepth 16384

noncomputable section

namespace Cert.Proof.Value

open Idealize.ShloMosaic

/-- A sum over tiles of 256 is the sum over their keys. -/
theorem sum_tiles (G : ℕ → EReal) (n : ℕ) :
    ∑ j ∈ Finset.range n, ∑ x : Fin 256, G (256 * j + x.val) = ∑ k ∈ Finset.range (256 * n), G k := by
  induction n with
  | zero => simp
  | succ n ih =>
    rw [Finset.sum_range_succ, ih, Nat.mul_succ, Finset.sum_range_add, Finset.sum_range (fun x => G (256 * n + x))]

/-- The sum over the tiles up to the diagonal is the sum over every key, where the keys past the query contribute nothing. -/
theorem sum_all (G : ℕ → EReal) (qi y1 : ℕ) (hq : qi < 32) (hy : y1 < 256) (hG : ∀ k, 256 * qi + y1 < k → G k = 0) :
    ∑ j ∈ Finset.range (qi + 1), ∑ x : Fin 256, G (256 * j + x.val) = ∑ k : Fin 8192, G k.val := by
  rw [sum_tiles, ← Finset.sum_range (fun k => G k)]
  refine Finset.sum_subset (Finset.range_mono (by omega)) fun k _ hk => hG k ?_
  rw [Finset.mem_range] at hk
  omega

theorem coe_sum {ι : Type*} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

theorem exp_bot : Ideal.exp ⊥ = 0 := rfl
theorem exp2_bot : Ideal.exp2 ⊥ = 0 := rfl
theorem exp_coe (r : ℝ) : Ideal.exp (r : EReal) = ((Real.exp r : ℝ) : EReal) := rfl
theorem exp2_coe (r : ℝ) : Ideal.exp2 (r : EReal) = (((2 : ℝ) ^ r : ℝ) : EReal) := rfl

theorem pow_log (r : ℝ) : (2 : ℝ) ^ (r / Real.log 2) = Real.exp r := by
  rw [Real.rpow_def_of_pos (by norm_num)]
  congr 1
  field_simp [(Real.log_pos (by norm_num : (1 : ℝ) < 2)).ne']

section
variable (qi y1 : ℕ) (hq : qi < 32) (hy : y1 < 256) (zR : ℕ → ℝ)

/-- The masked score of a key. -/
def masked (k : ℕ) : EReal := if k ≤ 256 * qi + y1 then ((zR k : ℝ) : EReal) else ⊥

include hq hy in
theorem attn_eq (v : ℕ → EReal) (S : ℕ → ℕ → EReal)
    (hS : ∀ j x, S j x = if 256 * j + x ≤ 256 * qi + y1 then ((zR (256 * j + x) / Real.log 2 : ℝ) : EReal) else ⊥)
    (Mk : EReal) (hM : ∀ c, Mk ≤ c ↔ ∀ j ≤ qi, ∀ x < 256, S j x ≤ c) (L : EReal)
    (hL : L = ∑ j ∈ Finset.range (qi + 1), ∑ x : Fin 256, Ideal.exp2 (S j x.val - Mk)) :
    (∑ j ∈ Finset.range (qi + 1), ∑ x : Fin 256, v (256 * j + x.val) * min (Ideal.exp2 (S j x.val - Mk) *
        (Ideal.div 1 L * kpow (IntOp.subi 0#32 (kexp (Ideal.div 1 L * Ideal.ofBits .f32 991054117#32))))) (Ideal.ofBits .f32 1138753536#32))
      * kpow (kexp (Ideal.div 1 L * Ideal.ofBits .f32 991054117#32))
    = rout (fun k : Fin 8192 => masked qi y1 zR k.val) fun k => v k.val := by
  have hlog : 0 < Real.log 2 := Real.log_pos (by norm_num)
  -- the maximum
  obtain ⟨k0, hk0, hmax⟩ := Finset.exists_max_image (Finset.range (256 * qi + y1 + 1)) zR ⟨0, by simp⟩
  rw [Finset.mem_range] at hk0
  have hmax' : ∀ k ≤ 256 * qi + y1, zR k ≤ zR k0 := fun k hk => hmax k (by rw [Finset.mem_range]; omega)
  have hMk : Mk = ((zR k0 / Real.log 2 : ℝ) : EReal) := by
    apply le_antisymm
    · rw [hM]
      intro j _ x _
      rw [hS]
      split_ifs with h
      · exact_mod_cast (div_le_div_iff_of_pos_right hlog).mpr (hmax' _ h)
      · exact bot_le
    · have := (hM Mk).mp le_rfl (k0 / 256) (by omega) (k0 % 256) (by omega)
      rw [hS, Nat.div_add_mod, if_pos (by omega)] at this
      exact this
  have hmr : rmax (fun k : Fin 8192 => masked qi y1 zR k.val) = ((zR k0 : ℝ) : EReal) := by
    unfold rmax
    apply le_antisymm
    · rw [fold_le]
      intro k
      unfold masked
      split_ifs with h
      · exact_mod_cast hmax' _ h
      · exact bot_le
    · have := (fold_le (fun k : Fin 8192 => masked qi y1 zR k.val) _).mp le_rfl ⟨k0, by omega⟩
      unfold masked at this ⊢
      rw [if_pos (by show k0 ≤ _; omega)] at this
      exact this
  -- the exponentials
  let p : ℕ → ℝ := fun k => if k ≤ 256 * qi + y1 then Real.exp (zR k - zR k0) else 0
  have hp0 : ∀ k, 0 ≤ p k := fun k => by
    show 0 ≤ (if k ≤ 256 * qi + y1 then Real.exp (zR k - zR k0) else 0)
    split_ifs <;> positivity
  have hp1 : ∀ k, p k ≤ 1 := fun k => by
    show (if k ≤ 256 * qi + y1 then Real.exp (zR k - zR k0) else 0) ≤ 1
    split_ifs with h
    · rw [Real.exp_le_one_iff]; linarith [hmax' _ h]
    · norm_num
  have hpk : p k0 = 1 := by
    show (if k0 ≤ 256 * qi + y1 then Real.exp (zR k0 - zR k0) else 0) = 1
    rw [if_pos (by omega), sub_self, Real.exp_zero]
  have hpz : ∀ k, 256 * qi + y1 < k → p k = 0 := fun k h => if_neg (by omega)
  have hE : ∀ j x, Ideal.exp2 (S j x - Mk) = ((p (256 * j + x) : ℝ) : EReal) := fun j x => by
    rw [hS, hMk]
    show _ = (((if 256 * j + x ≤ 256 * qi + y1 then Real.exp (zR (256 * j + x) - zR k0) else 0 : ℝ)) : EReal)
    split_ifs with h
    · rw [← EReal.coe_sub, ← sub_div, exp2_coe, pow_log]
    · rw [EReal.bot_sub, exp2_bot, EReal.coe_zero]
  have hR : ∀ k : Fin 8192, Ideal.exp (masked qi y1 zR k.val - ((zR k0 : ℝ) : EReal)) = ((p k.val : ℝ) : EReal) := fun k => by
    unfold masked
    show _ = (((if k.val ≤ 256 * qi + y1 then Real.exp (zR k.val - zR k0) else 0 : ℝ)) : EReal)
    split_ifs with h
    · rw [← EReal.coe_sub, exp_coe]
    · rw [EReal.bot_sub, exp_bot, EReal.coe_zero]
  -- the sum
  let Lr : ℝ := ∑ k : Fin 8192, p k.val
  have hLr : 0 < Lr := lt_of_lt_of_le (by norm_num : (0 : ℝ) < 1) (hpk ▸ Finset.single_le_sum (f := fun k : Fin 8192 => p k.val) (fun k _ => hp0 _) (Finset.mem_univ (⟨k0, by omega⟩ : Fin 8192)))
  have hsum : ∑ k : Fin 8192, ((p k.val : ℝ) : EReal) = (Lr : EReal) := (coe_sum _ _).symm
  have hLL : L = (Lr : EReal) := by
    rw [hL, ← hsum, ← sum_all (fun k => ((p k : ℝ) : EReal)) qi y1 hq hy fun k h => by rw [hpz k h, EReal.coe_zero]]
    exact Finset.sum_congr rfl fun j _ => Finset.sum_congr rfl fun x _ => hE j x.val
  have hdiv : ∀ a : ℝ, Ideal.div (a : EReal) (Lr : EReal) = ((a / Lr : ℝ) : EReal) := fun a => by
    unfold Ideal.div
    rw [if_neg (by exact_mod_cast hLr.ne'), ← EReal.coe_inv, ← EReal.coe_mul, div_eq_mul_inv]
  have hw : ∀ k : Fin 8192, rweight (fun k : Fin 8192 => masked qi y1 zR k.val) k = ((p k.val / Lr : ℝ) : EReal) := fun k => by
    unfold rweight
    rw [hmr]
    simp only [hR]
    rw [hsum, hdiv]
  have ht : thr (rweight fun k : Fin 8192 => masked qi y1 zR k.val) = ((1 / Lr * cf : ℝ) : EReal) := by
    unfold thr
    have : Finset.fold max (Ideal.ofBits .f32 4286578688#32) (fun k => FloatOps.absf (F := Ideal) (φ := .f32) (rweight (fun k : Fin 8192 => masked qi y1 zR k.val) k)) Finset.univ = ((1 / Lr : ℝ) : EReal) := by
      have ha : ∀ k : Fin 8192, FloatOps.absf (F := Ideal) (φ := .f32) (rweight (fun k : Fin 8192 => masked qi y1 zR k.val) k) = ((p k.val / Lr : ℝ) : EReal) := fun k => by
        rw [hw, abs_coe, abs_of_nonneg (div_nonneg (hp0 _) hLr.le)]
      apply le_antisymm
      · rw [fold_le]
        intro k
        rw [ha]
        exact_mod_cast (div_le_div_iff_of_pos_right hLr).mpr (hp1 _)
      · have := (fold_le (fun k => FloatOps.absf (F := Ideal) (φ := .f32) (rweight (fun k : Fin 8192 => masked qi y1 zR k.val) k)) _).mp le_rfl ⟨k0, by omega⟩
        rw [ha, hpk] at this
        exact this
    rw [this, cf_bits, ← EReal.coe_mul]
  have h1L : 1 / Lr ≤ 1 := by
    rw [div_le_one hLr]
    exact (hpk ▸ Finset.single_le_sum (f := fun k : Fin 8192 => p k.val) (fun k _ => hp0 _) (Finset.mem_univ (⟨k0, by omega⟩ : Fin 8192)))
  obtain ⟨s0, s1⟩ := small (1 / Lr) (by positivity) (h1L.trans (by norm_num))
  have hu : Ideal.div 1 L = ((1 / Lr : ℝ) : EReal) := by rw [hLL, ← EReal.coe_one, hdiv]
  have hte : Ideal.div 1 L * Ideal.ofBits .f32 991054117#32 = ((1 / Lr * cf : ℝ) : EReal) := by rw [hu, cf_bits, ← EReal.coe_mul]
  rw [hte, hu, kpow_neg_kexp _ s0 s1, kpow_kexp _ s0 s1]
  unfold rout
  rw [ht, rpow_rexp]
  refine congrArg (· * _) ?_
  have hterm : ∀ k : ℕ, v k * min (((p k : ℝ) : EReal) * (((1 / Lr : ℝ) : EReal) * (((2 : ℝ) ^ (-expo (1 / Lr * cf)) : ℝ) : EReal))) (Ideal.ofBits .f32 1138753536#32)
      = rcode ((1 / Lr * cf : ℝ) : EReal) ((p k / Lr : ℝ) : EReal) * v k := fun k => by
    unfold rcode
    rw [rpow_neg_rexp, mul_comm, top_bits, low_bits, ← EReal.coe_mul, ← EReal.coe_mul, ← EReal.coe_mul]
    have e : p k * (1 / Lr * (2 : ℝ) ^ (-expo (1 / Lr * cf))) = p k / Lr * (2 : ℝ) ^ (-expo (1 / Lr * cf)) := by ring
    rw [e, max_eq_right, min_comm]
    have : 0 ≤ p k / Lr * (2 : ℝ) ^ (-expo (1 / Lr * cf)) := mul_nonneg (div_nonneg (hp0 k) hLr.le) (by positivity)
    exact_mod_cast (by norm_num : (-448 : ℝ) ≤ 0).trans this
  simp only [hE, hw]
  rw [Finset.sum_congr rfl fun j _ => Finset.sum_congr rfl fun x _ => hterm (256 * j + x.val)]
  refine sum_all (fun k => rcode ((1 / Lr * cf : ℝ) : EReal) ((p k / Lr : ℝ) : EReal) * v k) qi y1 hq hy fun k h => ?_
  unfold rcode
  rw [hpz k h, zero_div, EReal.coe_zero, zero_mul, top_bits, low_bits, max_eq_right (by exact_mod_cast (by norm_num : (-448 : ℝ) ≤ 0)),
    min_eq_right (by exact_mod_cast (by norm_num : (0 : ℝ) ≤ 448)), zero_mul]

end

end Cert.Proof.Value
-- ==== Proof.V.Tile.lean ====
module

public import proofs.«01_k».proof.Proof.KI.Dats
public import proofs.«01_k».proof.Proof.V.Num
public import Idealize.ShloMosaic.Lib.Pointwise
public import Idealize.ShloMosaic.PureOps.Reduce

@[expose] public section

set_option maxRecDepth 16384

noncomputable section

namespace Cert.Proof.KernelIdeal

open Cert.KernelIdeal Cert.KernelIdeal.Gen
open Idealize.ShloMosaic Idealize.ShloMosaic.TcCoe
open Cert.Proof.Value

/-! # The attention kernel's tiles at an index, over the extended reals -/

/-- A scaled score, at a key and a query of a tile. -/
theorem pay8_at (q : Vec Ideal S1x1x64x256 .fp8e4m3) (s : Vec Ideal S1x1x256 .f32) (kl : Vec Ideal S1x256x64 .fp8e4m3) (kb : Vec Ideal S1x256x128 .f32) (y0 y1 : Fin 256) :
    k1_pay8 q s kl kb (ix2 y0 y1) = (((∑ x : Fin 64, kl (ix3 0 y0 x) * q (ix4 0 0 x y1)) *
      if h : y1.val < 128 then kb (ix3 0 y0 ⟨y1.val, h⟩) else kb (ix3 0 y0 ⟨y1.val - 128, by omega⟩)) * s (ix3 0 0 y1)) := by
  pointwise [k1_pay8, k1_pay3, k1_pay4]

theorem pay9_at (q : Vec Ideal S1x1x64x256 .fp8e4m3) (s : Vec Ideal S1x1x256 .f32) (kl : Vec Ideal S1x256x64 .fp8e4m3) (kb : Vec Ideal S1x256x128 .f32) (y0 y1 : Fin 256) :
    k1_pay9 q s kl kb (ix2 y0 y1) = k1_pay8 q s kl kb (ix2 y0 y1) := by
  pointwise [k1_pay9]

/-- A masked score of the diagonal tile. -/
theorem pay5_at (q : Vec Ideal S1x1x64x256 .fp8e4m3) (s : Vec Ideal S1x1x256 .f32) (kl : Vec Ideal S1x256x64 .fp8e4m3) (kb : Vec Ideal S1x256x128 .f32) (y0 y1 : Fin 256) :
    k1_pay5 q s kl kb (ix2 y0 y1) = Scalar.select (IntOp.cmpi CmpIPredicate.sle (BitVec.ofNat 32 y0.val) (BitVec.ofNat 32 y1.val))
      (((∑ x : Fin 64, kl (ix3 0 y0 x) * q (ix4 0 0 x y1)) *
      if h : y1.val < 128 then kb (ix3 0 y0 ⟨y1.val, h⟩) else kb (ix3 0 y0 ⟨y1.val - 128, by omega⟩)) * s (ix3 0 0 y1))
      (Ideal.ofBits .f32 4286578688#32) := by
  pointwise [k1_pay5, k1_pay3, k1_pay4]

theorem pay6_at (q : Vec Ideal S1x1x64x256 .fp8e4m3) (s : Vec Ideal S1x1x256 .f32) (kl : Vec Ideal S1x256x64 .fp8e4m3) (kb : Vec Ideal S1x256x128 .f32) (y0 y1 : Fin 256) :
    k1_pay6 q s kl kb (ix2 y0 y1) = k1_pay5 q s kl kb (ix2 y0 y1) := by
  pointwise [k1_pay6]

/-- The partial maxima of the diagonal tile. -/
theorem pay7_at (q : Vec Ideal S1x1x64x256 .fp8e4m3) (s : Vec Ideal S1x1x256 .f32) (kl : Vec Ideal S1x256x64 .fp8e4m3) (kb : Vec Ideal S1x256x128 .f32) (y0 : Fin 8) (y1 : Fin 256) :
    k1_pay7 q s kl kb (ix2 y0 y1) = max (Ideal.ofBits .f32 4286578688#32)
      (Finset.fold max (Ideal.ofBits .f32 4286578688#32) (fun x : Fin 32 => k1_pay5 q s kl kb (ix2 ⟨x.val * 8 + y0.val, by omega⟩ y1)) Finset.univ) := by
  pointwise [k1_pay7]

/-- The partial maxima after one more tile. -/
theorem pay10_at (q : Vec Ideal S1x1x64x256 .fp8e4m3) (s : Vec Ideal S1x1x256 .f32) (a : FVec Ideal S8x256 .f32) (kl : Vec Ideal S1x256x64 .fp8e4m3) (kb : Vec Ideal S1x256x128 .f32) (y0 : Fin 8) (y1 : Fin 256) :
    k1_pay10 q s a kl kb (ix2 y0 y1) = max (a (ix2 y0 y1))
      (Finset.fold max (Ideal.ofBits .f32 4286578688#32) (fun x : Fin 32 => k1_pay8 q s kl kb (ix2 ⟨x.val * 8 + y0.val, by omega⟩ y1)) Finset.univ) := by
  pointwise [k1_pay10]

/-- The maximum of a query's eight partial maxima. -/
theorem pay14_at (m : FVec Ideal S8x256 .f32) (y1 : Fin 256) :
    k1_pay14 m (ix2 0 y1) = Finset.fold max (Ideal.ofBits .f32 4286578688#32) (fun x : Fin 8 => m (ix2 x y1)) Finset.univ := by
  pointwise [k1_pay14]

/-- An exponential. -/
theorem pay16_at (m : FVec Ideal S8x256 .f32) (w : Vec Ideal S256x256 .f32) (y0 y1 : Fin 256) :
    k1_pay16 m w (ix2 y0 y1) = Ideal.exp2 (w (ix2 y0 y1) - k1_pay14 m (ix2 0 y1)) := by
  pointwise [k1_pay16]
  rfl

theorem pay17_at (m : FVec Ideal S8x256 .f32) (w : Vec Ideal S256x256 .f32) (y0 y1 : Fin 256) :
    k1_pay17 m w (ix2 y0 y1) = k1_pay16 m w (ix2 y0 y1) := by
  pointwise [k1_pay17]

theorem pay15_at (y0 : Fin 8) (y1 : Fin 256) : k1_pay15 (F := Ideal) (ix2 y0 y1) = 0 := by
  pointwise [k1_pay15]

/-- The partial sums after one more tile. -/
theorem pay18_at (m a : FVec Ideal S8x256 .f32) (w : Vec Ideal S256x256 .f32) (y0 : Fin 8) (y1 : Fin 256) :
    k1_pay18 m a w (ix2 y0 y1) = a (ix2 y0 y1) + ∑ x : Fin 32, k1_pay16 m w (ix2 ⟨x.val * 8 + y0.val, by omega⟩ y1) := by
  pointwise [k1_pay18]

/-- The reciprocal of a query's sum. -/
theorem pay22_at (l : FVec Ideal S8x256 .f32) (y1 : Fin 256) :
    k1_pay22 l (ix2 0 y1) = Ideal.div 1 (∑ x : Fin 8, l (ix2 x y1)) := by
  pointwise [k1_pay22]

theorem pay23_at (l : FVec Ideal S8x256 .f32) (y1 : Fin 256) :
    k1_pay23 (F := Ideal) l (ix2 0 y1) = kexp (k1_pay22 l (ix2 0 y1) * Ideal.ofBits .f32 991054117#32) := by
  pointwise [k1_pay23, kexp, wcount, word]

theorem pay24_at (l : FVec Ideal S8x256 .f32) (y1 : Fin 256) :
    k1_pay24 (F := Ideal) l (ix2 0 y1) = IntOp.addi (IntOp.subi 0#32 (k1_pay23 (F := Ideal) l (ix2 0 y1))) 127#32 := by
  pointwise [k1_pay24]

theorem pay27_at (y0 : Fin 64) (y1 : Fin 256) : k1_pay27 (F := Ideal) (ix2 y0 y1) = 0 := by
  pointwise [k1_pay27]

/-- The product after one more tile. -/
theorem pay28_at (u : FVec Ideal S1x256 .f32) (w : IVec S1x256 32) (a : FVec Ideal S64x256 .f32) (E : Vec Ideal S256x256 .f32) (v : Vec Ideal S1x64x256 .bf16) (y0 : Fin 64) (y1 : Fin 256) :
    k1_pay28 u w k1_pay25 a E v (ix2 y0 y1) = a (ix2 y0 y1) + ∑ x : Fin 256, v (ix3 0 y0 x) *
      min (E (ix2 x y1) * (u (ix2 0 y1) * Ideal.ofBits .f32 (IntOp.shli .vector (w (ix2 0 y1)) 23#32))) (Ideal.ofBits .f32 1138753536#32) := by
  pointwise [k1_pay28, k1_pay26, k1_pay25]

theorem pay30_at (w : IVec S1x256 32) (a : FVec Ideal S64x256 .f32) (y0 : Fin 64) (y1 : Fin 256) :
    k1_pay30 w a (ix2 y0 y1) = a (ix2 y0 y1) * kpow (w (ix2 0 y1)) := by
  pointwise [k1_pay30, kpow]

theorem pay53_at (l : FVec Ideal S8x256 .f32) (y1 : Fin 256) : k1_pay53 l (ix2 0 y1) = k1_pay22 l (ix2 0 y1) := by
  pointwise [k1_pay53, k1_pay22]

theorem pay54_at (l : FVec Ideal S8x256 .f32) (y1 : Fin 256) :
    k1_pay54 l (ix2 0 y1) = k1_pay22 l (ix2 0 y1) * Ideal.ofBits .f32 991054117#32 := by
  rw [← pay53_at]
  pointwise [k1_pay54]

theorem pay56_at (u : FVec Ideal S1x256 .f32) (y1 : Fin 256) :
    k1_pay56 u (iota .tc S256x256 32 [0] iota_S256x256_d0_w32) k1_pay55 (ix2 0 y1) = kexp (u (ix2 0 y1)) := by
  pointwise [k1_pay56, k1_pay55, kexp, wcount, word]

/-- A pair of heads, transposed. -/
theorem pay61_at (u : FVec Ideal S64x256 .f32) (t : FVec Ideal S1x256 .f32) (i₁ i₂ : IVec S256x256 32) (a : FVec Ideal S64x256 .f32) (y0 : Fin 256) (y1 : Fin 128) :
    k1_pay61 u t i₁ i₂ a (ix2 y0 y1) = if h : y1.val < 64 then u (ix2 ⟨y1.val, h⟩ y0)
      else a (ix2 ⟨y1.val - 64, by omega⟩ y0) * kpow (k1_pay56 t i₁ i₂ (ix2 0 y0)) := by
  pointwise [k1_pay61, kpow]

theorem pay2_at (v : FVec Ideal S256x128 .bf16) (y0 : Fin 256) (y1 : Fin 128) : k1_pay2 v (ix3 0 y0 y1) = v (ix2 y0 y1) := by
  pointwise [k1_pay2]

end Cert.Proof.KernelIdeal
-- ==== Proof.V.Head.lean ====
module

public import proofs.«01_k».proof.Proof.KI.Dats
public import proofs.«01_k».proof.Proof.V.Attn
public import proofs.«01_k».proof.Proof.V.Tile
public import Idealize.ShloMosaic.Lib.Pointwise
public import Idealize.ShloMosaic.PureOps.Reduce

@[expose] public section

set_option maxRecDepth 16384

noncomputable section

namespace Cert.Proof.KernelIdeal

open Cert.KernelIdeal Cert.KernelIdeal.Gen
open Idealize.ShloMosaic Idealize.ShloMosaic.TcCoe
open Cert.Proof.Value

/-! # One head of the attention kernel, over the extended reals -/

theorem unit_val {s : Shape} (off size : Fin s.rank → ℕ) (inb : ∀ a, off a + size a ≤ s.size a) (y : (Rect.unit off size inb).shape.Idx) (a : Fin s.rank) :
    (((Rect.unit off size inb).emb y) a).val = off a + (y a).val := by
  show off a + 1 * (y a).val = _
  rw [Nat.one_mul]

theorem klTile_at (kl : Vec Ideal S1x8192x128 .fp8e4m3) (j : ℕ) (hj : j < 32) (y0 : Fin 256) (x : Fin 64) :
    klTile kl j (ix3 0 y0 x) = kl (ix3 0 ⟨256 * j + y0.val, by omega⟩ ⟨x.val, by omega⟩) := by
  unfold klTile VecWindow.window
  refine congrArg kl (funext fun a => Fin.ext ?_)
  rw [unit_val]
  fin_cases a
  · rfl
  · show 256 * (j % 32) + y0.val = 256 * j + y0.val; rw [Nat.mod_eq_of_lt hj]
  · show 0 + x.val = x.val; omega

theorem kbTile_at (kb : Vec Ideal S1x8192x128 .f32) (j : ℕ) (hj : j < 32) (y0 : Fin 256) (x : Fin 128) :
    kbTile kb j (ix3 0 y0 x) = kb (ix3 0 ⟨256 * j + y0.val, by omega⟩ x) := by
  unfold kbTile VecWindow.window
  refine congrArg kb (funext fun a => Fin.ext ?_)
  rw [unit_val]
  fin_cases a
  · rfl
  · show 256 * (j % 32) + y0.val = 256 * j + y0.val; rw [Nat.mod_eq_of_lt hj]
  · show 0 + x.val = x.val; omega

theorem vdTile_at (vd : Vec Ideal S1x64x8192 .bf16) (j : ℕ) (hj : j < 32) (d : Fin 64) (x : Fin 256) :
    vdTile vd j (ix3 0 d x) = vd (ix3 0 d ⟨256 * j + x.val, by omega⟩) := by
  unfold vdTile VecWindow.window
  refine congrArg vd (funext fun a => Fin.ext ?_)
  rw [unit_val]
  fin_cases a
  · rfl
  · show 0 + d.val = d.val; omega
  · show 256 * (j % 32) + x.val = 256 * j + x.val; rw [Nat.mod_eq_of_lt hj]

theorem qcHead_at (qc : Vec Ideal S1x16x64x256 .fp8e4m3) (h : ℕ) (hh : h < 16) (d : Fin 64) (r : Fin 256) :
    qcHead qc h (ix4 0 0 d r) = qc (ix4 0 ⟨h, hh⟩ d r) := by
  unfold qcHead VecWindow.window
  refine congrArg qc (funext fun a => Fin.ext ?_)
  rw [unit_val]
  fin_cases a
  · rfl
  · show h % 16 + 0 = h; rw [Nat.mod_eq_of_lt hh, Nat.add_zero]
  · show 0 + d.val = d.val; omega
  · show 0 + r.val = r.val; omega

theorem qsHead_at (qs : Vec Ideal S16x1x256 .f32) (h : ℕ) (hh : h < 16) (r : Fin 256) :
    qsHead qs h (ix3 0 0 r) = qs (ix3 ⟨h, hh⟩ 0 r) := by
  unfold qsHead VecWindow.window
  refine congrArg qs (funext fun a => Fin.ext ?_)
  rw [unit_val]
  fin_cases a
  · show h % 16 + 0 = h; rw [Nat.mod_eq_of_lt hh, Nat.add_zero]
  · rfl
  · show 0 + r.val = r.val; omega

/-- A sum over eight residues of the rows in steps of eight is the sum over the rows. -/
theorem sum_eights (G : ℕ → EReal) (n : ℕ) :
    ∑ x ∈ Finset.range n, ∑ y : Fin 8, G (x * 8 + y.val) = ∑ k ∈ Finset.range (8 * n), G k := by
  induction n with
  | zero => simp
  | succ n ih =>
    rw [Finset.sum_range_succ, ih, Nat.mul_comm n 8, show 8 * (n + 1) = 8 * n + 8 from rfl, Finset.sum_range_add, Finset.sum_range (fun x => G (8 * n + x))]

theorem sum_rows (G : ℕ → EReal) : ∑ y : Fin 8, ∑ x : Fin 32, G (x.val * 8 + y.val) = ∑ x : Fin 256, G x.val := by
  rw [Finset.sum_comm, ← Finset.sum_range (fun x => ∑ y : Fin 8, G (x * 8 + y.val)), sum_eights, ← Finset.sum_range (fun x => G x)]

/-- The comparison of two row numbers as words is the comparison of the numbers. -/
theorem sle_ofNat (a b : ℕ) (ha : a < 2 ^ 31) (hb : b < 2 ^ 31) : IntOp.cmpi CmpIPredicate.sle (BitVec.ofNat 32 a) (BitVec.ofNat 32 b) = BitVec.ofBool (decide (a ≤ b)) := by
  show BitVec.ofBool ((BitVec.ofNat 32 a).sle (BitVec.ofNat 32 b)) = _
  congr 1
  have e : ∀ n : ℕ, n < 2 ^ 31 → (BitVec.ofNat 32 n).toInt = (n : ℤ) := fun n hn => by
    rw [BitVec.toInt_eq_toNat_of_lt (by rw [BitVec.toNat_ofNat]; omega), BitVec.toNat_ofNat, Nat.mod_eq_of_lt (by omega)]
  rw [BitVec.sle_eq_decide, e a ha, e b hb]
  simp

theorem select_ofBool {α : Type} (p : Prop) [Decidable p] (a b : α) : Scalar.select (BitVec.ofBool (decide p)) a b = if p then a else b := by
  by_cases h : p
  · simp only [h, decide_true, if_true]; rfl
  · simp only [h, decide_false, if_false]; rfl

section Head
variable (q : Vec Ideal S1x1x64x256 .fp8e4m3) (s : Vec Ideal S1x1x256 .f32) (kl : Vec Ideal S1x8192x128 .fp8e4m3) (kb : Vec Ideal S1x8192x128 .f32)
  (vd : Vec Ideal S1x64x8192 .bf16) (qi : ℕ) (y1 : Fin 256) (zR : ℕ → ℝ)

/-- The scaled score of a key. -/
def rawScore (k : Fin 8192) : EReal :=
  ((∑ x : Fin 64, kl (ix3 0 k ⟨x.val, by omega⟩) * q (ix4 0 0 x y1)) *
    if h : y1.val < 128 then kb (ix3 0 k ⟨y1.val, h⟩) else kb (ix3 0 k ⟨y1.val - 128, by omega⟩)) * s (ix3 0 0 y1)

/-- The score of a row of a tile, masked. -/
def rowScore (j x : ℕ) : EReal := if 256 * j + x ≤ 256 * qi + y1.val then ((zR (256 * j + x) / Real.log 2 : ℝ) : EReal) else ⊥

variable (hz : ∀ k : Fin 8192, rawScore q s kl kb y1 k = ((zR k.val / Real.log 2 : ℝ) : EReal))

include hz in
theorem pay8_tile (j : ℕ) (hj : j < 32) (x : Fin 256) :
    k1_pay8 q s (klTile kl j) (kbTile kb j) (ix2 x y1) = ((zR (256 * j + x.val) / Real.log 2 : ℝ) : EReal) := by
  rw [pay8_at]
  simp only [klTile_at kl j hj, kbTile_at kb j hj]
  exact hz ⟨256 * j + x.val, by omega⟩

include hz in
theorem pay5_tile (hq : qi < 32) (x : Fin 256) : k1_pay5 q s (klTile kl qi) (kbTile kb qi) (ix2 x y1) = rowScore qi y1 zR qi x.val := by
  rw [pay5_at, sle_ofNat _ _ (by omega) (by omega), select_ofBool, bot_bits]
  unfold rowScore
  by_cases h : x.val ≤ y1.val
  · rw [if_pos h, if_pos (by omega), ← pay8_at]
    exact pay8_tile q s kl kb y1 zR hz qi hq x
  · rw [if_neg h, if_neg (by omega)]

include hz in
theorem pay8_row (hq : qi < 32) (j : ℕ) (hj : j < qi) (x : Fin 256) :
    k1_pay8 q s (klTile kl j) (kbTile kb j) (ix2 x y1) = rowScore qi y1 zR j x.val := by
  rw [pay8_tile q s kl kb y1 zR hz j (by omega) x]
  unfold rowScore
  rw [if_pos (by omega)]

include hz in
theorem score_at (hq : qi < 32) (j : ℕ) (hj : j ≤ qi) (x : Fin 256) : scoreTile q s kl kb qi j (ix2 x y1) = rowScore qi y1 zR j x.val := by
  unfold scoreTile
  split_ifs with h
  · subst h
    rw [pay6_at]
    exact pay5_tile q s kl kb j y1 zR hz hq x
  · rw [pay9_at]
    exact pay8_row q s kl kb qi y1 zR hz hq j (by omega) x

include hz in
theorem maxAcc_le (hq : qi < 32) (c : EReal) (y0 : Fin 8) (k : ℕ) (hk : k ≤ qi) :
    maxAcc q s kl kb qi k (ix2 y0 y1) ≤ c ↔
      (∀ x : Fin 32, rowScore qi y1 zR qi (x.val * 8 + y0.val) ≤ c) ∧ ∀ j < k, ∀ x : Fin 32, rowScore qi y1 zR j (x.val * 8 + y0.val) ≤ c := by
  induction k with
  | zero =>
    show k1_pay7 q s (klTile kl qi) (kbTile kb qi) (ix2 y0 y1) ≤ c ↔ _
    rw [pay7_at, max_le_iff, fold_le, bot_bits]
    simp only [bot_le, true_and, pay5_tile q s kl kb qi y1 zR hz hq]
    exact ⟨fun h => ⟨h, fun j hj => absurd hj (Nat.not_lt_zero _)⟩, fun h => h.1⟩
  | succ k ih =>
    show k1_pay10 q s (maxAcc q s kl kb qi k) (klTile kl k) (kbTile kb k) (ix2 y0 y1) ≤ c ↔ _
    rw [pay10_at, max_le_iff, fold_le, ih (by omega)]
    simp only [pay8_row q s kl kb qi y1 zR hz hq k (by omega)]
    constructor
    · rintro ⟨⟨h1, h2⟩, h3⟩
      refine ⟨h1, fun j hj => ?_⟩
      rcases Nat.lt_succ_iff_lt_or_eq.mp hj with h | rfl
      · exact h2 j h
      · exact h3
    · rintro ⟨h1, h2⟩
      exact ⟨⟨h1, fun j hj => h2 j (by omega)⟩, h2 k (by omega)⟩

include hz in
theorem headMax_le (hq : qi < 32) (c : EReal) :
    k1_pay14 (headMax q s kl kb qi) (ix2 0 y1) ≤ c ↔ ∀ j ≤ qi, ∀ x < 256, rowScore qi y1 zR j x ≤ c := by
  rw [pay14_at, fold_le]
  unfold headMax
  simp only [maxAcc_le q s kl kb qi y1 zR hz hq c _ qi le_rfl]
  constructor
  · intro h j hj x hx
    have := h ⟨x % 8, by omega⟩
    have e : x / 8 * 8 + x % 8 = x := Nat.div_add_mod' x 8
    rcases eq_or_lt_of_le hj with rfl | hj'
    · have h1 := this.1 ⟨x / 8, by omega⟩
      simp only [e] at h1
      exact h1
    · have h1 := this.2 j hj' ⟨x / 8, by omega⟩
      simp only [e] at h1
      exact h1
  · intro h y0
    exact ⟨fun x => h qi le_rfl _ (by omega), fun j hj x => h j (by omega) _ (by omega)⟩

/-- The exponential of a row of a tile. -/
def rowExp (j x : ℕ) : EReal := Ideal.exp2 (rowScore qi y1 zR j x - k1_pay14 (headMax q s kl kb qi) (ix2 0 y1))

include hz in
theorem pay16_row (hq : qi < 32) (j : ℕ) (hj : j ≤ qi) (x : Fin 256) :
    k1_pay16 (headMax q s kl kb qi) (scoreTile q s kl kb qi j) (ix2 x y1) = rowExp q s kl kb qi y1 zR j x.val := by
  rw [pay16_at, score_at q s kl kb qi y1 zR hz hq j hj x]; rfl

include hz in
theorem sumAcc_at (hq : qi < 32) (y0 : Fin 8) (k : ℕ) (hk : k ≤ qi + 1) :
    sumAcc (headMax q s kl kb qi) (scoreTile q s kl kb qi) k (ix2 y0 y1) = ∑ j ∈ Finset.range k, ∑ x : Fin 32, rowExp q s kl kb qi y1 zR j (x.val * 8 + y0.val) := by
  induction k with
  | zero => exact pay15_at y0 y1
  | succ k ih =>
    show k1_pay18 (headMax q s kl kb qi) (sumAcc (headMax q s kl kb qi) (scoreTile q s kl kb qi) k) (scoreTile q s kl kb qi k) (ix2 y0 y1) = _
    rw [pay18_at, ih (by omega), Finset.sum_range_succ]
    simp only [pay16_row q s kl kb qi y1 zR hz hq k (by omega)]

include hz in
theorem headSum_at (hq : qi < 32) :
    ∑ y0 : Fin 8, headSum q s kl kb qi (ix2 y0 y1) = ∑ j ∈ Finset.range (qi + 1), ∑ x : Fin 256, rowExp q s kl kb qi y1 zR j x.val := by
  unfold headSum
  simp only [sumAcc_at q s kl kb qi y1 zR hz hq _ (qi + 1) le_rfl]
  rw [Finset.sum_comm]
  exact Finset.sum_congr rfl fun j _ => sum_rows fun x => rowExp q s kl kb qi y1 zR j x

/-- The values of a feature, by key number. -/
def vCol (d : Fin 64) (k : ℕ) : EReal := if h : k < 8192 then vd (ix3 0 d ⟨k, h⟩) else 0

include hz in
theorem outAcc_at (hq : qi < 32) (d : Fin 64) (u : FVec Ideal S1x256 .f32) (w : IVec S1x256 32) (k : ℕ) (hk : k ≤ qi + 1) :
    outAcc vd u w k1_pay25 (headExp q s kl kb qi) k (ix2 d y1) = ∑ j ∈ Finset.range k, ∑ x : Fin 256, vCol vd d (256 * j + x.val) *
      min (rowExp q s kl kb qi y1 zR j x.val * (u (ix2 0 y1) * Ideal.ofBits .f32 (IntOp.shli .vector (w (ix2 0 y1)) 23#32))) (Ideal.ofBits .f32 1138753536#32) := by
  induction k with
  | zero => exact pay27_at d y1
  | succ k ih =>
    show k1_pay28 u w k1_pay25 (outAcc vd u w k1_pay25 (headExp q s kl kb qi) k) (headExp q s kl kb qi k) (vdTile vd k) (ix2 d y1) = _
    rw [pay28_at, ih (by omega), Finset.sum_range_succ]
    congr 1
    refine Finset.sum_congr rfl fun x _ => ?_
    unfold headExp
    rw [pay17_at, pay16_row q s kl kb qi y1 zR hz hq k (by omega), vdTile_at vd k (by omega)]
    unfold vCol
    rw [dif_pos (by omega)]

include hz in
/-- One query's output of one head, at one feature. -/
theorem head_at (hq : qi < 32) (d : Fin 64) :
    headProd q s kl kb vd qi (ix2 d y1) * kpow (kexp (k1_pay22 (headSum q s kl kb qi) (ix2 0 y1) * Ideal.ofBits .f32 991054117#32))
      = rout (fun k : Fin 8192 => masked qi y1.val zR k.val) fun k => vd (ix3 0 d k) := by
  have h := attn_eq qi y1.val hq y1.isLt zR (vCol vd d) (rowScore qi y1 zR) (fun _ _ => rfl) _ (headMax_le q s kl kb qi y1 zR hz hq) _ rfl
  have e : ∀ k : Fin 8192, vCol vd d k.val = vd (ix3 0 d k) := fun k => dif_pos k.isLt
  simp only [e] at h
  rw [← h]
  unfold headProd
  rw [outAcc_at q s kl kb vd qi y1 zR hz hq d _ _ (qi + 1) le_rfl, pay24_at, pay23_at, pay22_at, headSum_at q s kl kb qi y1 zR hz hq]
  rfl

end Head

end Cert.Proof.KernelIdeal
-- ==== Proof.V.Kv.lean ====
module

public import proofs.«01_k».proof.Proof.KI.Dats
public import proofs.«01_k».proof.Proof.V.QTile
public import proofs.«01_k».proof.Proof.V.Head
public import Idealize.ShloMosaic.Lib.Pointwise
public import Idealize.ShloMosaic.PureOps.Reduce

@[expose] public section

set_option maxRecDepth 16384

noncomputable section

namespace Cert.Proof.KernelIdeal

open Cert.KernelIdeal Cert.KernelIdeal.Gen
open Idealize.ShloMosaic Idealize.ShloMosaic.TcCoe
open Cert.Proof.Value

/-! # The key and value quantiser at an index -/

section
variable (x : Vec Ideal S1x64x8192 .bf16)

/-- The 64 features of a key. -/
def xCol (s : Fin 8192) (k : Fin 64) : EReal := x (ix3 0 k s)

/-- The group of values a value is in. -/
def xGroup (g : Fin 64) (j : Fin 128) (k : Fin 64) : EReal := x (ix3 0 k ⟨g.val * 128 + j.val, by omega⟩)

theorem kvTile_at (t : ℕ) (ht : t < 64) (k : Fin 64) (c : Fin 128) : kvTile x t (ix3 0 k c) = x (ix3 0 k ⟨128 * t + c.val, by omega⟩) := by
  unfold kvTile VecWindow.window
  refine congrArg x (funext fun a => Fin.ext ?_)
  rw [unit_val]
  fin_cases a
  · rfl
  · show 0 + k.val = k.val; omega
  · show 128 * (t % 64) + c.val = 128 * t + c.val; rw [Nat.mod_eq_of_lt ht]

theorem col_at (s : Fin 8192) (k : Fin 64) : kvTile x (s.val / 128) (ix3 0 k ⟨s.val % 128, by omega⟩) = xCol x s k := by
  rw [kvTile_at x _ (by omega)]
  unfold xCol
  congr 2
  exact Fin.ext (Nat.div_add_mod s.val 128)

theorem grp_at (g : Fin 64) (j : Fin 128) (k : Fin 64) : kvTile x g.val (ix3 0 k j) = xGroup x g j k := by
  rw [kvTile_at x _ g.isLt]
  unfold xGroup
  congr 2
  apply Fin.ext
  show 128 * g.val + j.val = g.val * 128 + j.val
  omega

theorem colAt_at (d : Fin 64) (s : Fin 8192) : colAt (ix3 (0 : Fin 1) d s) = ix3 0 d ⟨s.val % 128, by omega⟩ := by funext a; fin_cases a <;> rfl
theorem laneAt_at (s : Fin 8192) : laneAt (ix3 (0 : Fin 1) (0 : Fin 1) s) = ix3 0 0 ⟨s.val % 128, by omega⟩ := by funext a; fin_cases a <;> rfl
theorem rowAt_at (s : Fin 8192) (l : Fin 128) : rowAt (ix3 (0 : Fin 1) s l) = ix3 0 ⟨s.val % 128, by omega⟩ l := by funext a; fin_cases a <;> rfl

theorem kcVal_at (d : Fin 64) (s : Fin 8192) : kcVal x (ix3 0 d s) = kcode (thr (xCol x s)) (xCol x s d) := by
  show kcValTile x (s.val / 128) (colAt (ix3 (0 : Fin 1) d s)) = _
  rw [colAt_at]
  unfold kcValTile
  rw [k0_pay10_at, k0_pay7_at]
  simp only [col_at]

theorem ksVal_at (s : Fin 8192) : ksVal x (ix3 0 0 s) = kpow (kexp (thr (xCol x s))) := by
  show ksValTile x (s.val / 128) (laneAt (ix3 (0 : Fin 1) (0 : Fin 1) s)) = _
  rw [laneAt_at]
  unfold ksValTile
  rw [k0_pay11_at, k0_pay6_at]
  simp only [col_at]

theorem klVal_at (s : Fin 8192) (d : Fin 64) : klVal x (ix3 0 s ⟨d.val, by omega⟩) = kcode (thr (xCol x s)) (xCol x s d) := by
  show klValTile x (s.val / 128) (rowAt (ix3 (0 : Fin 1) s _)) = _
  rw [rowAt_at]
  unfold klValTile
  rw [k0_pay12_at _ _ _ d.isLt, k0_pay7_at]
  simp only [col_at]

theorem kbVal_at (s : Fin 8192) (l : Fin 128) : kbVal x (ix3 0 s l) = kpow (kexp (thr (xCol x s))) := by
  show kbValTile x (s.val / 128) (rowAt (ix3 (0 : Fin 1) s l)) = _
  rw [rowAt_at]
  unfold kbValTile
  rw [k0_pay13_at, k0_pay6_at]
  simp only [col_at]

theorem vThr_at (g : Fin 64) : k0_pay15 (kvTile x g.val) (ix2 0 0) = thr2 (xGroup x g) := by
  rw [k0_pay15_at]
  simp only [grp_at]

theorem vExp_at (g : Fin 64) : k0_pay16 (k0_pay15 (kvTile x g.val)) (iota .tc S256x1 32 [0] iota_S256x1_d0_w32) 23#32 (ix2 0 0) = kexp (thr2 (xGroup x g)) := by
  rw [k0_pay16_at, vThr_at]

theorem vCode_at (g : Fin 64) (d : Fin 64) (j : Fin 128) :
    k0_pay17 (k0_pay14 (kvTile x g.val)) (k0_pay15 (kvTile x g.val)) (iota .tc S256x1 32 [0] iota_S256x1_d0_w32) 23#32 (ix2 d j) = kcode (thr2 (xGroup x g)) (xGroup x g j d) := by
  rw [k0_pay17_at, vThr_at, k0_pay14_at, grp_at]

theorem vcVal_at (d : Fin 64) (s : Fin 8192) : vcVal x (ix3 0 d s)
    = kcode (thr2 (xGroup x ⟨s.val / 128, by omega⟩)) (xGroup x ⟨s.val / 128, by omega⟩ ⟨s.val % 128, by omega⟩ d) := by
  show vcValTile x (s.val / 128) (colAt (ix3 (0 : Fin 1) d s)) = _
  rw [colAt_at]
  unfold vcValTile
  rw [k0_pay18_at]
  exact vCode_at x ⟨s.val / 128, by omega⟩ d _

theorem vdVal_at (d : Fin 64) (s : Fin 8192) : vdVal x (ix3 0 d s)
    = kcode (thr2 (xGroup x ⟨s.val / 128, by omega⟩)) (xGroup x ⟨s.val / 128, by omega⟩ ⟨s.val % 128, by omega⟩ d) * kpow (kexp (thr2 (xGroup x ⟨s.val / 128, by omega⟩))) := by
  show vdValTile x (s.val / 128) (colAt (ix3 (0 : Fin 1) d s)) = _
  rw [colAt_at]
  unfold vdValTile
  rw [k0_pay2_at, k0_pay19_at]
  exact congrArg₂ (· * ·) (vCode_at x ⟨s.val / 128, by omega⟩ d _) (congrArg kpow (vExp_at x ⟨s.val / 128, by omega⟩))

theorem k0_pay3_at (a : FVec Ideal S1x64 .f32) (w : BitVec 32) (e : IVec S1x1 32) (l : Fin 64) :
    k0_pay3 a w e (ix2 0 l) = Scalar.select (IntOp.cmpi CmpIPredicate.eq (BitVec.ofNat 32 l.val) w) (kpow (e (ix2 0 0))) (a (ix2 0 l)) := by
  pointwise [k0_pay3, kpow]

theorem k0_pay4_at (a : FVec Ideal S1x64 .f32) (l : Fin 64) : k0_pay4 a (ix3 0 0 l) = a (ix2 0 l) := by
  pointwise [k0_pay4]

theorem iv_eq (l : Fin 64) : ∀ t : Fin 64, IntOp.cmpi CmpIPredicate.eq (BitVec.ofNat 32 l.val) (Scf.iv 0#32 1#32 t.val) = BitVec.ofBool (decide (l = t)) := by
  revert l
  decide +kernel

theorem vsAcc_at (l : Fin 64) (k : ℕ) (hk : k ≤ 64) (h : l.val < k) : vsAcc x k (ix2 0 l) = kpow (kexp (thr2 (xGroup x l))) := by
  induction k with
  | zero => exact absurd h (Nat.not_lt_zero _)
  | succ k ih =>
    show k0_pay3 (vsAcc x k) (Scf.iv 0#32 1#32 k) (k0_pay16 (k0_pay15 (kvTile x k)) (iota .tc S256x1 32 [0] iota_S256x1_d0_w32) 23#32) (ix2 0 l) = _
    rw [k0_pay3_at, iv_eq l ⟨k, by omega⟩, select_ofBool]
    split_ifs with e
    · obtain rfl : l.val = k := congrArg Fin.val e
      exact congrArg kpow (vExp_at x l)
    · exact ih (by omega) (by
        have : l.val ≠ k := fun e' => e (Fin.ext e')
        omega)

theorem vsVal_at (l : Fin 64) : vsVal x (ix3 0 0 l) = kpow (kexp (thr2 (xGroup x l))) := by
  unfold vsVal
  rw [k0_pay4_at]
  exact vsAcc_at x l 64 le_rfl l.isLt

end

end Cert.Proof.KernelIdeal
-- ==== Proof.V.Query.lean ====
module

public import proofs.«01_k».proof.Proof.KI.Dats
public import proofs.«01_k».proof.Proof.V.QTile
public import proofs.«01_k».proof.Proof.V.Head
public import Idealize.ShloMosaic.Lib.Pointwise
public import Idealize.ShloMosaic.PureOps.Reduce

@[expose] public section

set_option maxRecDepth 16384

noncomputable section

namespace Cert.Proof.KernelIdeal

open Cert.KernelIdeal Cert.KernelIdeal.Gen
open Idealize.ShloMosaic Idealize.ShloMosaic.TcCoe
open Cert.Proof.Value

/-! # The query quantiser of a tile at an index -/

/-- The 64 features of one head's query, of a tile of queries. -/
def xHead (x : Vec Ideal S1x256x1024 .bf16) (h : Fin 16) (r : Fin 256) (k : Fin 64) : EReal := x (ix3 0 r ⟨h.val * 64 + k.val, by omega⟩)

section
variable (x : Vec Ideal S1x256x1024 .bf16) (h : Fin 16) (r : Fin 256)

theorem xTile_at (p : ℕ) (hp : p < 8) (c : Fin 128) : xTile x p (ix3 0 r c) = x (ix3 0 r ⟨128 * p + c.val, by omega⟩) := by
  unfold xTile VecWindow.window
  refine congrArg x (funext fun a => Fin.ext ?_)
  rw [unit_val]
  fin_cases a
  · rfl
  · show 0 + r.val = r.val; omega
  · show 128 * (p % 8) + c.val = 128 * p + c.val; rw [Nat.mod_eq_of_lt hp]

theorem even_at (he : h.val % 2 = 0) (k : Fin 64) : xTile x (h.val / 2) (ix3 0 r ⟨k.val, by omega⟩) = xHead x h r k := by
  rw [xTile_at x r _ (by omega)]
  unfold xHead
  congr 2
  apply Fin.ext
  show 128 * (h.val / 2) + k.val = h.val * 64 + k.val
  omega

theorem odd_at (he : ¬ h.val % 2 = 0) (k : Fin 64) : xTile x (h.val / 2) (ix3 0 r ⟨64 + k.val, by omega⟩) = xHead x h r k := by
  rw [xTile_at x r _ (by omega)]
  unfold xHead
  congr 2
  apply Fin.ext
  show 128 * (h.val / 2) + (64 + k.val) = h.val * 64 + k.val
  omega

theorem odd_exp (he : ¬ h.val % 2 = 0) : k1_pay71 (k1_pay70 (F := Ideal) (k1_pay62 (xTile x (h.val / 2)))) (ix2 0 r) = kexp (thr (xHead x h r)) := by
  rw [k1_pay71_at]
  simp only [k1_pay62_at, odd_at x h r he]

theorem even_exp (he : h.val % 2 = 0) : k1_pay64 (F := Ideal) (xTile x (h.val / 2)) (ix2 0 r) = kexp (thr (xHead x h r)) := by
  rw [k1_pay64_at]
  simp only [even_at x h r he]

theorem codesVal_at (d : Fin 64) : codesVal x (ix4 0 h d r) = kcode (thr (xHead x h r)) (xHead x h r d) := by
  have e : codesAt (ix4 (0 : Fin 1) h d r) = ix4 0 0 d r := by funext a; fin_cases a <;> rfl
  show headCodes (xTile x (h.val / 2)) (h.val % 2) (codesAt (ix4 (0 : Fin 1) h d r)) = _
  rw [e]
  unfold headCodes
  split_ifs with he
  · rw [k1_pay66_at, k1_pay65_at]
    simp only [even_at x h r he]
  · rw [k1_pay72_at, odd_exp x h r he, k1_pay69_at, k1_pay62_at, odd_at x h r he]
    rfl

theorem scaleVal_at : scaleVal x (ix3 0 h r) = kpow (kexp (thr (xHead x h r))) := by
  have e : scaleAt (ix3 (0 : Fin 1) h r) = ix3 0 0 r := by funext a; fin_cases a <;> rfl
  show headScale (xTile x (h.val / 2)) (h.val % 2) (scaleAt (ix3 (0 : Fin 1) h r)) = _
  rw [e]
  unfold headScale
  split_ifs with he
  · rw [k1_pay67_at, even_exp x h r he]
  · rw [k1_pay73_at, odd_exp x h r he]

theorem factorVal_at : factorVal x (ix3 h 0 r) = kpow (kexp (thr (xHead x h r))) * lam := by
  have e : factorAt (ix3 h (0 : Fin 1) r) = ix3 0 0 r := by funext a; fin_cases a <;> rfl
  show headFactor (xTile x (h.val / 2)) (h.val % 2) (factorAt (ix3 h (0 : Fin 1) r)) = _
  rw [e]
  unfold headFactor
  split_ifs with he
  · rw [k1_pay68_at, even_exp x h r he]
  · rw [k1_pay75_at, k1_pay74_at, odd_exp x h r he]

end

end Cert.Proof.KernelIdeal
-- ==== Proof.V.Out.lean ====
module

public import proofs.«01_k».proof.Proof.KI.Dats
public import proofs.«01_k».proof.Proof.V.QTile
public import proofs.«01_k».proof.Proof.V.Head
public import Idealize.ShloMosaic.Lib.Pointwise
public import Idealize.ShloMosaic.PureOps.Reduce

@[expose] public section

set_option maxRecDepth 16384

noncomputable section

namespace Cert.Proof.KernelIdeal

open Cert.KernelIdeal Cert.KernelIdeal.Gen
open Idealize.ShloMosaic Idealize.ShloMosaic.TcCoe
open Cert.Proof.Value

/-! # The attention kernel's output at an index -/

section
variable (qc : Vec Ideal S1x16x64x256 .fp8e4m3) (qs : Vec Ideal S16x1x256 .f32) (kl : Vec Ideal S1x8192x128 .fp8e4m3) (kb : Vec Ideal S1x8192x128 .f32)
  (vd : Vec Ideal S1x64x8192 .bf16) (qi : ℕ) (r : Fin 256)

theorem headOut_at (q : Vec Ideal S1x1x64x256 .fp8e4m3) (s : Vec Ideal S1x1x256 .f32) (d : Fin 64) :
    headOut q s kl kb vd qi (ix2 d r) = headProd q s kl kb vd qi (ix2 d r) * kpow (kexp (k1_pay22 (headSum q s kl kb qi) (ix2 0 r) * Ideal.ofBits .f32 991054117#32)) := by
  unfold headOut
  rw [pay30_at, pay23_at]

/-- One head's query: its output at one feature before the heads are laid side by side. -/
theorem pairOut_at (t : ℕ) (ht : t < 8) (c : Fin 128) (hd : ℕ) (hh : hd = 2 * t + c.val / 64) (d : Fin 64) (hdd : d.val = c.val % 64) :
    pairOut qc qs kl kb vd qi t (ix3 0 r c) = headOut (qcHead qc hd) (qsHead qs hd) kl kb vd qi (ix2 d r) := by
  unfold pairOut
  rw [pay2_at, pay61_at]
  split_ifs with h
  · have e : hd = 2 * t := by omega
    have e' : d = ⟨c.val, h⟩ := Fin.ext (by show d.val = c.val; omega)
    rw [e, e']
  · have e : hd = 2 * t + 1 := by omega
    have e' : d = ⟨c.val - 64, by omega⟩ := Fin.ext (by show d.val = c.val - 64; omega)
    rw [e, e', headOut_at, pay56_at, pay54_at]

theorem outVal_at (hq : qi < 32) (c : Fin 1024) (hd : Fin 16) (hh : hd.val = c.val / 64) (d : Fin 64) (hdd : d.val = c.val % 64) (zR : ℕ → ℝ)
    (hz : ∀ k : Fin 8192, ((∑ x : Fin 64, kl (ix3 0 k ⟨x.val, by omega⟩) * qc (ix4 0 hd x r)) *
      if h : r.val < 128 then kb (ix3 0 k ⟨r.val, h⟩) else kb (ix3 0 k ⟨r.val - 128, by omega⟩)) * qs (ix3 hd 0 r) = ((zR k.val / Real.log 2 : ℝ) : EReal)) :
    outVal qc qs kl kb vd qi (ix3 0 r c) = rout (fun k : Fin 8192 => masked qi r.val zR k.val) fun k => vd (ix3 0 d k) := by
  have e1 : pairAt (ix3 (0 : Fin 1) r c) = ix3 0 r ⟨c.val % 128, by omega⟩ := by
    funext a
    fin_cases a <;> rfl
  show pairOut qc qs kl kb vd qi (c.val / 128) (pairAt (ix3 (0 : Fin 1) r c)) = _
  rw [e1, pairOut_at qc qs kl kb vd qi r (c.val / 128) (by omega) ⟨c.val % 128, by omega⟩ hd.val (by show hd.val = 2 * (c.val / 128) + c.val % 128 / 64; omega) d
    (by show d.val = c.val % 128 % 64; omega), headOut_at]
  refine head_at _ _ kl kb vd qi r zR (fun k => ?_) hq d
  unfold rawScore
  simp only [qcHead_at qc hd.val hd.isLt, qsHead_at qs hd.val hd.isLt]
  exact hz k

end

end Cert.Proof.KernelIdeal
-- ==== Proof.V.Equal.lean ====
module

public import proofs.«01_k».proof.Proof.KI.Dats
public import proofs.«01_k».proof.Proof.KI.Run
public import Idealize.ShloMosaic.Lib.Pipeline.ValueKit.Geometry
public import Idealize.ShloMosaic.Lib.Pointwise
public import proofs.«01_k».proof.Proof.V.Arr1
public import proofs.«01_k».proof.Proof.V.Spec
public import proofs.«01_k».proof.Proof.V.KRun
public import proofs.«01_k».proof.Proof.V.Kv
public import proofs.«01_k».proof.Proof.V.Query
public import proofs.«01_k».proof.Proof.V.Out

@[expose] public section

set_option maxRecDepth 16384

noncomputable section

namespace Cert.Proof.KernelIdeal

open Cert.KernelIdeal Cert.KernelIdeal.Gen
open Idealize.ShloMosaic Idealize.ShloMosaic.TcCoe
open Cert.Proof.Value

/-! # The kernel's elements are the specification's

For inputs within f32's range: the kernel's blocks read at an index are the codes, scales and outputs of `Spec`. -/

/-- 1/8. -/
theorem eighth_bits : Ideal.ofBits .f32 0x3E000000#32 = ((1 / 8 : ℝ) : EReal) := by
  unfold Ideal.ofBits Ideal.ieee
  simp only [show (BitVec.extractLsb' 31 1 0x3E000000#32 == 1#1) = false by decide, show (BitVec.extractLsb' 23 8 0x3E000000#32).toNat = 124 by decide,
    show (BitVec.extractLsb' 0 23 0x3E000000#32).toNat = 0 by decide]
  have h : (2 : ℝ) ^ (-3 : ℤ) = 1 / 8 := by norm_num
  norm_num
  first
    | done
    | exact_mod_cast congrArg (fun r : ℝ => (r : EReal)) h

/-- One score: the reference's is a real `z`, the kernel's `z / log 2` (its factor carries 1/8 and 1 / log 2). -/
theorem score_real (q k : Fin 64 → EReal) (s t : EReal) (hq : ∀ d, ∃ r : ℝ, q d = r) (hk : ∀ d, ∃ r : ℝ, k d = r) (hs : ∃ r : ℝ, s = r) (ht : ∃ r : ℝ, t = r) :
    ∃ z : ℝ, (∑ d, q d * k d) * (s * Ideal.ofBits .f32 0x3E000000#32) * t = (z : EReal)
      ∧ (∑ d, k d * q d) * t * (s * lam) = ((z / Real.log 2 : ℝ) : EReal) := by
  choose a ha using hq
  choose b hb using hk
  obtain ⟨s', rfl⟩ := hs
  obtain ⟨t', rfl⟩ := ht
  refine ⟨(∑ d, a d * b d) * (s' * (1 / 8)) * t', ?_, ?_⟩
  · rw [eighth_bits, EReal.coe_mul, EReal.coe_mul, EReal.coe_mul, coe_sum]
    exact congrArg (fun u : EReal => u * (s' * ((1 / 8 : ℝ) : EReal)) * t') (Finset.sum_congr rfl fun d _ => by rw [ha, hb, EReal.coe_mul])
  · have e : (∑ d, a d * b d) * (s' * (1 / 8)) * t' / Real.log 2 = (∑ d, b d * a d) * t' * (s' * ((Real.log 2)⁻¹ * (1 / 8))) := by
      rw [Finset.sum_congr rfl fun d _ => mul_comm (a d) (b d), div_eq_mul_inv]
      ring
    unfold lam
    rw [e, EReal.coe_mul (_ * t'), EReal.coe_mul _ t', EReal.coe_mul s', coe_sum]
    exact congrArg (fun u : EReal => u * t' * (s' * (((Real.log 2)⁻¹ * (1 / 8) : ℝ) : EReal))) (Finset.sum_congr rfl fun d _ => by rw [ha, hb, EReal.coe_mul])

variable (X : Vec Ideal S8x8192x1024 .bf16) (K V : Vec Ideal S8x8192x64 .bf16)

theorem xCol_eq (b : Fin 8) (s : Fin 8192) : xCol (tblk K b) s = krow K b s := rfl
theorem xGroup_eq (b : Fin 8) (g : Fin 64) : xGroup (tblk V b) g = vgrp V b g := rfl
theorem xHead_eq (b : Fin 8) (s : Fin 8192) (h : Fin 16) : xHead (qblk X b (blkOf s)) h (rowOf s) = qrow X b s h := by
  funext k
  have e : (⟨(blkOf s).val * 256 + (rowOf s).val, by have := (blkOf s).isLt; have := (rowOf s).isLt; omega⟩ : Fin 8192) = s :=
    Fin.ext (show s.val / 256 * 256 + s.val % 256 = s.val by omega)
  exact congrArg (fun s' : Fin 8192 => X (ix3 b s' ⟨h.val * 64 + k.val, by omega⟩)) e

section
variable (hX : ∀ i, Fin32 (X i)) (hK : ∀ i, Fin32 (K i)) (hV : ∀ i, Fin32 (V i))

include hX in
theorem qc_eq (b : Fin 8) (s : Fin 8192) (h : Fin 16) (d : Fin 64) : codesVal (qblk X b (blkOf s)) (ix4 0 h d (rowOf s)) = sQc X b s h d := by
  rw [codesVal_at, xHead_eq]
  exact code_eq (by decide) _ (fun k => hX _) _
include hX in
theorem qs_eq (b : Fin 8) (s : Fin 8192) (h : Fin 16) : scaleVal (qblk X b (blkOf s)) (ix3 0 h (rowOf s)) = sQs X b s h := by
  rw [scaleVal_at, xHead_eq]
  exact scale_eq (by decide) _ (fun k => hX _)
include hX in
theorem qf_eq (b : Fin 8) (s : Fin 8192) (h : Fin 16) : factorVal (qblk X b (blkOf s)) (ix3 h 0 (rowOf s)) = sQs X b s h * lam := by
  rw [factorVal_at, xHead_eq]
  exact congrArg (· * lam) (scale_eq (by decide) _ (fun k => hX _))
include hK in
theorem kc_eq (b : Fin 8) (s : Fin 8192) (d : Fin 64) : kcVal (tblk K b) (ix3 0 d s) = sKc K b s d := by
  rw [kcVal_at, xCol_eq]
  exact code_eq (by decide) _ (fun k => hK _) _
include hK in
theorem kl_eq (b : Fin 8) (s : Fin 8192) (d : Fin 64) : klVal (tblk K b) (ix3 0 s ⟨d.val, by omega⟩) = sKc K b s d := by
  rw [klVal_at, xCol_eq]
  exact code_eq (by decide) _ (fun k => hK _) _
include hK in
theorem ks_eq (b : Fin 8) (s : Fin 8192) : ksVal (tblk K b) (ix3 0 0 s) = sKs K b s := by
  rw [ksVal_at, xCol_eq]
  exact scale_eq (by decide) _ (fun k => hK _)
include hK in
theorem kb_eq (b : Fin 8) (s : Fin 8192) (l : Fin 128) : kbVal (tblk K b) (ix3 0 s l) = sKs K b s := by
  rw [kbVal_at, xCol_eq]
  exact scale_eq (by decide) _ (fun k => hK _)
include hV in
theorem vc_eq (b : Fin 8) (s : Fin 8192) (d : Fin 64) : vcVal (tblk V b) (ix3 0 d s) = sVc V b s d := by
  rw [vcVal_at, xGroup_eq]
  exact code2_eq _ (fun j k => hV _) _
include hV in
theorem vs_eq (b : Fin 8) (g : Fin 64) : vsVal (tblk V b) (ix3 0 0 g) = sVs V b g := by
  rw [vsVal_at, xGroup_eq]
  exact scale2_eq _ (fun j k => hV _)
include hV in
theorem vd_eq (b : Fin 8) (s : Fin 8192) (d : Fin 64) : vdVal (tblk V b) (ix3 0 d s) = sVc V b s d * sVs V b ⟨s.val / 128, by omega⟩ := by
  rw [vdVal_at, xGroup_eq]
  exact congrArg₂ (· * ·) (code2_eq _ (fun j k => hV _) _) (scale2_eq _ (fun j k => hV _))

include hX hK hV in
/-- The output. -/
theorem out_eq (b : Fin 8) (s : Fin 8192) (e : Fin 1024) : oblk X K V b (blkOf s) (ix3 0 (rowOf s) e) = sOut X K V b s e := by
  have hs : ∀ k : Fin 8192, _ := fun k => score_real (sQc X b s ⟨e.val / 64, by omega⟩) (sKc K b k) (sQs X b s ⟨e.val / 64, by omega⟩) (sKs K b k)
    (fun d => code_real (by decide) _ (fun j => hX _) _) (fun d => code_real (by decide) _ (fun j => hK _) _)
    (scale_real (by decide) _ (fun j => hX _)) (scale_real (by decide) _ (fun j => hK _))
  choose z hz hz' using hs
  unfold oblk
  rw [outVal_at _ _ _ _ _ (blkOf s).val (rowOf s) (blkOf s).isLt e ⟨e.val / 64, by omega⟩ rfl ⟨e.val % 64, by omega⟩ rfl
    (fun n => if h : n < 8192 then z ⟨n, h⟩ else 0) ?_]
  · unfold sOut
    refine congrArg₂ rout (funext fun k => ?_) (funext fun k => vd_eq V hV b k _)
    unfold sScore masked
    rw [sle_ofNat _ _ (by omega) (by omega), select_ofBool, bot_bits, hz k]
    have hb : 256 * (blkOf s).val + (rowOf s).val = s.val := show 256 * (s.val / 256) + s.val % 256 = s.val by omega
    rw [hb]
    exact congrArg (fun u : ℝ => if k.val ≤ s.val then ((u : ℝ) : EReal) else ⊥) (dif_pos k.isLt)
  · intro k
    rw [qf_eq X hX, dif_pos k.isLt, ← hz' k]
    refine congrArg (· * (sQs X b s ⟨e.val / 64, by omega⟩ * lam)) (congrArg₂ (· * ·) (Finset.sum_congr rfl fun d _ => ?_) ?_)
    · rw [kl_eq K hK, qc_eq X hX]
    · split <;> exact kb_eq K hK b k _

end

end Cert.Proof.KernelIdeal
-- ==== Proof.V.RefQ.lean ====
module

public import proofs.«01_k».proof.Proof.Gen.ReferenceIdeal.Frame
public import proofs.«01_k».proof.Proof.V.Num
public import Idealize.ShloMosaic.Lib.Pointwise
public import Idealize.ShloMosaic.PureOps.Reduce

@[expose] public section

set_option maxRecDepth 16384

noncomputable section

namespace Cert.Proof.ReferenceIdeal

open Cert.ReferenceIdeal Cert.ReferenceIdeal.Gen
open Idealize.ShloMosaic Idealize.ShloMosaic.TcCoe
open Cert.Proof.Value

/-! # The reference's quantised arrays at an index, over the extended reals

Each step is read with its operands as variables. -/

section Steps
variable {s : Shape}

theorem exp_step (t two one zero small : FVec Ideal s .f32) (y : s.Idx) (h2 : two y = Ideal.ofBits .f32 1073741824#32) (h1 : one y = 1)
    (h0 : zero y = 0) (hs : small y = Ideal.ofBits .f32 8388608#32) :
    select (cmpf .olt t small) zero (addf (floor (divf (log t) (log two))) one) y = rexp (t y) := by
  have e : select (cmpf .olt t small) zero (addf (floor (divf (log t) (log two))) one) y
      = if t y < small y then zero y else Ideal.liftRound Int.floor (Ideal.div (Ideal.log (t y)) (Ideal.log (two y))) + one y := by
    pointwise []
  rw [e, h2, h1, h0, hs]
  rfl

theorem mulf_at (a b : FVec Ideal s .f32) (y : s.Idx) : mulf a b y = a y * b y := rfl

theorem absf_at (a : FVec Ideal s .f32) (y : s.Idx) : absf a y = FloatOps.absf (F := Ideal) (φ := .f32) (a y) := rfl

theorem exp2_at (a : FVec Ideal s .f32) (y : s.Idx) : exp2 a y = Ideal.exp2 (a y) := rfl

theorem neg_step (e zero : FVec Ideal s .f32) (y : s.Idx) (h0 : zero y = 0) {a : EReal} (he : e y = a) :
    exp2 (subf zero e) y = Ideal.exp2 (0 - a) := by
  rw [← h0, ← he]; rfl

theorem code_step (v t lo hi : FVec Ideal s .f32) (y : s.Idx) {a b : EReal} (hv : v y = a) (ht : t y = b) (hl : lo y = Ideal.ofBits .f32 3286237184#32)
    (hh : hi y = Ideal.ofBits .f32 1138753536#32) : minimumf hi (maximumf lo (mulf v t)) y
      = min (Ideal.ofBits .f32 1138753536#32) (max (Ideal.ofBits .f32 3286237184#32) (a * b)) := by
  rw [← hl, ← hh, ← hv, ← ht]
  rfl

theorem thr_step {n : ℕ} (m : FVec Ideal s .f32) (c : FVec Ideal s .f32) (y : s.Idx) (f : Fin n → EReal)
    (hm : m y = Finset.fold max (Ideal.ofBits .f32 4286578688#32) (fun k => FloatOps.absf (F := Ideal) (φ := .f32) (f k)) Finset.univ)
    (hc : c y = Ideal.ofBits .f32 991054117#32) : mulf m c y = thr f := by
  rw [mulf_at, hm, hc]; rfl

end Steps

/-! ## Queries -/

theorem pay1_at (x : Vec Ideal S8x8192x1024 .bf16) (y0 : Fin 8) (y1 : Fin 8192) (y2 : Fin 16) (y3 : Fin 64) :
    k0_pay1 x (ix4 y0 y1 y2 y3) = x (ix3 y0 y1 ⟨y2.val * 64 + y3.val, by omega⟩) := by
  pointwise [k0_pay1]

theorem max4_at (v : FVec Ideal S8x8192x16x64 .f32) (y0 : Fin 8) (y1 : Fin 8192) (y2 : Fin 16) :
    multiReduction .maximumf [3] S8x8192x16 v 0xFF800000#32 reduces_S8x8192x16x64_S8x8192x16 (.inl rfl) rfl (ix3 y0 y1 y2)
      = Finset.fold max (Ideal.ofBits .f32 4286578688#32) (fun k : Fin 64 => v (ix4 y0 y1 y2 k)) Finset.univ := by
  pointwise []

theorem cast4_at (v : FVec Ideal S8x8192x16 .f32) (y0 : Fin 8) (y1 : Fin 8192) (y2 : Fin 16) (y3 : Fin 1) :
    shapeCast S8x8192x16x1 v shapeCasts_S8x8192x16_S8x8192x16x1 (ix4 y0 y1 y2 y3) = v (ix3 y0 y1 y2) := by
  pointwise []

theorem one_bits : Ideal.ofBits .f32 0x3F800000#32 = 1 := by
  rw [ieee_pow 0x3F800000#32 127 (by decide) (by decide) (by decide) (by decide) (by decide)]
  norm_num

theorem zero_bits : Ideal.ofBits .f32 0x00000000#32 = 0 := ieee_zero _ (by decide) (by decide)

theorem bcst_at {s : Shape} (c : Ideal .f32) (y : s.Idx) : broadcast s c y = c := rfl

theorem abs4_at (x : Vec Ideal S8x8192x1024 .bf16) (y0 : Fin 8) (y1 : Fin 8192) (y2 : Fin 16) (k : Fin 64) :
    absf (k0_pay1 x) (ix4 y0 y1 y2 k) = FloatOps.absf (F := Ideal) (φ := .f32) (x (ix3 y0 y1 ⟨y2.val * 64 + k.val, by omega⟩)) :=
  (absf_at _ _).trans (congrArg _ (pay1_at x y0 y1 y2 k))

theorem pay2_at (x : Vec Ideal S8x8192x1024 .bf16) (y0 : Fin 8) (y1 : Fin 8192) (y2 : Fin 16) (y3 : Fin 1) :
    k0_pay2 x (ix4 y0 y1 y2 y3) = rexp (thr fun k : Fin 64 => x (ix3 y0 y1 ⟨y2.val * 64 + k.val, by omega⟩)) := by
  unfold k0_pay2
  exact (exp_step _ _ _ _ _ _ (bcst_at _ _) ((bcst_at _ _).trans one_bits) ((bcst_at _ _).trans zero_bits) (bcst_at _ _)).trans (congrArg rexp
    (thr_step _ _ _ _ (((cast4_at _ y0 y1 y2 y3).trans (max4_at _ y0 y1 y2)).trans
      (congrArg (fun f => Finset.fold max (Ideal.ofBits .f32 4286578688#32) f Finset.univ) (funext fun k => abs4_at x y0 y1 y2 k))) (bcst_at _ _)))

theorem bc4_at (v : FVec Ideal S8x8192x16x1 .f32) (y0 : Fin 8) (y1 : Fin 8192) (y2 : Fin 16) (y3 : Fin 64) :
    broadcastTo S8x8192x16x64 v broadcasts_S8x8192x16x1_S8x8192x16x64 (ix4 y0 y1 y2 y3) = v (ix4 y0 y1 y2 0) := by
  pointwise []

theorem truncf_at {s : Shape} {φ ψ : FTy} (v : FVec Ideal s φ) (h : ψ.bits < φ.bits) (y : s.Idx) : truncf ψ v h y = v y := rfl

theorem pay3_at (x : Vec Ideal S8x8192x1024 .bf16) (y0 : Fin 8) (y1 : Fin 8192) (y2 : Fin 16) (y3 : Fin 64) :
    k0_pay3 x (ix4 y0 y1 y2 y3) = rcode (thr fun k : Fin 64 => x (ix3 y0 y1 ⟨y2.val * 64 + k.val, by omega⟩)) (x (ix3 y0 y1 ⟨y2.val * 64 + y3.val, by omega⟩)) := by
  unfold k0_pay3 rcode
  exact (truncf_at (φ := .f32) (ψ := .fp8e4m3) _ bitsLt_fp8e4m3_f32 _).trans (code_step (k0_pay1 x) _ _ _ _ (pay1_at x y0 y1 y2 y3)
    ((bc4_at _ y0 y1 y2 y3).trans (neg_step _ _ _ ((bcst_at _ _).trans zero_bits) (pay2_at x y0 y1 y2 0))) (bcst_at _ _) (bcst_at _ _))

theorem pay4_at (x : Vec Ideal S8x8192x1024 .bf16) (y0 : Fin 8) (y1 : Fin 8192) (y2 : Fin 16) (y3 : Fin 1) :
    k0_pay4 x (ix4 y0 y1 y2 y3) = Ideal.exp2 (rexp (thr fun k : Fin 64 => x (ix3 y0 y1 ⟨y2.val * 64 + k.val, by omega⟩))) :=
  (exp2_at _ _).trans (congrArg Ideal.exp2 (pay2_at x y0 y1 y2 y3))

theorem pay26_at (v : FVec Ideal S8x8192x16x1 .f32) (y0 : Fin 8) (y1 : Fin 8192) (y2 : Fin 16) : k0_pay26 v (ix3 y0 y1 y2) = v (ix4 y0 y1 y2 0) := by
  pointwise [k0_pay26]

end Cert.Proof.ReferenceIdeal
-- ==== Proof.V.RefK.lean ====
module

public import proofs.«01_k».proof.Proof.Gen.ReferenceIdeal.Frame
public import proofs.«01_k».proof.Proof.V.RefQ
public import Idealize.ShloMosaic.Lib.Pointwise
public import Idealize.ShloMosaic.PureOps.Reduce

@[expose] public section

set_option maxRecDepth 16384

noncomputable section

namespace Cert.Proof.ReferenceIdeal

set_option maxHeartbeats 800000

open Cert.ReferenceIdeal Cert.ReferenceIdeal.Gen
open Idealize.ShloMosaic Idealize.ShloMosaic.TcCoe
open Cert.Proof.Value

/-! # The reference's quantised keys at an index -/

/-! ## Keys -/

theorem max3_at (v : FVec Ideal S8x8192x64 .f32) (y0 : Fin 8) (y1 : Fin 8192) :
    multiReduction .maximumf [2] S8x8192 v 0xFF800000#32 reduces_S8x8192x64_S8x8192 (.inl rfl) rfl (ix2 y0 y1)
      = Finset.fold max (Ideal.ofBits .f32 4286578688#32) (fun k : Fin 64 => v (ix3 y0 y1 k)) Finset.univ := by
  pointwise []

theorem cast3_at (v : FVec Ideal S8x8192 .f32) (y0 : Fin 8) (y1 : Fin 8192) (y2 : Fin 1) :
    shapeCast S8x8192x1 v shapeCasts_S8x8192_S8x8192x1 (ix3 y0 y1 y2) = v (ix2 y0 y1) := by
  pointwise []

theorem abs3_at (x : Vec Ideal S8x8192x64 .bf16) (y0 : Fin 8) (y1 : Fin 8192) (k : Fin 64) :
    absf (k0_pay5 x) (ix3 y0 y1 k) = FloatOps.absf (F := Ideal) (φ := .f32) (x (ix3 y0 y1 k)) := absf_at _ _

theorem pay6_at (x : Vec Ideal S8x8192x64 .bf16) (y0 : Fin 8) (y1 : Fin 8192) (y2 : Fin 1) :
    k0_pay6 x (ix3 y0 y1 y2) = thr fun k : Fin 64 => x (ix3 y0 y1 k) := by
  unfold k0_pay6
  exact thr_step _ _ _ _ (((cast3_at _ y0 y1 y2).trans (max3_at _ y0 y1)).trans
      (congrArg (fun f => Finset.fold max (Ideal.ofBits .f32 4286578688#32) f Finset.univ) (funext fun k => abs3_at x y0 y1 k))) (bcst_at _ _)

theorem exp_step' {s : Shape} (t two one zero small : FVec Ideal s .f32) (y : s.Idx) (h2 : two y = Ideal.ofBits .f32 1073741824#32) (h1 : one y = 1)
    (h0 : zero y = 0) (hs : small y = Ideal.ofBits .f32 8388608#32) {a : EReal} (ht : t y = a) (c : IVec s 1) (hc : c = cmpf .olt t small) (l : FVec Ideal s .f32) (hl : l = log t) :
    select c zero (addf (floor (divf l (log two))) one) y = rexp a := by
  rw [hc, hl, ← ht]
  exact exp_step t two one zero small y h2 h1 h0 hs

theorem pay10_at (x : Vec Ideal S8x8192x64 .bf16) (y0 : Fin 8) (y1 : Fin 8192) (y2 : Fin 1) :
    k0_pay10 (k0_pay7 x) (k0_pay8 x) (k0_pay9 (F := Ideal)) (ix3 y0 y1 y2) = rexp (thr fun k : Fin 64 => x (ix3 y0 y1 k)) := by
  have h7 : k0_pay7 x = cmpf .olt (k0_pay6 x) (broadcast S8x8192x1 (Scalar.ofBits .f32 0x00800000#32)) := by unfold k0_pay7; rfl
  have h8 : k0_pay8 x = log (k0_pay6 x) := by unfold k0_pay8; rfl
  unfold k0_pay10
  exact exp_step' (k0_pay6 x) k0_pay9 _ _ _ _ (by unfold k0_pay9; exact bcst_at _ _) ((bcst_at _ _).trans one_bits) ((bcst_at _ _).trans zero_bits) (bcst_at _ _)
    (pay6_at x y0 y1 y2) _ h7 _ h8

theorem bc3_at (v : FVec Ideal S8x8192x1 .f32) (y0 : Fin 8) (y1 : Fin 8192) (y2 : Fin 64) :
    broadcastTo S8x8192x64 v broadcasts_S8x8192x1_S8x8192x64 (ix3 y0 y1 y2) = v (ix3 y0 y1 0) := by
  pointwise []

theorem pay11_at (x : Vec Ideal S8x8192x64 .bf16) (y0 : Fin 8) (y1 : Fin 8192) (y2 : Fin 64) :
    k0_pay11 (k0_pay5 x) (k0_pay7 x) (k0_pay8 x) (k0_pay9 (F := Ideal)) (ix3 y0 y1 y2) = rcode (thr fun k : Fin 64 => x (ix3 y0 y1 k)) (x (ix3 y0 y1 y2)) := by
  have h5 : k0_pay5 x (ix3 y0 y1 y2) = x (ix3 y0 y1 y2) := by unfold k0_pay5; rfl
  unfold k0_pay11 rcode
  exact (truncf_at (φ := .f32) (ψ := .fp8e4m3) _ bitsLt_fp8e4m3_f32 _).trans (code_step (k0_pay5 x) _ _ _ _ h5
    ((bc3_at _ y0 y1 y2).trans (neg_step _ _ _ ((bcst_at _ _).trans zero_bits) (pay10_at x y0 y1 0))) (bcst_at _ _) (bcst_at _ _))

theorem pay12_at (x : Vec Ideal S8x8192x64 .bf16) (y0 : Fin 8) (y1 : Fin 8192) (y2 : Fin 1) :
    k0_pay12 (k0_pay7 x) (k0_pay8 x) (k0_pay9 (F := Ideal)) (ix3 y0 y1 y2) = Ideal.exp2 (rexp (thr fun k : Fin 64 => x (ix3 y0 y1 k))) := by
  unfold k0_pay12
  exact (exp2_at _ _).trans (congrArg Ideal.exp2 (pay10_at x y0 y1 y2))

theorem pay27_at (v : FVec Ideal S8x8192x1 .f32) (y0 : Fin 8) (y1 : Fin 8192) : k0_pay27 v (ix2 y0 y1) = v (ix3 y0 y1 0) := by
  pointwise [k0_pay27]

end Cert.Proof.ReferenceIdeal
-- ==== Proof.V.RefV.lean ====
module

public import proofs.«01_k».proof.Proof.Gen.ReferenceIdeal.Frame
public import proofs.«01_k».proof.Proof.V.RefK
public import Idealize.ShloMosaic.Lib.Pointwise
public import Idealize.ShloMosaic.PureOps.Reduce

@[expose] public section

set_option maxRecDepth 16384

noncomputable section

namespace Cert.Proof.ReferenceIdeal

set_option maxHeartbeats 800000

open Cert.ReferenceIdeal Cert.ReferenceIdeal.Gen
open Idealize.ShloMosaic Idealize.ShloMosaic.TcCoe
open Cert.Proof.Value

/-! # The reference's quantised values at an index -/

theorem pay13_at (x : Vec Ideal S8x8192x64 .bf16) (y0 : Fin 8) (y1 : Fin 64) (y2 : Fin 128) (y3 : Fin 64) :
    k0_pay13 x (ix4 y0 y1 y2 y3) = x (ix3 y0 ⟨y1.val * 128 + y2.val, by omega⟩ y3) := by
  pointwise [k0_pay13]

theorem max22_at (v : FVec Ideal S8x64x128x64 .f32) (y0 : Fin 8) (y1 : Fin 64) :
    multiReduction .maximumf [2, 3] S8x64 v 0xFF800000#32 reduces_S8x64x128x64_S8x64 (.inl rfl) rfl (ix2 y0 y1)
      = Finset.fold max (Ideal.ofBits .f32 4286578688#32) (fun p : Fin 128 × Fin 64 => v (ix4 y0 y1 p.1 p.2)) Finset.univ := by
  pointwise []

/-- A maximum over pairs is a maximum of maxima. -/
theorem fold_pair (c : EReal) (f : Fin 128 → Fin 64 → EReal) : Finset.fold max c (fun p : Fin 128 × Fin 64 => f p.1 p.2) Finset.univ
    = Finset.fold max c (fun j => Finset.fold max c (fun k => f j k) Finset.univ) Finset.univ := by
  apply eq_of_forall_ge_iff
  intro a
  simp only [Finset.fold_max_le, Finset.mem_univ, true_implies, Prod.forall]
  constructor
  · intro h; exact ⟨h.1, fun j => ⟨h.1, fun k => h.2 j k⟩⟩
  · intro h; exact ⟨h.1, fun j k => (h.2 j).2 k⟩

theorem cast22_at (v : FVec Ideal S8x64 .f32) (y0 : Fin 8) (y1 : Fin 64) (y2 y3 : Fin 1) :
    shapeCast S8x64x1x1 v shapeCasts_S8x64_S8x64x1x1 (ix4 y0 y1 y2 y3) = v (ix2 y0 y1) := by
  pointwise []

theorem abs22_at (x : Vec Ideal S8x8192x64 .bf16) (y0 : Fin 8) (y1 : Fin 64) (y2 : Fin 128) (y3 : Fin 64) :
    absf (k0_pay13 x) (ix4 y0 y1 y2 y3) = FloatOps.absf (F := Ideal) (φ := .f32) (x (ix3 y0 ⟨y1.val * 128 + y2.val, by omega⟩ y3)) :=
  (absf_at _ _).trans (congrArg _ (pay13_at x y0 y1 y2 y3))

theorem thr2_step {s : Shape} (m : FVec Ideal s .f32) (c : FVec Ideal s .f32) (y : s.Idx) (f : Fin 128 → Fin 64 → EReal)
    (hm : m y = Finset.fold max (Ideal.ofBits .f32 4286578688#32) (fun p : Fin 128 × Fin 64 => FloatOps.absf (F := Ideal) (φ := .f32) (f p.1 p.2)) Finset.univ)
    (hc : c y = Ideal.ofBits .f32 991054117#32) : mulf m c y = thr2 f := by
  rw [mulf_at, hm, hc, fold_pair _ fun j k => FloatOps.absf (F := Ideal) (φ := .f32) (f j k)]; rfl

theorem pay14_at (x : Vec Ideal S8x8192x64 .bf16) (y0 : Fin 8) (y1 : Fin 64) (y2 y3 : Fin 1) :
    k0_pay14 x (ix4 y0 y1 y2 y3) = rexp (thr2 fun (j : Fin 128) (k : Fin 64) => x (ix3 y0 ⟨y1.val * 128 + j.val, by omega⟩ k)) := by
  unfold k0_pay14
  exact (exp_step _ _ _ _ _ _ (bcst_at _ _) ((bcst_at _ _).trans one_bits) ((bcst_at _ _).trans zero_bits) (bcst_at _ _)).trans (congrArg rexp
    (thr2_step _ _ _ _ (((cast22_at _ y0 y1 y2 y3).trans (max22_at _ y0 y1)).trans
      (congrArg (fun f => Finset.fold max (Ideal.ofBits .f32 4286578688#32) f Finset.univ) (funext fun p => abs22_at x y0 y1 p.1 p.2))) (bcst_at _ _)))

theorem bc22_at (v : FVec Ideal S8x64x1x1 .f32) (y0 : Fin 8) (y1 : Fin 64) (y2 : Fin 128) (y3 : Fin 64) :
    broadcastTo S8x64x128x64 v broadcasts_S8x64x1x1_S8x64x128x64 (ix4 y0 y1 y2 y3) = v (ix4 y0 y1 0 0) := by
  pointwise []

theorem bc22b_at (v : FVec Ideal S8x64x1x1 .bf16) (y0 : Fin 8) (y1 : Fin 64) (y2 : Fin 128) (y3 : Fin 64) :
    broadcastTo S8x64x128x64 v broadcasts_S8x64x1x1_S8x64x128x64 (ix4 y0 y1 y2 y3) = v (ix4 y0 y1 0 0) := by
  pointwise []

theorem code_step' {s : Shape} (w lo hi : FVec Ideal s .f32) (y : s.Idx) {a : EReal} (hw : w y = a) (hl : lo y = Ideal.ofBits .f32 3286237184#32)
    (hh : hi y = Ideal.ofBits .f32 1138753536#32) : minimumf hi (maximumf lo w) y
      = min (Ideal.ofBits .f32 1138753536#32) (max (Ideal.ofBits .f32 3286237184#32) a) := by
  rw [← hl, ← hh, ← hw]
  rfl

theorem mul_step {s : Shape} {φ : FTy} (v w : FVec Ideal s φ) (y : s.Idx) {a b : EReal} (hv : v y = a) (hw : w y = b) : mulf v w y = a * b := by
  rw [← hv, ← hw]; rfl

theorem pay17_at (x : Vec Ideal S8x8192x64 .bf16) (y0 : Fin 8) (y1 : Fin 64) (y2 : Fin 128) (y3 : Fin 64) :
    k0_pay17 (k0_pay15 x) (Scalar.ofBits .f32 0x43E00000#32) (k0_pay16 (F := Ideal)) (ix4 y0 y1 y2 y3)
      = rcode (thr2 fun (j : Fin 128) (k : Fin 64) => x (ix3 y0 ⟨y1.val * 128 + j.val, by omega⟩ k)) (x (ix3 y0 ⟨y1.val * 128 + y2.val, by omega⟩ y3)) := by
  have h15 : k0_pay15 x (ix4 y0 y1 y2 y3) = x (ix3 y0 ⟨y1.val * 128 + y2.val, by omega⟩ y3) * Ideal.exp2 (0 - rexp (thr2 fun (j : Fin 128) (k : Fin 64) => x (ix3 y0 ⟨y1.val * 128 + j.val, by omega⟩ k))) := by
    unfold k0_pay15
    exact mul_step _ _ _ (pay13_at x y0 y1 y2 y3) ((bc22_at _ y0 y1 y2 y3).trans (neg_step _ _ _ ((bcst_at _ _).trans zero_bits) (pay14_at x y0 y1 0 0)))
  have h16 : k0_pay16 (F := Ideal) (ix4 y0 y1 y2 y3) = Ideal.ofBits .f32 3286237184#32 := by unfold k0_pay16; exact bcst_at _ _
  unfold k0_pay17 rcode
  exact (truncf_at (φ := .f32) (ψ := .fp8e4m3) _ bitsLt_fp8e4m3_f32 _).trans (code_step' (k0_pay15 x) _ _ _ h15 h16 (bcst_at _ _))

theorem pay18_at (x : Vec Ideal S8x8192x64 .bf16) (y0 : Fin 8) (y1 : Fin 64) (y2 y3 : Fin 1) :
    k0_pay18 (k0_pay14 x) (ix4 y0 y1 y2 y3) = Ideal.exp2 (rexp (thr2 fun (j : Fin 128) (k : Fin 64) => x (ix3 y0 ⟨y1.val * 128 + j.val, by omega⟩ k))) := by
  unfold k0_pay18
  exact (exp2_at _ _).trans (congrArg Ideal.exp2 (pay14_at x y0 y1 y2 y3))

theorem pay28_at (v : FVec Ideal S8x64x128x64 .fp8e4m3) (y0 : Fin 8) (y1 : Fin 8192) (y2 : Fin 64) :
    k0_pay28 v (ix3 y0 y1 y2) = v (ix4 y0 ⟨y1.val / 128, by omega⟩ ⟨y1.val % 128, by omega⟩ y2) := by
  pointwise [k0_pay28]

theorem cast93_at (v : FVec Ideal S8x64x128x64 .bf16) (y0 : Fin 8) (y1 : Fin 8192) (y2 : Fin 64) :
    shapeCast S8x8192x64 v shapeCasts_S8x64x128x64_S8x8192x64 (ix3 y0 y1 y2) = v (ix4 y0 ⟨y1.val / 128, by omega⟩ ⟨y1.val % 128, by omega⟩ y2) := by
  pointwise []

theorem pay29_at (v : FVec Ideal S8x64x1x1 .f32) (y0 : Fin 8) (y1 : Fin 64) : k0_pay29 v (ix2 y0 y1) = v (ix4 y0 y1 0 0) := by
  pointwise [k0_pay29]

theorem pay19_at (x : Vec Ideal S8x8192x64 .bf16) (y0 : Fin 8) (y1 : Fin 8192) (y2 : Fin 64) :
    k0_pay19 (k0_pay14 x) (k0_pay15 x) (Scalar.ofBits .f32 0x43E00000#32) (k0_pay16 (F := Ideal)) (ix3 y0 y1 y2)
      = k0_pay17 (k0_pay15 x) (Scalar.ofBits .f32 0x43E00000#32) (k0_pay16 (F := Ideal)) (ix4 y0 ⟨y1.val / 128, by omega⟩ ⟨y1.val % 128, by omega⟩ y2)
        * k0_pay18 (k0_pay14 x) (ix4 y0 ⟨y1.val / 128, by omega⟩ 0 0) := by
  have hx : ∀ (v : FVec Ideal S8x64x128x64 .fp8e4m3) (y : S8x64x128x64.Idx), extf .bf16 v bitsLt_fp8e4m3_bf16 y = v y := fun _ _ => rfl
  have ht : ∀ (v : FVec Ideal S8x64x1x1 .f32) (y : S8x64x1x1.Idx), truncf .bf16 v bitsLt_bf16_f32 y = v y := fun _ _ => rfl
  unfold k0_pay19
  exact (cast93_at _ y0 y1 y2).trans (mul_step _ _ _ (hx _ _) ((bc22b_at _ y0 _ _ y2).trans (ht _ _)))

end Cert.Proof.ReferenceIdeal
-- ==== Proof.V.RefA.lean ====
module

public import proofs.«01_k».proof.Proof.Gen.ReferenceIdeal.Frame
public import proofs.«01_k».proof.Proof.V.RefV
public import proofs.«01_k».proof.Proof.V.Soft
public import Idealize.ShloMosaic.Lib.Pointwise
public import Idealize.ShloMosaic.PureOps.Reduce

@[expose] public section

set_option maxRecDepth 16384

noncomputable section

namespace Cert.Proof.ReferenceIdeal

set_option maxHeartbeats 800000

open Cert.ReferenceIdeal Cert.ReferenceIdeal.Gen
open Idealize.ShloMosaic Idealize.ShloMosaic.TcCoe
open Cert.Proof.Value

/-! # The reference's attention at an index -/

theorem castq_at (v : FVec Ideal S8x8192x16x64 .fp8e4m3) (y0 : Fin 8) (y1 : Fin 131072) (y2 : Fin 64) :
    shapeCast S8x131072x64 v shapeCasts_S8x8192x16x64_S8x131072x64 (ix3 y0 y1 y2) = v (ix4 y0 ⟨y1.val / 16, by omega⟩ ⟨y1.val % 16, by omega⟩ y2) := by
  pointwise []

theorem mm1_at (a : FVec Ideal S8x131072x64 .fp8e4m3) (b : FVec Ideal S8x8192x64 .fp8e4m3) (y0 : Fin 8) (y1 : Fin 131072) (y2 : Fin 8192) :
    matmul dot_S8x131072x64_S8x8192x64_S8x131072x8192_2_2_1_1_0_0 none a b (constant S8x131072x8192 .f32 0x00000000#32) (ix3 y0 y1 y2)
      = ∑ d : Fin 64, a (ix3 y0 y1 d) * b (ix3 y0 y2 d) := by
  pointwise []

theorem casts_at (v : FVec Ideal S8x131072x8192 .f32) (y0 : Fin 8) (y1 : Fin 8192) (y2 : Fin 16) (y3 : Fin 8192) :
    shapeCast S8x8192x16x8192 v shapeCasts_S8x131072x8192_S8x8192x16x8192 (ix4 y0 y1 y2 y3) = v (ix3 y0 ⟨y1.val * 16 + y2.val, by omega⟩ y3) := by
  pointwise []

theorem bck_at (v : FVec Ideal S8x8192x16x1 .f32) (y0 : Fin 8) (y1 : Fin 8192) (y2 : Fin 16) (y3 : Fin 8192) :
    broadcastTo S8x8192x16x8192 v broadcasts_S8x8192x16x1_S8x8192x16x8192 (ix4 y0 y1 y2 y3) = v (ix4 y0 y1 y2 0) := by
  pointwise []

theorem bcs_at (v : FVec Ideal S8x1x1x8192 .f32) (y0 : Fin 8) (y1 : Fin 8192) (y2 : Fin 16) (y3 : Fin 8192) :
    broadcastTo S8x8192x16x8192 v broadcasts_S8x1x1x8192_S8x8192x16x8192 (ix4 y0 y1 y2 y3) = v (ix4 y0 0 0 y3) := by
  pointwise []

theorem castk_at (v : FVec Ideal S8x8192x1 .f32) (y0 : Fin 8) (y1 y2 : Fin 1) (y3 : Fin 8192) :
    shapeCast S8x1x1x8192 v shapeCasts_S8x8192x1_S8x1x1x8192 (ix4 y0 y1 y2 y3) = v (ix3 y0 y3 0) := by
  pointwise []

theorem maxs_at (v : FVec Ideal S8x8192x16x8192 .f32) (y0 : Fin 8) (y1 : Fin 8192) (y2 : Fin 16) :
    multiReduction .maximumf [3] S8x8192x16 v 0xFF800000#32 reduces_S8x8192x16x8192_S8x8192x16 (.inl rfl) rfl (ix3 y0 y1 y2)
      = Finset.fold max (Ideal.ofBits .f32 4286578688#32) (fun k : Fin 8192 => v (ix4 y0 y1 y2 k)) Finset.univ := by
  pointwise []

theorem sums_at (v : FVec Ideal S8x8192x16x8192 .f32) (y0 : Fin 8) (y1 : Fin 8192) (y2 : Fin 16) :
    multiReduction .add [3] S8x8192x16 v 0x00000000#32 reduces_S8x8192x16x8192_S8x8192x16 (.inl rfl) rfl (ix3 y0 y1 y2)
      = ∑ k : Fin 8192, v (ix4 y0 y1 y2 k) := by
  pointwise []

theorem mask_at (v w : FVec Ideal S8x8192x16x8192 .f32) (y0 : Fin 8) (y1 : Fin 8192) (y2 : Fin 16) (y3 : Fin 8192) :
    select (cmpi .sle (iota .tc S8x8192x16x8192 32 [3] iota_S8x8192x16x8192_d3_w32) (iota .tc S8x8192x16x8192 32 [1] iota_S8x8192x16x8192_d1_w32)) v w (ix4 y0 y1 y2 y3)
      = Scalar.select (IntOp.cmpi CmpIPredicate.sle (BitVec.ofNat 32 y3.val) (BitVec.ofNat 32 y1.val)) (v (ix4 y0 y1 y2 y3)) (w (ix4 y0 y1 y2 y3)) := by
  pointwise []

/-- The masked score of a key. -/
def rscore (q : FVec Ideal S8x8192x16x64 .fp8e4m3) (qs : FVec Ideal S8x8192x16x1 .f32) (kc : FVec Ideal S8x8192x64 .fp8e4m3) (ks : FVec Ideal S8x8192x1 .f32)
    (b : Fin 8) (s : Fin 8192) (h : Fin 16) (k : Fin 8192) : EReal :=
  Scalar.select (IntOp.cmpi CmpIPredicate.sle (BitVec.ofNat 32 k.val) (BitVec.ofNat 32 s.val))
    ((∑ d : Fin 64, q (ix4 b s h d) * kc (ix3 b k d)) * (qs (ix4 b s h 0) * Ideal.ofBits .f32 0x3E000000#32) * ks (ix3 b k 0)) (Ideal.ofBits .f32 4286578688#32)

theorem subf_step {s : Shape} (v w : FVec Ideal s .f32) (y : s.Idx) {a b : EReal} (hv : v y = a) (hw : w y = b) : exp (subf v w) y = Ideal.exp (a - b) := by
  rw [← hv, ← hw]; rfl

theorem div_step {s : Shape} (v w : FVec Ideal s .f32) (y : s.Idx) {a b : EReal} (hv : v y = a) (hw : w y = b) : divf v w y = Ideal.div a b := by
  rw [← hv, ← hw]; rfl

theorem sel_congr (c : BitVec 1) {a a' b b' : EReal} (ha : a = a') (hb : b = b') : Scalar.select c a b = Scalar.select c a' b' := by rw [ha, hb]

theorem max_congr {n : ℕ} {f g : Fin n → EReal} (h : ∀ k, f k = g k) : Finset.fold max (Ideal.ofBits .f32 4286578688#32) f Finset.univ = rmax g := by
  rw [funext h]; rfl

section
variable (q : FVec Ideal S8x8192x16x64 .fp8e4m3) (qs : FVec Ideal S8x8192x16x1 .f32) (kc : FVec Ideal S8x8192x64 .fp8e4m3) (ks : FVec Ideal S8x8192x1 .f32)

theorem pay20_at (b : Fin 8) (s : Fin 8192) (h : Fin 16) (k : Fin 8192) :
    k0_pay20 q qs kc ks (ix4 b s h k) = rweight (rscore q qs kc ks b s h) k := by
  have hs : ∀ k : Fin 8192, _ = rscore q qs kc ks b s h k := fun k => (mask_at _ (broadcast S8x8192x16x8192 (Scalar.ofBits .f32 0xFF800000#32)) b s h k).trans (sel_congr _
    (mul_step _ _ _ (mul_step _ _ _ ((casts_at _ b s h k).trans ((mm1_at _ kc b _ k).trans (Finset.sum_congr rfl fun d _ => congrArg (· * kc (ix3 b k d))
      ((castq_at q b _ d).trans (congrArg q (by congr 1 <;> apply Fin.ext <;> simp only [] <;> omega))))))
      ((bck_at _ b s h k).trans (mul_step qs (broadcast S8x8192x16x1 (Scalar.ofBits .f32 0x3E000000#32)) _ rfl (bcst_at _ _)))) ((bcs_at _ b s h k).trans (castk_at ks b 0 0 k))) (bcst_at _ _))
  have he : ∀ k : Fin 8192, _ = Ideal.exp (rscore q qs kc ks b s h k - rmax (rscore q qs kc ks b s h)) := fun k =>
    subf_step _ _ _ (hs k) ((bck_at _ b s h k).trans ((cast4_at _ b s h 0).trans ((maxs_at _ b s h).trans (max_congr hs))))
  unfold k0_pay20 rweight
  exact div_step _ _ _ (he k) ((bck_at _ b s h k).trans ((cast4_at _ b s h 0).trans ((sums_at _ b s h).trans (Finset.sum_congr rfl fun j _ => he j))))

theorem pay21_at (b : Fin 8) (s : Fin 8192) (h : Fin 16) (i : Fin 1) :
    k0_pay21 q qs kc ks (ix4 b s h i) = thr (rweight (rscore q qs kc ks b s h)) := by
  unfold k0_pay21
  exact thr_step _ _ _ _ ((cast4_at _ b s h i).trans ((maxs_at _ b s h).trans (congrArg (fun f => Finset.fold max (Ideal.ofBits .f32 4286578688#32) f Finset.univ)
    (funext fun k => (absf_at _ _).trans (congrArg (FloatOps.absf (F := Ideal) (φ := .f32)) (pay20_at q qs kc ks b s h k)))))) (bcst_at _ _)

end

theorem castp_at (v : FVec Ideal S8x8192x16x8192 .bf16) (y0 : Fin 8) (y1 : Fin 131072) (y2 : Fin 8192) :
    shapeCast S8x131072x8192 v shapeCasts_S8x8192x16x8192_S8x131072x8192 (ix3 y0 y1 y2) = v (ix4 y0 ⟨y1.val / 16, by omega⟩ ⟨y1.val % 16, by omega⟩ y2) := by
  pointwise []

theorem mm2_at (a : FVec Ideal S8x131072x8192 .bf16) (b : FVec Ideal S8x8192x64 .bf16) (y0 : Fin 8) (y1 : Fin 131072) (y2 : Fin 64) :
    matmul dot_S8x131072x8192_S8x8192x64_S8x131072x64_2_1_1_2_0_0 none a b (constant S8x131072x64 .f32 0x00000000#32) (ix3 y0 y1 y2)
      = ∑ k : Fin 8192, a (ix3 y0 y1 k) * b (ix3 y0 k y2) := by
  pointwise []

theorem casto_at (v : FVec Ideal S8x131072x64 .f32) (y0 : Fin 8) (y1 : Fin 8192) (y2 : Fin 16) (y3 : Fin 64) :
    shapeCast S8x8192x16x64 v shapeCasts_S8x131072x64_S8x8192x16x64 (ix4 y0 y1 y2 y3) = v (ix3 y0 ⟨y1.val * 16 + y2.val, by omega⟩ y3) := by
  pointwise []

theorem castw_at (v : FVec Ideal S8x8192x16x64 .bf16) (y0 : Fin 8) (y1 : Fin 8192) (y2 : Fin 1024) :
    shapeCast S8x8192x1024 v shapeCasts_S8x8192x16x64_S8x8192x1024 (ix3 y0 y1 y2) = v (ix4 y0 y1 ⟨y2.val / 64, by omega⟩ ⟨y2.val % 64, by omega⟩) := by
  pointwise []

theorem pay25_at (vd : FVec Ideal S8x8192x64 .bf16) (q : FVec Ideal S8x8192x16x64 .fp8e4m3) (qs : FVec Ideal S8x8192x16x1 .f32) (kc : FVec Ideal S8x8192x64 .fp8e4m3)
    (ks : FVec Ideal S8x8192x1 .f32) (b : Fin 8) (s : Fin 8192) (c : Fin 1024) :
    k0_pay25 vd (k0_pay20 q qs kc ks) (k0_pay22 q qs kc ks) (k0_pay23 q qs kc ks) (k0_pay24 (F := Ideal)) (ix3 b s c)
      = rout (rscore q qs kc ks b s ⟨c.val / 64, by omega⟩) fun k => vd (ix3 b k ⟨c.val % 64, by omega⟩) := by
  have h133 : ∀ (h : Fin 16), select (k0_pay22 q qs kc ks) (k0_pay24 (F := Ideal)) (k0_pay23 q qs kc ks) (ix4 b s h 0) = rexp (thr (rweight (rscore q qs kc ks b s h))) := fun h => by
    have h22 : k0_pay22 q qs kc ks = cmpf .olt (k0_pay21 q qs kc ks) (broadcast S8x8192x16x1 (Scalar.ofBits .f32 0x00800000#32)) := by unfold k0_pay22; rfl
    have h24 : k0_pay24 (F := Ideal) (ix4 b s h 0) = 0 := by unfold k0_pay24; exact (bcst_at _ _).trans zero_bits
    rw [h22]
    unfold k0_pay23
    exact (exp_step (k0_pay21 q qs kc ks) _ _ _ _ _ (bcst_at _ _) ((bcst_at _ _).trans one_bits) h24 (bcst_at _ _)).trans (congrArg rexp (pay21_at q qs kc ks b s h 0))
  have hx : ∀ (v : FVec Ideal S8x8192x16x8192 .fp8e4m3) (y : S8x8192x16x8192.Idx), extf .bf16 v bitsLt_fp8e4m3_bf16 y = v y := fun _ _ => rfl
  have ht : ∀ (v : FVec Ideal S8x8192x16x64 .f32) (y : S8x8192x16x64.Idx), truncf .bf16 v bitsLt_bf16_f32 y = v y := fun _ _ => rfl
  unfold k0_pay25 rout
  refine (castw_at _ b s c).trans ((ht _ _).trans (mul_step _ _ _ ((casto_at _ b s _ _).trans ((mm2_at _ vd b _ _).trans (Finset.sum_congr rfl fun k _ => congrArg (· * vd (ix3 b k ⟨c.val % 64, by omega⟩)) ?_)))
    ((bc4_at _ b s _ _).trans ((exp2_at _ _).trans (congrArg Ideal.exp2 (h133 _))))))
  refine (castp_at _ b _ k).trans ((hx _ _).trans ((truncf_at (φ := .f32) (ψ := .fp8e4m3) _ bitsLt_fp8e4m3_f32 _).trans ?_))
  have e1 : (⟨(s.val * 16 + c.val / 64) / 16, by omega⟩ : Fin 8192) = s := Fin.ext (by show (s.val * 16 + c.val / 64) / 16 = s.val; omega)
  have e2 : (⟨(s.val * 16 + c.val / 64) % 16, by omega⟩ : Fin 16) = ⟨c.val / 64, by omega⟩ := Fin.ext (by show (s.val * 16 + c.val / 64) % 16 = c.val / 64; omega)
  show _ = rcode _ _
  unfold rcode
  rw [e1, e2]
  exact code_step _ _ _ _ _ (pay20_at q qs kc ks b s _ k) ((bck_at _ b s _ k).trans (neg_step _ _ _ ((bcst_at _ _).trans zero_bits) (h133 _))) (bcst_at _ _) (bcst_at _ _)

end Cert.Proof.ReferenceIdeal
-- ==== Proof.V.RefRun.lean ====
module

public import proofs.«01_k».proof.Proof.Gen.ReferenceIdeal.Frame
public import proofs.«01_k».proof.Proof.V.RefA
public import proofs.«01_k».proof.Proof.V.Spec
public import Idealize.ShloMosaic.Lib.Pointwise
public import Idealize.ShloMosaic.Lib.Pipeline.ValueKit.Geometry
public import Idealize.ShloMosaic.PureOps.Reduce

@[expose] public section

set_option maxRecDepth 16384

noncomputable section

namespace Cert.Proof.ReferenceIdeal

set_option maxHeartbeats 800000

open Cert.ReferenceIdeal Cert.ReferenceIdeal.Gen
open Idealize.ShloMosaic Idealize.ShloMosaic.TcCoe
open Cert.Proof.Value

/-! # The reference's results, element by element -/

theorem ld_whole {S : Shape} {e : EltTy} {off : Fin S.rank → Nat} (x : Vec Ideal S e) (h : ∀ a, off a = 0) (inb : ∀ a, off a + S.size a ≤ S.size a) :
    View.ld (Val := Elt Ideal) x (Rect.unit off S.size inb) = x := View.ld_unit_zero (funext h) inb x

section
variable (x0 : Vec Ideal S8x8192x1024 .bf16) (x1 x2 : Vec Ideal S8x8192x64 .bf16)

theorem p30 : k0_pay30 x0 x1 x2 = k0_pay3 x0 := by
  unfold k0_pay30; exact congrArg k0_pay3 (ld_whole x0 (by decide) _)
theorem p31 : k0_pay31 x0 x1 x2 = k0_pay4 x0 := by
  unfold k0_pay31; exact congrArg k0_pay4 (ld_whole x0 (by decide) _)
theorem p32 : k0_pay32 x0 x1 x2 = k0_pay7 x1 := by
  unfold k0_pay32; exact congrArg k0_pay7 (ld_whole x1 (by decide) _)
theorem p33 : k0_pay33 x0 x1 x2 = k0_pay8 x1 := by
  unfold k0_pay33; exact congrArg k0_pay8 (ld_whole x1 (by decide) _)
theorem p35 : k0_pay35 x0 x1 x2 = k0_pay11 (k0_pay5 x1) (k0_pay7 x1) (k0_pay8 x1) (k0_pay9 (F := Ideal)) := by
  unfold k0_pay35 k0_pay34
  rw [p32, p33, show k0_pay5 (View.ld x1 r0_1) = k0_pay5 x1 from congrArg k0_pay5 (ld_whole x1 (by decide) _)]
theorem p36 : k0_pay36 x0 x1 x2 = k0_pay12 (k0_pay7 x1) (k0_pay8 x1) (k0_pay9 (F := Ideal)) := by
  unfold k0_pay36 k0_pay34
  rw [p32, p33]
theorem p37 : k0_pay37 x0 x1 x2 = k0_pay14 x2 := by
  unfold k0_pay37; exact congrArg k0_pay14 (ld_whole x2 (by decide) _)
theorem p38 : k0_pay38 x0 x1 x2 = k0_pay15 x2 := by
  unfold k0_pay38; exact congrArg k0_pay15 (ld_whole x2 (by decide) _)

/-- The queries' codes. -/
theorem out4_at (b : Fin 8) (s : Fin 8192) (h : Fin 16) (d : Fin 64) : out0_4 x0 x1 x2 (ix4 b s h d) = sQc x0 b s h d := by
  unfold out0_4
  rw [View.canon_unit_zero (funext (by decide)), p30]
  exact pay3_at x0 b s h d
/-- The queries' scales. -/
theorem out5_at (b : Fin 8) (s : Fin 8192) (h : Fin 16) : out0_5 x0 x1 x2 (ix3 b s h) = sQs x0 b s h := by
  unfold out0_5
  rw [View.canon_unit_zero (funext (by decide)), p31]
  exact (pay26_at _ b s h).trans (pay4_at x0 b s h 0)
/-- The keys' codes. -/
theorem out6_at (b : Fin 8) (s : Fin 8192) (d : Fin 64) : out0_6 x0 x1 x2 (ix3 b s d) = sKc x1 b s d := by
  unfold out0_6
  rw [View.canon_unit_zero (funext (by decide)), p35]
  exact pay11_at x1 b s d
/-- The keys' scales. -/
theorem out7_at (b : Fin 8) (s : Fin 8192) : out0_7 x0 x1 x2 (ix2 b s) = sKs x1 b s := by
  unfold out0_7
  rw [View.canon_unit_zero (funext (by decide)), p36]
  exact (pay27_at _ b s).trans (pay12_at x1 b s 0)
/-- The values' codes. -/
theorem out8_at (b : Fin 8) (s : Fin 8192) (d : Fin 64) : out0_8 x0 x1 x2 (ix3 b s d) = sVc x2 b s d := by
  unfold out0_8 k0_pay39
  rw [View.canon_unit_zero (funext (by decide)), p38]
  exact (pay28_at _ b s d).trans (pay17_at x2 b _ _ d)
/-- The values' scales. -/
theorem out9_at (b : Fin 8) (g : Fin 64) : out0_9 x0 x1 x2 (ix2 b g) = sVs x2 b g := by
  unfold out0_9
  rw [View.canon_unit_zero (funext (by decide)), p37]
  exact (pay29_at _ b g).trans (pay18_at x2 b g 0 0)

theorem score_at (b : Fin 8) (s : Fin 8192) (h : Fin 16) :
    rscore (k0_pay3 x0) (k0_pay4 x0) (k0_pay11 (k0_pay5 x1) (k0_pay7 x1) (k0_pay8 x1) (k0_pay9 (F := Ideal))) (k0_pay12 (k0_pay7 x1) (k0_pay8 x1) (k0_pay9 (F := Ideal))) b s h
      = sScore x0 x1 b s h := by
  funext k
  unfold rscore sScore
  rw [pay4_at, pay12_at]
  simp only [pay3_at, pay11_at]
  rfl

/-- The output. -/
theorem out3_at (b : Fin 8) (s : Fin 8192) (c : Fin 1024) : out0_3 x0 x1 x2 (ix3 b s c) = sOut x0 x1 x2 b s c := by
  unfold out0_3 k0_pay39
  rw [View.canon_unit_zero (funext (by decide)), p30, p31, p35, p36, p37, p38, pay25_at, score_at]
  unfold sOut
  refine congrArg (rout _) (funext fun k => ?_)
  rw [pay19_at, pay17_at, pay18_at]
  rfl
end

end Cert.Proof.ReferenceIdeal
-- ==== Proof.V.RefArr.lean ====
module

public import proofs.«01_k».proof.Proof.Gen.ReferenceIdeal.Frame
public import proofs.«01_k».proof.Proof.V.RefRun
public import proofs.«01_k».proof.Proof.V.Spec
public import Idealize.ShloMosaic.Lib.Pointwise
public import Idealize.ShloMosaic.Lib.Pipeline.ValueKit.Geometry
public import Idealize.ShloMosaic.PureOps.Reduce

@[expose] public section

set_option maxRecDepth 16384

noncomputable section

namespace Cert.Proof.ReferenceIdeal

set_option maxHeartbeats 800000

open Cert.ReferenceIdeal Cert.ReferenceIdeal.Gen
open Idealize.ShloMosaic Idealize.ShloMosaic.TcCoe
open Cert.Proof.Value

/-! # The reference's result arrays after the run -/

variable (m : (ℓ : Loc nD τ sig) → Buf (Elt Ideal) ℓ) (ρ : Dev nD → PrngReg) (c : Dev nD)

theorem iblk_0 (t : Fin cfg0.N) : iblk m c 0 t = m ((c : Thread nD τ).loc main_arg0) := by
  funext y
  unfold iblk
  blk_simp
  refine congrArg (m ((c : Thread nD τ).loc main_arg0)) ?_
  funext a
  exact Fin.ext (Pipeline.Window.rect_emb_val_of_index_zero win0_0 t a rfl y)

theorem iblk_1 (t : Fin cfg0.N) : iblk m c 1 t = m ((c : Thread nD τ).loc main_arg1) := by
  funext y
  unfold iblk
  blk_simp
  refine congrArg (m ((c : Thread nD τ).loc main_arg1)) ?_
  funext a
  exact Fin.ext (Pipeline.Window.rect_emb_val_of_index_zero win0_1 t a rfl y)

theorem iblk_2 (t : Fin cfg0.N) : iblk m c 2 t = m ((c : Thread nD τ).loc main_arg2) := by
  funext y
  unfold iblk
  blk_simp
  refine congrArg (m ((c : Thread nD τ).loc main_arg2)) ?_
  funext a
  exact Fin.ext (Pipeline.Window.rect_emb_val_of_index_zero win0_2 t a rfl y)

/-- The three argument arrays. -/
abbrev ax : Vec Ideal S8x8192x1024 .bf16 := m ((c : Thread nD τ).loc main_arg0)
abbrev ak : Vec Ideal S8x8192x64 .bf16 := m ((c : Thread nD τ).loc main_arg1)
abbrev av : Vec Ideal S8x8192x64 .bf16 := m ((c : Thread nD τ).loc main_arg2)

theorem arr_3 : (dats m 0 c).arrAt 3 cfg0.N = out0_3 (ax m c) (ak m c) (av m c) := by
  refine (dats m 0 c).arrAt_eq_of_covers 3 _ (by decide +kernel) fun t hf y => ?_
  blk_simp
  rw [after0_3, iblk_0, iblk_1, iblk_2]
  refine congrArg (out0_3 (ax m c) (ak m c) (av m c)) ?_
  funext a
  exact (Fin.ext (Pipeline.Window.rect_emb_val_of_index_zero win0_3 t a rfl y)).symm

theorem arr_4 : (dats m 0 c).arrAt 4 cfg0.N = out0_4 (ax m c) (ak m c) (av m c) := by
  refine (dats m 0 c).arrAt_eq_of_covers 4 _ (by decide +kernel) fun t hf y => ?_
  blk_simp
  rw [after0_4, iblk_0, iblk_1, iblk_2]
  refine congrArg (out0_4 (ax m c) (ak m c) (av m c)) ?_
  funext a
  exact (Fin.ext (Pipeline.Window.rect_emb_val_of_index_zero win0_4 t a rfl y)).symm

theorem arr_5 : (dats m 0 c).arrAt 5 cfg0.N = out0_5 (ax m c) (ak m c) (av m c) := by
  refine (dats m 0 c).arrAt_eq_of_covers 5 _ (by decide +kernel) fun t hf y => ?_
  blk_simp
  rw [after0_5, iblk_0, iblk_1, iblk_2]
  refine congrArg (out0_5 (ax m c) (ak m c) (av m c)) ?_
  funext a
  exact (Fin.ext (Pipeline.Window.rect_emb_val_of_index_zero win0_5 t a rfl y)).symm

theorem arr_6 : (dats m 0 c).arrAt 6 cfg0.N = out0_6 (ax m c) (ak m c) (av m c) := by
  refine (dats m 0 c).arrAt_eq_of_covers 6 _ (by decide +kernel) fun t hf y => ?_
  blk_simp
  rw [after0_6, iblk_0, iblk_1, iblk_2]
  refine congrArg (out0_6 (ax m c) (ak m c) (av m c)) ?_
  funext a
  exact (Fin.ext (Pipeline.Window.rect_emb_val_of_index_zero win0_6 t a rfl y)).symm

theorem arr_7 : (dats m 0 c).arrAt 7 cfg0.N = out0_7 (ax m c) (ak m c) (av m c) := by
  refine (dats m 0 c).arrAt_eq_of_covers 7 _ (by decide +kernel) fun t hf y => ?_
  blk_simp
  rw [after0_7, iblk_0, iblk_1, iblk_2]
  refine congrArg (out0_7 (ax m c) (ak m c) (av m c)) ?_
  funext a
  exact (Fin.ext (Pipeline.Window.rect_emb_val_of_index_zero win0_7 t a rfl y)).symm

theorem arr_8 : (dats m 0 c).arrAt 8 cfg0.N = out0_8 (ax m c) (ak m c) (av m c) := by
  refine (dats m 0 c).arrAt_eq_of_covers 8 _ (by decide +kernel) fun t hf y => ?_
  blk_simp
  rw [after0_8, iblk_0, iblk_1, iblk_2]
  refine congrArg (out0_8 (ax m c) (ak m c) (av m c)) ?_
  funext a
  exact (Fin.ext (Pipeline.Window.rect_emb_val_of_index_zero win0_8 t a rfl y)).symm

theorem arr_9 : (dats m 0 c).arrAt 9 cfg0.N = out0_9 (ax m c) (ak m c) (av m c) := by
  refine (dats m 0 c).arrAt_eq_of_covers 9 _ (by decide +kernel) fun t hf y => ?_
  blk_simp
  rw [after0_9, iblk_0, iblk_1, iblk_2]
  refine congrArg (out0_9 (ax m c) (ak m c) (av m c)) ?_
  funext a
  exact (Fin.ext (Pipeline.Window.rect_emb_val_of_index_zero win0_9 t a rfl y)).symm

/-- The run, read: each result array as the specification has it, the arguments unchanged. -/
theorem run : θ_run defs (onTc (τ := τ) (main (F := Ideal))) ⟨m, fun _ => 0, ρ⟩ fun r => ∀ c : Dev nD,
      r.2.mem ((c : Thread nD τ).loc main_v0_0) = out0_3 (ax m c) (ak m c) (av m c) ∧
      r.2.mem ((c : Thread nD τ).loc main_v0_1) = out0_4 (ax m c) (ak m c) (av m c) ∧
      r.2.mem ((c : Thread nD τ).loc main_v0_2) = out0_5 (ax m c) (ak m c) (av m c) ∧
      r.2.mem ((c : Thread nD τ).loc main_v0_3) = out0_6 (ax m c) (ak m c) (av m c) ∧
      r.2.mem ((c : Thread nD τ).loc main_v0_4) = out0_7 (ax m c) (ak m c) (av m c) ∧
      r.2.mem ((c : Thread nD τ).loc main_v0_5) = out0_8 (ax m c) (ak m c) (av m c) ∧
      r.2.mem ((c : Thread nD τ).loc main_v0_6) = out0_9 (ax m c) (ak m c) (av m c) ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) :=
  (θ_run defs _ _).mono (fun _ h c => ⟨((h c).1 3).trans (arr_3 m c), ((h c).1 4).trans (arr_4 m c), ((h c).1 5).trans (arr_5 m c), ((h c).1 6).trans (arr_6 m c), ((h c).1 7).trans (arr_7 m c), ((h c).1 8).trans (arr_8 m c), ((h c).1 9).trans (arr_9 m c),
    ((h c).1 0).trans ((dats m 0 c).arrAt_in 0 rfl _), ((h c).1 1).trans ((dats m 0 c).arrAt_in 1 rfl _), ((h c).1 2).trans ((dats m 0 c).arrAt_in 2 rfl _)⟩)
    (run_main m ρ)

end Cert.Proof.ReferenceIdeal
-- ==== Proof.V.Results.lean ====
module

public import proofs.«01_k».proof.Proof.V.KRun
public import proofs.«01_k».proof.Proof.V.Equal
public import proofs.«01_k».proof.Proof.V.RefArr
public import proofs.«01_k».proof.Proof.V.RefRun

@[expose] public section

set_option maxRecDepth 16384

noncomputable section

namespace Cert.Proof.Results

open Cert.KernelIdeal Cert.KernelIdeal.Gen Cert.Proof.KernelIdeal
open Idealize.ShloMosaic Idealize.ShloMosaic.TcCoe
open Cert.Proof.Value
open Cert.ReferenceIdeal.Gen (out0_3 out0_4 out0_5 out0_6 out0_7 out0_8 out0_9)
open Cert.Proof.ReferenceIdeal (out3_at out4_at out5_at out6_at out7_at out8_at out9_at)

/-! # The seven results agree

For inputs within f32's range, each result array of the kernel program is the reference's of the same arguments. -/

variable (m : (ℓ : Loc nD τ sig) → Buf (Elt Ideal) ℓ) (c : Dev nD)
variable (hX : ∀ i, Fin32 (ax m c i)) (hK : ∀ i, Fin32 (ak m c i)) (hV : ∀ i, Fin32 (av m c i))

include hX hK hV in
/-- The attention output. -/
theorem out : W4 m c main_v3_0 = out0_3 (ax m c) (ak m c) (av m c) := by
  funext j
  rw [eq_ix3 j]
  exact (W4_v3 m c (j 0) (j 1) (j 2)).trans ((out_eq (ax m c) (ak m c) (av m c) hX hK hV (j 0) (j 1) (j 2)).trans (out3_at (ax m c) (ak m c) (av m c) (j 0) (j 1) (j 2)).symm)

include hX in
/-- The queries' codes. -/
theorem qcodes : W4 m c main_v4 = out0_4 (ax m c) (ak m c) (av m c) := by
  funext j
  rw [eq_ix4 j]
  exact (W4_v4 m c (j 0) (j 1) (j 2) (j 3)).trans ((qc_eq (ax m c) hX (j 0) (j 1) (j 2) (j 3)).trans (out4_at (ax m c) (ak m c) (av m c) (j 0) (j 1) (j 2) (j 3)).symm)

include hX in
/-- The queries' scales. -/
theorem qscales : W4 m c main_v5 = out0_5 (ax m c) (ak m c) (av m c) := by
  funext j
  rw [eq_ix3 j]
  exact (W4_v5 m c (j 0) (j 1) (j 2)).trans ((qs_eq (ax m c) hX (j 0) (j 1) (j 2)).trans (out5_at (ax m c) (ak m c) (av m c) (j 0) (j 1) (j 2)).symm)

include hK in
/-- The keys' codes. -/
theorem kcodes : W4 m c main_v6 = out0_6 (ax m c) (ak m c) (av m c) := by
  funext j
  rw [eq_ix3 j]
  exact (W4_v6 m c (j 0) (j 1) (j 2)).trans ((kc_eq (ak m c) hK (j 0) (j 1) (j 2)).trans (out6_at (ax m c) (ak m c) (av m c) (j 0) (j 1) (j 2)).symm)

include hK in
/-- The keys' scales. -/
theorem kscales : W4 m c main_v7 = out0_7 (ax m c) (ak m c) (av m c) := by
  funext j
  rw [eq_ix2 j]
  exact (W4_v7 m c (j 0) (j 1)).trans ((ks_eq (ak m c) hK (j 0) (j 1)).trans (out7_at (ax m c) (ak m c) (av m c) (j 0) (j 1)).symm)

include hV in
/-- The values' codes. -/
theorem vcodes : W4 m c main_v8 = out0_8 (ax m c) (ak m c) (av m c) := by
  funext j
  rw [eq_ix3 j]
  exact (W4_v8 m c (j 0) (j 1) (j 2)).trans ((vc_eq (av m c) hV (j 0) (j 1) (j 2)).trans (out8_at (ax m c) (ak m c) (av m c) (j 0) (j 1) (j 2)).symm)

include hV in
/-- The values' scales. -/
theorem vscales : W4 m c main_v9 = out0_9 (ax m c) (ak m c) (av m c) := by
  funext j
  rw [eq_ix2 j]
  exact (W4_v9 m c (j 0) (j 1)).trans ((vs_eq (av m c) hV (j 0) (j 1)).trans (out9_at (ax m c) (ak m c) (av m c) (j 0) (j 1)).symm)

end Cert.Proof.Results
-- ==== Proof.V.Pre.lean ====
module

public import proofs.«01_k».proof.Pre_finite
public import proofs.«01_k».proof.Proof.V.Soft
public import Idealize.ShloMosaic.Lib.Pointwise
public import Idealize.ShloMosaic.Lib.ReduceAll

@[expose] public section

set_option maxRecDepth 16384

noncomputable section

namespace Cert.Proof.Pre

open Cert.Pre_finite
open Idealize.ShloMosaic
open Cert.Proof.Value

/-! # The precondition: every argument is a real number of a bounded size -/

/-- The predicate's side conditions. -/
theorem facts : Cert.Pre_finite.Facts where
  bitsLt_bf16_f32 := by decide
  bcast_S_S8x8192x1024 := by decide
  reducesTo_S8x8192x1024_S_d0_1_2 := by decide
  h_S_ := by decide
  bcast_S_S8x8192x64 := by decide
  reducesTo_S8x8192x64_S_d0_1_2 := by decide

/-- The bound's value. -/
theorem max_bits : Ideal.ofBits .f32 0x7F7F0000#32 = (((255 : ℝ) * 2 ^ (120 : ℤ) : ℝ) : EReal) := by
  unfold Ideal.ofBits Ideal.ieee
  simp only [show (BitVec.extractLsb' 31 1 0x7F7F0000#32 == 1#1) = false by decide, show (BitVec.extractLsb' 23 8 0x7F7F0000#32).toNat = 254 by decide,
    show (BitVec.extractLsb' 0 23 0x7F7F0000#32).toNat = 8323072 by decide]
  simp
  have h : (16711680 : ℝ) * 2 ^ 104 = 255 * 2 ^ 120 := by norm_num
  exact_mod_cast congrArg (fun r : ℝ => (r : EReal)) h

/-- A value within the bound. -/
theorem fin_of_le (x : EReal) (h : max x (-x) ≤ Ideal.ofBits .f32 0x7F7F0000#32) : Fin32 x := by
  rw [max_bits] at h
  have h1 := (le_max_left _ _).trans h
  have h2 := (le_max_right _ _).trans h
  induction x with
  | bot => exact absurd (top_le_iff.mp (EReal.neg_bot ▸ h2)) (EReal.coe_ne_top _)
  | top => exact absurd (top_le_iff.mp h1) (EReal.coe_ne_top _)
  | coe r =>
    refine ⟨r, rfl, ?_⟩
    rw [← EReal.coe_neg] at h2
    have h1' := EReal.coe_le_coe_iff.mp h1
    have h2' := EReal.coe_le_coe_iff.mp h2
    have : (255 : ℝ) * 2 ^ (120 : ℤ) ≤ 2 ^ (128 : ℤ) := by norm_num
    exact abs_le.mpr ⟨by linarith, by linarith⟩

theorem ole (a b : EReal) (h : FloatOps.cmpf (F := Ideal) (φ := .f32) .ole a b = 1#1) : a ≤ b := by
  have h' : BitVec.ofBool (decide (a ≤ b)) = 1#1 := h
  by_contra hn
  rw [decide_eq_false hn] at h'
  exact absurd h' (by decide)

variable [Cert.Pre_finite.Facts]

theorem pre_fin (x : FVec Ideal S8x8192x1024 .bf16) (k v : FVec Ideal S8x8192x64 .bf16) (h : fn x k v (fun a => a.elim0) = 1#1) :
    (∀ i, Fin32 (x i)) ∧ (∀ i, Fin32 (k i)) ∧ (∀ i, Fin32 (v i)) := by
  unfold fn at h
  simp only [] at h
  obtain ⟨h12, h3⟩ := IntOp.andi_eq_one.mp h
  obtain ⟨h1, h2⟩ := IntOp.andi_eq_one.mp h12
  refine ⟨fun i => fin_of_le _ (ole _ _ ?_), fun i => fin_of_le _ (ole _ _ ?_), fun i => fin_of_le _ (ole _ _ ?_)⟩
  · exact Host.reduce_andi_all _ _ _ _ _ h1 i
  · exact Host.reduce_andi_all _ _ _ _ _ h2 i
  · exact Host.reduce_andi_all _ _ _ _ _ h3 i

end Cert.Proof.Pre
-- ==== Proof.lean ====
module

public import proofs.«01_k».proof.Defs
public import proofs.«01_k».proof.Proof.K.Run
public import proofs.«01_k».proof.Proof.KI.Run
public import proofs.«01_k».proof.Proof.Gen.ReferenceIdeal.Frame
public import proofs.«01_k».proof.Proof.V.Results
public import proofs.«01_k».proof.Proof.V.Pre
public import Idealize.ShloMosaic.Adequacy
public import Idealize.ShloMosaic.Init

@[expose] public section

noncomputable section

namespace Cert.Proof

open Idealize.ShloMosaic Idealize.SL.Sem
open Cert.Proof.KernelIdeal (W4 run_held uc_mem kept_arg0 kept_arg1 kept_arg2 ax ak av)
open Cert.ReferenceIdeal.Gen (out0_3 out0_4 out0_5 out0_6 out0_7 out0_8 out0_9)

/-- The named constant is the kernel's literal at `Bits` and `log₂ e / 8` at `Ideal`. -/
theorem preserves : Cert.preserves_Kernel_KernelIdeal :=
  IdealRules.named_const.statement Cert.KernelIdeal.κ "log2e_sm" .f32 0x3E38AA3B#32 (((Real.log 2)⁻¹ * (1 / 8) : ℝ) : EReal) rfl

/-- The idealized kernel and the reference, started on the same finite arguments, both end with the same seven arrays: the
    reference's outputs as functions of the arguments. -/
theorem algebraic : Cert.algebraic_KernelIdeal_ReferenceIdeal_pre_finite (hKernelIdeal := Cert.KernelIdeal.Gen.facts)
    (hReferenceIdeal := Cert.ReferenceIdeal.Gen.facts) (hPre_finite := Cert.Proof.Pre.facts) := by
  intro m g m' g' hpre hargs
  have hfin := fun c => @Cert.Proof.Pre.pre_fin Cert.Proof.Pre.facts (ax m c) (ak m c) (av m c) (congrFun (hpre c) _)
  refine ⟨fun c => out0_3 (ax m c) (ak m c) (av m c), fun c => out0_4 (ax m c) (ak m c) (av m c), fun c => out0_5 (ax m c) (ak m c) (av m c),
    fun c => out0_6 (ax m c) (ak m c) (av m c), fun c => out0_7 (ax m c) (ak m c) (av m c), fun c => out0_8 (ax m c) (ak m c) (av m c),
    fun c => out0_9 (ax m c) (ak m c) (av m c), ?_, ?_⟩
  · refine (θ_run _ _ _).mono (fun r h c => ?_) (run_held m g)
    obtain ⟨h0, h1, h2⟩ := hfin c
    exact ⟨(h.1 c _ (uc_mem Cert.KernelIdeal.main_v3_0 (by decide))).trans (Results.out m c h0 h1 h2),
      (h.1 c _ (uc_mem Cert.KernelIdeal.main_v4 (by decide))).trans (Results.qcodes m c h0),
      (h.1 c _ (uc_mem Cert.KernelIdeal.main_v5 (by decide))).trans (Results.qscales m c h0),
      (h.1 c _ (uc_mem Cert.KernelIdeal.main_v6 (by decide))).trans (Results.kcodes m c h1),
      (h.1 c _ (uc_mem Cert.KernelIdeal.main_v7 (by decide))).trans (Results.kscales m c h1),
      (h.1 c _ (uc_mem Cert.KernelIdeal.main_v8 (by decide))).trans (Results.vcodes m c h2),
      (h.1 c _ (uc_mem Cert.KernelIdeal.main_v9 (by decide))).trans (Results.vscales m c h2),
      (h.1 c _ (uc_mem Cert.KernelIdeal.main_arg0 (by decide))).trans (kept_arg0 m c),
      (h.1 c _ (uc_mem Cert.KernelIdeal.main_arg1 (by decide))).trans (kept_arg1 m c),
      (h.1 c _ (uc_mem Cert.KernelIdeal.main_arg2 (by decide))).trans (kept_arg2 m c)⟩
  · refine (θ_run _ _ _).mono (fun r h c => ?_) (Cert.Proof.ReferenceIdeal.run m' g')
    obtain ⟨a0, a1, a2⟩ := hargs c
    obtain ⟨r0, r1, r2, r3, r4, r5, r6, e⟩ := h c
    have e0 : Cert.Proof.ReferenceIdeal.ax m' c = ax m c := a0
    have e1 : Cert.Proof.ReferenceIdeal.ak m' c = ak m c := a1
    have e2 : Cert.Proof.ReferenceIdeal.av m' c = av m c := a2
    rw [e0, e1, e2] at r0 r1 r2 r3 r4 r5 r6
    exact ⟨r0, r1, r2, r3, r4, r5, r6, e⟩

theorem claim : Cert.Claim := ⟨Cert.Kernel.Gen.facts, Cert.KernelIdeal.Gen.facts, Cert.ReferenceIdeal.Gen.facts, Cert.Proof.Pre.facts,
  fun m g _ => Cert.Proof.Kernel.frame m g, fun m g _ => Cert.Proof.KernelIdeal.frame m g, fun m g _ => Cert.Proof.KernelIdeal.frame m g,
  fun m g _ => Cert.ReferenceIdeal.Gen.frame m g, fun m g _ => Cert.ReferenceIdeal.Gen.frame m g, preserves, algebraic⟩

end Cert.Proof

end
